-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_KvSample (m : (ℓ : Loc Cert.KvSample.nD Cert.KvSample.τ Cert.KvSample.sig) → Buf (Elt Bits) ℓ) : Prop :=
  True

def Pre_KvSampleIdeal (m : (ℓ : Loc Cert.KvSampleIdeal.nD Cert.KvSampleIdeal.τ Cert.KvSampleIdeal.sig) → Buf (Elt Ideal) ℓ) : Prop :=
  True

def Pre_KvSampleReferenceIdeal (m : (ℓ : Loc Cert.KvSampleReferenceIdeal.nD Cert.KvSampleReferenceIdeal.τ Cert.KvSampleReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Stick [hPre_tables : Cert.Pre_tables.Facts] (m : (ℓ : Loc Cert.Stick.nD Cert.Stick.τ Cert.Stick.sig) → Buf (Elt Bits) ℓ) : Prop :=
  ∀ c : Dev Cert.Stick.nD,
    (Cert.Pre_tables.fn (F := Bits) (m ((c.tc : Thread Cert.Stick.nD Cert.Stick.τ).loc Cert.Stick.main_arg0)) (m ((c.tc : Thread Cert.Stick.nD Cert.Stick.τ).loc Cert.Stick.main_arg1)) (m ((c.tc : Thread Cert.Stick.nD Cert.Stick.τ).loc Cert.Stick.main_arg2)) (m ((c.tc : Thread Cert.Stick.nD Cert.Stick.τ).loc Cert.Stick.main_arg3)) (m ((c.tc : Thread Cert.Stick.nD Cert.Stick.τ).loc Cert.Stick.main_arg4)) (m ((c.tc : Thread Cert.Stick.nD Cert.Stick.τ).loc Cert.Stick.main_arg5)) (m ((c.tc : Thread Cert.Stick.nD Cert.Stick.τ).loc Cert.Stick.main_arg6))) = (fun _ => 1#1)

def Pre_StickIdeal [hPre_tables : Cert.Pre_tables.Facts] (m : (ℓ : Loc Cert.StickIdeal.nD Cert.StickIdeal.τ Cert.StickIdeal.sig) → Buf (Elt Ideal) ℓ) : Prop :=
  ∀ c : Dev Cert.StickIdeal.nD,
    (Cert.Pre_tables.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2)) (m ((c.tc : Thread Cert.StickIdeal.nD Cert.StickIdeal.τ).loc Cert.StickIdeal.main_arg3)) (m ((c.tc : Thread Cert.StickIdeal.nD Cert.StickIdeal.τ).loc Cert.StickIdeal.main_arg4)) (m ((c.tc : Thread Cert.StickIdeal.nD Cert.StickIdeal.τ).loc Cert.StickIdeal.main_arg5)) (m ((c.tc : Thread Cert.StickIdeal.nD Cert.StickIdeal.τ).loc Cert.StickIdeal.main_arg6))) = (fun _ => 1#1)

def Pre_StickIdeal_regular [hPre_regular : Cert.Pre_regular.Facts] (m : (ℓ : Loc Cert.StickIdeal.nD Cert.StickIdeal.τ Cert.StickIdeal.sig) → Buf (Elt Ideal) ℓ) : Prop :=
  ∀ c : Dev Cert.StickIdeal.nD,
    (Cert.Pre_regular.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2)) (m ((c.tc : Thread Cert.StickIdeal.nD Cert.StickIdeal.τ).loc Cert.StickIdeal.main_arg3)) (m ((c.tc : Thread Cert.StickIdeal.nD Cert.StickIdeal.τ).loc Cert.StickIdeal.main_arg4)) (m ((c.tc : Thread Cert.StickIdeal.nD Cert.StickIdeal.τ).loc Cert.StickIdeal.main_arg5)) (m ((c.tc : Thread Cert.StickIdeal.nD Cert.StickIdeal.τ).loc Cert.StickIdeal.main_arg6))) = (fun _ => 1#1)

def Pre_StickReferenceIdeal (m : (ℓ : Loc Cert.StickReferenceIdeal.nD Cert.StickReferenceIdeal.τ Cert.StickReferenceIdeal.sig) → Buf (Elt Ideal) ℓ) : Prop :=
  True

def Pre_StickReferenceIdeal_regular [hPre_regular : Cert.Pre_regular.Facts] (m : (ℓ : Loc Cert.StickReferenceIdeal.nD Cert.StickReferenceIdeal.τ Cert.StickReferenceIdeal.sig) → Buf (Elt Ideal) ℓ) : Prop :=
  ∀ c : Dev Cert.StickReferenceIdeal.nD,
    (Cert.Pre_regular.fn (F := Ideal) (m ((c.tc : Thread Cert.StickReferenceIdeal.nD Cert.StickReferenceIdeal.τ).loc Cert.StickReferenceIdeal.main_arg0)) (m ((c.tc : Thread Cert.StickReferenceIdeal.nD Cert.StickReferenceIdeal.τ).loc Cert.StickReferenceIdeal.main_arg1)) (m ((c.tc : Thread Cert.StickReferenceIdeal.nD Cert.StickReferenceIdeal.τ).loc Cert.StickReferenceIdeal.main_arg2)) (m ((c.tc : Thread Cert.StickReferenceIdeal.nD Cert.StickReferenceIdeal.τ).loc Cert.StickReferenceIdeal.main_arg3)) (m ((c.tc : Thread Cert.StickReferenceIdeal.nD Cert.StickReferenceIdeal.τ).loc Cert.StickReferenceIdeal.main_arg4)) (m ((c.tc : Thread Cert.StickReferenceIdeal.nD Cert.StickReferenceIdeal.τ).loc Cert.StickReferenceIdeal.main_arg5)) (m ((c.tc : Thread Cert.StickReferenceIdeal.nD Cert.StickReferenceIdeal.τ).loc Cert.StickReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10))
      ∧ r.2.sem = fun _ => 0)

def quiescent_KvSample [hKvSample : Cert.KvSample.Facts] : Prop :=
  ∀ (m : (ℓ : Loc Cert.KvSample.nD Cert.KvSample.τ Cert.KvSample.sig) → Buf (Elt Bits) ℓ) (g : Dev Cert.KvSample.nD → PrngReg), Pre_KvSample m →
    θ_run (Cert.KvSample.defs (F := Bits)) (onTc (τ := Cert.KvSample.τ) (Cert.KvSample.main (F := Bits))) ⟨m, fun _ => 0, g⟩ (fun r => (∀ c : Dev Cert.KvSample.nD,
      r.2.mem ((c.tc : Thread Cert.KvSample.nD Cert.KvSample.τ).loc Cert.KvSample.main_arg0) = m ((c.tc : Thread Cert.KvSample.nD Cert.KvSample.τ).loc Cert.KvSample.main_arg0)
      ∧ r.2.mem ((c.tc : Thread Cert.KvSample.nD Cert.KvSample.τ).loc Cert.KvSample.main_arg1) = m ((c.tc : Thread Cert.KvSample.nD Cert.KvSample.τ).loc Cert.KvSample.main_arg1)
      ∧ r.2.mem ((c.tc : Thread Cert.KvSample.nD Cert.KvSample.τ).loc Cert.KvSample.main_arg2) = m ((c.tc : Thread Cert.KvSample.nD Cert.KvSample.τ).loc Cert.KvSample.main_arg2))
      ∧ r.2.sem = fun _ => 0)

def quiescent_KvSampleIdeal [hKvSampleIdeal : Cert.KvSampleIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg), Pre_KvSampleIdeal m →
    θ_run (Cert.KvSampleIdeal.defs (F := Ideal)) (onTc (τ := Cert.KvSampleIdeal.τ) (Cert.KvSampleIdeal.main (F := Ideal))) ⟨m, fun _ => 0, g⟩ (fun r => (∀ c : Dev Cert.KvSampleIdeal.nD,
      r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
      ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1)
      ∧ r.2.mem ((c.tc : Thread Cert.KvSampleIdeal.nD Cert.KvSampleIdeal.τ).loc Cert.KvSampleIdeal.main_arg2) = m ((c.tc : Thread Cert.KvSampleIdeal.nD Cert.KvSampleIdeal.τ).loc Cert.KvSampleIdeal.main_arg2))
      ∧ r.2.sem = fun _ => 0)

def quiescent_KvSampleReferenceIdeal [hKvSampleReferenceIdeal : Cert.KvSampleReferenceIdeal.Facts] : Prop :=
  ∀ (m : (ℓ : Loc Cert.KvSampleReferenceIdeal.nD Cert.KvSampleReferenceIdeal.τ Cert.KvSampleReferenceIdeal.sig) → Buf (Elt Ideal) ℓ) (g : Dev Cert.KvSampleReferenceIdeal.nD → PrngReg), Pre_KvSampleReferenceIdeal m →
    θ_run (Cert.KvSampleReferenceIdeal.defs (F := Ideal)) (onTc (τ := Cert.KvSampleReferenceIdeal.τ) (Cert.KvSampleReferenceIdeal.main (F := Ideal))) ⟨m, fun _ => 0, g⟩ (fun r => (∀ c : Dev Cert.KvSampleReferenceIdeal.nD,
      r.2.mem ((c.tc : Thread Cert.KvSampleReferenceIdeal.nD Cert.KvSampleReferenceIdeal.τ).loc Cert.KvSampleReferenceIdeal.main_arg0) = m ((c.tc : Thread Cert.KvSampleReferenceIdeal.nD Cert.KvSampleReferenceIdeal.τ).loc Cert.KvSampleReferenceIdeal.main_arg0)
      ∧ r.2.mem ((c.tc : Thread Cert.KvSampleReferenceIdeal.nD Cert.KvSampleReferenceIdeal.τ).loc Cert.KvSampleReferenceIdeal.main_arg1) = m ((c.tc : Thread Cert.KvSampleReferenceIdeal.nD Cert.KvSampleReferenceIdeal.τ).loc Cert.KvSampleReferenceIdeal.main_arg1)
      ∧ r.2.mem ((c.tc : Thread Cert.KvSampleReferenceIdeal.nD Cert.KvSampleReferenceIdeal.τ).loc Cert.KvSampleReferenceIdeal.main_arg2) = m ((c.tc : Thread Cert.KvSampleReferenceIdeal.nD Cert.KvSampleReferenceIdeal.τ).loc Cert.KvSampleReferenceIdeal.main_arg2))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4)
      ∧ r.2.mem ((c.tc : Thread Cert.FinalReferenceIdeal.nD Cert.FinalReferenceIdeal.τ).loc Cert.FinalReferenceIdeal.main_arg5) = m ((c.tc : Thread Cert.FinalReferenceIdeal.nD Cert.FinalReferenceIdeal.τ).loc Cert.FinalReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_Stick [hStick : Cert.Stick.Facts] [hPre_tables : Cert.Pre_tables.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1)
      ∧ r.2.mem ((c.tc : Thread Cert.Stick.nD Cert.Stick.τ).loc Cert.Stick.main_arg2) = m ((c.tc : Thread Cert.Stick.nD Cert.Stick.τ).loc Cert.Stick.main_arg2)
      ∧ r.2.mem ((c.tc : Thread Cert.Stick.nD Cert.Stick.τ).loc Cert.Stick.main_arg3) = m ((c.tc : Thread Cert.Stick.nD Cert.Stick.τ).loc Cert.Stick.main_arg3)
      ∧ r.2.mem ((c.tc : Thread Cert.Stick.nD Cert.Stick.τ).loc Cert.Stick.main_arg4) = m ((c.tc : Thread Cert.Stick.nD Cert.Stick.τ).loc Cert.Stick.main_arg4)
      ∧ r.2.mem ((c.tc : Thread Cert.Stick.nD Cert.Stick.τ).loc Cert.Stick.main_arg5) = m ((c.tc : Thread Cert.Stick.nD Cert.Stick.τ).loc Cert.Stick.main_arg5)
      ∧ r.2.mem ((c.tc : Thread Cert.Stick.nD Cert.Stick.τ).loc Cert.Stick.main_arg6) = m ((c.tc : Thread Cert.Stick.nD Cert.Stick.τ).loc Cert.Stick.main_arg6))
      ∧ r.2.sem = fun _ => 0)

def quiescent_StickIdeal [hStickIdeal : Cert.StickIdeal.Facts] [hPre_tables : Cert.Pre_tables.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2)
      ∧ r.2.mem ((c.tc : Thread Cert.StickIdeal.nD Cert.StickIdeal.τ).loc Cert.StickIdeal.main_arg3) = m ((c.tc : Thread Cert.StickIdeal.nD Cert.StickIdeal.τ).loc Cert.StickIdeal.main_arg3)
      ∧ r.2.mem ((c.tc : Thread Cert.StickIdeal.nD Cert.StickIdeal.τ).loc Cert.StickIdeal.main_arg4) = m ((c.tc : Thread Cert.StickIdeal.nD Cert.StickIdeal.τ).loc Cert.StickIdeal.main_arg4)
      ∧ r.2.mem ((c.tc : Thread Cert.StickIdeal.nD Cert.StickIdeal.τ).loc Cert.StickIdeal.main_arg5) = m ((c.tc : Thread Cert.StickIdeal.nD Cert.StickIdeal.τ).loc Cert.StickIdeal.main_arg5)
      ∧ r.2.mem ((c.tc : Thread Cert.StickIdeal.nD Cert.StickIdeal.τ).loc Cert.StickIdeal.main_arg6) = m ((c.tc : Thread Cert.StickIdeal.nD Cert.StickIdeal.τ).loc Cert.StickIdeal.main_arg6))
      ∧ r.2.sem = fun _ => 0)

def quiescent_StickIdeal_pre_regular [hStickIdeal : Cert.StickIdeal.Facts] [hPre_regular : Cert.Pre_regular.Facts] : Prop :=
  ∀ (m : (ℓ : Loc Cert.StickIdeal.nD Cert.StickIdeal.τ Cert.StickIdeal.sig) → Buf (Elt Ideal) ℓ) (g : Dev Cert.StickIdeal.nD → PrngReg), Pre_StickIdeal_regular m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2)
      ∧ r.2.mem ((c.tc : Thread Cert.StickIdeal.nD Cert.StickIdeal.τ).loc Cert.StickIdeal.main_arg3) = m ((c.tc : Thread Cert.StickIdeal.nD Cert.StickIdeal.τ).loc Cert.StickIdeal.main_arg3)
      ∧ r.2.mem ((c.tc : Thread Cert.StickIdeal.nD Cert.StickIdeal.τ).loc Cert.StickIdeal.main_arg4) = m ((c.tc : Thread Cert.StickIdeal.nD Cert.StickIdeal.τ).loc Cert.StickIdeal.main_arg4)
      ∧ r.2.mem ((c.tc : Thread Cert.StickIdeal.nD Cert.StickIdeal.τ).loc Cert.StickIdeal.main_arg5) = m ((c.tc : Thread Cert.StickIdeal.nD Cert.StickIdeal.τ).loc Cert.StickIdeal.main_arg5)
      ∧ r.2.mem ((c.tc : Thread Cert.StickIdeal.nD Cert.StickIdeal.τ).loc Cert.StickIdeal.main_arg6) = m ((c.tc : Thread Cert.StickIdeal.nD Cert.StickIdeal.τ).loc Cert.StickIdeal.main_arg6))
      ∧ r.2.sem = fun _ => 0)

def quiescent_StickReferenceIdeal [hStickReferenceIdeal : Cert.StickReferenceIdeal.Facts] : Prop :=
  ∀ (m : (ℓ : Loc Cert.StickReferenceIdeal.nD Cert.StickReferenceIdeal.τ Cert.StickReferenceIdeal.sig) → Buf (Elt Ideal) ℓ) (g : Dev Cert.StickReferenceIdeal.nD → PrngReg), Pre_StickReferenceIdeal m →
    θ_run (Cert.StickReferenceIdeal.defs (F := Ideal)) (onTc (τ := Cert.StickReferenceIdeal.τ) (Cert.StickReferenceIdeal.main (F := Ideal))) ⟨m, fun _ => 0, g⟩ (fun r => (∀ c : Dev Cert.StickReferenceIdeal.nD,
      r.2.mem ((c.tc : Thread Cert.StickReferenceIdeal.nD Cert.StickReferenceIdeal.τ).loc Cert.StickReferenceIdeal.main_arg0) = m ((c.tc : Thread Cert.StickReferenceIdeal.nD Cert.StickReferenceIdeal.τ).loc Cert.StickReferenceIdeal.main_arg0)
      ∧ r.2.mem ((c.tc : Thread Cert.StickReferenceIdeal.nD Cert.StickReferenceIdeal.τ).loc Cert.StickReferenceIdeal.main_arg1) = m ((c.tc : Thread Cert.StickReferenceIdeal.nD Cert.StickReferenceIdeal.τ).loc Cert.StickReferenceIdeal.main_arg1)
      ∧ r.2.mem ((c.tc : Thread Cert.StickReferenceIdeal.nD Cert.StickReferenceIdeal.τ).loc Cert.StickReferenceIdeal.main_arg2) = m ((c.tc : Thread Cert.StickReferenceIdeal.nD Cert.StickReferenceIdeal.τ).loc Cert.StickReferenceIdeal.main_arg2)
      ∧ r.2.mem ((c.tc : Thread Cert.StickReferenceIdeal.nD Cert.StickReferenceIdeal.τ).loc Cert.StickReferenceIdeal.main_arg3) = m ((c.tc : Thread Cert.StickReferenceIdeal.nD Cert.StickReferenceIdeal.τ).loc Cert.StickReferenceIdeal.main_arg3)
      ∧ r.2.mem ((c.tc : Thread Cert.StickReferenceIdeal.nD Cert.StickReferenceIdeal.τ).loc Cert.StickReferenceIdeal.main_arg4) = m ((c.tc : Thread Cert.StickReferenceIdeal.nD Cert.StickReferenceIdeal.τ).loc Cert.StickReferenceIdeal.main_arg4)
      ∧ r.2.mem ((c.tc : Thread Cert.StickReferenceIdeal.nD Cert.StickReferenceIdeal.τ).loc Cert.StickReferenceIdeal.main_arg5) = m ((c.tc : Thread Cert.StickReferenceIdeal.nD Cert.StickReferenceIdeal.τ).loc Cert.StickReferenceIdeal.main_arg5)
      ∧ r.2.mem ((c.tc : Thread Cert.StickReferenceIdeal.nD Cert.StickReferenceIdeal.τ).loc Cert.StickReferenceIdeal.main_arg6) = m ((c.tc : Thread Cert.StickReferenceIdeal.nD Cert.StickReferenceIdeal.τ).loc Cert.StickReferenceIdeal.main_arg6))
      ∧ r.2.sem = fun _ => 0)

def quiescent_StickReferenceIdeal_pre_regular [hStickReferenceIdeal : Cert.StickReferenceIdeal.Facts] [hPre_regular : Cert.Pre_regular.Facts] : Prop :=
  ∀ (m : (ℓ : Loc Cert.StickReferenceIdeal.nD Cert.StickReferenceIdeal.τ Cert.StickReferenceIdeal.sig) → Buf (Elt Ideal) ℓ) (g : Dev Cert.StickReferenceIdeal.nD → PrngReg), Pre_StickReferenceIdeal_regular m →
    θ_run (Cert.StickReferenceIdeal.defs (F := Ideal)) (onTc (τ := Cert.StickReferenceIdeal.τ) (Cert.StickReferenceIdeal.main (F := Ideal))) ⟨m, fun _ => 0, g⟩ (fun r => (∀ c : Dev Cert.StickReferenceIdeal.nD,
      r.2.mem ((c.tc : Thread Cert.StickReferenceIdeal.nD Cert.StickReferenceIdeal.τ).loc Cert.StickReferenceIdeal.main_arg0) = m ((c.tc : Thread Cert.StickReferenceIdeal.nD Cert.StickReferenceIdeal.τ).loc Cert.StickReferenceIdeal.main_arg0)
      ∧ r.2.mem ((c.tc : Thread Cert.StickReferenceIdeal.nD Cert.StickReferenceIdeal.τ).loc Cert.StickReferenceIdeal.main_arg1) = m ((c.tc : Thread Cert.StickReferenceIdeal.nD Cert.StickReferenceIdeal.τ).loc Cert.StickReferenceIdeal.main_arg1)
      ∧ r.2.mem ((c.tc : Thread Cert.StickReferenceIdeal.nD Cert.StickReferenceIdeal.τ).loc Cert.StickReferenceIdeal.main_arg2) = m ((c.tc : Thread Cert.StickReferenceIdeal.nD Cert.StickReferenceIdeal.τ).loc Cert.StickReferenceIdeal.main_arg2)
      ∧ r.2.mem ((c.tc : Thread Cert.StickReferenceIdeal.nD Cert.StickReferenceIdeal.τ).loc Cert.StickReferenceIdeal.main_arg3) = m ((c.tc : Thread Cert.StickReferenceIdeal.nD Cert.StickReferenceIdeal.τ).loc Cert.StickReferenceIdeal.main_arg3)
      ∧ r.2.mem ((c.tc : Thread Cert.StickReferenceIdeal.nD Cert.StickReferenceIdeal.τ).loc Cert.StickReferenceIdeal.main_arg4) = m ((c.tc : Thread Cert.StickReferenceIdeal.nD Cert.StickReferenceIdeal.τ).loc Cert.StickReferenceIdeal.main_arg4)
      ∧ r.2.mem ((c.tc : Thread Cert.StickReferenceIdeal.nD Cert.StickReferenceIdeal.τ).loc Cert.StickReferenceIdeal.main_arg5) = m ((c.tc : Thread Cert.StickReferenceIdeal.nD Cert.StickReferenceIdeal.τ).loc Cert.StickReferenceIdeal.main_arg5)
      ∧ r.2.mem ((c.tc : Thread Cert.StickReferenceIdeal.nD Cert.StickReferenceIdeal.τ).loc Cert.StickReferenceIdeal.main_arg6) = m ((c.tc : Thread Cert.StickReferenceIdeal.nD Cert.StickReferenceIdeal.τ).loc Cert.StickReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v21) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)) →
    ∃ (v0 : (c : Dev Cert.TailIdeal.nD) → Buf (Elt Ideal) ((c.tc : Thread Cert.TailIdeal.nD Cert.TailIdeal.τ).loc Cert.TailIdeal.main_v7)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v7) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v47) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10))

def preserves_KvSample_KvSampleIdeal : Prop :=
  True

def algebraic_KvSampleIdeal_KvSampleReferenceIdeal [hKvSampleIdeal : Cert.KvSampleIdeal.Facts] [hKvSampleReferenceIdeal : Cert.KvSampleReferenceIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg)
    (m' : (ℓ : Loc Cert.KvSampleReferenceIdeal.nD Cert.KvSampleReferenceIdeal.τ Cert.KvSampleReferenceIdeal.sig) → Buf (Elt Ideal) ℓ) (g' : Dev Cert.KvSampleReferenceIdeal.nD → PrngReg), Pre_KvSampleIdeal m →
    (∀ c : Dev Cert.KvSampleIdeal.nD,
      m' ((c.tc : Thread Cert.KvSampleReferenceIdeal.nD Cert.KvSampleReferenceIdeal.τ).loc Cert.KvSampleReferenceIdeal.main_arg0) = m ((c.tc : Thread Cert.KvSampleIdeal.nD Cert.KvSampleIdeal.τ).loc Cert.KvSampleIdeal.main_arg0)
      ∧ m' ((c.tc : Thread Cert.KvSampleReferenceIdeal.nD Cert.KvSampleReferenceIdeal.τ).loc Cert.KvSampleReferenceIdeal.main_arg1) = m ((c.tc : Thread Cert.KvSampleIdeal.nD Cert.KvSampleIdeal.τ).loc Cert.KvSampleIdeal.main_arg1)
      ∧ m' ((c.tc : Thread Cert.KvSampleReferenceIdeal.nD Cert.KvSampleReferenceIdeal.τ).loc Cert.KvSampleReferenceIdeal.main_arg2) = m ((c.tc : Thread Cert.KvSampleIdeal.nD Cert.KvSampleIdeal.τ).loc Cert.KvSampleIdeal.main_arg2)) →
    ∃ (v0 : (c : Dev Cert.KvSampleIdeal.nD) → Buf (Elt Ideal) ((c.tc : Thread Cert.KvSampleIdeal.nD Cert.KvSampleIdeal.τ).loc Cert.KvSampleIdeal.main_v3)),
      θ_run (Cert.KvSampleIdeal.defs (F := Ideal)) (onTc (τ := Cert.KvSampleIdeal.τ) (Cert.KvSampleIdeal.main (F := Ideal))) ⟨m, fun _ => 0, g⟩ (fun r => ∀ c : Dev Cert.KvSampleIdeal.nD,
          r.2.mem ((c.tc : Thread Cert.KvSampleIdeal.nD Cert.KvSampleIdeal.τ).loc Cert.KvSampleIdeal.main_v3) = v0 c
          ∧ r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
          ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1)
          ∧ r.2.mem ((c.tc : Thread Cert.KvSampleIdeal.nD Cert.KvSampleIdeal.τ).loc Cert.KvSampleIdeal.main_arg2) = m ((c.tc : Thread Cert.KvSampleIdeal.nD Cert.KvSampleIdeal.τ).loc Cert.KvSampleIdeal.main_arg2))
      ∧ θ_run (Cert.KvSampleReferenceIdeal.defs (F := Ideal)) (onTc (τ := Cert.KvSampleReferenceIdeal.τ) (Cert.KvSampleReferenceIdeal.main (F := Ideal))) ⟨m', fun _ => 0, g'⟩ (fun r => ∀ c : Dev Cert.KvSampleReferenceIdeal.nD,
          r.2.mem ((c.tc : Thread Cert.KvSampleReferenceIdeal.nD Cert.KvSampleReferenceIdeal.τ).loc Cert.KvSampleReferenceIdeal.main_v14) = v0 c
          ∧ r.2.mem ((c.tc : Thread Cert.KvSampleReferenceIdeal.nD Cert.KvSampleReferenceIdeal.τ).loc Cert.KvSampleReferenceIdeal.main_arg0) = m' ((c.tc : Thread Cert.KvSampleReferenceIdeal.nD Cert.KvSampleReferenceIdeal.τ).loc Cert.KvSampleReferenceIdeal.main_arg0)
          ∧ r.2.mem ((c.tc : Thread Cert.KvSampleReferenceIdeal.nD Cert.KvSampleReferenceIdeal.τ).loc Cert.KvSampleReferenceIdeal.main_arg1) = m' ((c.tc : Thread Cert.KvSampleReferenceIdeal.nD Cert.KvSampleReferenceIdeal.τ).loc Cert.KvSampleReferenceIdeal.main_arg1)
          ∧ r.2.mem ((c.tc : Thread Cert.KvSampleReferenceIdeal.nD Cert.KvSampleReferenceIdeal.τ).loc Cert.KvSampleReferenceIdeal.main_arg2) = m' ((c.tc : Thread Cert.KvSampleReferenceIdeal.nD Cert.KvSampleReferenceIdeal.τ).loc Cert.KvSampleReferenceIdeal.main_arg2))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)
      ∧ m' ((c.tc : Thread Cert.LastReferenceIdeal.nD Cert.LastReferenceIdeal.τ).loc Cert.LastReferenceIdeal.main_arg5) = m ((c.tc : Thread Cert.LastIdeal.nD Cert.LastIdeal.τ).loc Cert.LastIdeal.main_arg5)
      ∧ m' ((c.tc : Thread Cert.LastReferenceIdeal.nD Cert.LastReferenceIdeal.τ).loc Cert.LastReferenceIdeal.main_arg6) = m ((c.tc : Thread Cert.LastIdeal.nD Cert.LastIdeal.τ).loc Cert.LastIdeal.main_arg6)) →
    ∃ (v0 : (c : Dev Cert.LastIdeal.nD) → Buf (Elt Ideal) ((c.tc : Thread Cert.LastIdeal.nD Cert.LastIdeal.τ).loc Cert.LastIdeal.main_v4)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v4) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v24) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5)
          ∧ r.2.mem ((c.tc : Thread Cert.LastReferenceIdeal.nD Cert.LastReferenceIdeal.τ).loc Cert.LastReferenceIdeal.main_arg6) = m' ((c.tc : Thread Cert.LastReferenceIdeal.nD Cert.LastReferenceIdeal.τ).loc Cert.LastReferenceIdeal.main_arg6))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)
      ∧ m' ((c.tc : Thread Cert.QueryReferenceIdeal.nD Cert.QueryReferenceIdeal.τ).loc Cert.QueryReferenceIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v2)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v2) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v13) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1)
          ∧ r.2.mem ((c.tc : Thread Cert.QueryReferenceIdeal.nD Cert.QueryReferenceIdeal.τ).loc Cert.QueryReferenceIdeal.main_arg2) = m' ((c.tc : Thread Cert.QueryReferenceIdeal.nD Cert.QueryReferenceIdeal.τ).loc Cert.QueryReferenceIdeal.main_arg2))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)
      ∧ m' ((c.tc : Thread Cert.KvReferenceIdeal.nD Cert.KvReferenceIdeal.τ).loc Cert.KvReferenceIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v9)) (v1 : (c : Dev Cert.KvIdeal.nD) → Buf (Elt Ideal) ((c.tc : Thread Cert.KvIdeal.nD Cert.KvIdeal.τ).loc Cert.KvIdeal.main_v11)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v9) = v0 c
          ∧ r.2.mem ((c.tc : Thread Cert.KvIdeal.nD Cert.KvIdeal.τ).loc Cert.KvIdeal.main_v11) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v17) = v0 c
          ∧ r.2.mem ((c.tc : Thread Cert.KvReferenceIdeal.nD Cert.KvReferenceIdeal.τ).loc Cert.KvReferenceIdeal.main_v19) = v1 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)
      ∧ m' ((c.tc : Thread Cert.FinalReferenceIdeal.nD Cert.FinalReferenceIdeal.τ).loc Cert.FinalReferenceIdeal.main_arg4) = m ((c.tc : Thread Cert.FinalIdeal.nD Cert.FinalIdeal.τ).loc Cert.FinalIdeal.main_arg4)
      ∧ m' ((c.tc : Thread Cert.FinalReferenceIdeal.nD Cert.FinalReferenceIdeal.τ).loc Cert.FinalReferenceIdeal.main_arg5) = m ((c.tc : Thread Cert.FinalIdeal.nD Cert.FinalIdeal.τ).loc Cert.FinalIdeal.main_arg5)) →
    ∃ (v0 : (c : Dev Cert.FinalIdeal.nD) → Buf (Elt Ideal) ((c.tc : Thread Cert.FinalIdeal.nD Cert.FinalIdeal.τ).loc Cert.FinalIdeal.main_v4_0)) (v1 : (c : Dev Cert.FinalIdeal.nD) → Buf (Elt Ideal) ((c.tc : Thread Cert.FinalIdeal.nD Cert.FinalIdeal.τ).loc Cert.FinalIdeal.main_v4_1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v4_0) = v0 c
          ∧ r.2.mem ((c.tc : Thread Cert.FinalIdeal.nD Cert.FinalIdeal.τ).loc Cert.FinalIdeal.main_v4_1) = v1 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v36) = v0 c
          ∧ r.2.mem ((c.tc : Thread Cert.FinalReferenceIdeal.nD Cert.FinalReferenceIdeal.τ).loc Cert.FinalReferenceIdeal.main_v37) = v1 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4)
          ∧ r.2.mem ((c.tc : Thread Cert.FinalReferenceIdeal.nD Cert.FinalReferenceIdeal.τ).loc Cert.FinalReferenceIdeal.main_arg5) = m' ((c.tc : Thread Cert.FinalReferenceIdeal.nD Cert.FinalReferenceIdeal.τ).loc Cert.FinalReferenceIdeal.main_arg5))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v21_0)) (v1 : (c : Dev Cert.ProjIdeal.nD) → Buf (Elt Ideal) ((c.tc : Thread Cert.ProjIdeal.nD Cert.ProjIdeal.τ).loc Cert.ProjIdeal.main_v21_1)) (v2 : (c : Dev Cert.ProjIdeal.nD) → Buf (Elt Ideal) ((c.tc : Thread Cert.ProjIdeal.nD Cert.ProjIdeal.τ).loc Cert.ProjIdeal.main_v21_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v21_0) = v0 c
          ∧ r.2.mem ((c.tc : Thread Cert.ProjIdeal.nD Cert.ProjIdeal.τ).loc Cert.ProjIdeal.main_v21_1) = v1 c
          ∧ r.2.mem ((c.tc : Thread Cert.ProjIdeal.nD Cert.ProjIdeal.τ).loc Cert.ProjIdeal.main_v21_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v32) = v0 c
          ∧ r.2.mem ((c.tc : Thread Cert.ProjReferenceIdeal.nD Cert.ProjReferenceIdeal.τ).loc Cert.ProjReferenceIdeal.main_v33) = v1 c
          ∧ r.2.mem ((c.tc : Thread Cert.ProjReferenceIdeal.nD Cert.ProjReferenceIdeal.τ).loc Cert.ProjReferenceIdeal.main_v34) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_Stick_StickIdeal : Prop :=
  IdealRules.named_const.Statement Cert.StickIdeal.κ "scale" .f32 0x3E38AA3B#32 (((8 * (Real.log 2))⁻¹ : ℝ) : EReal)
  ∧ IdealRules.named_const.Statement Cert.StickIdeal.κ "log2e" .f32 0x3FB8AA3B#32 (((Real.log 2)⁻¹ : ℝ) : EReal)

def algebraic_StickIdeal_StickReferenceIdeal_on_first_tile_pre_regular [hStickIdeal : Cert.StickIdeal.Facts] [hStickReferenceIdeal : Cert.StickReferenceIdeal.Facts] [hPre_regular : Cert.Pre_regular.Facts] [hOn_first_tile : Cert.On_first_tile.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickReferenceIdeal.nD Cert.StickReferenceIdeal.τ Cert.StickReferenceIdeal.sig) → Buf (Elt Ideal) ℓ) (g' : Dev Cert.StickReferenceIdeal.nD → PrngReg), Pre_StickIdeal_regular m →
    (∀ c : Dev Cert.StickIdeal.nD,
      m' ((c.tc : Thread Cert.StickReferenceIdeal.nD Cert.StickReferenceIdeal.τ).loc Cert.StickReferenceIdeal.main_arg0) = m ((c.tc : Thread Cert.StickIdeal.nD Cert.StickIdeal.τ).loc Cert.StickIdeal.main_arg0)
      ∧ m' ((c.tc : Thread Cert.StickReferenceIdeal.nD Cert.StickReferenceIdeal.τ).loc Cert.StickReferenceIdeal.main_arg1) = m ((c.tc : Thread Cert.StickIdeal.nD Cert.StickIdeal.τ).loc Cert.StickIdeal.main_arg1)
      ∧ m' ((c.tc : Thread Cert.StickReferenceIdeal.nD Cert.StickReferenceIdeal.τ).loc Cert.StickReferenceIdeal.main_arg2) = m ((c.tc : Thread Cert.StickIdeal.nD Cert.StickIdeal.τ).loc Cert.StickIdeal.main_arg2)
      ∧ m' ((c.tc : Thread Cert.StickReferenceIdeal.nD Cert.StickReferenceIdeal.τ).loc Cert.StickReferenceIdeal.main_arg3) = m ((c.tc : Thread Cert.StickIdeal.nD Cert.StickIdeal.τ).loc Cert.StickIdeal.main_arg3)
      ∧ m' ((c.tc : Thread Cert.StickReferenceIdeal.nD Cert.StickReferenceIdeal.τ).loc Cert.StickReferenceIdeal.main_arg4) = m ((c.tc : Thread Cert.StickIdeal.nD Cert.StickIdeal.τ).loc Cert.StickIdeal.main_arg4)
      ∧ m' ((c.tc : Thread Cert.StickReferenceIdeal.nD Cert.StickReferenceIdeal.τ).loc Cert.StickReferenceIdeal.main_arg5) = m ((c.tc : Thread Cert.StickIdeal.nD Cert.StickIdeal.τ).loc Cert.StickIdeal.main_arg5)
      ∧ m' ((c.tc : Thread Cert.StickReferenceIdeal.nD Cert.StickReferenceIdeal.τ).loc Cert.StickReferenceIdeal.main_arg6) = m ((c.tc : Thread Cert.StickIdeal.nD Cert.StickIdeal.τ).loc Cert.StickIdeal.main_arg6)) →
    ∃ (v0 : (c : Dev Cert.StickIdeal.nD) → Buf (Elt Ideal) ((c.tc : Thread Cert.StickIdeal.nD Cert.StickIdeal.τ).loc Cert.StickIdeal.main_v0)),
      θ_run (Cert.StickIdeal.defs (F := Ideal)) (onTc (τ := Cert.StickIdeal.τ) (Cert.StickIdeal.main (F := Ideal))) ⟨m, fun _ => 0, g⟩ (fun r => ∀ c : Dev Cert.StickIdeal.nD,
          (∀ i : (⟨2, ![16384, 1024]⟩ : Shape).Idx, (Cert.On_first_tile.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2)) (m ((c.tc : Thread Cert.StickIdeal.nD Cert.StickIdeal.τ).loc Cert.StickIdeal.main_arg3)) (m ((c.tc : Thread Cert.StickIdeal.nD Cert.StickIdeal.τ).loc Cert.StickIdeal.main_arg4)) (m ((c.tc : Thread Cert.StickIdeal.nD Cert.StickIdeal.τ).loc Cert.StickIdeal.main_arg5)) (m ((c.tc : Thread Cert.StickIdeal.nD Cert.StickIdeal.τ).loc Cert.StickIdeal.main_arg6))) i = 1#1 → r.2.mem ((c.tc : Thread Cert.StickIdeal.nD Cert.StickIdeal.τ).loc Cert.StickIdeal.main_v0) i = v0 c i)
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
          ∧ r.2.mem ((c.tc : Thread Cert.StickIdeal.nD Cert.StickIdeal.τ).loc Cert.StickIdeal.main_arg2) = m ((c.tc : Thread Cert.StickIdeal.nD Cert.StickIdeal.τ).loc Cert.StickIdeal.main_arg2)
          ∧ r.2.mem ((c.tc : Thread Cert.StickIdeal.nD Cert.StickIdeal.τ).loc Cert.StickIdeal.main_arg3) = m ((c.tc : Thread Cert.StickIdeal.nD Cert.StickIdeal.τ).loc Cert.StickIdeal.main_arg3)
          ∧ r.2.mem ((c.tc : Thread Cert.StickIdeal.nD Cert.StickIdeal.τ).loc Cert.StickIdeal.main_arg4) = m ((c.tc : Thread Cert.StickIdeal.nD Cert.StickIdeal.τ).loc Cert.StickIdeal.main_arg4)
          ∧ r.2.mem ((c.tc : Thread Cert.StickIdeal.nD Cert.StickIdeal.τ).loc Cert.StickIdeal.main_arg5) = m ((c.tc : Thread Cert.StickIdeal.nD Cert.StickIdeal.τ).loc Cert.StickIdeal.main_arg5)
          ∧ r.2.mem ((c.tc : Thread Cert.StickIdeal.nD Cert.StickIdeal.τ).loc Cert.StickIdeal.main_arg6) = m ((c.tc : Thread Cert.StickIdeal.nD Cert.StickIdeal.τ).loc Cert.StickIdeal.main_arg6))
      ∧ θ_run (Cert.StickReferenceIdeal.defs (F := Ideal)) (onTc (τ := Cert.StickReferenceIdeal.τ) (Cert.StickReferenceIdeal.main (F := Ideal))) ⟨m', fun _ => 0, g'⟩ (fun r => ∀ c : Dev Cert.StickReferenceIdeal.nD,
          (∀ i : (⟨2, ![16384, 1024]⟩ : Shape).Idx, (Cert.On_first_tile.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2)) (m ((c.tc : Thread Cert.StickIdeal.nD Cert.StickIdeal.τ).loc Cert.StickIdeal.main_arg3)) (m ((c.tc : Thread Cert.StickIdeal.nD Cert.StickIdeal.τ).loc Cert.StickIdeal.main_arg4)) (m ((c.tc : Thread Cert.StickIdeal.nD Cert.StickIdeal.τ).loc Cert.StickIdeal.main_arg5)) (m ((c.tc : Thread Cert.StickIdeal.nD Cert.StickIdeal.τ).loc Cert.StickIdeal.main_arg6))) i = 1#1 → r.2.mem ((c.tc : Thread Cert.StickReferenceIdeal.nD Cert.StickReferenceIdeal.τ).loc Cert.StickReferenceIdeal.main_v40) i = v0 c i)
          ∧ r.2.mem ((c.tc : Thread Cert.StickReferenceIdeal.nD Cert.StickReferenceIdeal.τ).loc Cert.StickReferenceIdeal.main_arg0) = m' ((c.tc : Thread Cert.StickReferenceIdeal.nD Cert.StickReferenceIdeal.τ).loc Cert.StickReferenceIdeal.main_arg0)
          ∧ r.2.mem ((c.tc : Thread Cert.StickReferenceIdeal.nD Cert.StickReferenceIdeal.τ).loc Cert.StickReferenceIdeal.main_arg1) = m' ((c.tc : Thread Cert.StickReferenceIdeal.nD Cert.StickReferenceIdeal.τ).loc Cert.StickReferenceIdeal.main_arg1)
          ∧ r.2.mem ((c.tc : Thread Cert.StickReferenceIdeal.nD Cert.StickReferenceIdeal.τ).loc Cert.StickReferenceIdeal.main_arg2) = m' ((c.tc : Thread Cert.StickReferenceIdeal.nD Cert.StickReferenceIdeal.τ).loc Cert.StickReferenceIdeal.main_arg2)
          ∧ r.2.mem ((c.tc : Thread Cert.StickReferenceIdeal.nD Cert.StickReferenceIdeal.τ).loc Cert.StickReferenceIdeal.main_arg3) = m' ((c.tc : Thread Cert.StickReferenceIdeal.nD Cert.StickReferenceIdeal.τ).loc Cert.StickReferenceIdeal.main_arg3)
          ∧ r.2.mem ((c.tc : Thread Cert.StickReferenceIdeal.nD Cert.StickReferenceIdeal.τ).loc Cert.StickReferenceIdeal.main_arg4) = m' ((c.tc : Thread Cert.StickReferenceIdeal.nD Cert.StickReferenceIdeal.τ).loc Cert.StickReferenceIdeal.main_arg4)
          ∧ r.2.mem ((c.tc : Thread Cert.StickReferenceIdeal.nD Cert.StickReferenceIdeal.τ).loc Cert.StickReferenceIdeal.main_arg5) = m' ((c.tc : Thread Cert.StickReferenceIdeal.nD Cert.StickReferenceIdeal.τ).loc Cert.StickReferenceIdeal.main_arg5)
          ∧ r.2.mem ((c.tc : Thread Cert.StickReferenceIdeal.nD Cert.StickReferenceIdeal.τ).loc Cert.StickReferenceIdeal.main_arg6) = m' ((c.tc : Thread Cert.StickReferenceIdeal.nD Cert.StickReferenceIdeal.τ).loc Cert.StickReferenceIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hTail : Cert.Tail.Facts) (hTailIdeal : Cert.TailIdeal.Facts) (hTailReferenceIdeal : Cert.TailReferenceIdeal.Facts) (hKvSample : Cert.KvSample.Facts) (hKvSampleIdeal : Cert.KvSampleIdeal.Facts) (hKvSampleReferenceIdeal : Cert.KvSampleReferenceIdeal.Facts) (hLast : Cert.Last.Facts) (hLastIdeal : Cert.LastIdeal.Facts) (hLastReferenceIdeal : Cert.LastReferenceIdeal.Facts) (hQuery : Cert.Query.Facts) (hQueryIdeal : Cert.QueryIdeal.Facts) (hQueryReferenceIdeal : Cert.QueryReferenceIdeal.Facts) (hKv : Cert.Kv.Facts) (hKvIdeal : Cert.KvIdeal.Facts) (hKvReferenceIdeal : Cert.KvReferenceIdeal.Facts) (hFinal : Cert.Final.Facts) (hFinalIdeal : Cert.FinalIdeal.Facts) (hFinalReferenceIdeal : Cert.FinalReferenceIdeal.Facts) (hProj : Cert.Proj.Facts) (hProjIdeal : Cert.ProjIdeal.Facts) (hProjReferenceIdeal : Cert.ProjReferenceIdeal.Facts) (hStick : Cert.Stick.Facts) (hStickIdeal : Cert.StickIdeal.Facts) (hStickReferenceIdeal : Cert.StickReferenceIdeal.Facts) (hPre_finite : Cert.Pre_finite.Facts) (hPre_tables : Cert.Pre_tables.Facts) (hPre_regular : Cert.Pre_regular.Facts) (hOn_first_tile : Cert.On_first_tile.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Tail (hTail := hTail)
    ∧ quiescent_TailIdeal (hTailIdeal := hTailIdeal)
    ∧ quiescent_TailReferenceIdeal (hTailReferenceIdeal := hTailReferenceIdeal)
    ∧ quiescent_KvSample (hKvSample := hKvSample)
    ∧ quiescent_KvSampleIdeal (hKvSampleIdeal := hKvSampleIdeal)
    ∧ quiescent_KvSampleReferenceIdeal (hKvSampleReferenceIdeal := hKvSampleReferenceIdeal)
    ∧ quiescent_Last (hLast := hLast)
    ∧ quiescent_LastIdeal (hLastIdeal := hLastIdeal)
    ∧ quiescent_LastReferenceIdeal (hLastReferenceIdeal := hLastReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_Kv (hKv := hKv)
    ∧ quiescent_KvIdeal (hKvIdeal := hKvIdeal)
    ∧ quiescent_KvReferenceIdeal (hKvReferenceIdeal := hKvReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Stick (hStick := hStick) (hPre_tables := hPre_tables)
    ∧ quiescent_StickIdeal (hStickIdeal := hStickIdeal) (hPre_tables := hPre_tables)
    ∧ quiescent_StickIdeal_pre_regular (hStickIdeal := hStickIdeal) (hPre_regular := hPre_regular)
    ∧ quiescent_StickReferenceIdeal (hStickReferenceIdeal := hStickReferenceIdeal)
    ∧ quiescent_StickReferenceIdeal_pre_regular (hStickReferenceIdeal := hStickReferenceIdeal) (hPre_regular := hPre_regular)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Tail_TailIdeal
    ∧ algebraic_TailIdeal_TailReferenceIdeal (hTailIdeal := hTailIdeal) (hTailReferenceIdeal := hTailReferenceIdeal)
    ∧ preserves_KvSample_KvSampleIdeal
    ∧ algebraic_KvSampleIdeal_KvSampleReferenceIdeal (hKvSampleIdeal := hKvSampleIdeal) (hKvSampleReferenceIdeal := hKvSampleReferenceIdeal)
    ∧ preserves_Last_LastIdeal
    ∧ algebraic_LastIdeal_LastReferenceIdeal (hLastIdeal := hLastIdeal) (hLastReferenceIdeal := hLastReferenceIdeal)
    ∧ preserves_Query_QueryIdeal
    ∧ algebraic_QueryIdeal_QueryReferenceIdeal (hQueryIdeal := hQueryIdeal) (hQueryReferenceIdeal := hQueryReferenceIdeal)
    ∧ preserves_Kv_KvIdeal
    ∧ algebraic_KvIdeal_KvReferenceIdeal (hKvIdeal := hKvIdeal) (hKvReferenceIdeal := hKvReferenceIdeal)
    ∧ preserves_Final_FinalIdeal
    ∧ algebraic_FinalIdeal_FinalReferenceIdeal (hFinalIdeal := hFinalIdeal) (hFinalReferenceIdeal := hFinalReferenceIdeal)
    ∧ preserves_Proj_ProjIdeal
    ∧ algebraic_ProjIdeal_ProjReferenceIdeal (hProjIdeal := hProjIdeal) (hProjReferenceIdeal := hProjReferenceIdeal)
    ∧ preserves_Stick_StickIdeal
    ∧ algebraic_StickIdeal_StickReferenceIdeal_on_first_tile_pre_regular (hStickIdeal := hStickIdeal) (hStickReferenceIdeal := hStickReferenceIdeal) (hPre_regular := hPre_regular) (hOn_first_tile := hOn_first_tile)
-- ==== On_first_tile.lean ====
abbrev S17408x1024 : Shape := ⟨2, ![17408, 1024]⟩
abbrev S4x1024x4096 : Shape := ⟨3, ![4, 1024, 4096]⟩
abbrev S16 : Shape := ⟨1, ![16]⟩
abbrev S40 : Shape := ⟨1, ![40]⟩
abbrev S256x256 : Shape := ⟨2, ![256, 256]⟩
abbrev S16384 : Shape := ⟨1, ![16384]⟩
abbrev S_ : Shape := ⟨0, ![]⟩
abbrev S16384x1 : Shape := ⟨2, ![16384, 1]⟩
abbrev S16384x1024 : Shape := ⟨2, ![16384, 1024]⟩

class Facts : Prop where
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S16384 32) (arg1 : IVec S_ 32) : IVec S16384 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S16384 32 := broadcastInDim S16384 ![] bcast_S_S16384 v2
  let v4 : IVec S16384 32 := Host.remsi arg0 v3
  let c_1 : IVec S_ 32 := constantI S_ 32 0#32
  let v5 : IVec S16384 32 := broadcastInDim S16384 ![] bcast_S_S16384 c_1
  let v6 : IVec S16384 1 := cmpi .ne v4 v5
  let c_2 : IVec S_ 32 := constantI S_ 32 0#32
  let v7 : IVec S16384 32 := broadcastInDim S16384 ![] bcast_S_S16384 c_2
  let v8 : IVec S16384 1 := cmpi .slt v4 v7
  let c_3 : IVec S_ 32 := constantI S_ 32 0#32
  let v9 : IVec S_ 1 := cmpi .slt v2 c_3
  let v10 : IVec S16384 1 := broadcastInDim S16384 ![] bcast_S_S16384 v9
  let v11 : IVec S16384 1 := cmpi .ne v8 v10
  let v12 : IVec S16384 1 := andi v11 v6
  let v13 : IVec S16384 32 := broadcastInDim S16384 ![] bcast_S_S16384 v2
  let v14 : IVec S16384 32 := addi v4 v13
  let v15 : IVec S16384 32 := select v12 v14 v4
  v15

def fn {F : FTy → Type} [FloatOps F] (main_arg0 : FVec F S17408x1024 .f32) (main_arg1 : FVec F S4x1024x4096 .f32) (main_arg2 : FVec F S4x1024x4096 .f32) (main_arg3 : FVec F S16 .f32) (main_arg4 : IVec S40 32) (main_arg5 : IVec S40 32) (main_arg6 : FVec F S256x256 .bf16) : IVec S16384x1024 1 :=
  let main_v0 : IVec S16384 32 := iotaInDim S16384 32 0
  let main_c : IVec S_ 32 := constantI S_ 32 4096#32
  let main_v1 : IVec S16384 32 := fn_remainder (F := F) main_v0 main_c
  let main_c_0 : IVec S_ 32 := constantI S_ 32 256#32
  let main_v2 : IVec S16384 32 := broadcastInDim S16384 ![] bcast_S_S16384 main_c_0
  let main_v3 : IVec S16384 1 := cmpi .slt main_v1 main_v2
  let main_v4 : IVec S16384x1 1 := broadcastInDim S16384x1 ![0] bcast_S16384_S16384x1_0 main_v3
  let main_v5 : IVec S16384x1024 1 := broadcastInDim S16384x1024 ![0, 1] bcast_S16384x1_S16384x1024_0_1 main_v4
  main_v5
-- ==== Pre_finite.lean ====
abbrev S17408x4096 : Shape := ⟨2, ![17408, 4096]⟩
abbrev S17408x8 : Shape := ⟨2, ![17408, 8]⟩
abbrev S2x128x3x3072 : Shape := ⟨4, ![2, 128, 3, 3072]⟩
abbrev S2x128x8x128x128 : Shape := ⟨5, ![2, 128, 8, 128, 128]⟩
abbrev S4x3072 : Shape := ⟨2, ![4, 3072]⟩
abbrev S128 : Shape := ⟨1, ![128]⟩
abbrev S_ : Shape := ⟨0, ![]⟩

class Facts : Prop where
  bcast_S_S17408x4096 : S_.BroadcastsInDim S17408x4096 (![] : Fin 0 → Fin S17408x4096.rank)
  reducesTo_S17408x4096_S_d0_1 : S17408x4096.ReducesTo [0, 1] S_
  h_S_ : 0 < S_.numel
  bcast_S_S17408x8 : S_.BroadcastsInDim S17408x8 (![] : Fin 0 → Fin S17408x8.rank)
  reducesTo_S17408x8_S_d0_1 : S17408x8.ReducesTo [0, 1] S_
  bcast_S_S2x128x3x3072 : S_.BroadcastsInDim S2x128x3x3072 (![] : Fin 0 → Fin S2x128x3x3072.rank)
  reducesTo_S2x128x3x3072_S_d0_1_2_3 : S2x128x3x3072.ReducesTo [0, 1, 2, 3] S_
  bcast_S_S2x128x8x128x128 : S_.BroadcastsInDim S2x128x8x128x128 (![] : Fin 0 → Fin S2x128x8x128x128.rank)
  reducesTo_S2x128x8x128x128_S_d0_1_2_3_4 : S2x128x8x128x128.ReducesTo [0, 1, 2, 3, 4] S_
  bcast_S_S4x3072 : S_.BroadcastsInDim S4x3072 (![] : Fin 0 → Fin S4x3072.rank)
  reducesTo_S4x3072_S_d0_1 : S4x3072.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_v29 : IVec S_ 1) (main_v32 : IVec S128 1) (main_c_12 : IVec S_ 1) : IVec S_ 1 :=
  let main_v33 : IVec S_ 1 := (fun x v => Host.reduce IntOp.andi x v reducesTo_S128_S_d0 h_S_) main_v32 main_c_12
  let main_v34 : IVec S_ 1 := andi main_v29 main_v33
  main_v34

def fn_part1 {F : FTy → Type} [FloatOps F] (main_arg4 : FVec F S2x128x8x128x128 .f32) (main_arg5 : FVec F S4x3072 .f32) (main_arg6 : FVec F S128 .f32) (main_v14 : IVec S_ 1) (main_v15 : FVec F S2x128x3x3072 .f32) (main_cst_5 : FVec F S_ .f32) : IVec S_ 1 :=
  let main_v16 : FVec F S2x128x3x3072 .f32 := broadcastInDim S2x128x3x3072 ![] bcast_S_S2x128x3x3072 main_cst_5
  let main_v17 : IVec S2x128x3x3072 1 := cmpf .olt main_v15 main_v16
  let main_c_6 : IVec S_ 1 := constantI S_ 1 1#1
  let main_v18 : IVec S_ 1 := (fun x v => Host.reduce IntOp.andi x v reducesTo_S2x128x3x3072_S_d0_1_2_3 h_S_) main_v17 main_c_6
  let main_v19 : IVec S_ 1 := andi main_v14 main_v18
  let main_v20 : FVec F S2x128x8x128x128 .f32 := Host.absf main_arg4
  let main_cst_7 : FVec F S_ .f32 := constant S_ .f32 0x7F800000#32
  let main_v21 : FVec F S2x128x8x128x128 .f32 := broadcastInDim S2x128x8x128x128 ![] bcast_S_S2x128x8x128x128 main_cst_7
  let main_v22 : IVec S2x128x8x128x128 1 := cmpf .olt main_v20 main_v21
  let main_c_8 : IVec S_ 1 := constantI S_ 1 1#1
  let main_v23 : IVec S_ 1 := (fun x v => Host.reduce IntOp.andi x v reducesTo_S2x128x8x128x128_S_d0_1_2_3_4 h_S_) main_v22 main_c_8
  let main_v24 : IVec S_ 1 := andi main_v19 main_v23
  let main_v25 : FVec F S4x3072 .f32 := Host.absf main_arg5
  let main_cst_9 : FVec F S_ .f32 := constant S_ .f32 0x7F800000#32
  let main_v26 : FVec F S4x3072 .f32 := broadcastInDim S4x3072 ![] bcast_S_S4x3072 main_cst_9
  let main_v27 : IVec S4x3072 1 := cmpf .olt main_v25 main_v26
  let main_c_10 : IVec S_ 1 := constantI S_ 1 1#1
  let main_v28 : IVec S_ 1 := (fun x v => Host.reduce IntOp.andi x v reducesTo_S4x3072_S_d0_1 h_S_) main_v27 main_c_10
  let main_v29 : IVec S_ 1 := andi main_v24 main_v28
  let main_v30 : FVec F S128 .f32 := Host.absf main_arg6
  let main_cst_11 : FVec F S_ .f32 := constant S_ .f32 0x7F800000#32
  let main_v31 : FVec F S128 .f32 := broadcastInDim S128 ![] bcast_S_S128 main_cst_11
  let main_v32 : IVec S128 1 := cmpf .olt main_v30 main_v31
  let main_c_12 : IVec S_ 1 := constantI S_ 1 1#1
  fn_part2 (F := F) main_v29 main_v32 main_c_12

def fn {F : FTy → Type} [FloatOps F] (main_arg0 : FVec F S17408x4096 .f32) (main_arg1 : FVec F S17408x8 .f32) (main_arg2 : FVec F S17408x8 .f32) (main_arg3 : FVec F S2x128x3x3072 .f32) (main_arg4 : FVec F S2x128x8x128x128 .f32) (main_arg5 : FVec F S4x3072 .f32) (main_arg6 : FVec F S128 .f32) : IVec S_ 1 :=
  let main_v0 : FVec F S17408x4096 .f32 := Host.absf main_arg0
  let main_cst : FVec F S_ .f32 := constant S_ .f32 0x7F800000#32
  let main_v1 : FVec F S17408x4096 .f32 := broadcastInDim S17408x4096 ![] bcast_S_S17408x4096 main_cst
  let main_v2 : IVec S17408x4096 1 := cmpf .olt main_v0 main_v1
  let main_c : IVec S_ 1 := constantI S_ 1 1#1
  let main_v3 : IVec S_ 1 := (fun x v => Host.reduce IntOp.andi x v reducesTo_S17408x4096_S_d0_1 h_S_) main_v2 main_c
  let main_c_0 : IVec S_ 1 := constantI S_ 1 1#1
  let main_v4 : IVec S_ 1 := andi main_c_0 main_v3
  let main_v5 : FVec F S17408x8 .f32 := Host.absf main_arg1
  let main_cst_1 : FVec F S_ .f32 := constant S_ .f32 0x7F800000#32
  let main_v6 : FVec F S17408x8 .f32 := broadcastInDim S17408x8 ![] bcast_S_S17408x8 main_cst_1
  let main_v7 : IVec S17408x8 1 := cmpf .olt main_v5 main_v6
  let main_c_2 : IVec S_ 1 := constantI S_ 1 1#1
  let main_v8 : IVec S_ 1 := (fun x v => Host.reduce IntOp.andi x v reducesTo_S17408x8_S_d0_1 h_S_) main_v7 main_c_2
  let main_v9 : IVec S_ 1 := andi main_v4 main_v8
  let main_v10 : FVec F S17408x8 .f32 := Host.absf main_arg2
  let main_cst_3 : FVec F S_ .f32 := constant S_ .f32 0x7F800000#32
  let main_v11 : FVec F S17408x8 .f32 := broadcastInDim S17408x8 ![] bcast_S_S17408x8 main_cst_3
  let main_v12 : IVec S17408x8 1 := cmpf .olt main_v10 main_v11
  let main_c_4 : IVec S_ 1 := constantI S_ 1 1#1
  let main_v13 : IVec S_ 1 := (fun x v => Host.reduce IntOp.andi x v reducesTo_S17408x8_S_d0_1 h_S_) main_v12 main_c_4
  let main_v14 : IVec S_ 1 := andi main_v9 main_v13
  let main_v15 : FVec F S2x128x3x3072 .f32 := Host.absf main_arg3
  let main_cst_5 : FVec F S_ .f32 := constant S_ .f32 0x7F800000#32
  fn_part1 (F := F) main_arg4 main_arg5 main_arg6 main_v14 main_v15 main_cst_5
-- ==== Pre_regular.lean ====
abbrev S17408x1024 : Shape := ⟨2, ![17408, 1024]⟩
abbrev S4x1024x4096 : Shape := ⟨3, ![4, 1024, 4096]⟩
abbrev S16 : Shape := ⟨1, ![16]⟩
abbrev S40 : Shape := ⟨1, ![40]⟩
abbrev S256x256 : Shape := ⟨2, ![256, 256]⟩
abbrev S_ : Shape := ⟨0, ![]⟩
abbrev S256 : Shape := ⟨1, ![256]⟩
abbrev S256x1 : Shape := ⟨2, ![256, 1]⟩
abbrev S1x256 : Shape := ⟨2, ![1, 256]⟩

class Facts : Prop where
  reducesTo_S40_S_d0 : S40.ReducesTo [0] S_
  h_S_ : 0 < S_.numel
  bcast_S_S17408x1024 : S_.BroadcastsInDim S17408x1024 (![] : Fin 0 → Fin S17408x1024.rank)
  reducesTo_S17408x1024_S_d0_1 : S17408x1024.ReducesTo [0, 1] S_
  bcast_S_S4x1024x4096 : S_.BroadcastsInDim S4x1024x4096 (![] : Fin 0 → Fin S4x1024x4096.rank)
  reducesTo_S4x1024x4096_S_d0_1_2 : S4x1024x4096.ReducesTo [0, 1, 2] S_
  bcast_S_S16 : S_.BroadcastsInDim S16 (![] : Fin 0 → Fin S16.rank)
  reducesTo_S16_S_d0 : S16.ReducesTo [0] S_
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  reducesTo_S256x256_S_d0_1 : S256x256.ReducesTo [0, 1] S_

variable [Facts]

noncomputable abbrev lit0 : Fin 40 → BitVec 32 := fun
  | 0 => 0#32 | 1 => 0#32 | 2 => 0#32 | 3 => 0#32 | 4 => 1#32 | 5 => 1#32 | 6 => 1#32 | 7 => 1#32
  | 8 => 1#32 | 9 => 1#32 | 10 => 1#32 | 11 => 1#32 | 12 => 2#32 | 13 => 2#32 | 14 => 2#32 | 15 => 2#32
  | 16 => 2#32 | 17 => 2#32 | 18 => 2#32 | 19 => 2#32 | 20 => 2#32 | 21 => 2#32 | 22 => 2#32 | 23 => 2#32
  | 24 => 3#32 | 25 => 3#32 | 26 => 3#32 | 27 => 3#32 | 28 => 3#32 | 29 => 3#32 | 30 => 3#32 | 31 => 3#32
  | 32 => 3#32 | 33 => 3#32 | 34 => 3#32 | 35 => 3#32 | 36 => 3#32 | 37 => 3#32 | 38 => 3#32 | 39 => 3#32
  | _ => 0#32

noncomputable abbrev lit1 : Fin 40 → BitVec 32 := fun
  | 0 => 3#32 | 1 => 2#32 | 2 => 1#32 | 3 => 0#32 | 4 => 7#32 | 5 => 6#32 | 6 => 5#32 | 7 => 4#32
  | 8 => 3#32 | 9 => 2#32 | 10 => 1#32 | 11 => 0#32 | 12 => 11#32 | 13 => 10#32 | 14 => 9#32 | 15 => 8#32
  | 16 => 7#32 | 17 => 6#32 | 18 => 5#32 | 19 => 4#32 | 20 => 3#32 | 21 => 2#32 | 22 => 1#32 | 23 => 0#32
  | 24 => 15#32 | 25 => 14#32 | 26 => 13#32 | 27 => 12#32 | 28 => 11#32 | 29 => 10#32 | 30 => 9#32 | 31 => 8#32
  | 32 => 7#32 | 33 => 6#32 | 34 => 5#32 | 35 => 4#32 | 36 => 3#32 | 37 => 2#32 | 38 => 1#32 | 39 => 0#32
  | _ => 0#32

def fn_part1 {F : FTy → Type} [FloatOps F] (main_arg6 : FVec F S256x256 .bf16) (main_v14 : IVec S_ 1) (main_v15 : FVec F S16 .f32) : IVec S_ 1 :=
  let main_cst_6 : FVec F S_ .f32 := constant S_ .f32 0x7F800000#32
  let main_v16 : FVec F S16 .f32 := broadcastInDim S16 ![] bcast_S_S16 main_cst_6
  let main_v17 : IVec S16 1 := cmpf .olt main_v15 main_v16
  let main_c_7 : IVec S_ 1 := constantI S_ 1 1#1
  let main_v18 : IVec S_ 1 := (fun x v => Host.reduce IntOp.andi x v reducesTo_S16_S_d0 h_S_) main_v17 main_c_7
  let main_v19 : IVec S_ 1 := andi main_v14 main_v18
  let main_v20 : IVec S256 32 := iotaInDim S256 32 0
  let main_v21 : IVec S256x1 32 := broadcastInDim S256x1 ![0] bcast_S256_S256x1_0 main_v20
  let main_v22 : IVec S256 32 := iotaInDim S256 32 0
  let main_v23 : IVec S1x256 32 := broadcastInDim S1x256 ![1] bcast_S256_S1x256_1 main_v22
  let main_v24 : IVec S256x256 32 := broadcastInDim S256x256 ![0, 1] bcast_S256x1_S256x256_0_1 main_v21
  let main_v25 : IVec S256x256 32 := broadcastInDim S256x256 ![0, 1] bcast_S1x256_S256x256_0_1 main_v23
  let main_v26 : IVec S256x256 1 := cmpi .sge main_v24 main_v25
  let main_v27 : FVec F S256x256 .bf16 := uitofp .bf16 main_v26
  let main_v28 : IVec S256x256 1 := cmpf .oeq main_arg6 main_v27
  let main_c_8 : IVec S_ 1 := constantI S_ 1 1#1
  let main_v29 : IVec S_ 1 := (fun x v => Host.reduce IntOp.andi x v reducesTo_S256x256_S_d0_1 h_S_) main_v28 main_c_8
  let main_v30 : IVec S_ 1 := andi main_v19 main_v29
  main_v30

def fn {F : FTy → Type} [FloatOps F] (main_arg0 : FVec F S17408x1024 .f32) (main_arg1 : FVec F S4x1024x4096 .f32) (main_arg2 : FVec F S4x1024x4096 .f32) (main_arg3 : FVec F S16 .f32) (main_arg4 : IVec S40 32) (main_arg5 : IVec S40 32) (main_arg6 : FVec F S256x256 .bf16) : IVec S_ 1 :=
  let main_c : IVec S40 32 := fun i => lit0 (S40.rowMajor i)
  let main_c_0 : IVec S40 32 := fun i => lit1 (S40.rowMajor i)
  let main_v0 : IVec S40 1 := cmpi .eq main_arg4 main_c
  let main_c_1 : IVec S_ 1 := constantI S_ 1 1#1
  let main_v1 : IVec S_ 1 := (fun x v => Host.reduce IntOp.andi x v reducesTo_S40_S_d0 h_S_) main_v0 main_c_1
  let main_v2 : IVec S40 1 := cmpi .eq main_arg5 main_c_0
  let main_c_2 : IVec S_ 1 := constantI S_ 1 1#1
  let main_v3 : IVec S_ 1 := (fun x v => Host.reduce IntOp.andi x v reducesTo_S40_S_d0 h_S_) main_v2 main_c_2
  let main_v4 : IVec S_ 1 := andi main_v1 main_v3
  let main_v5 : FVec F S17408x1024 .f32 := Host.absf main_arg0
  let main_cst : FVec F S_ .f32 := constant S_ .f32 0x7F800000#32
  let main_v6 : FVec F S17408x1024 .f32 := broadcastInDim S17408x1024 ![] bcast_S_S17408x1024 main_cst
  let main_v7 : IVec S17408x1024 1 := cmpf .olt main_v5 main_v6
  let main_c_3 : IVec S_ 1 := constantI S_ 1 1#1
  let main_v8 : IVec S_ 1 := (fun x v => Host.reduce IntOp.andi x v reducesTo_S17408x1024_S_d0_1 h_S_) main_v7 main_c_3
  let main_v9 : IVec S_ 1 := andi main_v4 main_v8
  let main_v10 : FVec F S4x1024x4096 .f32 := Host.absf main_arg1
  let main_cst_4 : FVec F S_ .f32 := constant S_ .f32 0x7F800000#32
  let main_v11 : FVec F S4x1024x4096 .f32 := broadcastInDim S4x1024x4096 ![] bcast_S_S4x1024x4096 main_cst_4
  let main_v12 : IVec S4x1024x4096 1 := cmpf .olt main_v10 main_v11
  let main_c_5 : IVec S_ 1 := constantI S_ 1 1#1
  let main_v13 : IVec S_ 1 := (fun x v => Host.reduce IntOp.andi x v reducesTo_S4x1024x4096_S_d0_1_2 h_S_) main_v12 main_c_5
  let main_v14 : IVec S_ 1 := andi main_v9 main_v13
  let main_v15 : FVec F S16 .f32 := Host.absf main_arg3
  fn_part1 (F := F) main_arg6 main_v14 main_v15
-- ==== Pre_tables.lean ====
abbrev S17408x1024 : Shape := ⟨2, ![17408, 1024]⟩
abbrev S4x1024x4096 : Shape := ⟨3, ![4, 1024, 4096]⟩
abbrev S16 : Shape := ⟨1, ![16]⟩
abbrev S40 : Shape := ⟨1, ![40]⟩
abbrev S256x256 : Shape := ⟨2, ![256, 256]⟩
abbrev S_ : Shape := ⟨0, ![]⟩

class Facts : Prop where
  reducesTo_S40_S_d0 : S40.ReducesTo [0] S_
  h_S_ : 0 < S_.numel

variable [Facts]

noncomputable abbrev lit0 : Fin 40 → BitVec 32 := fun
  | 0 => 0#32 | 1 => 0#32 | 2 => 0#32 | 3 => 0#32 | 4 => 1#32 | 5 => 1#32 | 6 => 1#32 | 7 => 1#32
  | 8 => 1#32 | 9 => 1#32 | 10 => 1#32 | 11 => 1#32 | 12 => 2#32 | 13 => 2#32 | 14 => 2#32 | 15 => 2#32
  | 16 => 2#32 | 17 => 2#32 | 18 => 2#32 | 19 => 2#32 | 20 => 2#32 | 21 => 2#32 | 22 => 2#32 | 23 => 2#32
  | 24 => 3#32 | 25 => 3#32 | 26 => 3#32 | 27 => 3#32 | 28 => 3#32 | 29 => 3#32 | 30 => 3#32 | 31 => 3#32
  | 32 => 3#32 | 33 => 3#32 | 34 => 3#32 | 35 => 3#32 | 36 => 3#32 | 37 => 3#32 | 38 => 3#32 | 39 => 3#32
  | _ => 0#32

noncomputable abbrev lit1 : Fin 40 → BitVec 32 := fun
  | 0 => 3#32 | 1 => 2#32 | 2 => 1#32 | 3 => 0#32 | 4 => 7#32 | 5 => 6#32 | 6 => 5#32 | 7 => 4#32
  | 8 => 3#32 | 9 => 2#32 | 10 => 1#32 | 11 => 0#32 | 12 => 11#32 | 13 => 10#32 | 14 => 9#32 | 15 => 8#32
  | 16 => 7#32 | 17 => 6#32 | 18 => 5#32 | 19 => 4#32 | 20 => 3#32 | 21 => 2#32 | 22 => 1#32 | 23 => 0#32
  | 24 => 15#32 | 25 => 14#32 | 26 => 13#32 | 27 => 12#32 | 28 => 11#32 | 29 => 10#32 | 30 => 9#32 | 31 => 8#32
  | 32 => 7#32 | 33 => 6#32 | 34 => 5#32 | 35 => 4#32 | 36 => 3#32 | 37 => 2#32 | 38 => 1#32 | 39 => 0#32
  | _ => 0#32

def fn {F : FTy → Type} [FloatOps F] (main_arg0 : FVec F S17408x1024 .f32) (main_arg1 : FVec F S4x1024x4096 .f32) (main_arg2 : FVec F S4x1024x4096 .f32) (main_arg3 : FVec F S16 .f32) (main_arg4 : IVec S40 32) (main_arg5 : IVec S40 32) (main_arg6 : FVec F S256x256 .bf16) : IVec S_ 1 :=
  let main_c : IVec S40 32 := fun i => lit0 (S40.rowMajor i)
  let main_c_0 : IVec S40 32 := fun i => lit1 (S40.rowMajor i)
  let main_v0 : IVec S40 1 := cmpi .eq main_arg4 main_c
  let main_c_1 : IVec S_ 1 := constantI S_ 1 1#1
  let main_v1 : IVec S_ 1 := (fun x v => Host.reduce IntOp.andi x v reducesTo_S40_S_d0 h_S_) main_v0 main_c_1
  let main_v2 : IVec S40 1 := cmpi .eq main_arg5 main_c_0
  let main_c_2 : IVec S_ 1 := constantI S_ 1 1#1
  let main_v3 : IVec S_ 1 := (fun x v => Host.reduce IntOp.andi x v reducesTo_S40_S_d0 h_S_) main_v2 main_c_2
  let main_v4 : IVec S_ 1 := andi main_v1 main_v3
  main_v4
-- ==== Kernel.lean ====
abbrev S17408x4096 : Shape := ⟨2, ![17408, 4096]⟩
abbrev S17408x8 : Shape := ⟨2, ![17408, 8]⟩
abbrev S2x128x3x3072 : Shape := ⟨4, ![2, 128, 3, 3072]⟩
abbrev S2x128x8x128x128 : Shape := ⟨5, ![2, 128, 8, 128, 128]⟩
abbrev S4x3072 : Shape := ⟨2, ![4, 3072]⟩
abbrev S128 : Shape := ⟨1, ![128]⟩
abbrev S17408x16 : Shape := ⟨2, ![17408, 16]⟩
abbrev S_ : Shape := ⟨0, ![]⟩
abbrev S17408x128 : Shape := ⟨2, ![17408, 128]⟩
abbrev S16x17408 : Shape := ⟨2, ![16, 17408]⟩
abbrev S16x272x64 : Shape := ⟨3, ![16, 272, 64]⟩
abbrev S272x16x64 : Shape := ⟨3, ![272, 16, 64]⟩
abbrev S2x128x8x3072 : Shape := ⟨4, ![2, 128, 8, 3072]⟩
abbrev S1x128x8x3072 : Shape := ⟨4, ![1, 128, 8, 3072]⟩
abbrev S128x8x3072 : Shape := ⟨3, ![128, 8, 3072]⟩
abbrev S1x128 : Shape := ⟨2, ![1, 128]⟩
abbrev S1024x1024 : Shape := ⟨2, ![1024, 1024]⟩
abbrev S128x8x128x128 : Shape := ⟨4, ![128, 8, 128, 128]⟩
abbrev S64x4096 : Shape := ⟨2, ![64, 4096]⟩
abbrev S64x128 : Shape := ⟨2, ![64, 128]⟩
abbrev S1x16x64 : Shape := ⟨3, ![1, 16, 64]⟩
abbrev S8x8x3072 : Shape := ⟨3, ![8, 8, 3072]⟩
abbrev S1x8x8x128x128 : Shape := ⟨5, ![1, 8, 8, 128, 128]⟩
abbrev S64x1024 : Shape := ⟨2, ![64, 1024]⟩
abbrev S8x8x128x128 : Shape := ⟨4, ![8, 8, 128, 128]⟩
abbrev S64x3072 : Shape := ⟨2, ![64, 3072]⟩
abbrev S64x1 : Shape := ⟨2, ![64, 1]⟩
abbrev S1x3072 : Shape := ⟨2, ![1, 3072]⟩
abbrev S64x64 : Shape := ⟨2, ![64, 64]⟩
abbrev S16x64 : Shape := ⟨2, ![16, 64]⟩
abbrev S128x1 : Shape := ⟨2, ![128, 1]⟩
abbrev S1x64x128 : Shape := ⟨3, ![1, 64, 128]⟩
abbrev S8x64x128 : Shape := ⟨3, ![8, 64, 128]⟩
abbrev S8x64 : Shape := ⟨2, ![8, 64]⟩
abbrev S8x64x1 : Shape := ⟨3, ![8, 64, 1]⟩
abbrev S1x64x1 : Shape := ⟨3, ![1, 64, 1]⟩
abbrev S1x64 : Shape := ⟨2, ![1, 64]⟩
abbrev S1x1x64 : Shape := ⟨3, ![1, 1, 64]⟩
abbrev S8x1x64 : Shape := ⟨3, ![8, 1, 64]⟩
abbrev S8x64x64 : Shape := ⟨3, ![8, 64, 64]⟩
abbrev S1x64x64 : Shape := ⟨3, ![1, 64, 64]⟩
abbrev S8x64x256 : Shape := ⟨3, ![8, 64, 256]⟩
abbrev S8x128x128 : Shape := ⟨3, ![8, 128, 128]⟩
abbrev S1x1x8x128x128 : Shape := ⟨5, ![1, 1, 8, 128, 128]⟩
abbrev S1x128x1 : Shape := ⟨3, ![1, 128, 1]⟩
abbrev S8x1x1 : Shape := ⟨3, ![8, 1, 1]⟩
abbrev S1x8x128x128 : Shape := ⟨4, ![1, 8, 128, 128]⟩
abbrev S1x1x128 : Shape := ⟨3, ![1, 1, 128]⟩

abbrev nBuf : Space → Nat
  | .hbm => 23
  | .vmem => 16
  | .smem => 0
  | _ => 0

abbrev bufTy : (tb : Table) → Fin (tcTables nBuf tb) → BufTy
  | .hbm, ⟨0, _⟩ => ⟨S17408x4096, .f32⟩
  | .hbm, ⟨1, _⟩ => ⟨S17408x8, .f32⟩
  | .hbm, ⟨2, _⟩ => ⟨S17408x8, .f32⟩
  | .hbm, ⟨3, _⟩ => ⟨S2x128x3x3072, .f32⟩
  | .hbm, ⟨4, _⟩ => ⟨S2x128x8x128x128, .f32⟩
  | .hbm, ⟨5, _⟩ => ⟨S4x3072, .f32⟩
  | .hbm, ⟨6, _⟩ => ⟨S128, .f32⟩
  | .hbm, ⟨7, _⟩ => ⟨S17408x16, .f32⟩
  | .hbm, ⟨8, _⟩ => ⟨S_, .i32⟩
  | .hbm, ⟨9, _⟩ => ⟨S_, .f32⟩
  | .hbm, ⟨10, _⟩ => ⟨S17408x128, .f32⟩
  | .hbm, ⟨11, _⟩ => ⟨S17408x16, .f32⟩
  | .hbm, ⟨12, _⟩ => ⟨S16x17408, .f32⟩
  | .hbm, ⟨13, _⟩ => ⟨S16x272x64, .f32⟩
  | .hbm, ⟨14, _⟩ => ⟨S272x16x64, .f32⟩
  | .hbm, ⟨15, _⟩ => ⟨S_, .i32⟩
  | .hbm, ⟨16, _⟩ => ⟨S_, .f32⟩
  | .hbm, ⟨17, _⟩ => ⟨S2x128x8x3072, .f32⟩
  | .hbm, ⟨18, _⟩ => ⟨S1x128x8x3072, .f32⟩
  | .hbm, ⟨19, _⟩ => ⟨S128x8x3072, .f32⟩
  | .hbm, ⟨20, _⟩ => ⟨S1x128, .f32⟩
  | .hbm, ⟨21, _⟩ => ⟨S1024x1024, .f32⟩
  | .hbm, ⟨22, _⟩ => ⟨S128x8x128x128, .f32⟩
  | .local _ .vmem, ⟨0, _⟩ => ⟨S64x4096, .f32⟩
  | .local _ .vmem, ⟨1, _⟩ => ⟨S64x4096, .f32⟩
  | .local _ .vmem, ⟨2, _⟩ => ⟨S64x128, .f32⟩
  | .local _ .vmem, ⟨3, _⟩ => ⟨S64x128, .f32⟩
  | .local _ .vmem, ⟨4, _⟩ => ⟨S1x16x64, .f32⟩
  | .local _ .vmem, ⟨5, _⟩ => ⟨S1x16x64, .f32⟩
  | .local _ .vmem, ⟨6, _⟩ => ⟨S4x3072, .f32⟩
  | .local _ .vmem, ⟨7, _⟩ => ⟨S1x128, .f32⟩
  | .local _ .vmem, ⟨8, _⟩ => ⟨S8x8x3072, .f32⟩
  | .local _ .vmem, ⟨9, _⟩ => ⟨S8x8x3072, .f32⟩
  | .local _ .vmem, ⟨10, _⟩ => ⟨S1x8x8x128x128, .f32⟩
  | .local _ .vmem, ⟨11, _⟩ => ⟨S1x8x8x128x128, .f32⟩
  | .local _ .vmem, ⟨12, _⟩ => ⟨S64x1024, .f32⟩
  | .local _ .vmem, ⟨13, _⟩ => ⟨S64x1024, .f32⟩
  | .local _ .vmem, ⟨14, _⟩ => ⟨S8x8x128x128, .f32⟩
  | .local _ .vmem, ⟨15, _⟩ => ⟨S8x8x128x128, .f32⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x8x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S17408x4096 : Shape := ⟨2, ![17408, 4096]⟩
abbrev S17408x8 : Shape := ⟨2, ![17408, 8]⟩
abbrev S2x128x3x3072 : Shape := ⟨4, ![2, 128, 3, 3072]⟩
abbrev S2x128x8x128x128 : Shape := ⟨5, ![2, 128, 8, 128, 128]⟩
abbrev S4x3072 : Shape := ⟨2, ![4, 3072]⟩
abbrev S128 : Shape := ⟨1, ![128]⟩
abbrev S1024x4096 : Shape := ⟨2, ![1024, 4096]⟩
abbrev S128x8x4096 : Shape := ⟨3, ![128, 8, 4096]⟩
abbrev S1024x8 : Shape := ⟨2, ![1024, 8]⟩
abbrev S128x8x8 : Shape := ⟨3, ![128, 8, 8]⟩
abbrev S1x128x8x128x128 : Shape := ⟨5, ![1, 128, 8, 128, 128]⟩
abbrev S128x8x128x128 : Shape := ⟨4, ![128, 8, 128, 128]⟩
abbrev S128x8x3072 : Shape := ⟨3, ![128, 8, 3072]⟩
abbrev S128x8x1024 : Shape := ⟨3, ![128, 8, 1024]⟩
abbrev S1x128x3x3072 : Shape := ⟨4, ![1, 128, 3, 3072]⟩
abbrev S128x3x3072 : Shape := ⟨3, ![128, 3, 3072]⟩
abbrev S128x11x3072 : Shape := ⟨3, ![128, 11, 3072]⟩
abbrev S1x3072 : Shape := ⟨2, ![1, 3072]⟩
abbrev S3072 : Shape := ⟨1, ![3072]⟩
abbrev S1x1x3072 : Shape := ⟨3, ![1, 1, 3072]⟩
abbrev S_ : Shape := ⟨0, ![]⟩
abbrev S128x8x8x128 : Shape := ⟨4, ![128, 8, 8, 128]⟩
abbrev S128x8x8x1 : Shape := ⟨4, ![128, 8, 8, 1]⟩
abbrev S8x8 : Shape := ⟨2, ![8, 8]⟩
abbrev S128x8x1x8 : Shape := ⟨4, ![128, 8, 1, 8]⟩
abbrev S128x8x8x8 : Shape := ⟨4, ![128, 8, 8, 8]⟩
abbrev S128x8x8x256 : Shape := ⟨4, ![128, 8, 8, 256]⟩
abbrev S128x8x1x256 : Shape := ⟨4, ![128, 8, 1, 256]⟩
abbrev S128x8x1 : Shape := ⟨3, ![128, 8, 1]⟩
abbrev S128x8 : Shape := ⟨2, ![128, 8]⟩
abbrev S128x8x1x1 : Shape := ⟨4, ![128, 8, 1, 1]⟩
abbrev S1x1x1x128 : Shape := ⟨4, ![1, 1, 1, 128]⟩
abbrev S1024x1024 : Shape := ⟨2, ![1024, 1024]⟩

abbrev nBuf : Space → Nat
  | .hbm => 253
  | .vmem => 0
  | .smem => 0
  | _ => 0

abbrev hbmTy0_0 (i : Nat) : BufTy := match i % 128 with
  | 0 => ⟨S17408x4096, .f32⟩
  | 1 => ⟨S17408x8, .f32⟩
  | 2 => ⟨S17408x8, .f32⟩
  | 3 => ⟨S2x128x3x3072, .f32⟩
  | 4 => ⟨S2x128x8x128x128, .f32⟩
  | 5 => ⟨S4x3072, .f32⟩
  | 6 => ⟨S128, .f32⟩
  | 7 => ⟨S1024x4096, .f32⟩
  | 8 => ⟨S128x8x4096, .f32⟩
  | 9 => ⟨S1024x8, .f32⟩
  | 10 => ⟨S128x8x8, .f32⟩
  | 11 => ⟨S1024x8, .f32⟩
  | 12 => ⟨S128x8x8, .f32⟩
  | 13 => ⟨S1x128x8x128x128, .f32⟩
  | 14 => ⟨S128x8x128x128, .f32⟩
  | 15 => ⟨S128x8x3072, .f32⟩
  | 16 => ⟨S128x8x1024, .f32⟩
  | 17 => ⟨S1x128x3x3072, .f32⟩
  | 18 => ⟨S128x3x3072, .f32⟩
  | 19 => ⟨S128x11x3072, .f32⟩
  | 20 => ⟨S128x8x3072, .f32⟩
  | 21 => ⟨S1x3072, .f32⟩
  | 22 => ⟨S3072, .f32⟩
  | 23 => ⟨S1x1x3072, .f32⟩
  | 24 => ⟨S128x8x3072, .f32⟩
  | 25 => ⟨S128x8x3072, .f32⟩
  | 26 => ⟨S128x8x3072, .f32⟩
  | 27 => ⟨S1x3072, .f32⟩
  | 28 => ⟨S3072, .f32⟩
  | 29 => ⟨S1x1x3072, .f32⟩
  | 30 => ⟨S128x8x3072, .f32⟩
  | 31 => ⟨S128x8x3072, .f32⟩
  | 32 => ⟨S128x8x3072, .f32⟩
  | 33 => ⟨S128x8x3072, .f32⟩
  | 34 => ⟨S1x3072, .f32⟩
  | 35 => ⟨S3072, .f32⟩
  | 36 => ⟨S1x1x3072, .f32⟩
  | 37 => ⟨S128x8x3072, .f32⟩
  | 38 => ⟨S128x8x3072, .f32⟩
  | 39 => ⟨S128x8x3072, .f32⟩
  | 40 => ⟨S128x8x3072, .f32⟩
  | 41 => ⟨S1x3072, .f32⟩
  | 42 => ⟨S3072, .f32⟩
  | 43 => ⟨S1x1x3072, .f32⟩
  | 44 => ⟨S128x8x3072, .f32⟩
  | 45 => ⟨S128x8x3072, .f32⟩
  | 46 => ⟨S128x8x3072, .f32⟩
  | 47 => ⟨S128x8x3072, .f32⟩
  | 48 => ⟨S128x8x3072, .f32⟩
  | 49 => ⟨S_, .f32⟩
  | 50 => ⟨S128x8x3072, .f32⟩
  | 51 => ⟨S128x8x3072, .f32⟩
  | 52 => ⟨S_, .f32⟩
  | 53 => ⟨S128x8x3072, .f32⟩
  | 54 => ⟨S128x8x3072, .f32⟩
  | 55 => ⟨S128x8x3072, .f32⟩
  | 56 => ⟨S128x8x1024, .f32⟩
  | 57 => ⟨S128x8x8x128, .f32⟩
  | 58 => ⟨S128x8x1024, .f32⟩
  | 59 => ⟨S128x8x8x128, .f32⟩
  | 60 => ⟨S128x8x1024, .f32⟩
  | 61 => ⟨S128x8x8x128, .f32⟩
  | 62 => ⟨S128x8x8x128, .f32⟩
  | 63 => ⟨S_, .f32⟩
  | 64 => ⟨S128x8x8, .f32⟩
  | 65 => ⟨S128x8x8x1, .f32⟩
  | 66 => ⟨S_, .f32⟩
  | 67 => ⟨S128x8x8x1, .f32⟩
  | 68 => ⟨S128x8x8x1, .f32⟩
  | 69 => ⟨S128x8x8x1, .f32⟩
  | 70 => ⟨S128x8x8x128, .f32⟩
  | 71 => ⟨S128x8x8x128, .f32⟩
  | 72 => ⟨S_, .f32⟩
  | 73 => ⟨S128x8x8x128, .f32⟩
  | 74 => ⟨S128x8x8x128, .f32⟩
  | 75 => ⟨S128x8x8x128, .f32⟩
  | 76 => ⟨S_, .f32⟩
  | 77 => ⟨S128x8x8, .f32⟩
  | 78 => ⟨S128x8x8x1, .f32⟩
  | 79 => ⟨S_, .f32⟩
  | 80 => ⟨S128x8x8x1, .f32⟩
  | 81 => ⟨S128x8x8x1, .f32⟩
  | 82 => ⟨S128x8x8x1, .f32⟩
  | 83 => ⟨S128x8x8x128, .f32⟩
  | 84 => ⟨S128x8x8x128, .f32⟩
  | 85 => ⟨S128x8x8x128, .f32⟩
  | 86 => ⟨S128x8x8x128, .f32⟩
  | 87 => ⟨S128x8x8x128, .f32⟩
  | 88 => ⟨S128x8x8, .f32⟩
  | 89 => ⟨S128x8x8, .f32⟩
  | 90 => ⟨S_, .f32⟩
  | 91 => ⟨S_, .f32⟩
  | 92 => ⟨S128x8x8, .f32⟩
  | 93 => ⟨S_, .i1⟩
  | 94 => ⟨S8x8, .i1⟩
  | 95 => ⟨S8x8, .i32⟩
  | 96 => ⟨S_, .i32⟩
  | 97 => ⟨S8x8, .i32⟩
  | 98 => ⟨S8x8, .i32⟩
  | 99 => ⟨S8x8, .i32⟩
  | 100 => ⟨S8x8, .i1⟩
  | 101 => ⟨S_, .i1⟩
  | 102 => ⟨S8x8, .i1⟩
  | 103 => ⟨S8x8, .i1⟩
  | 104 => ⟨S_, .i1⟩
  | 105 => ⟨S8x8, .i1⟩
  | 106 => ⟨S8x8, .i32⟩
  | 107 => ⟨S_, .i32⟩
  | 108 => ⟨S8x8, .i32⟩
  | 109 => ⟨S8x8, .i32⟩
  | 110 => ⟨S8x8, .i32⟩
  | 111 => ⟨S8x8, .i1⟩
  | 112 => ⟨S_, .i1⟩
  | 113 => ⟨S8x8, .i1⟩
  | 114 => ⟨S8x8, .i1⟩
  | 115 => ⟨S128x8x8x1, .f32⟩
  | 116 => ⟨S128x8x1x8, .f32⟩
  | 117 => ⟨S128x8x8x8, .f32⟩
  | 118 => ⟨S128x8x8x8, .f32⟩
  | 119 => ⟨S128x8x8x8, .f32⟩
  | 120 => ⟨S_, .f32⟩
  | 121 => ⟨S_, .f32⟩
  | 122 => ⟨S128x8x8x8, .i1⟩
  | 123 => ⟨S128x8x8x8, .f32⟩
  | 124 => ⟨S128x8x8x8, .f32⟩
  | 125 => ⟨S128x8x8x8, .f32⟩
  | 126 => ⟨S_, .f32⟩
  | 127 => ⟨S_, .f32⟩
  | _ => ⟨S17408x4096, .f32⟩

abbrev hbmTy0_1 (i : Nat) : BufTy := match i % 128 with
  | 0 => ⟨S128x8x8x8, .i1⟩
  | 1 => ⟨S128x8x8x8, .f32⟩
  | 2 => ⟨S128x8x8x8, .f32⟩
  | 3 => ⟨S128x8x8x1, .f32⟩
  | 4 => ⟨S128x8x8x128, .f32⟩
  | 5 => ⟨S128x8x8x128, .f32⟩
  | 6 => ⟨S128x8x8x8, .f32⟩
  | 7 => ⟨S128x8x8x8, .f32⟩
  | 8 => ⟨S_, .f32⟩
  | 9 => ⟨S_, .f32⟩
  | 10 => ⟨S128x8x8x8, .i1⟩
  | 11 => ⟨S128x8x8x8, .f32⟩
  | 12 => ⟨S128x8x8x8, .f32⟩
  | 13 => ⟨S128x8x8x1, .f32⟩
  | 14 => ⟨S128x8x8x128, .f32⟩
  | 15 => ⟨S128x8x8x128, .f32⟩
  | 16 => ⟨S128x8x8, .f32⟩
  | 17 => ⟨S128x8x8x1, .f32⟩
  | 18 => ⟨S128x8x8x128, .f32⟩
  | 19 => ⟨S128x8x8x128, .f32⟩
  | 20 => ⟨S128x8x8x256, .f32⟩
  | 21 => ⟨S128x8x8x1, .f32⟩
  | 22 => ⟨S128x8x1x256, .f32⟩
  | 23 => ⟨S128x8x8x256, .f32⟩
  | 24 => ⟨S128x8x8x256, .f32⟩
  | 25 => ⟨S128x8x8x256, .f32⟩
  | 26 => ⟨S128x8x8x256, .f32⟩
  | 27 => ⟨S128x8x8x1, .f32⟩
  | 28 => ⟨S128x8x1x256, .f32⟩
  | 29 => ⟨S128x8x8x256, .f32⟩
  | 30 => ⟨S128x8x8x256, .f32⟩
  | 31 => ⟨S128x8x8x256, .f32⟩
  | 32 => ⟨S128x8x8x256, .f32⟩
  | 33 => ⟨S128x8x8x1, .f32⟩
  | 34 => ⟨S128x8x1x256, .f32⟩
  | 35 => ⟨S128x8x8x256, .f32⟩
  | 36 => ⟨S128x8x8x256, .f32⟩
  | 37 => ⟨S128x8x8x256, .f32⟩
  | 38 => ⟨S128x8x8x256, .f32⟩
  | 39 => ⟨S128x8x8x1, .f32⟩
  | 40 => ⟨S128x8x1x256, .f32⟩
  | 41 => ⟨S128x8x8x256, .f32⟩
  | 42 => ⟨S128x8x8x256, .f32⟩
  | 43 => ⟨S128x8x8x256, .f32⟩
  | 44 => ⟨S128x8x8x256, .f32⟩
  | 45 => ⟨S128x8x8x1, .f32⟩
  | 46 => ⟨S128x8x1x256, .f32⟩
  | 47 => ⟨S128x8x8x256, .f32⟩
  | 48 => ⟨S128x8x8x256, .f32⟩
  | 49 => ⟨S128x8x8x256, .f32⟩
  | 50 => ⟨S128x8x8x256, .f32⟩
  | 51 => ⟨S128x8x8x1, .f32⟩
  | 52 => ⟨S128x8x1x256, .f32⟩
  | 53 => ⟨S128x8x8x256, .f32⟩
  | 54 => ⟨S128x8x8x256, .f32⟩
  | 55 => ⟨S128x8x8x256, .f32⟩
  | 56 => ⟨S128x8x8x256, .f32⟩
  | 57 => ⟨S128x8x8x1, .f32⟩
  | 58 => ⟨S128x8x1x256, .f32⟩
  | 59 => ⟨S128x8x8x256, .f32⟩
  | 60 => ⟨S128x8x8x256, .f32⟩
  | 61 => ⟨S128x8x8x256, .f32⟩
  | 62 => ⟨S128x8x8x256, .f32⟩
  | 63 => ⟨S128x8x8x128, .f32⟩
  | 64 => ⟨S128x8x8x128, .f32⟩
  | 65 => ⟨S128x8x8x8, .f32⟩
  | 66 => ⟨S128x8x8x8, .f32⟩
  | 67 => ⟨S_, .f32⟩
  | 68 => ⟨S_, .f32⟩
  | 69 => ⟨S128x8x8x8, .i1⟩
  | 70 => ⟨S128x8x8x8, .f32⟩
  | 71 => ⟨S128x8x8x8, .f32⟩
  | 72 => ⟨S128x8x8, .f32⟩
  | 73 => ⟨S128x8x8x1, .f32⟩
  | 74 => ⟨S128x8x8x128, .f32⟩
  | 75 => ⟨S128x8x8x128, .f32⟩
  | 76 => ⟨S128x8x1, .f32⟩
  | 77 => ⟨S128x8x8, .f32⟩
  | 78 => ⟨S128x8x8, .f32⟩
  | 79 => ⟨S128x8x8, .f32⟩
  | 80 => ⟨S128x8x8x1, .f32⟩
  | 81 => ⟨S128x8x8x128, .f32⟩
  | 82 => ⟨S128x8x8x128, .f32⟩
  | 83 => ⟨S128x8x1, .f32⟩
  | 84 => ⟨S128x8, .f32⟩
  | 85 => ⟨S128x8, .f32⟩
  | 86 => ⟨S128x8x8x128, .f32⟩
  | 87 => ⟨S128x8x8x128, .f32⟩
  | 88 => ⟨S128x8x8x128, .f32⟩
  | 89 => ⟨S128x8x8x128, .f32⟩
  | 90 => ⟨S128x8x8x128, .f32⟩
  | 91 => ⟨S128x8x1x1, .f32⟩
  | 92 => ⟨S128x8x128x128, .f32⟩
  | 93 => ⟨S128x8x128x128, .f32⟩
  | 94 => ⟨S128x8x128x128, .f32⟩
  | 95 => ⟨S128x8x128x128, .f32⟩
  | 96 => ⟨S128x8x8x128, .f32⟩
  | 97 => ⟨S128x8x8x128, .f32⟩
  | 98 => ⟨S_, .f32⟩
  | 99 => ⟨S128x8x8, .f32⟩
  | 100 => ⟨S128x8x8x1, .f32⟩
  | 101 => ⟨S_, .f32⟩
  | 102 => ⟨S128x8x8x1, .f32⟩
  | 103 => ⟨S128x8x8x1, .f32⟩
  | 104 => ⟨S_, .f32⟩
  | 105 => ⟨S128x8x8x1, .f32⟩
  | 106 => ⟨S128x8x8x1, .f32⟩
  | 107 => ⟨S128x8x8x1, .f32⟩
  | 108 => ⟨S128x8x8x128, .f32⟩
  | 109 => ⟨S128x8x8x128, .f32⟩
  | 110 => ⟨S1x1x1x128, .f32⟩
  | 111 => ⟨S128x8x8x128, .f32⟩
  | 112 => ⟨S128x8x8x128, .f32⟩
  | 113 => ⟨S128x8x8x128, .f32⟩
  | 114 => ⟨S128x8x8x128, .f32⟩
  | 115 => ⟨S128x8x8x128, .f32⟩
  | 116 => ⟨S_, .f32⟩
  | 117 => ⟨S128x8x8x128, .f32⟩
  | 118 => ⟨S128x8x8x128, .f32⟩
  | 119 => ⟨S_, .f32⟩
  | 120 => ⟨S128x8x8x128, .f32⟩
  | 121 => ⟨S128x8x8x128, .f32⟩
  | 122 => ⟨S128x8x8x128, .f32⟩
  | 123 => ⟨S128x8x8x128, .f32⟩
  | 124 => ⟨S1024x1024, .f32⟩
  | _ => ⟨S17408x4096, .f32⟩

abbrev hbmTy (i : Nat) : BufTy := match i / 128 with
  | 0 => hbmTy0_0 i
  | 1 => hbmTy0_1 i
  | _ => ⟨S17408x4096, .f32⟩

abbrev bufTy : (tb : Table) → Fin (tcTables nBuf tb) → BufTy
  | .hbm, ⟨i, _⟩ => hbmTy i
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst : Ref sig .tc := ⟨.hbm, 63, rfl⟩
abbrev main_v48 : Ref sig .tc := ⟨.hbm, 64, rfl⟩
abbrev main_v49 : Ref sig .tc := ⟨.hbm, 65, rfl⟩
abbrev main_cst_0 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_1 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_2 : Ref sig .tc := ⟨.hbm, 76, rfl⟩
abbrev main_v58 : Ref sig .tc := ⟨.hbm, 77, rfl⟩
abbrev main_v59 : Ref sig .tc := ⟨.hbm, 78, rfl⟩
abbrev main_cst_3 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_call1_call0_cst : Ref sig .tc := ⟨.hbm, 90, rfl⟩
abbrev main_call1_call0_v0 : Ref sig .tc := ⟨.hbm, 91, rfl⟩
abbrev main_v70 : Ref sig .tc := ⟨.hbm, 92, rfl⟩
abbrev main_c : Ref sig .tc := ⟨.hbm, 93, rfl⟩
abbrev main_v71 : Ref sig .tc := ⟨.hbm, 94, rfl⟩
abbrev main_call2_v0 : Ref sig .tc := ⟨.hbm, 95, rfl⟩
abbrev main_call2_c : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_c_0 : Ref sig .tc := ⟨.hbm, 101, rfl⟩
abbrev main_call2_v5 : Ref sig .tc := ⟨.hbm, 102, rfl⟩
abbrev main_v72 : Ref sig .tc := ⟨.hbm, 103, rfl⟩
abbrev main_c_4 : Ref sig .tc := ⟨.hbm, 104, rfl⟩
abbrev main_v73 : Ref sig .tc := ⟨.hbm, 105, rfl⟩
abbrev main_call3_v0 : Ref sig .tc := ⟨.hbm, 106, rfl⟩
abbrev main_call3_c : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_c_0 : Ref sig .tc := ⟨.hbm, 112, rfl⟩
abbrev main_call3_v5 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_5 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_v80 : Ref sig .tc := ⟨.hbm, 124, rfl⟩
abbrev main_v81 : Ref sig .tc := ⟨.hbm, 125, rfl⟩
abbrev main_cst_6 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_7 : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_8 : Ref sig .tc := ⟨.hbm, 195, rfl⟩
abbrev main_call7_v0 : Ref sig .tc := ⟨.hbm, 196, rfl⟩
abbrev main_call7_v1 : Ref sig .tc := ⟨.hbm, 197, rfl⟩
abbrev main_call7_v2 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_cst_9 : Ref sig .tc := ⟨.hbm, 226, rfl⟩
abbrev main_v170 : Ref sig .tc := ⟨.hbm, 227, rfl⟩
abbrev main_v171 : Ref sig .tc := ⟨.hbm, 228, rfl⟩
abbrev main_cst_10 : Ref sig .tc := ⟨.hbm, 229, rfl⟩
abbrev main_v172 : Ref sig .tc := ⟨.hbm, 230, rfl⟩
abbrev main_v173 : Ref sig .tc := ⟨.hbm, 231, rfl⟩
abbrev main_cst_11 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_call8_v0 : Ref sig .tc := ⟨.hbm, 242, rfl⟩
abbrev main_call8_v1 : Ref sig .tc := ⟨.hbm, 243, rfl⟩
abbrev main_call8_cst : Ref sig .tc := ⟨.hbm, 244, rfl⟩
abbrev main_call8_v2 : Ref sig .tc := ⟨.hbm, 245, rfl⟩
abbrev main_call8_v3 : Ref sig .tc := ⟨.hbm, 246, rfl⟩
abbrev main_call8_cst_0 : Ref sig .tc := ⟨.hbm, 247, rfl⟩
abbrev main_call8_v4 : Ref sig .tc := ⟨.hbm, 248, rfl⟩
abbrev main_call8_v5 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩

abbrev nD : Nat := 1
abbrev τ : Topo := Topo.v7x

variable {F : FTy → Type} [FloatOps F]
-- ==== Ffn.lean ====
abbrev S17408x1024 : Shape := ⟨2, ![17408, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S17408x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![17, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S17408x1024 : Shape := ⟨2, ![17408, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x5632 : Shape := ⟨2, ![17408, 5632]⟩
abbrev S17408x2816 : Shape := ⟨2, ![17408, 2816]⟩

abbrev nBuf : Space → Nat
  | .hbm => 38
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S17408x1024, .f32⟩
  | .hbm, ⟨5, _⟩ => ⟨S_, .f32⟩
  | .hbm, ⟨6, _⟩ => ⟨S17408, .f32⟩
  | .hbm, ⟨7, _⟩ => ⟨S17408x1, .f32⟩
  | .hbm, ⟨8, _⟩ => ⟨S_, .f32⟩
  | .hbm, ⟨9, _⟩ => ⟨S17408x1, .f32⟩
  | .hbm, ⟨10, _⟩ => ⟨S17408x1, .f32⟩
  | .hbm, ⟨11, _⟩ => ⟨S_, .f32⟩
  | .hbm, ⟨12, _⟩ => ⟨S17408x1, .f32⟩
  | .hbm, ⟨13, _⟩ => ⟨S17408x1, .f32⟩
  | .hbm, ⟨14, _⟩ => ⟨S17408x1, .f32⟩
  | .hbm, ⟨15, _⟩ => ⟨S17408x1024, .f32⟩
  | .hbm, ⟨16, _⟩ => ⟨S17408x1024, .f32⟩
  | .hbm, ⟨17, _⟩ => ⟨S1x1024, .f32⟩
  | .hbm, ⟨18, _⟩ => ⟨S17408x1024, .f32⟩
  | .hbm, ⟨19, _⟩ => ⟨S17408x1024, .f32⟩
  | .hbm, ⟨20, _⟩ => ⟨S17408x5632, .f32⟩
  | .hbm, ⟨21, _⟩ => ⟨S17408x2816, .f32⟩
  | .hbm, ⟨22, _⟩ => ⟨S17408x2816, .f32⟩
  | .hbm, ⟨23, _⟩ => ⟨S17408x2816, .f32⟩
  | .hbm, ⟨24, _⟩ => ⟨S17408x2816, .f32⟩
  | .hbm, ⟨25, _⟩ => ⟨S_, .f32⟩
  | .hbm, ⟨26, _⟩ => ⟨S17408x2816, .f32⟩
  | .hbm, ⟨27, _⟩ => ⟨S17408x2816, .f32⟩
  | .hbm, ⟨28, _⟩ => ⟨S_, .f32⟩
  | .hbm, ⟨29, _⟩ => ⟨S17408x2816, .f32⟩
  | .hbm, ⟨30, _⟩ => ⟨S17408x2816, .f32⟩
  | .hbm, ⟨31, _⟩ => ⟨S17408x2816, .f32⟩
  | .hbm, ⟨32, _⟩ => ⟨S17408x2816, .f32⟩
  | .hbm, ⟨33, _⟩ => ⟨S17408x1024, .f32⟩
  | .hbm, ⟨34, _⟩ => ⟨S_, .f32⟩
  | .hbm, ⟨35, _⟩ => ⟨S17408x1024, .f32⟩
  | .hbm, ⟨36, _⟩ => ⟨S17408x1024, .f32⟩
  | .hbm, ⟨37, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Tail.lean ====
abbrev S17408x1024 : Shape := ⟨2, ![17408, 1024]⟩
abbrev S16384x1024 : Shape := ⟨2, ![16384, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S17408x256 : Shape := ⟨2, ![17408, 256]⟩
abbrev S256x1024 : Shape := ⟨2, ![256, 1024]⟩
abbrev S1x1024 : Shape := ⟨2, ![1, 1024]⟩
abbrev S1024x256 : Shape := ⟨2, ![1024, 256]⟩
abbrev S1024x1 : Shape := ⟨2, ![1024, 1]⟩

abbrev nBuf : Space → Nat
  | .hbm => 19
  | .vmem => 22
  | .smem => 0
  | _ => 0

abbrev bufTy : (tb : Table) → Fin (tcTables nBuf tb) → BufTy
  | .hbm, ⟨0, _⟩ => ⟨S17408x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S17408x256, .f32⟩
  | .hbm, ⟨8, _⟩ => ⟨S1024, .f32⟩
  | .hbm, ⟨9, _⟩ => ⟨S256x1024, .f32⟩
  | .hbm, ⟨10, _⟩ => ⟨S1024x1024, .f32⟩
  | .hbm, ⟨11, _⟩ => ⟨S1024x1024, .bf16⟩
  | .hbm, ⟨12, _⟩ => ⟨S1024x5632, .bf16⟩
  | .hbm, ⟨13, _⟩ => ⟨S2816x1024, .bf16⟩
  | .hbm, ⟨14, _⟩ => ⟨S256x1024, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S17408x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .vmem, ⟨13, _⟩ => ⟨S256x1024, .bf16⟩
  | .local _ .vmem, ⟨14, _⟩ => ⟨S1024x256, .f32⟩
  | .local _ .vmem, ⟨15, _⟩ => ⟨S1024x256, .f32⟩
  | .local _ .vmem, ⟨16, _⟩ => ⟨S1x1024, .f32⟩
  | .local _ .vmem, ⟨17, _⟩ => ⟨S256x1024, .bf16⟩
  | .local _ .vmem, ⟨18, _⟩ => ⟨S1024x1024, .bf16⟩
  | .local _ .vmem, ⟨19, _⟩ => ⟨S1024x1024, .f32⟩
  | .local _ .vmem, ⟨20, _⟩ => ⟨S1024x1024, .f32⟩
  | .local _ .vmem, ⟨21, _⟩ => ⟨S1024x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![17, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== TailReferenceIdeal.lean ====
abbrev S17408x1024 : Shape := ⟨2, ![17408, 1024]⟩
abbrev S16384x1024 : Shape := ⟨2, ![16384, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S17408x256 : Shape := ⟨2, ![17408, 256]⟩
abbrev S256x1024 : Shape := ⟨2, ![256, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x5632 : Shape := ⟨2, ![17408, 5632]⟩
abbrev S17408x2816 : Shape := ⟨2, ![17408, 2816]⟩

abbrev nBuf : Space → Nat
  | .hbm => 76
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S17408x256, .f32⟩
  | .hbm, ⟨8, _⟩ => ⟨S1024, .f32⟩
  | .hbm, ⟨9, _⟩ => ⟨S256x1024, .f32⟩
  | .hbm, ⟨10, _⟩ => ⟨S1024x1024, .f32⟩
  | .hbm, ⟨11, _⟩ => ⟨S17408x1024, .f32⟩
  | .hbm, ⟨12, _⟩ => ⟨S17408x1024, .f32⟩
  | .hbm, ⟨13, _⟩ => ⟨S17408x1024, .f32⟩
  | .hbm, ⟨14, _⟩ => ⟨S17408x1024, .f32⟩
  | .hbm, ⟨15, _⟩ => ⟨S_, .f32⟩
  | .hbm, ⟨16, _⟩ => ⟨S17408, .f32⟩
  | .hbm, ⟨17, _⟩ => ⟨S17408x1, .f32⟩
  | .hbm, ⟨18, _⟩ => ⟨S_, .f32⟩
  | .hbm, ⟨19, _⟩ => ⟨S17408x1, .f32⟩
  | .hbm, ⟨20, _⟩ => ⟨S17408x1, .f32⟩
  | .hbm, ⟨21, _⟩ => ⟨S_, .f32⟩
  | .hbm, ⟨22, _⟩ => ⟨S17408x1, .f32⟩
  | .hbm, ⟨23, _⟩ => ⟨S17408x1, .f32⟩
  | .hbm, ⟨24, _⟩ => ⟨S17408x1, .f32⟩
  | .hbm, ⟨25, _⟩ => ⟨S17408x1024, .f32⟩
  | .hbm, ⟨26, _⟩ => ⟨S17408x1024, .f32⟩
  | .hbm, ⟨27, _⟩ => ⟨S1x1024, .f32⟩
  | .hbm, ⟨28, _⟩ => ⟨S17408x1024, .f32⟩
  | .hbm, ⟨29, _⟩ => ⟨S17408x1024, .f32⟩
  | .hbm, ⟨30, _⟩ => ⟨S17408x5632, .f32⟩
  | .hbm, ⟨31, _⟩ => ⟨S17408x2816, .f32⟩
  | .hbm, ⟨32, _⟩ => ⟨S17408x2816, .f32⟩
  | .hbm, ⟨33, _⟩ => ⟨S17408x2816, .f32⟩
  | .hbm, ⟨34, _⟩ => ⟨S17408x2816, .f32⟩
  | .hbm, ⟨35, _⟩ => ⟨S_, .f32⟩
  | .hbm, ⟨36, _⟩ => ⟨S17408x2816, .f32⟩
  | .hbm, ⟨37, _⟩ => ⟨S17408x2816, .f32⟩
  | .hbm, ⟨38, _⟩ => ⟨S_, .f32⟩
  | .hbm, ⟨39, _⟩ => ⟨S17408x2816, .f32⟩
  | .hbm, ⟨40, _⟩ => ⟨S17408x2816, .f32⟩
  | .hbm, ⟨41, _⟩ => ⟨S17408x2816, .f32⟩
  | .hbm, ⟨42, _⟩ => ⟨S17408x2816, .f32⟩
  | .hbm, ⟨43, _⟩ => ⟨S17408x1024, .f32⟩
  | .hbm, ⟨44, _⟩ => ⟨S_, .f32⟩
  | .hbm, ⟨45, _⟩ => ⟨S17408x1024, .f32⟩
  | .hbm, ⟨46, _⟩ => ⟨S17408x1024, .f32⟩
  | .hbm, ⟨47, _⟩ => ⟨S17408x1024, .f32⟩
  | .hbm, ⟨48, _⟩ => ⟨S17408x1024, .f32⟩
  | .hbm, ⟨49, _⟩ => ⟨S17408x1024, .f32⟩
  | .hbm, ⟨50, _⟩ => ⟨S_, .f32⟩
  | .hbm, ⟨51, _⟩ => ⟨S17408, .f32⟩
  | .hbm, ⟨52, _⟩ => ⟨S17408x1, .f32⟩
  | .hbm, ⟨53, _⟩ => ⟨S_, .f32⟩
  | .hbm, ⟨54, _⟩ => ⟨S17408x1, .f32⟩
  | .hbm, ⟨55, _⟩ => ⟨S17408x1, .f32⟩
  | .hbm, ⟨56, _⟩ => ⟨S_, .f32⟩
  | .hbm, ⟨57, _⟩ => ⟨S17408x1, .f32⟩
  | .hbm, ⟨58, _⟩ => ⟨S17408x1, .f32⟩
  | .hbm, ⟨59, _⟩ => ⟨S17408x1, .f32⟩
  | .hbm, ⟨60, _⟩ => ⟨S17408x1024, .f32⟩
  | .hbm, ⟨61, _⟩ => ⟨S17408x1024, .f32⟩
  | .hbm, ⟨62, _⟩ => ⟨S1x1024, .f32⟩
  | .hbm, ⟨63, _⟩ => ⟨S17408x1024, .f32⟩
  | .hbm, ⟨64, _⟩ => ⟨S17408x1024, .f32⟩
  | .hbm, ⟨65, _⟩ => ⟨S17408x1024, .f32⟩
  | .hbm, ⟨66, _⟩ => ⟨S17408x1024, .f32⟩
  | .hbm, ⟨67, _⟩ => ⟨S17408x1024, .f32⟩
  | .hbm, ⟨68, _⟩ => ⟨S_, .f32⟩
  | .hbm, ⟨69, _⟩ => ⟨S17408x1024, .f32⟩
  | .hbm, ⟨70, _⟩ => ⟨S17408x1024, .f32⟩
  | .hbm, ⟨71, _⟩ => ⟨S_, .f32⟩
  | .hbm, ⟨72, _⟩ => ⟨S17408x1024, .f32⟩
  | .hbm, ⟨73, _⟩ => ⟨S17408x1024, .f32⟩
  | .hbm, ⟨74, _⟩ => ⟨S17408x1024, .f32⟩
  | .hbm, ⟨75, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== KvSample.lean ====
abbrev S17408x1024 : Shape := ⟨2, ![17408, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 7
  | .vmem => 5
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1x1024, .f32⟩
  | .hbm, ⟨6, _⟩ => ⟨S1024x1024, .f32⟩
  | .local _ .vmem, ⟨0, _⟩ => ⟨S1024x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== KvSampleReferenceIdeal.lean ====
abbrev S17408x1024 : Shape := ⟨2, ![17408, 1024]⟩
abbrev S1024 : Shape := ⟨1, ![1024]⟩
abbrev S1024x1024 : Shape := ⟨2, ![1024, 1024]⟩
abbrev S_ : Shape := ⟨0, ![]⟩
abbrev S1024x1 : Shape := ⟨2, ![1024, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Last.lean ====
abbrev S17408x1024 : Shape := ⟨2, ![17408, 1024]⟩
abbrev S16384x1024 : Shape := ⟨2, ![16384, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 12
  | .vmem => 17
  | .smem => 0
  | _ => 0

abbrev bufTy : (tb : Table) → Fin (tcTables nBuf tb) → BufTy
  | .hbm, ⟨0, _⟩ => ⟨S17408x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024x1024, .bf16⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S17408x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .vmem, ⟨13, _⟩ => ⟨S256x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![17, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== LastReferenceIdeal.lean ====
abbrev S17408x1024 : Shape := ⟨2, ![17408, 1024]⟩
abbrev S16384x1024 : Shape := ⟨2, ![16384, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x5632 : Shape := ⟨2, ![17408, 5632]⟩
abbrev S17408x2816 : Shape := ⟨2, ![17408, 2816]⟩

abbrev nBuf : Space → Nat
  | .hbm => 44
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S17408x1024, .f32⟩
  | .hbm, ⟨8, _⟩ => ⟨S17408x1024, .f32⟩
  | .hbm, ⟨9, _⟩ => ⟨S17408x1024, .f32⟩
  | .hbm, ⟨10, _⟩ => ⟨S17408x1024, .f32⟩
  | .hbm, ⟨11, _⟩ => ⟨S_, .f32⟩
  | .hbm, ⟨12, _⟩ => ⟨S17408, .f32⟩
  | .hbm, ⟨13, _⟩ => ⟨S17408x1, .f32⟩
  | .hbm, ⟨14, _⟩ => ⟨S_, .f32⟩
  | .hbm, ⟨15, _⟩ => ⟨S17408x1, .f32⟩
  | .hbm, ⟨16, _⟩ => ⟨S17408x1, .f32⟩
  | .hbm, ⟨17, _⟩ => ⟨S_, .f32⟩
  | .hbm, ⟨18, _⟩ => ⟨S17408x1, .f32⟩
  | .hbm, ⟨19, _⟩ => ⟨S17408x1, .f32⟩
  | .hbm, ⟨20, _⟩ => ⟨S17408x1, .f32⟩
  | .hbm, ⟨21, _⟩ => ⟨S17408x1024, .f32⟩
  | .hbm, ⟨22, _⟩ => ⟨S17408x1024, .f32⟩
  | .hbm, ⟨23, _⟩ => ⟨S1x1024, .f32⟩
  | .hbm, ⟨24, _⟩ => ⟨S17408x1024, .f32⟩
  | .hbm, ⟨25, _⟩ => ⟨S17408x1024, .f32⟩
  | .hbm, ⟨26, _⟩ => ⟨S17408x5632, .f32⟩
  | .hbm, ⟨27, _⟩ => ⟨S17408x2816, .f32⟩
  | .hbm, ⟨28, _⟩ => ⟨S17408x2816, .f32⟩
  | .hbm, ⟨29, _⟩ => ⟨S17408x2816, .f32⟩
  | .hbm, ⟨30, _⟩ => ⟨S17408x2816, .f32⟩
  | .hbm, ⟨31, _⟩ => ⟨S_, .f32⟩
  | .hbm, ⟨32, _⟩ => ⟨S17408x2816, .f32⟩
  | .hbm, ⟨33, _⟩ => ⟨S17408x2816, .f32⟩
  | .hbm, ⟨34, _⟩ => ⟨S_, .f32⟩
  | .hbm, ⟨35, _⟩ => ⟨S17408x2816, .f32⟩
  | .hbm, ⟨36, _⟩ => ⟨S17408x2816, .f32⟩
  | .hbm, ⟨37, _⟩ => ⟨S17408x2816, .f32⟩
  | .hbm, ⟨38, _⟩ => ⟨S17408x2816, .f32⟩
  | .hbm, ⟨39, _⟩ => ⟨S17408x1024, .f32⟩
  | .hbm, ⟨40, _⟩ => ⟨S_, .f32⟩
  | .hbm, ⟨41, _⟩ => ⟨S17408x1024, .f32⟩
  | .hbm, ⟨42, _⟩ => ⟨S17408x1024, .f32⟩
  | .hbm, ⟨43, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== Query.lean ====
abbrev S17408x1024 : Shape := ⟨2, ![17408, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S1x1024, .f32⟩
  | .hbm, ⟨5, _⟩ => ⟨S17408x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QueryReferenceIdeal.lean ====
abbrev S17408x1024 : Shape := ⟨2, ![17408, 1024]⟩
abbrev S1024 : Shape := ⟨1, ![1024]⟩
abbrev S1024x1024 : Shape := ⟨2, ![1024, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x1024, .f32⟩
  | .hbm, ⟨3, _⟩ => ⟨S17408x1024, .f32⟩
  | .hbm, ⟨4, _⟩ => ⟨S_, .f32⟩
  | .hbm, ⟨5, _⟩ => ⟨S17408, .f32⟩
  | .hbm, ⟨6, _⟩ => ⟨S17408x1, .f32⟩
  | .hbm, ⟨7, _⟩ => ⟨S_, .f32⟩
  | .hbm, ⟨8, _⟩ => ⟨S17408x1, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S17408x1, .f32⟩
  | .hbm, ⟨14, _⟩ => ⟨S17408x1024, .f32⟩
  | .hbm, ⟨15, _⟩ => ⟨S17408x1024, .f32⟩
  | .hbm, ⟨16, _⟩ => ⟨S1x1024, .f32⟩
  | .hbm, ⟨17, _⟩ => ⟨S17408x1024, .f32⟩
  | .hbm, ⟨18, _⟩ => ⟨S17408x1024, .f32⟩
  | .hbm, ⟨19, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kv.lean ====
abbrev S17408x1024 : Shape := ⟨2, ![17408, 1024]⟩
abbrev S1024 : Shape := ⟨1, ![1024]⟩
abbrev S1024x2048 : Shape := ⟨2, ![1024, 2048]⟩
abbrev S1024x1024 : Shape := ⟨2, ![1024, 1024]⟩
abbrev S1x1024 : Shape := ⟨2, ![1, 1024]⟩
abbrev S4x1024x4096 : Shape := ⟨3, ![4, 1024, 4096]⟩
abbrev S1x1024x1024 : Shape := ⟨3, ![1, 1024, 1024]⟩
abbrev S1024x1 : Shape := ⟨2, ![1024, 1]⟩
abbrev S4x16x64x4096 : Shape := ⟨4, ![4, 16, 64, 4096]⟩
abbrev S4x4096x16x64 : Shape := ⟨4, ![4, 4096, 16, 64]⟩

abbrev nBuf : Space → Nat
  | .hbm => 16
  | .vmem => 9
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2048, .f32⟩
  | .hbm, ⟨3, _⟩ => ⟨S1024x1024, .f32⟩
  | .hbm, ⟨4, _⟩ => ⟨S1024x1024, .bf16⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S4x1024x4096, .f32⟩
  | .hbm, ⟨11, _⟩ => ⟨S4x1024x4096, .f32⟩
  | .hbm, ⟨12, _⟩ => ⟨S4x16x64x4096, .f32⟩
  | .hbm, ⟨13, _⟩ => ⟨S4x4096x16x64, .f32⟩
  | .hbm, ⟨14, _⟩ => ⟨S4x16x64x4096, .f32⟩
  | .hbm, ⟨15, _⟩ => ⟨S4x4096x16x64, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KvReferenceIdeal.lean ====
abbrev S17408x1024 : Shape := ⟨2, ![17408, 1024]⟩
abbrev S1024 : Shape := ⟨1, ![1024]⟩
abbrev S1024x2048 : Shape := ⟨2, ![1024, 2048]⟩
abbrev S16384x1024 : Shape := ⟨2, ![16384, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S4x4096x16x64 : Shape := ⟨4, ![4, 4096, 16, 64]⟩

abbrev nBuf : Space → Nat
  | .hbm => 26
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2048, .f32⟩
  | .hbm, ⟨3, _⟩ => ⟨S16384x1024, .f32⟩
  | .hbm, ⟨4, _⟩ => ⟨S4x4096x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x2048, .f32⟩
  | .hbm, ⟨22, _⟩ => ⟨S4x4096x1024, .f32⟩
  | .hbm, ⟨23, _⟩ => ⟨S4x4096x16x64, .f32⟩
  | .hbm, ⟨24, _⟩ => ⟨S4x4096x1024, .f32⟩
  | .hbm, ⟨25, _⟩ => ⟨S4x4096x16x64, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Final.lean ====
abbrev S17408x1024 : Shape := ⟨2, ![17408, 1024]⟩
abbrev S17408x256 : Shape := ⟨2, ![17408, 256]⟩
abbrev S1024 : Shape := ⟨1, ![1024]⟩
abbrev S256x1024 : Shape := ⟨2, ![256, 1024]⟩
abbrev S1024x1024 : Shape := ⟨2, ![1024, 1024]⟩
abbrev S1x1024 : Shape := ⟨2, ![1, 1024]⟩
abbrev S16384x1024 : Shape := ⟨2, ![16384, 1024]⟩
abbrev S1024x256 : Shape := ⟨2, ![1024, 256]⟩
abbrev S1024x1 : Shape := ⟨2, ![1024, 1]⟩

abbrev nBuf : Space → Nat
  | .hbm => 12
  | .vmem => 12
  | .smem => 0
  | _ => 0

abbrev bufTy : (tb : Table) → Fin (tcTables nBuf tb) → BufTy
  | .hbm, ⟨0, _⟩ => ⟨S17408x1024, .f32⟩
  | .hbm, ⟨1, _⟩ => ⟨S17408x256, .f32⟩
  | .hbm, ⟨2, _⟩ => ⟨S1024, .f32⟩
  | .hbm, ⟨3, _⟩ => ⟨S256x1024, .f32⟩
  | .hbm, ⟨4, _⟩ => ⟨S1024x1024, .f32⟩
  | .hbm, ⟨5, _⟩ => ⟨S1024, .f32⟩
  | .hbm, ⟨6, _⟩ => ⟨S256x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S256x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v47 : BitVec 1 := Scalar.cmpi .slt arg0 c16_i32
  let v48 : BitVec 32 := Scalar.extui v47
  let c0_i32 : BitVec 32 := 0#32
  let v49 : BitVec 1 := Scalar.cmpi .ne v48 c0_i32
  v49

def k0_cond2 (i : grid0.Coords) : BitVec 1 :=
  let arg0 : BitVec 32 := BitVec.ofNat 32 (i 0).val
  let c16_i32_21 : BitVec 32 := 16#32
  let v50 : BitVec 1 := Scalar.cmpi .sge arg0 c16_i32_21
  let v51 : BitVec 32 := Scalar.extui v50
  let c0_i32_22 : BitVec 32 := 0#32
  let v52 : BitVec 1 := Scalar.cmpi .ne v51 c0_i32_22
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FinalReferenceIdeal.lean ====
abbrev S17408x1024 : Shape := ⟨2, ![17408, 1024]⟩
abbrev S17408x256 : Shape := ⟨2, ![17408, 256]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S16384x1024 : Shape := ⟨2, ![16384, 1024]⟩

abbrev nBuf : Space → Nat
  | .hbm => 52
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x256, .f32⟩
  | .hbm, ⟨2, _⟩ => ⟨S1024, .f32⟩
  | .hbm, ⟨3, _⟩ => ⟨S256x1024, .f32⟩
  | .hbm, ⟨4, _⟩ => ⟨S1024x1024, .f32⟩
  | .hbm, ⟨5, _⟩ => ⟨S1024, .f32⟩
  | .hbm, ⟨6, _⟩ => ⟨S17408x1024, .f32⟩
  | .hbm, ⟨7, _⟩ => ⟨S17408x1024, .f32⟩
  | .hbm, ⟨8, _⟩ => ⟨S_, .f32⟩
  | .hbm, ⟨9, _⟩ => ⟨S17408, .f32⟩
  | .hbm, ⟨10, _⟩ => ⟨S17408x1, .f32⟩
  | .hbm, ⟨11, _⟩ => ⟨S_, .f32⟩
  | .hbm, ⟨12, _⟩ => ⟨S17408x1, .f32⟩
  | .hbm, ⟨13, _⟩ => ⟨S17408x1, .f32⟩
  | .hbm, ⟨14, _⟩ => ⟨S_, .f32⟩
  | .hbm, ⟨15, _⟩ => ⟨S17408x1, .f32⟩
  | .hbm, ⟨16, _⟩ => ⟨S17408x1, .f32⟩
  | .hbm, ⟨17, _⟩ => ⟨S17408x1, .f32⟩
  | .hbm, ⟨18, _⟩ => ⟨S17408x1024, .f32⟩
  | .hbm, ⟨19, _⟩ => ⟨S17408x1024, .f32⟩
  | .hbm, ⟨20, _⟩ => ⟨S1x1024, .f32⟩
  | .hbm, ⟨21, _⟩ => ⟨S17408x1024, .f32⟩
  | .hbm, ⟨22, _⟩ => ⟨S17408x1024, .f32⟩
  | .hbm, ⟨23, _⟩ => ⟨S17408x1024, .f32⟩
  | .hbm, ⟨24, _⟩ => ⟨S17408x1024, .f32⟩
  | .hbm, ⟨25, _⟩ => ⟨S17408x1024, .f32⟩
  | .hbm, ⟨26, _⟩ => ⟨S_, .f32⟩
  | .hbm, ⟨27, _⟩ => ⟨S17408x1024, .f32⟩
  | .hbm, ⟨28, _⟩ => ⟨S17408x1024, .f32⟩
  | .hbm, ⟨29, _⟩ => ⟨S_, .f32⟩
  | .hbm, ⟨30, _⟩ => ⟨S17408x1024, .f32⟩
  | .hbm, ⟨31, _⟩ => ⟨S17408x1024, .f32⟩
  | .hbm, ⟨32, _⟩ => ⟨S17408x1024, .f32⟩
  | .hbm, ⟨33, _⟩ => ⟨S17408x1024, .f32⟩
  | .hbm, ⟨34, _⟩ => ⟨S17408x1024, .f32⟩
  | .hbm, ⟨35, _⟩ => ⟨S_, .f32⟩
  | .hbm, ⟨36, _⟩ => ⟨S17408, .f32⟩
  | .hbm, ⟨37, _⟩ => ⟨S17408x1, .f32⟩
  | .hbm, ⟨38, _⟩ => ⟨S_, .f32⟩
  | .hbm, ⟨39, _⟩ => ⟨S17408x1, .f32⟩
  | .hbm, ⟨40, _⟩ => ⟨S17408x1, .f32⟩
  | .hbm, ⟨41, _⟩ => ⟨S_, .f32⟩
  | .hbm, ⟨42, _⟩ => ⟨S17408x1, .f32⟩
  | .hbm, ⟨43, _⟩ => ⟨S17408x1, .f32⟩
  | .hbm, ⟨44, _⟩ => ⟨S17408x1, .f32⟩
  | .hbm, ⟨45, _⟩ => ⟨S17408x1024, .f32⟩
  | .hbm, ⟨46, _⟩ => ⟨S17408x1024, .f32⟩
  | .hbm, ⟨47, _⟩ => ⟨S1x1024, .f32⟩
  | .hbm, ⟨48, _⟩ => ⟨S17408x1024, .f32⟩
  | .hbm, ⟨49, _⟩ => ⟨S17408x1024, .f32⟩
  | .hbm, ⟨50, _⟩ => ⟨S16384x1024, .f32⟩
  | .hbm, ⟨51, _⟩ => ⟨S1024x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Proj.lean ====
abbrev S17408x1024 : Shape := ⟨2, ![17408, 1024]⟩
abbrev S1024 : Shape := ⟨1, ![1024]⟩
abbrev S1024x4112 : Shape := ⟨2, ![1024, 4112]⟩
abbrev S8 : Shape := ⟨1, ![8]⟩
abbrev S1024x4096 : Shape := ⟨2, ![1024, 4096]⟩
abbrev S1024x16 : Shape := ⟨2, ![1024, 16]⟩
abbrev S_ : Shape := ⟨0, ![]⟩
abbrev S1024x128 : Shape := ⟨2, ![1024, 128]⟩
abbrev S16x1024 : Shape := ⟨2, ![16, 1024]⟩
abbrev S128 : Shape := ⟨1, ![128]⟩
abbrev S1x128 : Shape := ⟨2, ![1, 128]⟩
abbrev S2x128 : Shape := ⟨2, ![2, 128]⟩
abbrev S8x128 : Shape := ⟨2, ![8, 128]⟩
abbrev S16 : Shape := ⟨1, ![16]⟩
abbrev S16x1 : Shape := ⟨2, ![16, 1]⟩
abbrev S16x2 : Shape := ⟨2, ![16, 2]⟩
abbrev S16x128 : Shape := ⟨2, ![16, 128]⟩
abbrev S1x1024 : Shape := ⟨2, ![1, 1024]⟩
abbrev S17408x4096 : Shape := ⟨2, ![17408, 4096]⟩
abbrev S17408x128 : Shape := ⟨2, ![17408, 128]⟩
abbrev S16x17408 : Shape := ⟨2, ![16, 17408]⟩
abbrev S1024x1024 : Shape := ⟨2, ![1024, 1024]⟩
abbrev S1024x2048 : Shape := ⟨2, ![1024, 2048]⟩
abbrev S1024x1 : Shape := ⟨2, ![1024, 1]⟩

abbrev nBuf : Space → Nat
  | .hbm => 40
  | .vmem => 16
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x4112, .f32⟩
  | .hbm, ⟨3, _⟩ => ⟨S8, .f32⟩
  | .hbm, ⟨4, _⟩ => ⟨S8, .f32⟩
  | .hbm, ⟨5, _⟩ => ⟨S1024x4096, .f32⟩
  | .hbm, ⟨6, _⟩ => ⟨S1024x4096, .bf16⟩
  | .hbm, ⟨7, _⟩ => ⟨S1024x16, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S16x1024, .f32⟩
  | .hbm, ⟨13, _⟩ => ⟨S16x1024, .bf16⟩
  | .hbm, ⟨14, _⟩ => ⟨S_, .f32⟩
  | .hbm, ⟨15, _⟩ => ⟨S8, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S1x128, .f32⟩
  | .hbm, ⟨24, _⟩ => ⟨S2x128, .f32⟩
  | .hbm, ⟨25, _⟩ => ⟨S_, .i32⟩
  | .hbm, ⟨26, _⟩ => ⟨S_, .f32⟩
  | .hbm, ⟨27, _⟩ => ⟨S8x128, .f32⟩
  | .hbm, ⟨28, _⟩ => ⟨S16, .f32⟩
  | .hbm, ⟨29, _⟩ => ⟨S16, .f32⟩
  | .hbm, ⟨30, _⟩ => ⟨S16x1, .f32⟩
  | .hbm, ⟨31, _⟩ => ⟨S16x1, .f32⟩
  | .hbm, ⟨32, _⟩ => ⟨S16x2, .f32⟩
  | .hbm, ⟨33, _⟩ => ⟨S_, .i32⟩
  | .hbm, ⟨34, _⟩ => ⟨S_, .f32⟩
  | .hbm, ⟨35, _⟩ => ⟨S16x128, .f32⟩
  | .hbm, ⟨36, _⟩ => ⟨S1x1024, .f32⟩
  | .hbm, ⟨37, _⟩ => ⟨S17408x4096, .f32⟩
  | .hbm, ⟨38, _⟩ => ⟨S17408x128, .f32⟩
  | .hbm, ⟨39, _⟩ => ⟨S16x17408, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x128, .bf16⟩
  | .local _ .vmem, ⟨6, _⟩ => ⟨S16x1024, .bf16⟩
  | .local _ .vmem, ⟨7, _⟩ => ⟨S8x128, .f32⟩
  | .local _ .vmem, ⟨8, _⟩ => ⟨S16x128, .f32⟩
  | .local _ .vmem, ⟨9, _⟩ => ⟨S1024x2048, .f32⟩
  | .local _ .vmem, ⟨10, _⟩ => ⟨S1024x2048, .f32⟩
  | .local _ .vmem, ⟨11, _⟩ => ⟨S1024x128, .f32⟩
  | .local _ .vmem, ⟨12, _⟩ => ⟨S1024x128, .f32⟩
  | .local _ .vmem, ⟨13, _⟩ => ⟨S16x1024, .f32⟩
  | .local _ .vmem, ⟨14, _⟩ => ⟨S16x1024, .f32⟩
  | .local _ .vmem, ⟨15, _⟩ => ⟨S1024x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_c_1 : Ref sig .tc := ⟨.hbm, 19, rfl⟩
abbrev main_call2_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_call3_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_call4_v0 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![17, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ProjReferenceIdeal.lean ====
abbrev S17408x1024 : Shape := ⟨2, ![17408, 1024]⟩
abbrev S1024 : Shape := ⟨1, ![1024]⟩
abbrev S1024x4112 : Shape := ⟨2, ![1024, 4112]⟩
abbrev S8 : Shape := ⟨1, ![8]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x4112 : Shape := ⟨2, ![17408, 4112]⟩
abbrev S17408x8 : Shape := ⟨2, ![17408, 8]⟩
abbrev S1x8 : Shape := ⟨2, ![1, 8]⟩
abbrev S17408x16 : Shape := ⟨2, ![17408, 16]⟩
abbrev S17408x4096 : Shape := ⟨2, ![17408, 4096]⟩
abbrev S17408x128 : Shape := ⟨2, ![17408, 128]⟩
abbrev S16x17408 : Shape := ⟨2, ![16, 17408]⟩

abbrev nBuf : Space → Nat
  | .hbm => 60
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x4112, .f32⟩
  | .hbm, ⟨3, _⟩ => ⟨S8, .f32⟩
  | .hbm, ⟨4, _⟩ => ⟨S8, .f32⟩
  | .hbm, ⟨5, _⟩ => ⟨S17408x1024, .f32⟩
  | .hbm, ⟨6, _⟩ => ⟨S_, .f32⟩
  | .hbm, ⟨7, _⟩ => ⟨S17408, .f32⟩
  | .hbm, ⟨8, _⟩ => ⟨S17408x1, .f32⟩
  | .hbm, ⟨9, _⟩ => ⟨S_, .f32⟩
  | .hbm, ⟨10, _⟩ => ⟨S17408x1, .f32⟩
  | .hbm, ⟨11, _⟩ => ⟨S17408x1, .f32⟩
  | .hbm, ⟨12, _⟩ => ⟨S_, .f32⟩
  | .hbm, ⟨13, _⟩ => ⟨S17408x1, .f32⟩
  | .hbm, ⟨14, _⟩ => ⟨S17408x1, .f32⟩
  | .hbm, ⟨15, _⟩ => ⟨S17408x1, .f32⟩
  | .hbm, ⟨16, _⟩ => ⟨S17408x1024, .f32⟩
  | .hbm, ⟨17, _⟩ => ⟨S17408x1024, .f32⟩
  | .hbm, ⟨18, _⟩ => ⟨S1x1024, .f32⟩
  | .hbm, ⟨19, _⟩ => ⟨S17408x1024, .f32⟩
  | .hbm, ⟨20, _⟩ => ⟨S17408x1024, .f32⟩
  | .hbm, ⟨21, _⟩ => ⟨S17408x4112, .f32⟩
  | .hbm, ⟨22, _⟩ => ⟨S17408x8, .f32⟩
  | .hbm, ⟨23, _⟩ => ⟨S17408x8, .f32⟩
  | .hbm, ⟨24, _⟩ => ⟨S17408x8, .f32⟩
  | .hbm, ⟨25, _⟩ => ⟨S17408x8, .f32⟩
  | .hbm, ⟨26, _⟩ => ⟨S_, .f32⟩
  | .hbm, ⟨27, _⟩ => ⟨S17408x8, .f32⟩
  | .hbm, ⟨28, _⟩ => ⟨S17408x8, .f32⟩
  | .hbm, ⟨29, _⟩ => ⟨S_, .f32⟩
  | .hbm, ⟨30, _⟩ => ⟨S17408x8, .f32⟩
  | .hbm, ⟨31, _⟩ => ⟨S17408x8, .f32⟩
  | .hbm, ⟨32, _⟩ => ⟨S8, .f32⟩
  | .hbm, ⟨33, _⟩ => ⟨S8, .f32⟩
  | .hbm, ⟨34, _⟩ => ⟨S1x8, .f32⟩
  | .hbm, ⟨35, _⟩ => ⟨S17408x8, .f32⟩
  | .hbm, ⟨36, _⟩ => ⟨S17408x8, .f32⟩
  | .hbm, ⟨37, _⟩ => ⟨S_, .f32⟩
  | .hbm, ⟨38, _⟩ => ⟨S17408x8, .f32⟩
  | .hbm, ⟨39, _⟩ => ⟨S17408x8, .f32⟩
  | .hbm, ⟨40, _⟩ => ⟨S17408x8, .f32⟩
  | .hbm, ⟨41, _⟩ => ⟨S17408x8, .f32⟩
  | .hbm, ⟨42, _⟩ => ⟨S17408x8, .i1⟩
  | .hbm, ⟨43, _⟩ => ⟨S17408x8, .f32⟩
  | .hbm, ⟨44, _⟩ => ⟨S17408x8, .f32⟩
  | .hbm, ⟨45, _⟩ => ⟨S17408x8, .f32⟩
  | .hbm, ⟨46, _⟩ => ⟨S17408x8, .f32⟩
  | .hbm, ⟨47, _⟩ => ⟨S17408x8, .f32⟩
  | .hbm, ⟨48, _⟩ => ⟨S17408x8, .f32⟩
  | .hbm, ⟨49, _⟩ => ⟨S17408x8, .f32⟩
  | .hbm, ⟨50, _⟩ => ⟨S17408x8, .f32⟩
  | .hbm, ⟨51, _⟩ => ⟨S1x8, .f32⟩
  | .hbm, ⟨52, _⟩ => ⟨S17408x8, .f32⟩
  | .hbm, ⟨53, _⟩ => ⟨S17408x8, .f32⟩
  | .hbm, ⟨54, _⟩ => ⟨S17408x16, .f32⟩
  | .hbm, ⟨55, _⟩ => ⟨S17408x4096, .f32⟩
  | .hbm, ⟨56, _⟩ => ⟨S_, .i32⟩
  | .hbm, ⟨57, _⟩ => ⟨S_, .f32⟩
  | .hbm, ⟨58, _⟩ => ⟨S17408x128, .f32⟩
  | .hbm, ⟨59, _⟩ => ⟨S16x17408, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c : Ref sig .tc := ⟨.hbm, 56, rfl⟩
abbrev main_call1_v0 : Ref sig .tc := ⟨.hbm, 57, rfl⟩
abbrev main_v33 : Ref sig .tc := ⟨.hbm, 58, rfl⟩
abbrev main_v34 : Ref sig .tc := ⟨.hbm, 59, rfl⟩

abbrev nD : Nat := 1
abbrev τ : Topo := Topo.v7x

variable {F : FTy → Type} [FloatOps F]
-- ==== Stick.lean ====
abbrev S17408x1024 : Shape := ⟨2, ![17408, 1024]⟩
abbrev S4x1024x4096 : Shape := ⟨3, ![4, 1024, 4096]⟩
abbrev S16 : Shape := ⟨1, ![16]⟩
abbrev S40 : Shape := ⟨1, ![40]⟩
abbrev S256x256 : Shape := ⟨2, ![256, 256]⟩
abbrev S16384x1024 : Shape := ⟨2, ![16384, 1024]⟩
abbrev S1024x256 : Shape := ⟨2, ![1024, 256]⟩
abbrev S1 : Shape := ⟨1, ![1]⟩
abbrev S1x256x256 : Shape := ⟨3, ![1, 256, 256]⟩
abbrev S4x1024x1 : Shape := ⟨3, ![4, 1024, 1]⟩
abbrev S1x256 : Shape := ⟨2, ![1, 256]⟩
abbrev S256x1 : Shape := ⟨2, ![256, 1]⟩
abbrev S1x1024x1 : Shape := ⟨3, ![1, 1024, 1]⟩
abbrev S1024x1 : Shape := ⟨2, ![1024, 1]⟩
abbrev S768x256 : Shape := ⟨2, ![768, 256]⟩
abbrev S1x768x1 : Shape := ⟨3, ![1, 768, 1]⟩
abbrev S768x1 : Shape := ⟨2, ![768, 1]⟩
abbrev S512x256 : Shape := ⟨2, ![512, 256]⟩
abbrev S1x512x1 : Shape := ⟨3, ![1, 512, 1]⟩
abbrev S512x1 : Shape := ⟨2, ![512, 1]⟩
abbrev S1x256x1 : Shape := ⟨3, ![1, 256, 1]⟩

abbrev nBuf : Space → Nat
  | .hbm => 6
  | .vmem => 11
  | .smem => 3
  | _ => 0

abbrev bufTy : (tb : Table) → Fin (tcTables nBuf tb) → BufTy
  | .hbm, ⟨0, _⟩ => ⟨S17408x1024, .f32⟩
  | .hbm, ⟨1, _⟩ => ⟨S4x1024x4096, .f32⟩
  | .hbm, ⟨2, _⟩ => ⟨S4x1024x4096, .f32⟩
  | .hbm, ⟨3, _⟩ => ⟨S16, .f32⟩
  | .hbm, ⟨4, _⟩ => ⟨S256x256, .bf16⟩
  | .hbm, ⟨5, _⟩ => ⟨S16384x1024, .f32⟩
  | .local _ .vmem, ⟨0, _⟩ => ⟨S1024x256, .f32⟩
  | .local _ .vmem, ⟨1, _⟩ => ⟨S1024x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S256x256, .bf16⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S4x1024x1, .f32⟩
  | .local _ .smem, ⟨0, _⟩ => ⟨S40, .i32⟩
  | .local _ .smem, ⟨1, _⟩ => ⟨S40, .i32⟩
  | .local _ .smem, ⟨2, _⟩ => ⟨S16, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg6 : Ref sig .tc := ⟨.hbm, 4, rfl⟩
abbrev main_v0 : Ref sig .tc := ⟨.hbm, 5, rfl⟩
abbrev main_arg4 : Ref sig .tc := ⟨.smem, 0, rfl⟩
abbrev main_arg5 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 40], ![false, false, false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_off2 (i : grid0.Coords) (c0_i32_31 : BitVec 32) : Fin 1 → Nat :=
  let arg1 : BitVec 32 := BitVec.ofNat 32 (i 1).val
  let c4_i32_30 : BitVec 32 := 4#32
  let v71 : BitVec 32 := Scalar.muli arg1 c4_i32_30
  let v72 : BitVec 32 := Scalar.addi v71 c0_i32_31
  let v73 : Index := Scalar.indexCast v72
  ![v73.toNat]
def k0_off3 (i : grid0.Coords) (c0_i32_30 : BitVec 32) : Fin 1 → Nat :=
  let arg1 : BitVec 32 := BitVec.ofNat 32 (i 1).val
  let c4_i32_29 : BitVec 32 := 4#32
  let v71 : BitVec 32 := Scalar.muli arg1 c4_i32_29
  let v72 : BitVec 32 := Scalar.addi v71 c0_i32_30
  let v73 : Index := Scalar.indexCast v72
  ![v73.toNat]
def k0_off4 (i : grid0.Coords) (c0_i32_29 : BitVec 32) : Fin 1 → Nat :=
  let arg1 : BitVec 32 := BitVec.ofNat 32 (i 1).val
  let c4_i32_28 : BitVec 32 := 4#32
  let v71 : BitVec 32 := Scalar.muli arg1 c4_i32_28
  let v72 : BitVec 32 := Scalar.addi v71 c0_i32_29
  let v73 : Index := Scalar.indexCast v72
  ![v73.toNat]
def k0_off5 (i : grid0.Coords) (c0_i32_29 : BitVec 32) : Fin 1 → Nat :=
  let arg1 : BitVec 32 := BitVec.ofNat 32 (i 1).val
  let c4_i32_28 : BitVec 32 := 4#32
  let v71 : BitVec 32 := Scalar.muli arg1 c4_i32_28
  let v72 : BitVec 32 := Scalar.addi v71 c0_i32_29
  let v73 : Index := Scalar.indexCast v72
  ![v73.toNat]
def k0_off6 (i : grid0.Coords) (c0_i32_30 : BitVec 32) : Fin 1 → Nat :=
  let arg1 : BitVec 32 := BitVec.ofNat 32 (i 1).val
  let c4_i32_29 : BitVec 32 := 4#32
  let v61 : BitVec 32 := Scalar.muli arg1 c4_i32_29
  let v62 : BitVec 32 := Scalar.addi v61 c0_i32_30
  let v63 : Index := Scalar.indexCast v62
  ![v63.toNat]
def k0_cond7 (v3 : BitVec 32) : BitVec 1 :=
  let c0_i32_13 : BitVec 32 := 0#32
  let v40 : BitVec 1 := Scalar.cmpi .eq v3 c0_i32_13
  let v41 : BitVec 32 := Scalar.extui v40
  let c0_i32_14 : BitVec 32 := 0#32
  let v42 : BitVec 1 := Scalar.cmpi .ne v41 c0_i32_14
  v42

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S40) ![v1.toNat] S1.size (k0_off1_inb i)) numel1_S1
  let v3 : BitVec 32 := Scalar.addi v0 v2
  let c0_i32 : BitVec 32 := 0#32
  ![v3.toNat, arg1.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S40) ![v0.toNat] S1.size (k0_off1_inb i)) numel1_S1
  let c0_i32 : BitVec 32 := 0#32
  ![arg0.toNat, arg1.toNat, v1.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S40) ![v0.toNat] S1.size (k0_off1_inb i)) numel1_S1
  let c0_i32 : BitVec 32 := 0#32
  ![arg0.toNat, arg1.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S40) ![v1.toNat] S1.size (k0_off1_inb i)) numel1_S1
  let v3 : BitVec 32 := Scalar.addi v0 v2
  let c0_i32 : BitVec 32 := 0#32
  ![v3.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== StickIdeal.lean ====
variable {F : FTy → Type} [FloatOps F] [Named F]
def κ : String → Option EReal := fun
  | "log2e" => some (((Real.log 2)⁻¹ : ℝ) : EReal)
  | "scale" => some (((8 * (Real.log 2))⁻¹ : ℝ) : EReal)
  | _ => none
-- ==== StickReferenceIdeal.lean ====
abbrev S17408x1024 : Shape := ⟨2, ![17408, 1024]⟩
abbrev S4x1024x4096 : Shape := ⟨3, ![4, 1024, 4096]⟩
abbrev S16 : Shape := ⟨1, ![16]⟩
abbrev S40 : Shape := ⟨1, ![40]⟩
abbrev S256x256 : Shape := ⟨2, ![256, 256]⟩
abbrev S16384x1024 : Shape := ⟨2, ![16384, 1024]⟩
abbrev S4x4096x16x64 : Shape := ⟨4, ![4, 4096, 16, 64]⟩
abbrev S4x16x64x4096 : Shape := ⟨4, ![4, 16, 64, 4096]⟩
abbrev S4x16x4096x4096 : Shape := ⟨4, ![4, 16, 4096, 4096]⟩
abbrev S_ : Shape := ⟨0, ![]⟩
abbrev S1x16x1x1 : Shape := ⟨4, ![1, 16, 1, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩

abbrev nBuf : Space → Nat
  | .hbm => 59
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S4x1024x4096, .f32⟩
  | .hbm, ⟨2, _⟩ => ⟨S4x1024x4096, .f32⟩
  | .hbm, ⟨3, _⟩ => ⟨S16, .f32⟩
  | .hbm, ⟨4, _⟩ => ⟨S40, .i32⟩
  | .hbm, ⟨5, _⟩ => ⟨S40, .i32⟩
  | .hbm, ⟨6, _⟩ => ⟨S256x256, .bf16⟩
  | .hbm, ⟨7, _⟩ => ⟨S16384x1024, .f32⟩
  | .hbm, ⟨8, _⟩ => ⟨S4x4096x16x64, .f32⟩
  | .hbm, ⟨9, _⟩ => ⟨S4x16x64x4096, .f32⟩
  | .hbm, ⟨10, _⟩ => ⟨S4x16x64x4096, .f32⟩
  | .hbm, ⟨11, _⟩ => ⟨S4x16x4096x4096, .f32⟩
  | .hbm, ⟨12, _⟩ => ⟨S_, .f32⟩
  | .hbm, ⟨13, _⟩ => ⟨S4x16x4096x4096, .f32⟩
  | .hbm, ⟨14, _⟩ => ⟨S4x16x4096x4096, .f32⟩
  | .hbm, ⟨15, _⟩ => ⟨S1x16x1x1, .f32⟩
  | .hbm, ⟨16, _⟩ => ⟨S4x16x4096x4096, .f32⟩
  | .hbm, ⟨17, _⟩ => ⟨S4x16x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S1x1x4096x4096, .i1⟩
  | .hbm, ⟨25, _⟩ => ⟨S4096x1, .i32⟩
  | .hbm, ⟨26, _⟩ => ⟨S1x4096, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S4096x4096, .f32⟩
  | .hbm, ⟨31, _⟩ => ⟨S4x16x4096x4096, .f32⟩
  | .hbm, ⟨32, _⟩ => ⟨S_, .f32⟩
  | .hbm, ⟨33, _⟩ => ⟨S4x16x4096x4096, .f32⟩
  | .hbm, ⟨34, _⟩ => ⟨S4x16x4096x4096, .f32⟩
  | .hbm, ⟨35, _⟩ => ⟨S4x16x4096x4096, .f32⟩
  | .hbm, ⟨36, _⟩ => ⟨S4x16x4096x4096, .f32⟩
  | .hbm, ⟨37, _⟩ => ⟨S_, .f32⟩
  | .hbm, ⟨38, _⟩ => ⟨S_, .f32⟩
  | .hbm, ⟨39, _⟩ => ⟨S4x16x4096x4096, .i1⟩
  | .hbm, ⟨40, _⟩ => ⟨S4x16x4096x4096, .f32⟩
  | .hbm, ⟨41, _⟩ => ⟨S4x16x4096x4096, .f32⟩
  | .hbm, ⟨42, _⟩ => ⟨S4x16x4096x4096, .f32⟩
  | .hbm, ⟨43, _⟩ => ⟨S4x16x4096x4096, .f32⟩
  | .hbm, ⟨44, _⟩ => ⟨S4x16x4096x4096, .f32⟩
  | .hbm, ⟨45, _⟩ => ⟨S_, .f32⟩
  | .hbm, ⟨46, _⟩ => ⟨S4x16x4096x4096, .f32⟩
  | .hbm, ⟨47, _⟩ => ⟨S4x16x4096x4096, .f32⟩
  | .hbm, ⟨48, _⟩ => ⟨S4x16x4096x4096, .f32⟩
  | .hbm, ⟨49, _⟩ => ⟨S4x16x4096x4096, .f32⟩
  | .hbm, ⟨50, _⟩ => ⟨S4x16x4096x4096, .f32⟩
  | .hbm, ⟨51, _⟩ => ⟨S_, .f32⟩
  | .hbm, ⟨52, _⟩ => ⟨S_, .f32⟩
  | .hbm, ⟨53, _⟩ => ⟨S4x16x4096x4096, .i1⟩
  | .hbm, ⟨54, _⟩ => ⟨S4x16x4096x4096, .f32⟩
  | .hbm, ⟨55, _⟩ => ⟨S4x16x4096x4096, .f32⟩
  | .hbm, ⟨56, _⟩ => ⟨S4x16x64x4096, .f32⟩
  | .hbm, ⟨57, _⟩ => ⟨S4x4096x16x64, .f32⟩
  | .hbm, ⟨58, _⟩ => ⟨S16384x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Proof.Rows.lean ====
/-
  One token's row through a layer's dense parts: the normalisation, the gated feed-forward half step, and the facts about
  sums of extended reals a blocked reduction needs.
-/
module

public import Idealize.ShloMosaic.Lib.Pipeline.ValueKit

@[expose] public section

noncomputable section

open Idealize.ShloMosaic

namespace Rows

/-- The row, divided by its root mean square and scaled channel by channel. -/
def rms (x g : Fin 1024 → EReal) (k : Fin 1024) : EReal :=
  x k * Ideal.rsqrt (Ideal.div (∑ j, x j * x j) (Ideal.ofBits .f32 1149239296#32) + Ideal.ofBits .f32 897988541#32) * g k

/-- The logistic function. -/
def sigm (s : EReal) : EReal := Ideal.div 1 (1 + Ideal.exp (-s))

/-- One hidden unit: the gate's product with its logistic, times the other projection. -/
def unit (h wg wu : Fin 1024 → EReal) : EReal :=
  (∑ y, h y * wg y) * sigm (∑ y, h y * wg y) * ∑ y, h y * wu y

/-- One half. -/
def half : EReal := Ideal.ofBits .f32 1056964608#32

/-- The feed-forward half step of one row. -/
def ffn (x g : Fin 1024 → EReal) (wi : Fin 1024 → Fin 5632 → EReal) (wo : Fin 2816 → Fin 1024 → EReal) (k : Fin 1024) : EReal :=
  x k + half * ∑ f : Fin 2816, unit (rms x g) (fun y => wi y ⟨f, by omega⟩) (fun y => wi y ⟨2816 + f, by omega⟩) * wo f k

theorem half_eq : half = ((1 / 2 : ℝ) : EReal) := by
  unfold half
  simp [Ideal.ofBits, Ideal.ieee, -EReal.coe_mul]
  norm_num

theorem half_add (a b : EReal) : half * (a + b) = half * a + half * b :=
  EReal.left_distrib_of_nonneg_of_ne_top (by rw [half_eq]; exact_mod_cast (by norm_num : (0 : ℝ) ≤ 1 / 2))
    (by rw [half_eq]; exact EReal.coe_ne_top _) a b

/-- The half goes into a sum. -/
theorem half_sum {ι : Type} (s : Finset ι) (f : ι → EReal) : half * ∑ i ∈ s, f i = ∑ i ∈ s, half * f i := by
  classical
  induction s using Finset.induction_on with
  | empty => simp
  | insert a s h ih => rw [Finset.sum_insert h, Finset.sum_insert h, half_add, ih]

/-- A quantity that every `J` points starts from `a` plus the point's term and otherwise gains the point's term: the run's
    start plus the terms of the run's points so far. -/
theorem run_sum {N : ℕ} (f : (n : ℕ) → n < N → EReal) (J : ℕ) (a b : ℕ → EReal) (hJ : 0 < J)
    (h0 : ∀ t : Fin N, t.val % J = 0 → f t.val t.isLt = a t.val + b t.val)
    (hs : ∀ t : Fin N, ¬t.val % J = 0 → f t.val t.isLt = f (t.val - 1) (Nat.lt_of_le_of_lt (Nat.sub_le _ _) t.isLt) + b t.val)
    (t : Fin N) :
    f t.val t.isLt = a (J * (t.val / J)) + ∑ k ∈ Finset.range (t.val % J + 1), b (J * (t.val / J) + k) := by
  rw [Pipeline.eq_sum_of_reset_step f J 0 (fun p => (if p % J = 0 then a p else 0) + b p)
    (fun t h => by rw [h0 t h, if_pos h, zero_add]) (fun t h => by rw [hs t h, if_neg h, zero_add]) t, zero_add,
    Finset.sum_add_distrib]
  congr 1
  rw [Finset.sum_eq_single 0]
  · rw [if_pos (by simp), Nat.add_zero]
  · intro k hk hk0
    have hk' : k < t.val % J + 1 := Finset.mem_range.mp hk
    have : t.val % J < J := Nat.mod_lt _ hJ
    rw [if_neg]
    rw [Nat.mul_add_mod, Nat.mod_eq_of_lt (by omega)]
    exact hk0
  · intro h
    exact absurd (Finset.mem_range.mpr (by omega)) h

end Rows
end
-- ==== Proof.Ffn.Kernel.lean ====
/-
  The feed-forward call: what the accumulating output block holds after the last of its eleven points, and the array.
-/
module

public import proofs.«01_k».proof.Proof.Gen.FfnIdeal.Value
public import proofs.«01_k».proof.Proof.Rows
public import Idealize.ShloMosaic.Lib.StableHlo.ReadAt
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.FfnIdeal Cert.FfnIdeal.Gen

namespace Ffn

/-- The call's result: every row through the half step. -/
def G (x0 : Vec Ideal S17408x1024 .f32) (x1 : Vec Ideal S1024 .f32) (x2 : Vec Ideal S1024x5632 .f32) (x3 : Vec Ideal S2816x1024 .f32) :
    Vec Ideal S17408x1024 .f32 := fun y =>
  Rows.ffn (fun k => x0 (ix2 (y 0) k)) (fun k => x1 (ix1 k)) (fun y f => x2 (ix2 y f)) (fun f k => x3 (ix2 f k)) (y 1)

namespace Kernel

variable (m : (ℓ : Loc nD τ sig) → Buf (Elt Ideal) ℓ)

theorem pay1 (x : Vec Ideal S1024x1024 .f32) (g : Vec Ideal S1x1024 .f32) (r k : Fin 1024) :
    k0_pay1 (F := Ideal) x g (ix2 r k) = Rows.rms (fun k => x (ix2 r k)) (fun k => g (ix2 0 k)) k := by
  pointwise [k0_pay1]
  rfl

/-- The points' blocks, applied: the block adds half of its 256 hidden units' share. -/
theorem pay2 (h : Vec Ideal S1024x1024 .bf16) (wg wu : Vec Ideal S1024x256 .bf16) (o : Vec Ideal S1024x1024 .f32) (wo : Vec Ideal S256x1024 .bf16) (r k : Fin 1024) :
    k0_pay2 (F := Ideal) h wg wu o wo (ix2 r k) = o (ix2 r k) + Rows.half * ∑ q : Fin 256,
      Rows.unit (fun y => h (ix2 r y)) (fun y => wg (ix2 y q)) (fun y => wu (ix2 y q)) * wo (ix2 q k) := by
  pointwise [k0_pay2]
  simp only [zero_sub]
  rfl

theorem oA (c : Dev nD) (t : Fin cfg0.N) (h0 : t.val % 11 = 0) : outsAt0 m c t.val t.isLt =
    (k0_pay2 (k0_pay1 (iblk m c 0 t) (iblk m c 1 t)) (iblk m c 2 t) (iblk m c 3 t) (iblk m c 0 t) (iblk m c 4 t), k0_pay1 (iblk m c 0 t) (iblk m c 1 t)) := by
  rw [outsAt0_A m c t h0]
  frame_out

theorem oB (c : Dev nD) (t : Fin cfg0.N) (h0 : ¬ t.val % 11 = 0) : outsAt0 m c t.val t.isLt =
    (k0_pay2 (outsAt0 m c (t.val - 1) (Nat.lt_of_le_of_lt (Nat.sub_le _ _) t.isLt)).2 (iblk m c 2 t) (iblk m c 3 t) (outsAt0 m c (t.val - 1) (Nat.lt_of_le_of_lt (Nat.sub_le _ _) t.isLt)).1 (iblk m c 4 t), (outsAt0 m c (t.val - 1) (Nat.lt_of_le_of_lt (Nat.sub_le _ _) t.isLt)).2) := by
  rw [outsAt0_B m c t h0]
  refine Prod.ext ?_ rfl
  frame_out
  simp only [read_unread_whole]

theorem idx : ∀ t : Fin cfg0.N, win0_0.index t = ![t.val / 11, 0] ∧ win0_1.index t = ![0, 0] ∧ win0_2.index t = ![0, t.val % 11]
    ∧ win0_3.index t = ![0, 11 + t.val % 11] ∧ win0_4.index t = ![t.val % 11, 0] ∧ win0_5.index t = ![t.val / 11, 0] :=
  (by decide +kernel : ∀ t : Fin grid0.N, _)

/-! ### The arrays the host prepares -/

theorem hv0 (c : Dev nD) (y : Fin 1024) (f : Fin 5632) : V m c main_v0 (ix2 y f) = m ((c : Thread nD τ).loc main_arg2) (ix2 y f) := by
  unfold V
  after_reads_at
theorem hv1 (c : Dev nD) (f : Fin 2816) (k : Fin 1024) : V m c main_v1 (ix2 f k) = m ((c : Thread nD τ).loc main_arg3) (ix2 f k) := by
  unfold V
  after_reads_at
theorem hv2 (c : Dev nD) (k : Fin 1024) : V m c main_v2 (ix2 0 k) = m ((c : Thread nD τ).loc main_arg1) (ix1 k) := by
  unfold V
  after_reads_at

/-! ### The blocks -/

theorem b0 (c : Dev nD) (t : Fin cfg0.N) (r k : Fin 1024) :
    iblk m c 0 t (ix2 r k) = m ((c : Thread nD τ).loc main_arg0) (ix2 ⟨1024 * (t.val / 11) + r, by have : t.val < 187 := t.isLt; omega⟩ k) := by
  blk_ext [iblk, V, idx t]
theorem b1 (c : Dev nD) (t : Fin cfg0.N) (k : Fin 1024) :
    iblk m c 1 t (ix2 0 k) = m ((c : Thread nD τ).loc main_arg1) (ix1 k) := by
  rw [← hv2 m c]
  blk_ext [iblk, idx t]
theorem b2 (c : Dev nD) (t : Fin cfg0.N) (y : Fin 1024) (q : Fin 256) :
    iblk m c 2 t (ix2 y q) = m ((c : Thread nD τ).loc main_arg2) (ix2 y ⟨t.val % 11 * 256 + q, by omega⟩) := by
  rw [← hv0 m c]
  blk_ext [iblk, idx t]
theorem b3 (c : Dev nD) (t : Fin cfg0.N) (y : Fin 1024) (q : Fin 256) :
    iblk m c 3 t (ix2 y q) = m ((c : Thread nD τ).loc main_arg2) (ix2 y ⟨2816 + (t.val % 11 * 256 + q), by omega⟩) := by
  rw [← hv0 m c]
  blk_ext [iblk, idx t]
theorem b4 (c : Dev nD) (t : Fin cfg0.N) (q : Fin 256) (k : Fin 1024) :
    iblk m c 4 t (ix2 q k) = m ((c : Thread nD τ).loc main_arg3) (ix2 ⟨t.val % 11 * 256 + q, by omega⟩ k) := by
  rw [← hv1 m c]
  blk_ext [iblk, idx t]

end Kernel
end Ffn
end
-- ==== Proof.Ffn.Arr.lean ====
/-
  The feed-forward call: the eleven points of a row block add up to the half step, and the blocks make the result.
-/
module

public import proofs.«01_k».proof.Proof.Ffn.Kernel

@[expose] public section

set_option maxRecDepth 16384

noncomputable section

open Idealize.ShloMosaic Idealize.ShloMosaic.TcCoe Idealize.SL.Sem
open Cert.FfnIdeal Cert.FfnIdeal.Gen
open Idealize.ShloMosaic.Pipeline (Dat)

namespace Ffn.Kernel

variable (m : (ℓ : Loc nD τ sig) → Buf (Elt Ideal) ℓ)

/-- The kernel's result as a function of the launch's arrays. -/
def R (c : Dev nD) : Vec Ideal S17408x1024 .f32 :=
  G (m ((c : Thread nD τ).loc main_arg0)) (m ((c : Thread nD τ).loc main_arg1)) (m ((c : Thread nD τ).loc main_arg2)) (m ((c : Thread nD τ).loc main_arg3))

/-- Row `r` of row block `i`. -/
def row (c : Dev nD) (i : Fin 17) (r : Fin 1024) (k : Fin 1024) : EReal :=
  m ((c : Thread nD τ).loc main_arg0) (ix2 ⟨1024 * i + r, by omega⟩ k)

/-- The normalisation's scales. -/
def scales (c : Dev nD) (k : Fin 1024) : EReal := m ((c : Thread nD τ).loc main_arg1) (ix1 k)

/-- Hidden unit `f`'s share of channel `k` of the row. -/
def share (c : Dev nD) (i : Fin 17) (r k : Fin 1024) (f : Fin 2816) : EReal :=
  Rows.unit (Rows.rms (row m c i r) (scales m c)) (fun y => m ((c : Thread nD τ).loc main_arg2) (ix2 y ⟨f, by omega⟩))
    (fun y => m ((c : Thread nD τ).loc main_arg2) (ix2 y ⟨2816 + f, by omega⟩)) * m ((c : Thread nD τ).loc main_arg3) (ix2 f k)

/-- The row block of a point. -/
def blkOf (t : Fin cfg0.N) : Fin 17 := ⟨t.val / 11, by have : t.val < 187 := t.isLt; omega⟩

/-- The normalised rows a point works with. -/
theorem norm_eq (c : Dev nD) (t : Fin cfg0.N) (r k : Fin 1024) :
    k0_pay1 (F := Ideal) (iblk m c 0 t) (iblk m c 1 t) (ix2 r k) = Rows.rms (row m c (blkOf t) r) (scales m c) k := by
  rw [pay1]
  simp only [b0, b1]
  rfl

/-- The scratch holds the normalised rows after every point. -/
theorem scratch (c : Dev nD) (n : ℕ) (hn : n < cfg0.N) (r k : Fin 1024) :
    (outsAt0 m c n hn).2 (ix2 r k) = Rows.rms (row m c (blkOf ⟨n, hn⟩) r) (scales m c) k := by
  induction n with
  | zero => rw [oA m c ⟨0, hn⟩ rfl]; exact norm_eq m c ⟨0, hn⟩ r k
  | succ n ih =>
    by_cases h : (n + 1) % 11 = 0
    · rw [oA m c ⟨n + 1, hn⟩ h]; exact norm_eq m c ⟨n + 1, hn⟩ r k
    · rw [oB m c ⟨n + 1, hn⟩ h]
      refine (ih (by omega)).trans ?_
      have : blkOf ⟨n, by omega⟩ = blkOf ⟨n + 1, hn⟩ := Fin.ext (by show n / 11 = (n + 1) / 11; omega)
      rw [this]

/-- Half of the share of the 256 hidden units of place `j`. -/
def part (c : Dev nD) (i : Fin 17) (r k : Fin 1024) (j : Fin 11) : EReal :=
  ∑ q : Fin 256, Rows.half * share m c i r k ⟨j * 256 + q, by omega⟩

/-- What a point adds. -/
theorem step (c : Dev nD) (t : Fin cfg0.N) (h : Vec Ideal S1024x1024 .bf16) (o : Vec Ideal S1024x1024 .f32) (r k : Fin 1024)
    (hh : ∀ y, h (ix2 r y) = Rows.rms (row m c (blkOf t) r) (scales m c) y) :
    k0_pay2 (F := Ideal) h (iblk m c 2 t) (iblk m c 3 t) o (iblk m c 4 t) (ix2 r k)
      = o (ix2 r k) + part m c (blkOf t) r k ⟨t.val % 11, Nat.mod_lt _ (by decide)⟩ := by
  rw [pay2, Rows.half_sum]
  simp only [hh, b2, b3, b4]
  rfl

/-- The output block after the last point of its run. -/
theorem acc (c : Dev nD) (t : Fin cfg0.N) (ht : t.val % 11 = 10) (r k : Fin 1024) :
    (outsAt0 m c t.val t.isLt).1 (ix2 r k)
      = row m c (blkOf t) r k + ∑ j : Fin 11, part m c (blkOf t) r k j := by
  have e := Rows.run_sum (N := cfg0.N) (fun n hn => (outsAt0 m c n hn).1 (ix2 r k)) 11
    (fun p => if hp : p < cfg0.N then row m c (blkOf ⟨p, hp⟩) r k else 0)
    (fun p => if hp : p < cfg0.N then part m c (blkOf ⟨p, hp⟩) r k ⟨p % 11, Nat.mod_lt _ (by decide)⟩ else 0) (by decide)
    (fun t h0 => by
      beta_reduce
      rw [dif_pos t.isLt, dif_pos t.isLt, oA m c t h0]
      dsimp only
      rw [step m c t _ _ r k fun y => norm_eq m c t r y, b0]
      rfl)
    (fun t h0 => by
      beta_reduce
      rw [dif_pos t.isLt, oB m c t h0]
      dsimp only
      rw [step m c t _ _ r k fun y => ?_]
      have : blkOf ⟨t.val - 1, Nat.lt_of_le_of_lt (Nat.sub_le _ _) t.isLt⟩ = blkOf t := Fin.ext (by show (t.val - 1) / 11 = t.val / 11; omega)
      rw [scratch, this]) t
  refine e.trans ?_
  have hN : t.val < 187 := t.isLt
  have hb : ∀ j (hj : j < 11) (hp : 11 * (t.val / 11) + j < cfg0.N), blkOf ⟨11 * (t.val / 11) + j, hp⟩ = blkOf t := fun j hj hp =>
    Fin.ext (by show (11 * (t.val / 11) + j) / 11 = t.val / 11; omega)
  have hlt : ∀ j, j < 11 → 11 * (t.val / 11) + j < cfg0.N := fun j hj => by show _ < 187; omega
  congr 1
  · rw [dif_pos (show 11 * (t.val / 11) < cfg0.N from hlt 0 (by decide))]
    exact congrArg (fun i => row m c i r k) (hb 0 (by decide) _)
  · rw [ht, Finset.sum_range]
    refine Finset.sum_congr rfl fun j _ => ?_
    rw [dif_pos (hlt j j.isLt), hb j j.isLt]
    exact congrArg _ (Fin.ext (by show (11 * (t.val / 11) + j.val) % 11 = j.val; omega))

/-- The places' parts together are half of the units' shares. -/
theorem parts (c : Dev nD) (i : Fin 17) (r k : Fin 1024) :
    ∑ j : Fin 11, part m c i r k j = Rows.half * ∑ f : Fin 2816, share m c i r k f := by
  rw [Rows.half_sum]
  exact Fin.sum_mul_add_congr fun s q hl => rfl

/-- The array after the run. -/
theorem final (c : Dev nD) : (dats m 0 c).arrAt 5 cfg0.N = R m c := by
  refine (dats m 0 c).arrAt_eq_of_covers 5 _ (by decide +kernel) fun t hf y => ?_
  have ht : t.val % 11 = 10 := (flush0_5 t).mp hf
  blk_simp
  rw [after0_5]
  obtain ⟨r, k, hy⟩ : ∃ (r k : Fin 1024), y = ix2 r k := ⟨y 0, y 1, eq_ix2 y⟩
  subst hy
  have hi : (win0_5.blk t).view.emb (ix2 r k) = ix2 ⟨1024 * (t.val / 11) + r.val, by have : t.val < 187 := t.isLt; omega⟩ k := by
    blk_point [idx t]
  rw [hi]
  refine (acc m c t ht r k).trans ?_
  rw [parts]
  rfl

end Ffn.Kernel
end
-- ==== Proof.Ffn.Claim.lean ====
/-
  The claims about the feed-forward call: the kernel's result is the reference's, with no precondition.
-/
module

public import proofs.«01_k».proof.Defs
public import proofs.«01_k».proof.Proof.Ffn.Arr
public import proofs.«01_k».proof.Proof.Gen.FfnReferenceIdeal.Read
public import proofs.«01_k».proof.Proof.Gen.FfnReferenceIdeal.Run
public import Idealize.ShloMosaic.Lib.Quiescent

@[expose] public section

set_option maxRecDepth 16384

noncomputable section

open Idealize.ShloMosaic Idealize.ShloMosaic.TcCoe Idealize.SL.Sem

namespace Ffn.Claim

section
open Cert.FfnReferenceIdeal Cert.FfnReferenceIdeal.Read

/-- The reference's result, read row by row. -/
theorem reference_eq (x0 : Vec Ideal S17408x1024 .f32) (x1 : Vec Ideal S1024 .f32) (x2 : Vec Ideal S1024x5632 .f32) (x3 : Vec Ideal S2816x1024 .f32) :
    val_main_v21 (F := Ideal) x0 x1 x2 x3 = G x0 x1 x2 x3 := by
  funext y
  obtain ⟨r, k, hy⟩ : ∃ (r : Fin 17408) (k : Fin 1024), y = ix2 r k := ⟨y 0, y 1, eq_ix2 y⟩
  subst hy
  pointwise [val_main_v0, val_main_cst, val_main_v1, val_main_v2, val_main_cst_0, val_main_v3, val_main_v4, val_main_cst_1,
    val_main_v5, val_main_v6, val_main_v7, val_main_v8, val_main_v9, val_main_v10, val_main_v11, val_main_v12, val_main_v13,
    val_main_v14, val_main_v15, val_main_call0_v0, val_main_call0_v1, val_main_call0_cst, val_main_call0_v2, val_main_call0_v3,
    val_main_call0_cst_0, val_main_call0_v4, val_main_call0_v5, val_main_v16, val_main_v17, val_main_v18, val_main_cst_2,
    val_main_v19, val_main_v20, val_main_v21]
  rfl
end

/-- The reference runs and leaves its arguments and the semaphores as they were. -/
theorem frame_reference : Cert.quiescent_FfnReferenceIdeal := fun m ρ _ =>
  (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)

/-- The reference's result over contents that hold the kernel's arguments. -/
theorem reference_value {m} {c : Dev Cert.FfnIdeal.nD} (m' : (ℓ : Loc Cert.FfnReferenceIdeal.nD Cert.FfnReferenceIdeal.τ Cert.FfnReferenceIdeal.sig) → Buf (Elt Ideal) ℓ)
    (h : m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) :
    Cert.FfnReferenceIdeal.Read.val_main_v21 (F := Ideal) (m' ((c.tc : Thread Cert.FfnReferenceIdeal.nD Cert.FfnReferenceIdeal.τ).loc Cert.FfnReferenceIdeal.main_arg0))
        (m' ((c.tc : Thread Cert.FfnReferenceIdeal.nD Cert.FfnReferenceIdeal.τ).loc Cert.FfnReferenceIdeal.main_arg1))
        (m' ((c.tc : Thread Cert.FfnReferenceIdeal.nD Cert.FfnReferenceIdeal.τ).loc Cert.FfnReferenceIdeal.main_arg2))
        (m' ((c.tc : Thread Cert.FfnReferenceIdeal.nD Cert.FfnReferenceIdeal.τ).loc Cert.FfnReferenceIdeal.main_arg3))
      = Kernel.R m c := by
  obtain ⟨h0, h1, h2, h3⟩ := h
  rw [h0, h1, h2, h3]
  exact reference_eq _ _ _ _

/-- The kernel's result is the reference's. -/
theorem algebraic : Cert.algebraic_FfnIdeal_FfnReferenceIdeal := by
  intro m ρ m' ρ' _ hagree
  refine ⟨fun c => Kernel.R m c, ?_, ?_⟩
  · exact (θ_run Cert.FfnIdeal.defs _ _).mono (fun _ h c => ⟨(h c).1.trans (Kernel.final m c), (h c).2⟩)
      (Cert.FfnIdeal.Value.run_blocks (F := Ideal) m ρ)
  · exact (θ_run Cert.FfnReferenceIdeal.defs _ _).mono
      (fun _ h c => ⟨(h c).1.trans (Cert.FfnReferenceIdeal.Read.val_main_v21_eq _ _ _ _ |>.trans (reference_value m' (hagree c))),
        (h c).2⟩)
      (Cert.FfnReferenceIdeal.Value.run (F := Ideal) m' ρ')

end Ffn.Claim
end
-- ==== Proof.Final.FrameIdeal.lean ====
/- The frame of the last embedding's kernel, `FinalIdeal`: seventeen grid points, one per tile of rows. The first sixteen store
   the prompt group's tile, the last one stores the sample group's, and the prompt group's last tile is written back
   only at the last point, where the body leaves that buffer alone. So the frame goes by two kinds of point. -/
module

public import proofs.«01_k».proof.Proof.Gen.FinalIdeal.Launch
public import proofs.«01_k».proof.Proof.Gen.FinalIdeal.Skeleton
public import proofs.«01_k».proof.Proof.Gen.FinalIdeal.Points
public import proofs.«01_k».proof.Proof.Gen.FinalIdeal.Frame
public import Idealize.ShloMosaic.Lib.Pipeline.FrameBody
public import Idealize.ShloMosaic.Lib.Claim
public import Idealize.ShloMosaic.Lib.Tactic

@[expose] public section

set_option maxRecDepth 16384

noncomputable section

namespace Cert.FinalIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two kinds of point -/

theorem prompt_on : ∀ t : Fin cfg0.N, t.val < 16 → k0_cond1 (grid0.coords t) = 1#1 :=
  (by decide +kernel : ∀ t : Fin grid0.N, t.val < 16 → k0_cond1 (grid0.coords t) = 1#1)

theorem sample_off : ∀ t : Fin cfg0.N, t.val < 16 → ¬k0_cond2 (grid0.coords t) = 1#1 :=
  (by decide +kernel : ∀ t : Fin grid0.N, t.val < 16 → ¬k0_cond2 (grid0.coords t) = 1#1)

theorem prompt_off : ∀ t : Fin cfg0.N, ¬t.val < 16 → ¬k0_cond1 (grid0.coords t) = 1#1 :=
  (by decide +kernel : ∀ t : Fin grid0.N, ¬t.val < 16 → ¬k0_cond1 (grid0.coords t) = 1#1)

theorem sample_on : ∀ t : Fin cfg0.N, ¬t.val < 16 → k0_cond2 (grid0.coords t) = 1#1 :=
  (by decide +kernel : ∀ t : Fin grid0.N, ¬t.val < 16 → k0_cond2 (grid0.coords t) = 1#1)

theorem live6 (t : Fin cfg0.N) (h : t.val < 16) : cfg0.idle 6 (cfg0.grid.coords t) = false := by
  change (!(k0_cond1 (grid0.coords t) == 1#1)) = false
  rw [prompt_on t h]; rfl

theorem idle7 (t : Fin cfg0.N) (h : t.val < 16) : cfg0.idle 7 (cfg0.grid.coords t) = true := by
  change (!(k0_cond2 (grid0.coords t) == 1#1)) = true
  rw [Bool.not_eq_true', beq_eq_false_iff_ne]; exact sample_off t h

theorem idle6 (t : Fin cfg0.N) (h : ¬t.val < 16) : cfg0.idle 6 (cfg0.grid.coords t) = true := by
  change (!(k0_cond1 (grid0.coords t) == 1#1)) = true
  rw [Bool.not_eq_true', beq_eq_false_iff_ne]; exact prompt_off t h

theorem live7 (t : Fin cfg0.N) (h : ¬t.val < 16) : cfg0.idle 7 (cfg0.grid.coords t) = false := by
  change (!(k0_cond2 (grid0.coords t) == 1#1)) = false
  rw [sample_on t h]; rfl

/-- The sample group's block is written back only at the last point. -/
theorem unflushed7 (t : Fin cfg0.N) (h : t.val < 16) : (cfg0.win 7).flush t = false :=
  Bool.eq_false_iff.mpr fun e => by have := (flush0_7 t).mp e; omega

/-- The prompt group's block is written back at every point but the last but one. -/
theorem flush0_6 : ∀ t : Fin cfg0.N, (cfg0.win 6).flush t = true ↔ t.val ≠ 15 :=
  (by decide +kernel : ∀ t : Fin grid0.N, win0_6.flush t = true ↔ t.val ≠ 15)

/-- The point whose tile the prompt group's buffer holds after point `t`: the last point keeps the tile before it. -/
def heldAt (t : Fin cfg0.N) : Fin cfg0.N := ⟨min t.val 15, Nat.lt_of_le_of_lt (Nat.min_le_left _ _) t.isLt⟩

theorem heldAt_eq (t : Fin cfg0.N) (h : t.val < 16) : heldAt t = t := Fin.ext (by unfold heldAt; dsimp only; omega)

/-! ## What the body stores -/

abbrev r0_0 : Rect S1024x1024 := Rect.unit (s := S1024x1024) ![0, 0] S1024x1024.size inb_S1024x1024_S1024x1024_0_0
abbrev r0_1 : Rect S1024x256 := Rect.unit (s := S1024x256) ![0, 0] S1024x256.size inb_S1024x256_S1024x256_0_0
abbrev r0_2 : Rect S1x1024 := Rect.unit (s := S1x1024) ![0, 0] S1x1024.size inb_S1x1024_S1x1024_0_0
abbrev r0_3 : Rect S256x1024 := Rect.unit (s := S256x1024) ![0, 0] S256x1024.size inb_S256x1024_S256x1024_0_0

/-- The tile the body computes from its six blocks, as a buffer it is stored into holds it. -/
def outRows (x0 : Vec F S1024x1024 .f32) (x1 : Vec F S1024x256 .f32) (x2 : Vec F S1x1024 .f32) (x3 : Vec F S256x1024 .bf16)
    (x4 : Vec F S1024x1024 .bf16) (x5 : Vec F S1x1024 .f32) : Vec F S1024x1024 .f32 :=
  View.canon [⟨r0_0, k0_pay1
    (k0_pay2 (View.ld x0 r0_0) (View.ld x2 r0_2) (View.ld x4 r0_0) (View.ld x1 r0_1) (View.ld x3 r0_3))
    (k0_pay3 (View.ld x5 r0_2))
    (k0_pay4 (View.ld x0 r0_0) (View.ld x2 r0_2) (View.ld x4 r0_0) (View.ld x1 r0_1) (View.ld x3 r0_3))⟩]

/-- The one store covers the buffer. -/
theorem coverRows (p0 : Vec F S1024x1024 .f32) (y : S1024x1024.Idx) :
    ∃ pc ∈ ([⟨r0_0, p0⟩] : List (View.Piece (Elt F) S1024x1024 .f32)), y ∈ pc.1.set :=
  View.cover_of_tiled [⟨r0_0, p0⟩] S1024x1024.size (by rfl) y

/-! ## The body's triples -/

section Body

variable (c : Dev nD) (E : Set ℕ) (i : grid0.Coords) (arg1 : Memref sig .tc .vmem S1024x1024 .f32) (harg1 : arg1.IsWhole)
  (arg2 : Memref sig .tc .vmem S1024x256 .f32) (harg2 : arg2.IsWhole) (arg3 : Memref sig .tc .vmem S1x1024 .f32) (harg3 : arg3.IsWhole)
  (arg4 : Memref sig .tc .vmem S256x1024 .bf16) (harg4 : arg4.IsWhole) (arg5 : Memref sig .tc .vmem S1024x1024 .bf16) (harg5 : arg5.IsWhole)
  (arg6 : Memref sig .tc .vmem S1x1024 .f32) (harg6 : arg6.IsWhole) (arg7 : Memref sig .tc .vmem S1024x1024 .f32) (harg7 : arg7.IsWhole)
  (arg8 : Memref sig .tc .vmem S1024x1024 .f32) (harg8 : arg8.IsWhole)
  (x0 : Vec F S1024x1024 .f32) (x1 : Vec F S1024x256 .f32) (x2 : Vec F S1x1024 .f32) (x3 : Vec F S256x1024 .bf16)
  (x4 : Vec F S1024x1024 .bf16) (x5 : Vec F S1x1024 .f32)

/-- The six staged blocks, owned. -/
def ins : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5)

set_option maxHeartbeats 1000000 in
/-- At a point of the prompt group the body stores the tile into the first output's buffer. -/
theorem body_prompt (hc1 : k0_cond1 i = 1#1) (hc2 : ¬k0_cond2 i = 1#1) (K : PUnit → sProp 𝕄) :
    iprop(ins c arg1 arg2 arg3 arg4 arg5 arg6 x0 x1 x2 x3 x4 x5 ∗ (∃ d, owns (c : Thread nD τ) arg7 fullShare d)
        ∗ (iprop(ins c arg1 arg2 arg3 arg4 arg5 arg6 x0 x1 x2 x3 x4 x5
            ∗ owns (c : Thread nD τ) arg7 fullShare (outRows x0 x1 x2 x3 x4 x5)) -∗ K ⟨⟩))
      ⊢ wp frame (wpE (defs₀ (F := F)) Variants.none c none) E
          (cc0_ple_final i arg1 harg1 arg2 harg2 arg3 harg3 arg4 harg4 arg5 harg5 arg6 harg6 arg7 harg7 arg8 harg8) K := by
  simp only [cc0_ple_final_eq_skeleton, k0_part1_eq_skeleton]; unfold cc0_ple_final_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, Hk⟩
  subst hf0 hf1 hf2 hf3 hf4 hf5
  sl_exec (disch := first | sl_exact hc1 | sl_exact hc2)
  sl_step
  iapply Hk
  isplitr [H6]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists f5; isplitr; · ipureintro; rfl
    iexact H5
  iexists _; isplitr
  swap; · iexact H6
  ipureintro
  exact View.read_writes_eq_canon _ _ _ (coverRows _)

set_option maxHeartbeats 1000000 in
/-- At the last point it stores the tile into the second output's buffer. -/
theorem body_sample (hc1 : ¬k0_cond1 i = 1#1) (hc2 : k0_cond2 i = 1#1) (K : PUnit → sProp 𝕄) :
    iprop(ins c arg1 arg2 arg3 arg4 arg5 arg6 x0 x1 x2 x3 x4 x5 ∗ (∃ d, owns (c : Thread nD τ) arg8 fullShare d)
        ∗ (iprop(ins c arg1 arg2 arg3 arg4 arg5 arg6 x0 x1 x2 x3 x4 x5
            ∗ owns (c : Thread nD τ) arg8 fullShare (outRows x0 x1 x2 x3 x4 x5)) -∗ K ⟨⟩))
      ⊢ wp frame (wpE (defs₀ (F := F)) Variants.none c none) E
          (cc0_ple_final i arg1 harg1 arg2 harg2 arg3 harg3 arg4 harg4 arg5 harg5 arg6 harg6 arg7 harg7 arg8 harg8) K := by
  simp only [cc0_ple_final_eq_skeleton, k0_part1_eq_skeleton]; unfold cc0_ple_final_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d7, %f7, -, H7⟩, Hk⟩
  subst hf0 hf1 hf2 hf3 hf4 hf5
  sl_exec (disch := first | sl_exact hc1 | sl_exact hc2)
  sl_step
  iapply Hk
  isplitr [H7]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists f5; isplitr; · ipureintro; rfl
    iexact H5
  iexists _; isplitr
  swap; · iexact H7
  ipureintro
  exact View.read_writes_eq_canon _ _ _ (coverRows _)

end Body

/-! ## The proof data -/

/-- The tile computed at point `t`, from the blocks staged there. -/
def rowsAt (c : Dev nD) (t : Fin cfg0.N) : Vec F S1024x1024 .f32 :=
  outRows (iblk m c 0 t) (iblk m c 1 t) (iblk m c 2 t) (iblk m c 3 t) (iblk m c 4 t) (iblk m c 5 t)

/-- The arrays as the region finds them, each input's buffer at its block, the first output's at the tile of the
    point it was last stored at, the second's at the point's own tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => rowsAt m c (heldAt t)
    | ⟨7, _⟩ => rowsAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = rowsAt m c (heldAt t) := by dsimp only [dats]
theorem after_7 (c : Dev nD) (t : Fin cfg0.N) : (dats m 0 c).after 7 t = rowsAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The last point finds the first output's buffer as the point before left it. -/
theorem before_6 (c : Dev nD) (t : Fin cfg0.N) (h : ¬t.val < 16) (d) : (dats m 0 c).before 6 t d = rowsAt m c (heldAt t) := by
  have hN : t.val < 17 := lt_of_lt_of_eq t.isLt (show cfg0.N = 17 from N_0)
  have hlt : t.val - 1 < cfg0.N := Nat.lt_of_le_of_lt (Nat.sub_le _ _) t.isLt
  have hl : cfg0.idle 6 (cfg0.grid.coords ⟨t.val - 1, hlt⟩) = false := live6 _ (by dsimp only; omega)
  have hf : (cfg0.win 6).flush ⟨t.val - 1, hlt⟩ = false :=
    Bool.eq_false_iff.mpr fun e => by have := (flush0_6 ⟨t.val - 1, hlt⟩).mp e; dsimp only at this; omega
  rw [Dat.before_of_pos _ 6 t (by omega) rfl, hf, if_neg Bool.false_ne_true]
  unfold Dat.left
  rw [hl]
  dsimp only
  unfold Dat.kept
  rw [Pipeline.fill_of_clip_none 6 _ (fun _ => rfl) d ((dats m 0 c).after 6 _), Window.fill_cut, after_6]
  congr 1
  exact Fin.ext (by unfold heldAt; dsimp only; omega)

/-! ## The body obligation -/

/-- What every point is handed: the invariant, what is owed, and the eight buffers at what they hold. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What every point hands back, the two outputs' buffers apart. -/
def bodyPost (c : Dev nD) (t : Fin cfg0.N) (R : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ R)

/-- A point of the prompt group: the first output's buffer gets its tile, the second's is left as found. -/
theorem point_prompt (c : Dev nD) (t : Fin cfg0.N) (h : t.val < 16) :
    bodyPre m c t ⊢ wp frame (wpE (defs₀ (F := F)) Variants.none c none) Set.univ (bodyAt0 t) (fun _ => bodyPost m c t
      iprop(owns (c : Thread nD τ) (st0_6 t) fullShare ((dats m 0 c).after 6 t)
        ∗ (∃ d, owns (c : Thread nD τ) (st0_7 t) fullShare ((dats m 0 c).before 7 t d)))) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, heldAt_eq t h]
  unfold rowsAt
  iintro ⟨HΦ, Ho, ⟨%d0, H0⟩, ⟨%d1, H1⟩, ⟨%d2, H2⟩, ⟨%d3, H3⟩, ⟨%d4, H4⟩, ⟨%d5, H5⟩, ⟨%d6, H6⟩, H7⟩
  iapply (body_prompt c Set.univ (grid0.coords t) _ _ _ _ _ _ _ _ _ _ _ _ _ _ _ _ (iblk m c 0 t) (iblk m c 1 t) (iblk m c 2 t)
    (iblk m c 3 t) (iblk m c 4 t) (iblk m c 5 t) (prompt_on t h) (sample_off t h) _)
  isplitl [H0 H1 H2 H3 H4 H5]
  · unfold ins
    isplitl [H0]; · iexact H0
    isplitl [H1]; · iexact H1
    isplitl [H2]; · iexact H2
    isplitl [H3]; · iexact H3
    isplitl [H4]; · iexact H4
    iexact H5
  isplitl [H6]; · iexists _; iexact H6
  unfold ins
  iintro ⟨⟨H0, H1, H2, H3, H4, H5⟩, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The last point: the second output's buffer gets its tile, the first's keeps the tile before. -/
theorem point_sample (c : Dev nD) (t : Fin cfg0.N) (h : ¬t.val < 16) :
    bodyPre m c t ⊢ wp frame (wpE (defs₀ (F := F)) Variants.none c none) Set.univ (bodyAt0 t) (fun _ => bodyPost m c t
      iprop(owns (c : Thread nD τ) (st0_6 t) fullShare ((dats m 0 c).after 6 t)
        ∗ owns (c : Thread nD τ) (st0_7 t) fullShare ((dats m 0 c).after 7 t))) := by
  unfold bodyPre bodyPost bodyAt0
  simp only [before_0, before_1, before_2, before_3, before_4, before_5, before_6 m c t h]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show rowsAt m c t = outRows (iblk m c 0 t) (iblk m c 1 t) (iblk m c 2 t) (iblk m c 3 t) (iblk m c 4 t) (iblk m c 5 t) from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_sample c Set.univ (grid0.coords t) _ _ _ _ _ _ _ _ _ _ _ _ _ _ _ _ (iblk m c 0 t) (iblk m c 1 t) (iblk m c 2 t)
    (iblk m c 3 t) (iblk m c 4 t) (iblk m c 5 t) (prompt_off t h) (sample_on t h) _)
  isplitl [H0 H1 H2 H3 H4 H5]
  · unfold ins
    isplitl [H0]; · iexact H0
    isplitl [H1]; · iexact H1
    isplitl [H2]; · iexact H2
    isplitl [H3]; · iexact H3
    isplitl [H4]; · iexact H4
    iexact H5
  isplitl [H7]; · iexists _; iexact H7
  unfold ins
  iintro ⟨⟨H0, H1, H2, H3, H4, H5⟩, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases h : t.val < 16
  · refine triple_restated (point_prompt m c t h) rfl .rfl fun _ => ?_
    have e6 : idle0 6 (grid0.coords t) = false := live6 t h
    have e7 : idle0 7 (grid0.coords t) = true := idle7 t h
    have f7 : (win0 7).flush t = false := unflushed7 t h
    unfold bodyPost
    simp only [e6, e7, f7]
    exact Entails.refl _
  · refine triple_restated (point_sample m c t h) rfl .rfl fun _ => ?_
    have e6 : idle0 6 (grid0.coords t) = true := idle6 t h
    have e7 : idle0 7 (grid0.coords t) = false := live7 t h
    have f6 : (win0 6).flush t = true := (flush0_6 t).mpr (by omega)
    unfold bodyPost
    simp only [e6, e7, f6]
    exact Entails.refl _

/-! ## The run and the frame -/

set_option backward.isDefEq.respectTransparency.types false in
set_option maxHeartbeats 800000 in
/-- The run ends with the arrays at what the proof data computes and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FinalIdeal.Gen

end
-- ==== Proof.Tail.Kernel.lean ====
/-
  The layer's tail in one call: the mixer's projection and residual, the second feed-forward half step, and the gated
  per-layer embedding. What a row block holds after the last of its eleven points.
-/
module

public import proofs.«01_k».proof.Proof.Gen.TailIdeal.Value
public import proofs.«01_k».proof.Proof.Rows
public import Idealize.ShloMosaic.Lib.StableHlo.ReadAt
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.TailIdeal Cert.TailIdeal.Gen

namespace Tail

/-- A row after the mixer: the row plus the mixer's output through its projection. -/
def mix (x y : Fin 1024 → EReal) (w : Fin 1024 → Fin 1024 → EReal) (k : Fin 1024) : EReal := x k + ∑ j, y j * w j k

/-- The gated embedding added to a row. -/
def ple (x : Fin 1024 → EReal) (p : Fin 256 → EReal) (g : Fin 1024 → EReal) (we : Fin 256 → Fin 1024 → EReal) (wg : Fin 1024 → Fin 1024 → EReal)
    (k : Fin 1024) : EReal :=
  x k + (∑ j, p j * we j k) * Rows.sigm (∑ j, Rows.rms x g j * wg j k)

namespace Kernel

variable (m : (ℓ : Loc nD τ sig) → Buf (Elt Ideal) ℓ)

/-! ### The body's stages, applied -/

theorem pay1 (a b c : Vec Ideal S1024x1024 .f32) (r k : Fin 1024) :
    k0_pay1 (F := Ideal) a b c (ix2 r k) = a (ix2 r k) + c (ix2 r k) * b (ix2 r k) := by
  pointwise [k0_pay1]

theorem pay2 (a : Vec Ideal S1024x1024 .f32) (g : Vec Ideal S1x1024 .f32) (w : Vec Ideal S1024x1024 .bf16) (p : Vec Ideal S1024x256 .f32)
    (wp : Vec Ideal S256x1024 .bf16) (r k : Fin 1024) :
    k0_pay2 (F := Ideal) a g w p wp (ix2 r k) = ple (fun k => a (ix2 r k)) (fun j => p (ix2 r j)) (fun k => g (ix2 0 k))
      (fun j k => wp (ix2 j k)) (fun j k => w (ix2 j k)) k := by
  pointwise [k0_pay2]
  simp only [zero_sub]
  rfl

theorem pay3 (a b : Vec Ideal S1024x1024 .f32) (w : Vec Ideal S1024x1024 .bf16) (r k : Fin 1024) :
    k0_pay3 (F := Ideal) a b w (ix2 r k) = mix (fun k => a (ix2 r k)) (fun k => b (ix2 r k)) (fun j k => w (ix2 j k)) k := by
  pointwise [k0_pay3]
  rfl

theorem pay4 (a b : Vec Ideal S1024x1024 .f32) (w : Vec Ideal S1024x1024 .bf16) (g : Vec Ideal S1x1024 .f32) (r k : Fin 1024) :
    k0_pay4 (F := Ideal) a b w g (ix2 r k)
      = Rows.rms (mix (fun k => a (ix2 r k)) (fun k => b (ix2 r k)) (fun j k => w (ix2 j k))) (fun k => g (ix2 0 k)) k := by
  pointwise [k0_pay4]
  simp only [pay3]
  rfl

theorem pay8 (h : Vec Ideal S1024x1024 .bf16) (wg wu : Vec Ideal S1024x256 .bf16) (wo : Vec Ideal S256x1024 .bf16) (r k : Fin 1024) :
    k0_pay8 (F := Ideal) h wg wu wo (ix2 r k) = ∑ q : Fin 256,
      Rows.unit (fun y => h (ix2 r y)) (fun y => wg (ix2 y q)) (fun y => wu (ix2 y q)) * wo (ix2 q k) := by
  pointwise [k0_pay8]
  simp only [zero_sub]
  rfl

theorem pay7 (a : Vec Ideal S1024x1024 .f32) (r k : Fin 1024) : k0_pay7 (F := Ideal) a (ix2 r k) = a (ix2 r k) := by
  pointwise [k0_pay7]

theorem pay9 (r k : Fin 1024) : k0_pay9 (F := Ideal) (ix2 r k) = Rows.half := by
  pointwise [k0_pay9]
  rfl

/-- The residual block plus half of the block's hidden units' share. -/
def add (c : Dev nD) (t : Fin cfg0.N) (o : Vec Ideal S1024x1024 .f32) (h : Vec Ideal S1024x1024 .bf16) : Vec Ideal S1024x1024 .f32 :=
  k0_pay1 (F := Ideal) (k0_pay7 o) (k0_pay8 h (iblk m c 5 t) (iblk m c 6 t) (iblk m c 7 t)) k0_pay9

/-! ### The four kinds of point -/

/-- The first point of a row block of the prompt group. -/
theorem oA (c : Dev nD) (t : Fin cfg0.N) (h0 : t.val % 11 = 0) (hi : t.val / 11 < 16) : outsAt0 m c t.val t.isLt =
    (add m c t (k0_pay3 (iblk m c 0 t) (iblk m c 1 t) (iblk m c 3 t)) (k0_pay4 (iblk m c 0 t) (iblk m c 1 t) (iblk m c 3 t) (iblk m c 4 t)),
      k0_pay4 (iblk m c 0 t) (iblk m c 1 t) (iblk m c 3 t) (iblk m c 4 t)) := by
  rw [outsAt0_A m c t (by omega) (by omega) (by omega)]
  refine Prod.ext ?_ ?_
  all_goals frame_out
  rfl

/-- The first point of the sample group's row block. -/
theorem oD (c : Dev nD) (t : Fin cfg0.N) (h0 : t.val % 11 = 0) (hi : t.val / 11 = 16) : outsAt0 m c t.val t.isLt =
    (add m c t (k0_pay3 (iblk m c 0 t) (iblk m c 2 t) (iblk m c 3 t)) (k0_pay4 (iblk m c 0 t) (iblk m c 2 t) (iblk m c 3 t) (iblk m c 4 t)),
      k0_pay4 (iblk m c 0 t) (iblk m c 2 t) (iblk m c 3 t) (iblk m c 4 t)) := by
  rw [outsAt0_D m c t (by omega) (by omega) (by omega)]
  refine Prod.ext ?_ ?_
  all_goals frame_out
  all_goals rfl

/-- A point between. -/
theorem oB (c : Dev nD) (t : Fin cfg0.N) (h0 : ¬ t.val % 11 = 0) (h2 : ¬t.val % 11 = 10) : outsAt0 m c t.val t.isLt =
    (add m c t (outsAt0 m c (t.val - 1) (Nat.lt_of_le_of_lt (Nat.sub_le _ _) t.isLt)).1 (outsAt0 m c (t.val - 1) (Nat.lt_of_le_of_lt (Nat.sub_le _ _) t.isLt)).2,
      (outsAt0 m c (t.val - 1) (Nat.lt_of_le_of_lt (Nat.sub_le _ _) t.isLt)).2) := by
  have hN : t.val < 187 := t.isLt
  rw [outsAt0_B m c t (by omega) (by omega) h2]
  refine Prod.ext ?_ rfl
  frame_out
  simp only [read_unread_whole]
  rfl

/-- The last point of a row block. -/
theorem oC (c : Dev nD) (t : Fin cfg0.N) (h2 : t.val % 11 = 10) : outsAt0 m c t.val t.isLt =
    (k0_pay2 (add m c t (outsAt0 m c (t.val - 1) (Nat.lt_of_le_of_lt (Nat.sub_le _ _) t.isLt)).1 (outsAt0 m c (t.val - 1) (Nat.lt_of_le_of_lt (Nat.sub_le _ _) t.isLt)).2)
        (iblk m c 9 t) (iblk m c 11 t) (iblk m c 8 t) (iblk m c 10 t),
      (outsAt0 m c (t.val - 1) (Nat.lt_of_le_of_lt (Nat.sub_le _ _) t.isLt)).2) := by
  have hN : t.val < 187 := t.isLt
  rw [outsAt0_C m c t (by omega) (by omega) h2]
  refine Prod.ext ?_ rfl
  frame_out
  simp only [read_unread_whole]
  rfl

theorem idx : ∀ t : Fin cfg0.N, win0_0.index t = ![t.val / 11, 0] ∧ win0_1.index t = ![min (t.val / 11) 15, 0] ∧ win0_2.index t = ![0, 0]
    ∧ win0_3.index t = ![0, 0] ∧ win0_4.index t = ![0, 0] ∧ win0_5.index t = ![0, t.val % 11]
    ∧ win0_6.index t = ![0, 11 + t.val % 11] ∧ win0_7.index t = ![t.val % 11, 0] ∧ win0_8.index t = ![t.val / 11, 0]
    ∧ win0_9.index t = ![0, 0] ∧ win0_10.index t = ![0, 0] ∧ win0_11.index t = ![0, 0] ∧ win0_12.index t = ![t.val / 11, 0] :=
  (by decide +kernel : ∀ t : Fin grid0.N, _)

/-! ### The arrays the host prepares -/

theorem hv0 (c : Dev nD) (j k : Fin 1024) : V m c main_v0 (ix2 j k) = m ((c : Thread nD τ).loc main_arg3) (ix2 j k) := by
  unfold V
  after_reads_at
theorem hv1 (c : Dev nD) (y : Fin 1024) (f : Fin 5632) : V m c main_v1 (ix2 y f) = m ((c : Thread nD τ).loc main_arg5) (ix2 y f) := by
  unfold V
  after_reads_at
theorem hv2 (c : Dev nD) (f : Fin 2816) (k : Fin 1024) : V m c main_v2 (ix2 f k) = m ((c : Thread nD τ).loc main_arg6) (ix2 f k) := by
  unfold V
  after_reads_at
theorem hv3 (c : Dev nD) (j : Fin 256) (k : Fin 1024) : V m c main_v3 (ix2 j k) = m ((c : Thread nD τ).loc main_arg9) (ix2 j k) := by
  unfold V
  after_reads_at
theorem hv4 (c : Dev nD) (j k : Fin 1024) : V m c main_v4 (ix2 j k) = m ((c : Thread nD τ).loc main_arg10) (ix2 j k) := by
  unfold V
  after_reads_at
theorem hv5 (c : Dev nD) (k : Fin 1024) : V m c main_v5 (ix2 0 k) = m ((c : Thread nD τ).loc main_arg4) (ix1 k) := by
  unfold V
  after_reads_at
theorem hv6 (c : Dev nD) (k : Fin 1024) : V m c main_v6 (ix2 0 k) = m ((c : Thread nD τ).loc main_arg8) (ix1 k) := by
  unfold V
  after_reads_at

/-! ### The blocks -/

theorem b0 (c : Dev nD) (t : Fin cfg0.N) (r k : Fin 1024) :
    iblk m c 0 t (ix2 r k) = m ((c : Thread nD τ).loc main_arg0) (ix2 ⟨1024 * (t.val / 11) + r, by have : t.val < 187 := t.isLt; omega⟩ k) := by
  blk_ext [iblk, V, idx t]
theorem b1 (c : Dev nD) (t : Fin cfg0.N) (ht : t.val / 11 < 16) (r k : Fin 1024) :
    iblk m c 1 t (ix2 r k) = m ((c : Thread nD τ).loc main_arg1) (ix2 ⟨1024 * (t.val / 11) + r, by omega⟩ k) := by
  have : min (t.val / 11) 15 = t.val / 11 := by omega
  blk_ext [iblk, V, idx t]
theorem b2 (c : Dev nD) (t : Fin cfg0.N) (r k : Fin 1024) :
    iblk m c 2 t (ix2 r k) = m ((c : Thread nD τ).loc main_arg2) (ix2 r k) := by
  blk_ext [iblk, V, idx t]
theorem b3 (c : Dev nD) (t : Fin cfg0.N) (j k : Fin 1024) :
    iblk m c 3 t (ix2 j k) = m ((c : Thread nD τ).loc main_arg3) (ix2 j k) := by
  rw [← hv0 m c]
  blk_ext [iblk, idx t]
theorem b4 (c : Dev nD) (t : Fin cfg0.N) (k : Fin 1024) :
    iblk m c 4 t (ix2 0 k) = m ((c : Thread nD τ).loc main_arg4) (ix1 k) := by
  rw [← hv5 m c]
  blk_ext [iblk, idx t]
theorem b5 (c : Dev nD) (t : Fin cfg0.N) (y : Fin 1024) (q : Fin 256) :
    iblk m c 5 t (ix2 y q) = m ((c : Thread nD τ).loc main_arg5) (ix2 y ⟨t.val % 11 * 256 + q, by omega⟩) := by
  rw [← hv1 m c]
  blk_ext [iblk, idx t]
theorem b6 (c : Dev nD) (t : Fin cfg0.N) (y : Fin 1024) (q : Fin 256) :
    iblk m c 6 t (ix2 y q) = m ((c : Thread nD τ).loc main_arg5) (ix2 y ⟨2816 + (t.val % 11 * 256 + q), by omega⟩) := by
  rw [← hv1 m c]
  blk_ext [iblk, idx t]
theorem b7 (c : Dev nD) (t : Fin cfg0.N) (q : Fin 256) (k : Fin 1024) :
    iblk m c 7 t (ix2 q k) = m ((c : Thread nD τ).loc main_arg6) (ix2 ⟨t.val % 11 * 256 + q, by omega⟩ k) := by
  rw [← hv2 m c]
  blk_ext [iblk, idx t]
theorem b8 (c : Dev nD) (t : Fin cfg0.N) (r : Fin 1024) (j : Fin 256) :
    iblk m c 8 t (ix2 r j) = m ((c : Thread nD τ).loc main_arg7) (ix2 ⟨1024 * (t.val / 11) + r, by have : t.val < 187 := t.isLt; omega⟩ j) := by
  blk_ext [iblk, V, idx t]
theorem b9 (c : Dev nD) (t : Fin cfg0.N) (k : Fin 1024) :
    iblk m c 9 t (ix2 0 k) = m ((c : Thread nD τ).loc main_arg8) (ix1 k) := by
  rw [← hv6 m c]
  blk_ext [iblk, idx t]
theorem b10 (c : Dev nD) (t : Fin cfg0.N) (j : Fin 256) (k : Fin 1024) :
    iblk m c 10 t (ix2 j k) = m ((c : Thread nD τ).loc main_arg9) (ix2 j k) := by
  rw [← hv3 m c]
  blk_ext [iblk, idx t]
theorem b11 (c : Dev nD) (t : Fin cfg0.N) (j k : Fin 1024) :
    iblk m c 11 t (ix2 j k) = m ((c : Thread nD τ).loc main_arg10) (ix2 j k) := by
  rw [← hv4 m c]
  blk_ext [iblk, idx t]

end Kernel
end Tail
end
-- ==== Proof.Final.Claim.lean ====
/-
  The claims about the last call: the gated embedding added to the residual stream and the output norm, the two row
  groups to arrays of their own. The kernel's results are the reference's, with no precondition.
-/
module

public import proofs.«01_k».proof.Defs
public import proofs.«01_k».proof.Proof.Final.FrameIdeal
public import proofs.«01_k».proof.Proof.Tail.Kernel
public import proofs.«01_k».proof.Proof.Gen.FinalReferenceIdeal.Read
public import proofs.«01_k».proof.Proof.Gen.FinalReferenceIdeal.Run
public import proofs.«01_k».proof.Proof.Rows
public import Idealize.ShloMosaic.Lib.StableHlo.ReadAt
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Final

/-- Row `r` of the output: the residual stream's row with its embedding added, normalised. -/
def row (x0 : Vec Ideal ⟨2, ![17408, 1024]⟩ .f32) (x1 : Vec Ideal ⟨2, ![17408, 256]⟩ .f32) (x2 : Vec Ideal ⟨1, ![1024]⟩ .f32)
    (x3 : Vec Ideal ⟨2, ![256, 1024]⟩ .f32) (x4 : Vec Ideal ⟨2, ![1024, 1024]⟩ .f32) (x5 : Vec Ideal ⟨1, ![1024]⟩ .f32)
    (r : Fin 17408) (k : Fin 1024) : EReal :=
  Rows.rms (Tail.ple (fun k => x0 (ix2 r k)) (fun j => x1 (ix2 r j)) (fun k => x2 (ix1 k)) (fun j k => x3 (ix2 j k))
    (fun j k => x4 (ix2 j k))) (fun k => x5 (ix1 k)) k

/-- The prompt group's rows. -/
def prompt (x0 : Vec Ideal ⟨2, ![17408, 1024]⟩ .f32) (x1 : Vec Ideal ⟨2, ![17408, 256]⟩ .f32) (x2 : Vec Ideal ⟨1, ![1024]⟩ .f32)
    (x3 : Vec Ideal ⟨2, ![256, 1024]⟩ .f32) (x4 : Vec Ideal ⟨2, ![1024, 1024]⟩ .f32) (x5 : Vec Ideal ⟨1, ![1024]⟩ .f32) :
    Vec Ideal ⟨2, ![16384, 1024]⟩ .f32 := fun y =>
  row x0 x1 x2 x3 x4 x5 ⟨(y 0).val, by have : (y 0).val < 16384 := (y 0).isLt; omega⟩ (y 1)

/-- The sample group's rows. -/
def sample (x0 : Vec Ideal ⟨2, ![17408, 1024]⟩ .f32) (x1 : Vec Ideal ⟨2, ![17408, 256]⟩ .f32) (x2 : Vec Ideal ⟨1, ![1024]⟩ .f32)
    (x3 : Vec Ideal ⟨2, ![256, 1024]⟩ .f32) (x4 : Vec Ideal ⟨2, ![1024, 1024]⟩ .f32) (x5 : Vec Ideal ⟨1, ![1024]⟩ .f32) :
    Vec Ideal ⟨2, ![1024, 1024]⟩ .f32 := fun y =>
  row x0 x1 x2 x3 x4 x5 ⟨16384 + (y 0).val, by have : (y 0).val < 1024 := (y 0).isLt; omega⟩ (y 1)

section
open Cert.FinalIdeal Cert.FinalIdeal.Gen
open Idealize.ShloMosaic.Pipeline (Dat)

namespace Kernel

variable (m : (ℓ : Loc nD τ sig) → Buf (Elt Ideal) ℓ)

/-! ### The body's stages, applied -/

theorem pay1 (v : Vec Ideal S1024x1024 .f32) (g : Vec Ideal S1x1024 .f32) (s : Vec Ideal S1024x1 .f32) (r k : Fin 1024) :
    k0_pay1 (F := Ideal) v g s (ix2 r k) = v (ix2 r k) * Ideal.rsqrt (Ideal.div (s (ix2 r 0)) (Ideal.ofBits .f32 1149239296#32)
      + Ideal.ofBits .f32 897988541#32) * g (ix2 0 k) := by
  pointwise [k0_pay1]

theorem pay2 (x : Vec Ideal S1024x1024 .f32) (g : Vec Ideal S1x1024 .f32) (w : Vec Ideal S1024x1024 .bf16) (p : Vec Ideal S1024x256 .f32)
    (wp : Vec Ideal S256x1024 .bf16) (r k : Fin 1024) :
    k0_pay2 (F := Ideal) x g w p wp (ix2 r k) = Tail.ple (fun k => x (ix2 r k)) (fun j => p (ix2 r j)) (fun k => g (ix2 0 k))
      (fun j k => wp (ix2 j k)) (fun j k => w (ix2 j k)) k := by
  pointwise [k0_pay2]
  simp only [zero_sub]
  rfl

theorem pay3 (g : Vec Ideal S1x1024 .f32) (k : Fin 1024) : k0_pay3 (F := Ideal) g (ix2 0 k) = g (ix2 0 k) := by
  pointwise [k0_pay3]

theorem pay4 (x : Vec Ideal S1024x1024 .f32) (g : Vec Ideal S1x1024 .f32) (w : Vec Ideal S1024x1024 .bf16) (p : Vec Ideal S1024x256 .f32)
    (wp : Vec Ideal S256x1024 .bf16) (r : Fin 1024) :
    k0_pay4 (F := Ideal) x g w p wp (ix2 r 0)
      = ∑ j : Fin 1024, k0_pay2 (F := Ideal) x g w p wp (ix2 r j) * k0_pay2 (F := Ideal) x g w p wp (ix2 r j) := by
  pointwise [k0_pay4]

/-! ### The blocks -/

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![min t.val 15, 0]
    ∧ win0_7.index t = ![0, 0] :=
  (by decide +kernel : ∀ t : Fin grid0.N, _)

theorem hv0 (c : Dev nD) (j : Fin 256) (k : Fin 1024) : V m c main_v0 (ix2 j k) = m ((c : Thread nD τ).loc main_arg3) (ix2 j k) := by
  unfold V
  after_reads_at
theorem hv1 (c : Dev nD) (j k : Fin 1024) : V m c main_v1 (ix2 j k) = m ((c : Thread nD τ).loc main_arg4) (ix2 j k) := by
  unfold V
  after_reads_at
theorem hv2 (c : Dev nD) (k : Fin 1024) : V m c main_v2 (ix2 0 k) = m ((c : Thread nD τ).loc main_arg2) (ix1 k) := by
  unfold V
  after_reads_at
theorem hv3 (c : Dev nD) (k : Fin 1024) : V m c main_v3 (ix2 0 k) = m ((c : Thread nD τ).loc main_arg5) (ix1 k) := by
  unfold V
  after_reads_at

theorem b0 (c : Dev nD) (t : Fin cfg0.N) (r k : Fin 1024) :
    iblk m c 0 t (ix2 r k) = m ((c : Thread nD τ).loc main_arg0) (ix2 ⟨1024 * t.val + r, by have : t.val < 17 := t.isLt; omega⟩ k) := by
  blk_ext [iblk, V, idx t]
theorem b1 (c : Dev nD) (t : Fin cfg0.N) (r : Fin 1024) (j : Fin 256) :
    iblk m c 1 t (ix2 r j) = m ((c : Thread nD τ).loc main_arg1) (ix2 ⟨1024 * t.val + r, by have : t.val < 17 := t.isLt; omega⟩ j) := by
  blk_ext [iblk, V, idx t]
theorem b2 (c : Dev nD) (t : Fin cfg0.N) (k : Fin 1024) :
    iblk m c 2 t (ix2 0 k) = m ((c : Thread nD τ).loc main_arg2) (ix1 k) := by
  rw [← hv2 m c]
  blk_ext [iblk, idx t]
theorem b3 (c : Dev nD) (t : Fin cfg0.N) (j : Fin 256) (k : Fin 1024) :
    iblk m c 3 t (ix2 j k) = m ((c : Thread nD τ).loc main_arg3) (ix2 j k) := by
  rw [← hv0 m c]
  blk_ext [iblk, idx t]
theorem b4 (c : Dev nD) (t : Fin cfg0.N) (j k : Fin 1024) :
    iblk m c 4 t (ix2 j k) = m ((c : Thread nD τ).loc main_arg4) (ix2 j k) := by
  rw [← hv1 m c]
  blk_ext [iblk, idx t]
theorem b5 (c : Dev nD) (t : Fin cfg0.N) (k : Fin 1024) :
    iblk m c 5 t (ix2 0 k) = m ((c : Thread nD τ).loc main_arg5) (ix1 k) := by
  rw [← hv3 m c]
  blk_ext [iblk, idx t]

/-- Row `r` of the output, from the launch's arrays. -/
def R (c : Dev nD) (r : Fin 17408) (k : Fin 1024) : EReal :=
  row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r k

/-- The tile computed at a point is the point's rows of the output. -/
theorem tile (c : Dev nD) (t : Fin cfg0.N) (r k : Fin 1024) :
    rowsAt m c t (ix2 r k) = R m c ⟨1024 * t.val + r, by have : t.val < 17 := t.isLt; omega⟩ k := by
  have e : rowsAt m c t = k0_pay1 (k0_pay2 (iblk m c 0 t) (iblk m c 2 t) (iblk m c 4 t) (iblk m c 1 t) (iblk m c 3 t)) (k0_pay3 (iblk m c 5 t))
      (k0_pay4 (iblk m c 0 t) (iblk m c 2 t) (iblk m c 4 t) (iblk m c 1 t) (iblk m c 3 t)) := by
    unfold rowsAt outRows
    frame_out
  rw [e, pay1]
  simp only [pay2, pay3, pay4, b0, b1, b2, b3, b4, b5]
  rfl

/-- The first result: the prompt group's rows. -/
theorem prompt_eq (c : Dev nD) : (dats m 0 c).arrAt 6 cfg0.N
    = prompt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after_6]
  obtain ⟨r, k, hy⟩ : ∃ (r k : Fin 1024), y = ix2 r k := ⟨y 0, y 1, eq_ix2 y⟩
  subst hy
  have hi : (win0_6.blk t).view.emb (ix2 r k) = ix2 ⟨1024 * min t.val 15 + r.val, by omega⟩ k := by
    blk_point [idx t]
  rw [hi, tile]
  rfl

/-- The second: the sample group's. -/
theorem sample_eq (c : Dev nD) : (dats m 0 c).arrAt 7 cfg0.N
    = sample (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t hf y => ?_
  have ht : t.val = 16 := by have h := (flush0_7 t).mp hf; have : t.val < 17 := t.isLt; omega
  blk_simp
  rw [after_7]
  obtain ⟨r, k, hy⟩ : ∃ (r k : Fin 1024), y = ix2 r k := ⟨y 0, y 1, eq_ix2 y⟩
  subst hy
  have hi : (win0_7.blk t).view.emb (ix2 r k) = ix2 r k := by
    blk_point [idx t]
  rw [hi, tile]
  have hr : (⟨1024 * t.val + r.val, by have : t.val < 17 := t.isLt; omega⟩ : Fin 17408) = ⟨16384 + r.val, by omega⟩ :=
    Fin.ext (by dsimp only; omega)
  rw [hr]
  rfl

/-- The kernel's run: its two results, and its arguments as they were. -/
theorem run (ρ : Dev nD → PrngReg) :
    θ_run defs (onTc (τ := τ) (main (F := Ideal))) ⟨m, fun _ => 0, ρ⟩ (fun r => ∀ c : Dev nD,
      r.2.mem ((c.tc : Thread nD τ).loc main_v4_0) = prompt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c.tc : Thread nD τ).loc main_v4_1) = sample (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 6).trans (prompt_eq m c), ((h.1 c).1 7).trans (sample_eq m c), h.2 c⟩)
    (θ_run_and (run_main (F := Ideal) m ρ) (frame_of m ρ (dats m) (A_eq m) (run_main m ρ)))

end Kernel
end

namespace Claim

section
open Cert.FinalReferenceIdeal Cert.FinalReferenceIdeal.Read

/-- The reference's residual stream with the embedding added. -/
theorem reference_rows (x0 : Vec Ideal S17408x1024 .f32) (x1 : Vec Ideal S17408x256 .f32) (x2 : Vec Ideal S1024 .f32) (x3 : Vec Ideal S256x1024 .f32)
    (x4 : Vec Ideal S1024x1024 .f32) (r : Fin 17408) (k : Fin 1024) :
    val_main_v22 (F := Ideal) x0 x1 x2 x3 x4 (ix2 r k) = Tail.ple (fun k => x0 (ix2 r k)) (fun j => x1 (ix2 r j)) (fun k => x2 (ix1 k))
      (fun j k => x3 (ix2 j k)) (fun j k => x4 (ix2 j k)) k := by
  pointwise [val_main_v0, val_main_v1, val_main_cst, val_main_v2, val_main_v3, val_main_cst_0, val_main_v4, val_main_v5,
    val_main_cst_1, val_main_v6, val_main_v7, val_main_v8, val_main_v9, val_main_v10, val_main_v11, val_main_v12, val_main_v13,
    val_main_v14, val_main_v15, val_main_v16, val_main_cst_2, val_main_v17, val_main_v18, val_main_cst_3, val_main_v19,
    val_main_v20, val_main_v21, val_main_v22]
  rfl

/-- The reference's output rows. -/
theorem reference_row (x0 : Vec Ideal S17408x1024 .f32) (x1 : Vec Ideal S17408x256 .f32) (x2 : Vec Ideal S1024 .f32) (x3 : Vec Ideal S256x1024 .f32)
    (x4 : Vec Ideal S1024x1024 .f32) (x5 : Vec Ideal S1024 .f32) (r : Fin 17408) (k : Fin 1024) :
    val_main_v35 (F := Ideal) x0 x1 x2 x3 x4 x5 (ix2 r k) = row x0 x1 x2 x3 x4 x5 r k := by
  pointwise [val_main_v23, val_main_cst_4, val_main_v24, val_main_v25, val_main_cst_5, val_main_v26, val_main_v27,
    val_main_cst_6, val_main_v28, val_main_v29, val_main_v30, val_main_v31, val_main_v32, val_main_v33, val_main_v34, val_main_v35]
  simp only [reference_rows]
  rfl

/-- The reference's first result. -/
theorem reference_prompt (x0 : Vec Ideal S17408x1024 .f32) (x1 : Vec Ideal S17408x256 .f32) (x2 : Vec Ideal S1024 .f32) (x3 : Vec Ideal S256x1024 .f32)
    (x4 : Vec Ideal S1024x1024 .f32) (x5 : Vec Ideal S1024 .f32) :
    val_main_v36 (F := Ideal) x0 x1 x2 x3 x4 x5 = prompt x0 x1 x2 x3 x4 x5 := by
  funext y
  obtain ⟨r, k, hy⟩ : ∃ (r : Fin 16384) (k : Fin 1024), y = ix2 r k := ⟨y 0, y 1, eq_ix2 y⟩
  subst hy
  pointwise [val_main_v36]
  simp only [reference_row]
  rfl

/-- And its second. -/
theorem reference_sample (x0 : Vec Ideal S17408x1024 .f32) (x1 : Vec Ideal S17408x256 .f32) (x2 : Vec Ideal S1024 .f32) (x3 : Vec Ideal S256x1024 .f32)
    (x4 : Vec Ideal S1024x1024 .f32) (x5 : Vec Ideal S1024 .f32) :
    val_main_v37 (F := Ideal) x0 x1 x2 x3 x4 x5 = sample x0 x1 x2 x3 x4 x5 := by
  funext y
  obtain ⟨r, k, hy⟩ : ∃ (r k : Fin 1024), y = ix2 r k := ⟨y 0, y 1, eq_ix2 y⟩
  subst hy
  pointwise [val_main_v37]
  simp only [reference_row]
  rfl
end

/-- The reference runs and leaves its arguments and the semaphores as they were. -/
theorem frame_reference : Cert.quiescent_FinalReferenceIdeal := fun m ρ _ =>
  (θ_run Cert.FinalReferenceIdeal.defs _ _).mono (fun r h => ⟨fun c => (h c).2.2,
      Idealize.ShloMosaic.sem_eq_zero_of_no_sems (by decide) r.2⟩)
    (Cert.FinalReferenceIdeal.Value.run (F := Ideal) m ρ)

/-- The kernel's results are the reference's. -/
theorem algebraic : Cert.algebraic_FinalIdeal_FinalReferenceIdeal := by
  intro m ρ m' ρ' _ hagree
  refine ⟨_, _, Kernel.run m ρ, ?_⟩
  refine (θ_run Cert.FinalReferenceIdeal.defs _ _).mono (fun _ h c => ?_) (Cert.FinalReferenceIdeal.Value.run (F := Ideal) m' ρ')
  obtain ⟨h0, h1, h2, h3, h4, h5⟩ := hagree c
  refine ⟨(h c).1.trans ((Cert.FinalReferenceIdeal.Read.val_main_v36_eq _ _).trans ((reference_prompt _ _ _ _ _ _).trans ?_)),
    (h c).2.1.trans ((Cert.FinalReferenceIdeal.Read.val_main_v37_eq _ _).trans ((reference_sample _ _ _ _ _ _).trans ?_)), (h c).2.2⟩
  · rw [h0, h1, h2, h3, h4, h5]
  · rw [h0, h1, h2, h3, h4, h5]

end Claim
end Final
end
-- ==== Proof.Delta.Spec.lean ====
/-
  The gated delta rule over one chunk of eight tokens, in real numbers.

  `Seq` holds what one sequence of the sample group brings: its eight projected rows, the three rows the short
  convolution remembers, the convolution's taps, the gates, the output norm's scale and the recurrent state. The
  definitions after it follow the layer: convolution, normalised queries and keys, decays, the unit lower
  triangular system, the new state and the gated output. The triangular system `(1 + m) x = b` is solved by the
  closed form `tinv m = (1 - m)(1 + m²)(1 + m⁴)`, the inverse of `1 + m` because `m` is strictly lower and of
  size eight; `substitution` says that solving row after row gives the same.
-/
module

public import Idealize.ShloMosaic.Lib.Pointwise
public import Mathlib.Data.Matrix.Mul
public import Mathlib.Tactic.NoncommRing
public import Mathlib.Analysis.SpecialFunctions.Exp

@[expose] public section

noncomputable section

open Idealize.ShloMosaic

namespace GatedDelta

/-- What one sequence brings to its chunk. -/
structure Seq where
  /-- projected rows: token, column -/
  p : Fin 8 → Fin 4096 → ℝ
  /-- the convolution's remembered rows -/
  pv : Fin 3 → Fin 3072 → ℝ
  /-- the convolution's taps -/
  cw : Fin 4 → Fin 3072 → ℝ
  /-- log decay: token, head -/
  g : Fin 8 → Fin 8 → ℝ
  /-- update strength: token, head -/
  be : Fin 8 → Fin 8 → ℝ
  /-- the output norm's scale -/
  on : Fin 128 → ℝ
  /-- recurrent state: head, key channel, value channel -/
  s0 : Fin 8 → Fin 128 → Fin 128 → ℝ

/-- The norms' small constant, as the single-precision number the programs hold. -/
def eps : ℝ := (Ideal.ofBits .f32 0x358637BD#32).toReal

/-- The queries' scale, as the single-precision number the programs hold. -/
def scl : ℝ := (Ideal.ofBits .f32 0x3DB504F3#32).toReal

/-- `x · σ(x)`. -/
def silu (x : ℝ) : ℝ := x * (1 + Real.exp (-x))⁻¹

namespace Seq
variable (S : Seq)

/-- Row `n` of the remembered rows followed by the chunk's rows. -/
def xp (n : ℕ) (c : Fin 3072) : ℝ :=
  if h : n < 3 then S.pv ⟨n, h⟩ c else if h' : n < 11 then S.p ⟨n - 3, by omega⟩ ⟨c.val, by omega⟩ else 0

/-- The convolution before its activation. -/
def tap (t : Fin 8) (c : Fin 3072) : ℝ :=
  S.xp t c * S.cw 0 c + S.xp (t + 1) c * S.cw 1 c + S.xp (t + 2) c * S.cw 2 c + S.xp (t + 3) c * S.cw 3 c

/-- The convolution. -/
def conv (t : Fin 8) (c : Fin 3072) : ℝ := silu (S.tap t c)

/-- Queries before the norm. -/
def q0 (h t : Fin 8) (d : Fin 128) : ℝ := S.conv t ⟨128 * h + d, by omega⟩
/-- Keys before the norm. -/
def k0 (h t : Fin 8) (d : Fin 128) : ℝ := S.conv t ⟨1024 + 128 * h + d, by omega⟩
/-- Values. -/
def v (h t : Fin 8) (d : Fin 128) : ℝ := S.conv t ⟨2048 + 128 * h + d, by omega⟩
/-- Normalised, scaled queries. -/
def q (h t : Fin 8) (d : Fin 128) : ℝ := S.q0 h t d * (Real.sqrt ((∑ e, S.q0 h t e * S.q0 h t e) + eps))⁻¹ * scl
/-- Normalised keys. -/
def k (h t : Fin 8) (d : Fin 128) : ℝ := S.k0 h t d * (Real.sqrt ((∑ e, S.k0 h t e * S.k0 h t e) + eps))⁻¹
/-- The running sum of the log decays. -/
def gc (h t : Fin 8) : ℝ := ∑ s : Fin 8, if s ≤ t then S.g s h else 0
/-- The chunk's sum of the log decays. -/
def gt (h : Fin 8) : ℝ := ∑ s : Fin 8, S.g s h
/-- The decay from token `j` to token `i`. -/
def dec (h i j : Fin 8) : ℝ := if j ≤ i then Real.exp (S.gc h i - S.gc h j) else 0
/-- Keys times the update strength. -/
def kb (h t : Fin 8) (d : Fin 128) : ℝ := S.k h t d * S.be t h
/-- The strictly lower triangular matrix of the system. -/
def m (h : Fin 8) : Matrix (Fin 8) (Fin 8) ℝ :=
  .of fun i j => if j < i then (∑ d, S.kb h i d * S.k h j d) * S.dec h i j else 0
/-- The causal scores of queries against keys. -/
def qk (h i j : Fin 8) : ℝ := (∑ d, S.q h i d * S.k h j d) * S.dec h i j

end Seq

/-- The closed form of `(1 + m)⁻¹`, multiplied out in the order it is computed. -/
def tinv {n : Type} [Fintype n] [DecidableEq n] (m : Matrix n n ℝ) : Matrix n n ℝ :=
  (1 - m) + (1 - m) * (m * m) + ((1 - m) + (1 - m) * (m * m)) * (m * m * (m * m))

namespace Seq
variable (S : Seq)

/-- The right-hand side for the values. -/
def ru (h j : Fin 8) (e : Fin 128) : ℝ := S.v h j e * S.be j h
/-- The right-hand side for the keys. -/
def rw (h j : Fin 8) (d : Fin 128) : ℝ := S.kb h j d * Real.exp (S.gc h j)
/-- The system's solution for the values. -/
def u (h t : Fin 8) (e : Fin 128) : ℝ := ∑ j, tinv (S.m h) t j * S.ru h j e
/-- The system's solution for the keys. -/
def w (h t : Fin 8) (d : Fin 128) : ℝ := ∑ j, tinv (S.m h) t j * S.rw h j d
/-- Queries with their decay. -/
def qd (h t : Fin 8) (d : Fin 128) : ℝ := S.q h t d * Real.exp (S.gc h t)
/-- Keys with the decay to the chunk's end. -/
def kd (h t : Fin 8) (d : Fin 128) : ℝ := S.k h t d * Real.exp (S.gt h - S.gc h t)
/-- The values the state takes up. -/
def vn (h t : Fin 8) (e : Fin 128) : ℝ := S.u h t e - ∑ d, S.w h t d * S.s0 h d e
/-- The output before norm and gate. -/
def o (h t : Fin 8) (e : Fin 128) : ℝ := ∑ d, S.qd h t d * S.s0 h d e + ∑ j, S.qk h t j * S.vn h j e
/-- The state after the chunk. -/
def sn (h : Fin 8) (d e : Fin 128) : ℝ := S.s0 h d e * Real.exp (S.gt h) + ∑ t, S.kd h t d * S.vn h t e
/-- The output's mean square. -/
def ms (h t : Fin 8) : ℝ := (∑ e, S.o h t e * S.o h t e) / 128
/-- The layer's output: normed and gated. -/
def out (h t : Fin 8) (e : Fin 128) : ℝ :=
  S.o h t e * (Real.sqrt (S.ms h t + eps))⁻¹ * S.on e * silu (S.p t ⟨3072 + 128 * h + e, by omega⟩)

end Seq

/-! ### The system -/

/-- Powers of a strictly lower triangular matrix move away from the diagonal. -/
theorem pow_low {N : ℕ} (m : Matrix (Fin N) (Fin N) ℝ) (hm : ∀ i j, i ≤ j → m i j = 0) (n : ℕ) :
    ∀ i j : Fin N, i.val < j.val + n → (m ^ n) i j = 0 := by
  induction n with
  | zero => intro i j h; rw [pow_zero]; exact Matrix.one_apply_ne (by rintro rfl; omega)
  | succ n ih =>
    intro i j h
    rw [pow_succ, Matrix.mul_apply]
    refine Finset.sum_eq_zero fun k _ => ?_
    by_cases hk : i.val < k.val + n
    · rw [ih i k hk, zero_mul]
    · rw [hm k j (Fin.le_def.2 (by omega)), mul_zero]

/-- A strictly lower triangular matrix of size eight has eighth power zero. -/
theorem pow_eight (m : Matrix (Fin 8) (Fin 8) ℝ) (hm : ∀ i j, i ≤ j → m i j = 0) : m ^ 8 = 0 := by
  ext i j; exact pow_low m hm 8 i j (by omega)

theorem one_add_mul_tinv {n : Type} [Fintype n] [DecidableEq n] (m : Matrix n n ℝ) (h : m ^ 8 = 0) : (1 + m) * tinv m = 1 := by
  have e : (1 + m) * tinv m = 1 - m ^ 8 := by unfold tinv; noncomm_ring
  rw [e, h, sub_zero]

theorem tinv_mul_one_add {n : Type} [Fintype n] [DecidableEq n] (m : Matrix n n ℝ) (h : m ^ 8 = 0) : tinv m * (1 + m) = 1 := by
  have e : tinv m * (1 + m) = 1 - m ^ 8 := by unfold tinv; noncomm_ring
  rw [e, h, sub_zero]

theorem m_low (S : Seq) (h : Fin 8) (i j : Fin 8) (hij : i ≤ j) : S.m h i j = 0 := by
  show (if j < i then _ else _) = _
  rw [if_neg (not_lt.2 hij)]

/-- One step of solving row after row: column `j` of the matrix times row `j` is taken off every row. -/
def elim (m : Matrix (Fin 8) (Fin 8) ℝ) (j : Fin 8) (x : Fin 8 → ℝ) : Fin 8 → ℝ := fun i => x i - m i j * x j

/-- Solving row after row over the first seven columns. -/
def subst (m : Matrix (Fin 8) (Fin 8) ℝ) (b : Fin 8 → ℝ) : Fin 8 → ℝ :=
  elim m 6 (elim m 5 (elim m 4 (elim m 3 (elim m 2 (elim m 1 (elim m 0 b))))))

/-- Solving row after row gives the closed form's solution. -/
theorem substitution (m : Matrix (Fin 8) (Fin 8) ℝ) (hm : ∀ i j, i ≤ j → m i j = 0) (b : Fin 8 → ℝ) (t : Fin 8) :
    subst m b t = ∑ j, tinv m t j * b j := by
  have hx : (1 + m).mulVec (subst m b) = b := by
    funext i
    rw [Matrix.add_mulVec, Matrix.one_mulVec, Pi.add_apply]
    simp only [Matrix.mulVec, dotProduct, Fin.sum_univ_eight]
    unfold subst elim
    have z : ∀ a c : Fin 8, a ≤ c → m a c = 0 := hm
    fin_cases i <;> simp [hm 0 0, hm 0 1, hm 0 2, hm 0 3, hm 0 4, hm 0 5, hm 0 6, hm 0 7, hm 1 1, hm 1 2, hm 1 3, hm 1 4,
      hm 1 5, hm 1 6, hm 1 7, hm 2 2, hm 2 3, hm 2 4, hm 2 5, hm 2 6, hm 2 7, hm 3 3, hm 3 4, hm 3 5, hm 3 6, hm 3 7,
      hm 4 4, hm 4 5, hm 4 6, hm 4 7, hm 5 5, hm 5 6, hm 5 7, hm 6 6, hm 6 7, hm 7 7] <;> ring
  have hT : (tinv m).mulVec ((1 + m).mulVec (subst m b)) = subst m b := by
    rw [Matrix.mulVec_mulVec, tinv_mul_one_add m (pow_eight m hm), Matrix.one_mulVec]
  rw [hx] at hT
  rw [← hT]; rfl

/-! ### Rows of a block: eight sequences of eight tokens -/

/-- Row of token `t` of the block's sequence `s`. -/
def row (s t : Fin 8) : Fin 64 := ⟨8 * s + t, by omega⟩

theorem sum_rows {M : Type} [AddCommMonoid M] (f : Fin 64 → M) : ∑ r, f r = ∑ s, ∑ t, f (row s t) := by
  rw [← (finProdFinEquiv (m := 8) (n := 8)).sum_comp f, Fintype.sum_prod_type]
  refine Finset.sum_congr rfl fun s _ => Finset.sum_congr rfl fun t _ => congrArg f (Fin.ext ?_)
  show t.val + 8 * s.val = 8 * s.val + t.val
  omega

theorem row_surj (r : Fin 64) : ∃ s t, r = row s t :=
  ⟨⟨r / 8, by omega⟩, ⟨r % 8, by omega⟩, Fin.ext (by show r.val = 8 * (r.val / 8) + r.val % 8; omega)⟩

/-- A sum over the block's rows with only one sequence's rows counted. -/
theorem sum_own {M : Type} [AddCommMonoid M] (s : Fin 8) (f : Fin 8 → Fin 8 → M) :
    ∑ s', ∑ t, (if s = s' then f s' t else 0) = ∑ t, f s t := by
  rw [Finset.sum_eq_single s (fun s' _ h => Finset.sum_eq_zero fun t _ => if_neg h.symm) (fun h => absurd (Finset.mem_univ _) h)]
  exact Finset.sum_congr rfl fun t _ => if_pos rfl

/-! ### Real numbers among the extended ones -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end GatedDelta

end
-- ==== Proof.Delta.Kernel1.lean ====
module

public import proofs.«01_k».proof.Proof.Gen.KernelIdeal.Frame
public import proofs.«01_k».proof.Proof.Delta.Spec

@[expose] public section

set_option maxRecDepth 4000

noncomputable section

open Idealize.ShloMosaic Idealize.ShloMosaic.TcCoe
open Cert.KernelIdeal Cert.KernelIdeal.Gen

namespace GatedDelta

/-! ### Constants and single operations on real numbers -/

theorem eps_pos : 0 < eps := by
  unfold eps; simp [Ideal.ofBits, Ideal.ieee, -EReal.coe_mul]

theorem eps_coe : Ideal.ofBits .f32 0x358637BD#32 = ((eps : ℝ) : EReal) := by
  unfold eps; simp [Ideal.ofBits, Ideal.ieee, -EReal.coe_mul]

theorem scl_coe : Ideal.ofBits .f32 0x3DB504F3#32 = ((scl : ℝ) : EReal) := by
  unfold scl; simp [Ideal.ofBits, Ideal.ieee, -EReal.coe_mul]

theorem c128 : Ideal.ofBits .f32 0x43000000#32 = ((128 : ℝ) : EReal) := by
  simp [Ideal.ofBits, Ideal.ieee, -EReal.coe_mul]; norm_num

theorem rsqrt_pos (x : ℝ) (h : 0 < x) : Ideal.rsqrt (x : EReal) = (((Real.sqrt x)⁻¹ : ℝ) : EReal) := by
  rw [Ideal.rsqrt_coe, if_neg (not_lt.2 h.le), if_neg h.ne']

theorem sigmoid_coe (x : ℝ) : Ideal.div 1 (1 + Ideal.exp (0 - (x : EReal))) = (((1 + Real.exp (-x))⁻¹ : ℝ) : EReal) := by
  rw [← Ideal.logistic_coe, zero_sub]; rfl

theorem norm_pos (f : Fin 128 → ℝ) : 0 < (∑ e, f e * f e) + eps :=
  add_pos_of_nonneg_of_pos (Finset.sum_nonneg fun _ _ => mul_self_nonneg _) eps_pos

theorem coe_ite (p : Prop) [Decidable p] (x : ℝ) : (if p then (x : EReal) else 0) = ((if p then x else 0 : ℝ) : EReal) := by
  split <;> simp

theorem select_ite {α : Type} (p : Prop) [Decidable p] (a b : α) :
    Scalar.select (if p then 1#1 else 0#1) a b = if p then a else b := by split <;> rfl

theorem mask_ite (p : Prop) [Decidable p] :
    FloatOps.sitofp (F := Ideal) .f32 (BitVec.setWidth 32 (if p then 1#1 else 0#1)) = if p then (1 : EReal) else 0 := by
  split
  · show (((1 : ℤ) : ℝ) : EReal) = 1; simp
  · show (((0 : ℤ) : ℝ) : EReal) = 0; simp

end GatedDelta

namespace GatedDelta.Kernel

/-- The block's buffers hold the numbers of the eight sequences `Sq`. -/
structure Block (x0 : Vec Ideal S64x4096 .f32) (x1 : Vec Ideal S64x128 .f32) (x2 : Vec Ideal S1x16x64 .f32)
    (x3 : Vec Ideal S4x3072 .f32) (x4 : Vec Ideal S1x128 .f32) (x5 : Vec Ideal S8x8x3072 .f32)
    (x6 : Vec Ideal S1x8x8x128x128 .f32) (Sq : Fin 8 → Seq) : Prop where
  rows : ∀ s t c, x0 (ix2 (row s t) c) = (((Sq s).p t c : ℝ) : EReal)
  decays : ∀ s t (h : Fin 8), x1 (ix2 (row s t) ⟨h, by omega⟩) = (((Sq s).g t h : ℝ) : EReal)
  strengths : ∀ s t (h : Fin 8), x1 (ix2 (row s t) ⟨8 + h, by omega⟩) = (((Sq s).be t h : ℝ) : EReal)
  decaysT : ∀ s t (h : Fin 8), x2 (ix3 0 ⟨h, by omega⟩ (row s t)) = (((Sq s).g t h : ℝ) : EReal)
  taps : ∀ s i c, x3 (ix2 i c) = (((Sq s).cw i c : ℝ) : EReal)
  scale : ∀ s d, x4 (ix2 0 d) = (((Sq s).on d : ℝ) : EReal)
  prev : ∀ s (i : Fin 3) c, x5 (ix3 s ⟨5 + i, by omega⟩ c) = (((Sq s).pv i c : ℝ) : EReal)
  state : ∀ s h d e, x6 (ix5 0 s h d e) = (((Sq s).s0 h d e : ℝ) : EReal)

/-! ### Masks -/

theorem pay8_lt1 : ∀ s t : Fin 8, IntOp.cmpi CmpIPredicate.slt (k0_pay8 (ix2 (row s t) 0)) 1#32 = if t.val < 1 then 1#1 else 0#1 := by
  decide +kernel
theorem pay8_lt2 : ∀ s t : Fin 8, IntOp.cmpi CmpIPredicate.slt (k0_pay8 (ix2 (row s t) 0)) 2#32 = if t.val < 2 then 1#1 else 0#1 := by
  decide +kernel
theorem pay8_lt3 : ∀ s t : Fin 8, IntOp.cmpi CmpIPredicate.slt (k0_pay8 (ix2 (row s t) 0)) 3#32 = if t.val < 3 then 1#1 else 0#1 := by
  decide +kernel
theorem pay13_rows : ∀ s t s' t' : Fin 8, k0_pay13 (ix2 (row s t) (row s' t')) = if s = s' then 1#1 else 0#1 := by
  decide +kernel
theorem pay14_rows : ∀ s t s' t' : Fin 8, k0_pay14 (ix2 (row s t) (row s' t')) = if s = s' ∧ t' ≤ t then 1#1 else 0#1 := by
  decide +kernel
theorem pay15_rows : ∀ s t s' t' : Fin 8, k0_pay15 (ix2 (row s t) (row s' t')) = if s = s' ∧ t' < t then 1#1 else 0#1 := by
  decide +kernel

section
variable {x0 : Vec Ideal S64x4096 .f32} {x1 : Vec Ideal S64x128 .f32} {x2 : Vec Ideal S1x16x64 .f32}
  {x3 : Vec Ideal S4x3072 .f32} {x4 : Vec Ideal S1x128 .f32} {x5 : Vec Ideal S8x8x3072 .f32}
  {x6 : Vec Ideal S1x8x8x128x128 .f32} {Sq : Fin 8 → Seq}

/-- The row 1 before, from the remembered rows where the sequence has none of its own. -/
theorem prev1 (H : Block x0 x1 x2 x3 x4 x5 x6 Sq) (s t : Fin 8) (c : Fin 3072) (h1 h2 h3 h4) :
    Scalar.select (IntOp.cmpi CmpIPredicate.slt (k0_pay8 (ix2 (row s t) 0)) 1#32)
      (x5 (ix3 ⟨((row s t).val + 64 - 57) % 64 / 8, h1⟩ ⟨((row s t).val + 64 - 57) % 64 % 8, h2⟩ c))
      (x0 (ix2 ⟨((row s t).val + 64 - 1) % 64, h3⟩ ⟨c.val, h4⟩)) = (((Sq s).xp (t + 2) c : ℝ) : EReal) := by
  rw [pay8_lt1, select_ite]
  have hr : (row s t).val = 8 * s + t := rfl
  by_cases ht : t.val < 1
  · rw [if_pos ht]
    refine Eq.trans (congrArg x5 ?_) ((H.prev s ⟨t + 2, by omega⟩ c).trans ?_)
    · exact (ix3_inj _ _ _ _ _ _).2 ⟨Fin.ext (by dsimp only; omega), Fin.ext (by dsimp only; omega), rfl⟩
    · unfold Seq.xp; rw [dif_pos (by omega)]
  · rw [if_neg ht]
    refine Eq.trans (congrArg x0 ?_) ((H.rows s ⟨t - 1, by omega⟩ ⟨c, by omega⟩).trans ?_)
    · refine (ix2_inj _ _ _ _).2 ⟨Fin.ext ?_, rfl⟩
      show ((row s t).val + 64 - 1) % 64 = 8 * s.val + (t.val - 1)
      omega
    · unfold Seq.xp; rw [dif_neg (by omega), dif_pos (by omega)]
      refine congrArg (fun x => (((Sq s).p x ⟨c, by omega⟩ : ℝ) : EReal)) (Fin.ext ?_)
      show t.val - 1 = t.val + 2 - 3
      omega

/-- The row 2 before, from the remembered rows where the sequence has none of its own. -/
theorem prev2 (H : Block x0 x1 x2 x3 x4 x5 x6 Sq) (s t : Fin 8) (c : Fin 3072) (h1 h2 h3 h4) :
    Scalar.select (IntOp.cmpi CmpIPredicate.slt (k0_pay8 (ix2 (row s t) 0)) 2#32)
      (x5 (ix3 ⟨((row s t).val + 64 - 58) % 64 / 8, h1⟩ ⟨((row s t).val + 64 - 58) % 64 % 8, h2⟩ c))
      (x0 (ix2 ⟨((row s t).val + 64 - 2) % 64, h3⟩ ⟨c.val, h4⟩)) = (((Sq s).xp (t + 1) c : ℝ) : EReal) := by
  rw [pay8_lt2, select_ite]
  have hr : (row s t).val = 8 * s + t := rfl
  by_cases ht : t.val < 2
  · rw [if_pos ht]
    refine Eq.trans (congrArg x5 ?_) ((H.prev s ⟨t + 1, by omega⟩ c).trans ?_)
    · exact (ix3_inj _ _ _ _ _ _).2 ⟨Fin.ext (by dsimp only; omega), Fin.ext (by dsimp only; omega), rfl⟩
    · unfold Seq.xp; rw [dif_pos (by omega)]
  · rw [if_neg ht]
    refine Eq.trans (congrArg x0 ?_) ((H.rows s ⟨t - 2, by omega⟩ ⟨c, by omega⟩).trans ?_)
    · refine (ix2_inj _ _ _ _).2 ⟨Fin.ext ?_, rfl⟩
      show ((row s t).val + 64 - 2) % 64 = 8 * s.val + (t.val - 2)
      omega
    · unfold Seq.xp; rw [dif_neg (by omega), dif_pos (by omega)]
      refine congrArg (fun x => (((Sq s).p x ⟨c, by omega⟩ : ℝ) : EReal)) (Fin.ext ?_)
      show t.val - 2 = t.val + 1 - 3
      omega

/-- The row 3 before, from the remembered rows where the sequence has none of its own. -/
theorem prev3 (H : Block x0 x1 x2 x3 x4 x5 x6 Sq) (s t : Fin 8) (c : Fin 3072) (h1 h2 h3 h4) :
    Scalar.select (IntOp.cmpi CmpIPredicate.slt (k0_pay8 (ix2 (row s t) 0)) 3#32)
      (x5 (ix3 ⟨((row s t).val + 64 - 59) % 64 / 8, h1⟩ ⟨((row s t).val + 64 - 59) % 64 % 8, h2⟩ c))
      (x0 (ix2 ⟨((row s t).val + 64 - 3) % 64, h3⟩ ⟨c.val, h4⟩)) = (((Sq s).xp (t + 0) c : ℝ) : EReal) := by
  rw [pay8_lt3, select_ite]
  have hr : (row s t).val = 8 * s + t := rfl
  by_cases ht : t.val < 3
  · rw [if_pos ht]
    refine Eq.trans (congrArg x5 ?_) ((H.prev s ⟨t + 0, by omega⟩ c).trans ?_)
    · exact (ix3_inj _ _ _ _ _ _).2 ⟨Fin.ext (by dsimp only; omega), Fin.ext (by dsimp only; omega), rfl⟩
    · unfold Seq.xp; rw [dif_pos (by omega)]
  · rw [if_neg ht]
    refine Eq.trans (congrArg x0 ?_) ((H.rows s ⟨t - 3, by omega⟩ ⟨c, by omega⟩).trans ?_)
    · refine (ix2_inj _ _ _ _).2 ⟨Fin.ext ?_, rfl⟩
      show ((row s t).val + 64 - 3) % 64 = 8 * s.val + (t.val - 3)
      omega
    · unfold Seq.xp; rw [dif_neg (by omega), dif_pos (by omega)]
      refine congrArg (fun x => (((Sq s).p x ⟨c, by omega⟩ : ℝ) : EReal)) (Fin.ext ?_)
      show t.val - 3 = t.val + 0 - 3
      omega

/-- The row itself. -/
theorem prev0 (H : Block x0 x1 x2 x3 x4 x5 x6 Sq) (s t : Fin 8) (c : Fin 3072) (h) :
    x0 (ix2 (row s t) ⟨c.val, h⟩) = (((Sq s).xp (t + 3) c : ℝ) : EReal) := by
  rw [H.rows]; unfold Seq.xp; rw [dif_neg (by omega), dif_pos (by omega)]; rfl

/-- The convolution. -/
theorem conv (H : Block x0 x1 x2 x3 x4 x5 x6 Sq) (s t : Fin 8) (c : Fin 3072) :
    k0_pay12 (F := Ideal) (k0_pay76 (F := Ideal) x0 x1 x2 x3 x4 x5 x6) (k0_pay77 (F := Ideal) x0 x1 x2 x3 x4 x5 x6)
      (k0_pay78 (F := Ideal) x0 x1 x2 x3 x4 x5 x6) (ix2 (row s t) c) = (((Sq s).conv t c : ℝ) : EReal) := by
  pointwise [k0_pay76, k0_pay77, k0_pay78, k0_pay12, k0_pay9, k0_pay10, k0_pay11, k0_pay7]
  simp only [prev0 H, prev1 H, prev2 H, prev3 H, H.taps s, ← EReal.coe_mul, ← EReal.coe_add, sigmoid_coe]
  unfold Seq.conv silu Seq.tap
  ring_nf

theorem conv81 (H : Block x0 x1 x2 x3 x4 x5 x6 Sq) (s t : Fin 8) (c : Fin 3072) :
    k0_pay81 (F := Ideal) x0 x1 x2 x3 x4 x5 x6 (ix2 (row s t) c) = (((Sq s).conv t c : ℝ) : EReal) := conv H s t c

/-- Queries. -/
theorem q (H : Block x0 x1 x2 x3 x4 x5 x6 Sq) (h s t : Fin 8) (d : Fin 128) :
    k0_pay87 (F := Ideal) x0 x1 x2 x3 x4 x5 x6 (ix3 h (row s t) d) = (((Sq s).q h t d : ℝ) : EReal) := by
  have e (v v' v'') (r) : k0_pay27 (F := Ideal) (k0_pay12 (F := Ideal) v v' v'') (k0_pay21 (F := Ideal) v v' v'')
      (k0_pay22 (F := Ideal) v v' v'') (k0_pay23 (F := Ideal) v v' v'') (k0_pay24 (F := Ideal) v v' v'') (ix3 h r d) =
      k0_pay12 (F := Ideal) v v' v'' (ix2 r ⟨128 * h + d, by omega⟩)
        * Ideal.rsqrt (∑ e : Fin 128, k0_pay12 (F := Ideal) v v' v'' (ix2 r ⟨128 * h + e, by omega⟩)
            * k0_pay12 (F := Ideal) v v' v'' (ix2 r ⟨128 * h + e, by omega⟩) + Ideal.ofBits .f32 0x358637BD#32)
        * Ideal.ofBits .f32 0x3DB504F3#32 := by
    fin_cases h <;> pointwise [k0_pay27, k0_pay21, k0_pay22, k0_pay23, k0_pay24]
  refine (e _ _ _ _).trans ?_
  simp only [conv H, ← EReal.coe_mul, coe_sum, eps_coe, scl_coe, ← EReal.coe_add]
  rw [rsqrt_pos _ (norm_pos fun e => (Sq s).conv t ⟨128 * h + e, by omega⟩), ← EReal.coe_mul, ← EReal.coe_mul]
  rfl

/-- Keys. -/
theorem k (H : Block x0 x1 x2 x3 x4 x5 x6 Sq) (h s t : Fin 8) (d : Fin 128) :
    k0_pay88 (F := Ideal) x0 x1 x2 x3 x4 x5 x6 (ix3 h (row s t) d) = (((Sq s).k h t d : ℝ) : EReal) := by
  have e (v r) (d : Fin 128) : k0_pay25 (F := Ideal) v (ix3 h r d) = v (ix2 r ⟨1024 + 128 * h + d, by omega⟩) := by
    fin_cases h <;> pointwise [k0_pay25]
  unfold k0_pay88
  pointwise [k0_pay28]
  simp only [e, conv81 H, ← EReal.coe_mul, coe_sum, eps_coe, ← EReal.coe_add]
  rw [rsqrt_pos _ (norm_pos fun e => (Sq s).conv t ⟨1024 + 128 * h + e, by omega⟩), ← EReal.coe_mul]
  rfl

/-- Values. -/
theorem v (H : Block x0 x1 x2 x3 x4 x5 x6 Sq) (h s t : Fin 8) (d : Fin 128) :
    k0_pay86 (F := Ideal) x0 x1 x2 x3 x4 x5 x6 (ix3 h (row s t) d) = (((Sq s).v h t d : ℝ) : EReal) := by
  have e (v r) (d : Fin 128) : k0_pay26 (F := Ideal) v (ix3 h r d) = v (ix2 r ⟨2048 + 128 * h + d, by omega⟩) := by
    fin_cases h <;> pointwise [k0_pay26]
  unfold k0_pay86
  rw [e, conv81 H]
  rfl

/-- The running sums of the log decays, as columns. -/
theorem gc (H : Block x0 x1 x2 x3 x4 x5 x6 Sq) (h s t : Fin 8) :
    k0_pay89 (F := Ideal) x0 x1 x2 x3 x4 x5 x6 (ix3 h (row s t) 0) = (((Sq s).gc h t : ℝ) : EReal) := by
  have e : k0_pay89 (F := Ideal) x0 x1 x2 x3 x4 x5 x6 (ix3 h (row s t) 0) =
      k0_pay17 (F := Ideal) (View.ld x1 r0_3) (ix2 (row s t) ⟨h, by omega⟩) := by
    fin_cases h <;> pointwise [k0_pay89, k0_pay29]
  rw [e]
  pointwise [k0_pay17, k0_pay16]
  simp only [sum_rows, pay14_rows, mask_ite, H.decays, ite_mul, one_mul, zero_mul]
  simp only [ite_and, sum_own, coe_ite, coe_sum]
  rfl

theorem pay18_mask : ∀ s t s' t' : Fin 8, IntOp.andi (k0_pay13 (ix2 (row s' t') (row s t)))
    (IntOp.cmpi CmpIPredicate.sle (BitVec.ofNat 32 (row s' t').val) (BitVec.ofNat 32 (row s t).val))
      = if s = s' ∧ t' ≤ t then 1#1 else 0#1 := by
  decide +kernel

/-- The same sums, as rows. -/
theorem gcT (H : Block x0 x1 x2 x3 x4 x5 x6 Sq) (h s t : Fin 8) :
    k0_pay84 (F := Ideal) x0 x1 x2 x3 x4 x5 x6 (ix2 ⟨h, by omega⟩ (row s t)) = (((Sq s).gc h t : ℝ) : EReal) := by
  pointwise [k0_pay84, k0_pay18]
  simp only [sum_rows, pay18_mask, mask_ite, H.decaysT, mul_ite, mul_one, mul_zero]
  simp only [ite_and, sum_own, coe_ite, coe_sum]
  rfl

/-- The chunk's sums of the log decays. -/
theorem gt (H : Block x0 x1 x2 x3 x4 x5 x6 Sq) (h s t : Fin 8) :
    k0_pay90 (F := Ideal) x0 x1 x2 x3 x4 x5 x6 (ix3 h (row s t) 0) = (((Sq s).gt h : ℝ) : EReal) := by
  have e : k0_pay90 (F := Ideal) x0 x1 x2 x3 x4 x5 x6 (ix3 h (row s t) 0) =
      k0_pay19 (F := Ideal) (View.ld x1 r0_3) (ix2 (row s t) ⟨h, by omega⟩) := by
    fin_cases h <;> pointwise [k0_pay90, k0_pay30]
  rw [e]
  pointwise [k0_pay19, k0_pay16]
  simp only [sum_rows, pay13_rows, mask_ite, H.decays, ite_mul, one_mul, zero_mul, sum_own, coe_sum]
  rfl

/-- The update strengths. -/
theorem be (H : Block x0 x1 x2 x3 x4 x5 x6 Sq) (h s t : Fin 8) :
    k0_pay99 (F := Ideal) x0 x1 x2 x3 x4 x5 x6 (ix3 h (row s t) 0) = (((Sq s).be t h : ℝ) : EReal) := by
  rw [← H.strengths]
  fin_cases h <;> pointwise [k0_pay99, k0_pay39, k0_pay91, k0_pay92, k0_pay93, k0_pay94, k0_pay95, k0_pay96, k0_pay97,
    k0_pay98, k0_pay31, k0_pay32, k0_pay33, k0_pay34, k0_pay35, k0_pay36, k0_pay37, k0_pay38, k0_pay83, k0_pay16]

/-- Keys times the update strength. -/
theorem kb (H : Block x0 x1 x2 x3 x4 x5 x6 Sq) (h s t : Fin 8) (d : Fin 128) :
    k0_pay100 (F := Ideal) x0 x1 x2 x3 x4 x5 x6 (ix3 h (row s t) d) = (((Sq s).kb h t d : ℝ) : EReal) := by
  have e : k0_pay100 (F := Ideal) x0 x1 x2 x3 x4 x5 x6 (ix3 h (row s t) d) =
      k0_pay88 (F := Ideal) x0 x1 x2 x3 x4 x5 x6 (ix3 h (row s t) d)
        * k0_pay99 (F := Ideal) x0 x1 x2 x3 x4 x5 x6 (ix3 h (row s t) 0) := by
    unfold k0_pay100 k0_pay99
    pointwise [k0_pay41]
  rw [e, k H, be H, ← EReal.coe_mul]
  rfl

/-- The decays between tokens. -/
theorem dec (H : Block x0 x1 x2 x3 x4 x5 x6 Sq) (h s t s' t' : Fin 8) :
    k0_pay40 (F := Ideal) (k0_pay82 (F := Ideal) x0 x1 x2 x3 x4 x5 x6) (k0_pay84 (F := Ideal) x0 x1 x2 x3 x4 x5 x6)
      (k0_pay89 (F := Ideal) x0 x1 x2 x3 x4 x5 x6) (ix3 h (row s t) (row s' t'))
        = ((if s = s' then (Sq s).dec h t t' else 0 : ℝ) : EReal) := by
  have e (m : IVec S64x64 1) (a : FVec Ideal S16x64 .f32) (b : FVec Ideal S8x64x1 .f32) (r c : Fin 64) :
      k0_pay40 (F := Ideal) m a b (ix3 h r c) = Scalar.select (m (ix2 r c))
        (Ideal.exp (Scalar.select (m (ix2 r c)) (b (ix3 h r 0) - a (ix2 ⟨h, by omega⟩ c)) 0)) 0 := by
    fin_cases h <;> pointwise [k0_pay40]
  rw [e]
  unfold k0_pay82
  rw [pay14_rows, select_ite, select_ite, gc H, gcT H]
  by_cases hs : s = s'
  · subst hs
    by_cases ht : t' ≤ t
    · rw [if_pos ⟨rfl, ht⟩, if_pos ⟨rfl, ht⟩, if_pos rfl, ← EReal.coe_sub, Ideal.exp_coe]
      unfold Seq.dec; rw [if_pos ht]
    · rw [if_neg (fun h => ht h.2), if_pos rfl]
      unfold Seq.dec; rw [if_neg ht, EReal.coe_zero]
  · rw [if_neg (fun h => hs h.1), if_neg hs, EReal.coe_zero]

end

end GatedDelta.Kernel
end
-- ==== Proof.Delta.Kernel2.lean ====
module

public import proofs.«01_k».proof.Proof.Delta.Kernel1

@[expose] public section

set_option maxRecDepth 4000

noncomputable section

open Idealize.ShloMosaic Idealize.ShloMosaic.TcCoe
open Cert.KernelIdeal Cert.KernelIdeal.Gen

namespace GatedDelta.Kernel

/-! ### Block-diagonal matrices of the 64 rows, one 8 × 8 block for each sequence -/

/-- The product of two batches of matrices. -/
def mm (a b : FVec Ideal S8x64x64 .f32) : FVec Ideal S8x64x64 .f32 :=
  matmul dot_S8x64x64_S8x64x64_S8x64x64_2_1_1_2_0_0 none (truncf .bf16 a bitsLt_bf16_f32) (truncf .bf16 b bitsLt_bf16_f32)
    (constant S8x64x64 .f32 0x00000000#32)

/-- The product of a batch of matrices with a batch of columns. -/
def mv (a : FVec Ideal S8x64x64 .f32) (b : FVec Ideal S8x64x256 .f32) : FVec Ideal S8x64x256 .f32 :=
  matmul dot_S8x64x64_S8x64x256_S8x64x256_2_1_1_2_0_0 none (truncf .bf16 a bitsLt_bf16_f32) (truncf .bf16 b bitsLt_bf16_f32)
    (constant S8x64x256 .f32 0x00000000#32)

theorem mm_apply (a b) (h : Fin 8) (r c : Fin 64) : mm a b (ix3 h r c) = ∑ x : Fin 64, a (ix3 h r x) * b (ix3 h x c) := by
  pointwise [mm]
theorem mv_apply (a b) (h : Fin 8) (r : Fin 64) (c : Fin 256) : mv a b (ix3 h r c) = ∑ x : Fin 64, a (ix3 h r x) * b (ix3 h x c) := by
  pointwise [mv]

/-- `X` is block diagonal with blocks `A`. -/
def IsBlk (X : FVec Ideal S8x64x64 .f32) (A : Fin 8 → Fin 8 → Matrix (Fin 8) (Fin 8) ℝ) : Prop :=
  ∀ h s t s' t', X (ix3 h (row s t) (row s' t')) = ((if s = s' then A s h t t' else 0 : ℝ) : EReal)

/-- `X` holds the columns `b`. -/
def IsCol (X : FVec Ideal S8x64x256 .f32) (b : Fin 8 → Fin 8 → Fin 8 → Fin 256 → ℝ) : Prop :=
  ∀ h s t c, X (ix3 h (row s t) c) = ((b s h t c : ℝ) : EReal)

theorem ite_mul_ite (p : Prop) [Decidable p] (x y : ℝ) : (if p then x else 0) * y = if p then x * y else 0 := by
  split <;> simp

theorem IsBlk.mm {X Y A B} (hX : IsBlk X A) (hY : IsBlk Y B) : IsBlk (mm X Y) (fun s h => A s h * B s h) := by
  intro h s t s' t'
  rw [mm_apply, sum_rows]
  simp only [hX h s t, hY h, ← EReal.coe_mul, coe_sum, ite_mul_ite]
  rw [sum_own]
  by_cases e : s = s'
  · subst e; simp only [if_true, Matrix.mul_apply]
  · simp only [if_neg e, mul_zero, Finset.sum_const_zero]

theorem IsBlk.mv {X Y A b} (hX : IsBlk X A) (hY : IsCol Y b) : IsCol (mv X Y) (fun s h t c => ∑ j, A s h t j * b s h j c) := by
  intro h s t c
  rw [mv_apply, sum_rows]
  simp only [hX h s t, hY h, ← EReal.coe_mul, coe_sum, ite_mul_ite]
  rw [sum_own]

theorem IsBlk.add {X Y A B} (hX : IsBlk X A) (hY : IsBlk Y B) : IsBlk (addf X Y) (fun s h => A s h + B s h) := by
  intro h s t s' t'
  show X _ + Y _ = _
  rw [hX, hY, ← EReal.coe_add]
  split <;> simp

theorem IsBlk.sub {X Y A B} (hX : IsBlk X A) (hY : IsBlk Y B) : IsBlk (subf X Y) (fun s h => A s h - B s h) := by
  intro h s t s' t'
  show X _ - Y _ = _
  rw [hX, hY, ← EReal.coe_sub]
  split <;> simp

theorem IsCol.add {X Y A B} (hX : IsCol X A) (hY : IsCol Y B) : IsCol (addf X Y) (fun s h t c => A s h t c + B s h t c) := by
  intro h s t c
  show X _ + Y _ = _
  rw [hX, hY, ← EReal.coe_add]

theorem IsCol.sub {X Y A B} (hX : IsCol X A) (hY : IsCol Y B) : IsCol (subf X Y) (fun s h t c => A s h t c - B s h t c) := by
  intro h s t c
  show X _ - Y _ = _
  rw [hX, hY, ← EReal.coe_sub]

section
variable {x0 : Vec Ideal S64x4096 .f32} {x1 : Vec Ideal S64x128 .f32} {x2 : Vec Ideal S1x16x64 .f32}
  {x3 : Vec Ideal S4x3072 .f32} {x4 : Vec Ideal S1x128 .f32} {x5 : Vec Ideal S8x8x3072 .f32}
  {x6 : Vec Ideal S1x8x8x128x128 .f32} {Sq : Fin 8 → Seq}

/-- The system's matrix. -/
theorem m (H : Block x0 x1 x2 x3 x4 x5 x6 Sq) :
    IsBlk (k0_pay101 (F := Ideal) x0 x1 x2 x3 x4 x5 x6) (fun s h => (Sq s).m h) := by
  intro h s t s' t'
  have e (r c : Fin 64) : k0_pay101 (F := Ideal) x0 x1 x2 x3 x4 x5 x6 (ix3 h r c) = Scalar.select (k0_pay15 (ix2 r c))
      ((∑ d : Fin 128, k0_pay100 (F := Ideal) x0 x1 x2 x3 x4 x5 x6 (ix3 h r d) * k0_pay88 (F := Ideal) x0 x1 x2 x3 x4 x5 x6 (ix3 h c d))
        * k0_pay40 (F := Ideal) (k0_pay82 (F := Ideal) x0 x1 x2 x3 x4 x5 x6) (k0_pay84 (F := Ideal) x0 x1 x2 x3 x4 x5 x6)
          (k0_pay89 (F := Ideal) x0 x1 x2 x3 x4 x5 x6) (ix3 h r c)) 0 := by
    unfold k0_pay101 k0_pay100
    pointwise [k0_pay42]
  rw [e, pay15_rows, select_ite, dec H]
  simp only [kb H, k H, ← EReal.coe_mul, coe_sum]
  by_cases hs : s = s'
  · subst hs
    rw [if_pos rfl, if_pos rfl]
    unfold Seq.m
    rw [Matrix.of_apply]
    by_cases ht : t' < t
    · rw [if_pos ⟨rfl, ht⟩, if_pos ht]
    · rw [if_neg (fun h => ht h.2), if_neg ht, EReal.coe_zero]
  · rw [if_neg (fun h => hs h.1 : ¬ (s = s' ∧ t' < t))]
    show _ = ((if s = s' then (Sq s).m h t t' else 0 : ℝ) : EReal)
    rw [if_neg hs, EReal.coe_zero]

/-- The scores. -/
theorem qk (H : Block x0 x1 x2 x3 x4 x5 x6 Sq) :
    IsBlk (k0_pay43 (F := Ideal) (k0_pay82 (F := Ideal) x0 x1 x2 x3 x4 x5 x6) (k0_pay84 (F := Ideal) x0 x1 x2 x3 x4 x5 x6)
      (k0_pay87 (F := Ideal) x0 x1 x2 x3 x4 x5 x6) (k0_pay88 (F := Ideal) x0 x1 x2 x3 x4 x5 x6)
      (k0_pay89 (F := Ideal) x0 x1 x2 x3 x4 x5 x6)) (fun s h => .of ((Sq s).qk h)) := by
  intro h s t s' t'
  pointwise [k0_pay43]
  rw [dec H]
  simp only [q H, k H, ← EReal.coe_mul, coe_sum]
  by_cases hs : s = s'
  · subst hs; rw [if_pos rfl, if_pos rfl]; rfl
  · rw [if_neg hs, if_neg hs, mul_zero]

theorem same_mask : ∀ s t s' t' : Fin 8, k0_pay45 (iota .tc S64x64 32 [0] iota_S64x64_d0_w32) (iota .tc S64x64 32 [1] iota_S64x64_d1_w32)
    (ix2 (row s t) (row s' t')) = if s = s' then 1#1 else 0#1 := by
  decide +kernel

theorem eye_mask : ∀ s t s' t' : Fin 8, cmpi .eq (iota .tc S64x64 32 [0] iota_S64x64_d0_w32) (iota .tc S64x64 32 [1] iota_S64x64_d1_w32)
    (ix2 (row s t) (row s' t')) = if s = s' ∧ t = t' then 1#1 else 0#1 := by
  decide +kernel

/-- The matrix once more, cut to its blocks. -/
def cutM (x : FVec Ideal S8x64x64 .f32) (mk : IVec S64x64 1) : FVec Ideal S8x64x64 .f32 :=
  select (broadcastTo S8x64x64 (shapeCast S1x64x64 mk shapeCasts_S64x64_S1x64x64) broadcasts_S1x64x64_S8x64x64) x
    (broadcast S8x64x64 (Scalar.ofBits (F := Ideal) .f32 0x00000000#32))

/-- The identity, once for each head. -/
def eyeM (y : FVec Ideal S64x64 .f32) : FVec Ideal S8x64x64 .f32 :=
  broadcastTo S8x64x64 (shapeCast S1x64x64 y shapeCasts_S64x64_S1x64x64) broadcasts_S1x64x64_S8x64x64

theorem cutM_blk {X A} (hX : IsBlk X A) : IsBlk (cutM X (k0_pay103 (F := Ideal) x0 x1 x2 x3 x4 x5 x6)) A := by
  intro h s t s' t'
  have e (r c : Fin 64) : cutM X (k0_pay103 (F := Ideal) x0 x1 x2 x3 x4 x5 x6) (ix3 h r c)
      = Scalar.select (k0_pay103 (F := Ideal) x0 x1 x2 x3 x4 x5 x6 (ix2 r c)) (X (ix3 h r c)) 0 := by
    pointwise [cutM]
  rw [e]
  unfold k0_pay103 k0_pay79 k0_pay80
  rw [same_mask, select_ite, hX]
  by_cases hs : s = s'
  · rw [if_pos hs, if_pos hs]
  · rw [if_neg hs, if_neg hs, EReal.coe_zero]

theorem eyeM_blk : IsBlk (eyeM (k0_pay102 (F := Ideal) x0 x1 x2 x3 x4 x5 x6)) (fun _ _ => 1) := by
  intro h s t s' t'
  have e (r c : Fin 64) : eyeM (k0_pay102 (F := Ideal) x0 x1 x2 x3 x4 x5 x6) (ix3 h r c)
      = FloatOps.sitofp (F := Ideal) .f32 (BitVec.setWidth 32 (cmpi .eq (iota .tc S64x64 32 [0] iota_S64x64_d0_w32) (iota .tc S64x64 32 [1] iota_S64x64_d1_w32)
    (ix2 r c))) := by
    pointwise [eyeM, k0_pay102, k0_pay44, k0_pay79, k0_pay80]
  rw [e, eye_mask, mask_ite]
  show _ = ((if s = s' then (1 : Matrix (Fin 8) (Fin 8) ℝ) t t' else 0 : ℝ) : EReal)
  rw [Matrix.one_apply]
  by_cases hs : s = s'
  · subst hs
    by_cases ht : t = t'
    · rw [if_pos ⟨rfl, ht⟩, if_pos rfl, if_pos ht, EReal.coe_one]
    · rw [if_neg (fun h => ht h.2), if_pos rfl, if_neg ht, EReal.coe_zero]
  · rw [if_neg (fun h => hs h.1), if_neg hs, EReal.coe_zero]

/-- The inverse. -/
def invM (x d i : FVec Ideal S8x64x64 .f32) : FVec Ideal S8x64x64 .f32 :=
  addf (addf (subf i d) (mm (subf i d) (mm d d))) (mm (addf (subf i d) (mm (subf i d) (mm d d))) (mm (mm d d) (mm d d)))

/-- The right-hand sides: values, then keys. -/
def rhsM (v133 v233 : FVec Ideal S8x64x128 .f32) (v168 v202 : FVec Ideal S8x64x1 .f32) : FVec Ideal S8x64x256 .f32 :=
  concatenate S8x64x256 2 [⟨S8x64x128, mulf v133 (broadcastTo S8x64x128 v202 broadcasts_S8x64x1_S8x64x128)⟩,
    ⟨S8x64x128, mulf v233 (broadcastTo S8x64x128 (k0_pay46 (F := Ideal) v168) broadcasts_S8x64x1_S8x64x128)⟩]
    concatenates_S8x64x128_S8x64x128_S8x64x256_d2

/-- What the matrix product in three passes leaves out of its first pass. -/
def lowM (x : FVec Ideal S8x64x64 .f32) : FVec Ideal S8x64x64 .f32 :=
  subf x (extf .f32 (truncf .bf16 x bitsLt_bf16_f32) bitsLt_bf16_f32)
def lowV (x : FVec Ideal S8x64x256 .f32) : FVec Ideal S8x64x256 .f32 :=
  subf x (extf .f32 (truncf .bf16 x bitsLt_bf16_f32) bitsLt_bf16_f32)

/-- The solution with one step of refinement. -/
def refine1 (a inv : FVec Ideal S8x64x64 .f32) (b : FVec Ideal S8x64x256 .f32) : FVec Ideal S8x64x256 .f32 :=
  addf (mv inv b) (mv inv (subf (subf b (mv inv b))
    (addf (mv a (mv inv b)) (addf (mv a (lowV (mv inv b))) (mv (lowM a) (mv inv b))))))

theorem pay47_eq (v133 v168 v202 v233 v241 v248 v253) :
    k0_pay47 (F := Ideal) v133 v168 v202 v233 v241 v248 v253 (Scalar.ofBits .f32 0x00000000#32)
      = refine1 v241 (invM v241 (cutM v241 v253) (eyeM v248)) (rhsM v133 v233 v168 v202) := rfl

theorem lowM_blk {X A} (hX : IsBlk X A) : IsBlk (lowM X) (fun _ _ => 0) := by
  intro h s t s' t'
  show X _ - X _ = _
  rw [hX, ← EReal.coe_sub, sub_self]
  split <;> simp

theorem lowV_col {X b} (hX : IsCol X b) : IsCol (lowV X) (fun _ _ _ _ => 0) := by
  intro h s t c
  show X _ - X _ = _
  rw [hX, ← EReal.coe_sub, sub_self]

theorem refine1_col {a inv b M R} (ha : IsBlk a M) (hl : ∀ s h, M s h ^ 8 = 0) (hi : IsBlk inv (fun s h => tinv (M s h))) (hb : IsCol b R) :
    IsCol (refine1 a inv b) (fun s h t c => ∑ j, tinv (M s h) t j * R s h j c) := by
  have h1 := hi.mv hb
  have h2 := h1.add (hi.mv ((hb.sub h1).sub ((ha.mv h1).add ((ha.mv (lowV_col h1)).add ((lowM_blk ha).mv h1)))))
  intro h s t c
  refine (h2 h s t c).trans (congrArg _ ?_)
  have key : ∀ j, R s h j c - (∑ i, tinv (M s h) j i * R s h i c) - (∑ i, M s h j i * ∑ l, tinv (M s h) i l * R s h l c) = 0 := by
    intro j
    have e := congrArg (fun N : Matrix (Fin 8) (Fin 8) ℝ => N.mulVec (fun i => R s h i c) j) (one_add_mul_tinv (M s h) (hl s h))
    simp only [Matrix.one_mulVec, ← Matrix.mulVec_mulVec, Matrix.add_mulVec, Pi.add_apply] at e
    simp only [Matrix.mulVec, dotProduct] at e
    linarith
  simp only [Matrix.zero_apply, zero_mul, mul_zero, Finset.sum_const_zero, add_zero, key]

/-- The right-hand sides' columns. -/
def rhsR (Sq : Fin 8 → Seq) (s h t : Fin 8) (c : Fin 256) : ℝ :=
  if hc : c.val < 128 then (Sq s).ru h t ⟨c, hc⟩ else (Sq s).rw h t ⟨c - 128, by omega⟩

theorem rhsM_col (H : Block x0 x1 x2 x3 x4 x5 x6 Sq) :
    IsCol (rhsM (k0_pay86 (F := Ideal) x0 x1 x2 x3 x4 x5 x6) (k0_pay100 (F := Ideal) x0 x1 x2 x3 x4 x5 x6)
      (k0_pay89 (F := Ideal) x0 x1 x2 x3 x4 x5 x6) (k0_pay99 (F := Ideal) x0 x1 x2 x3 x4 x5 x6)) (rhsR Sq) := by
  intro h s t c
  pointwise [rhsM, k0_pay46]
  unfold rhsR
  split
  · next hc => simp only [v H, be H, ← EReal.coe_mul]; rfl
  · next hc => simp only [kb H, gc H, Ideal.exp_coe, ← EReal.coe_mul]; rfl

theorem sol (H : Block x0 x1 x2 x3 x4 x5 x6 Sq) :
    IsCol (k0_pay47 (F := Ideal) (k0_pay86 (F := Ideal) x0 x1 x2 x3 x4 x5 x6) (k0_pay89 (F := Ideal) x0 x1 x2 x3 x4 x5 x6)
      (k0_pay99 (F := Ideal) x0 x1 x2 x3 x4 x5 x6) (k0_pay100 (F := Ideal) x0 x1 x2 x3 x4 x5 x6)
      (k0_pay101 (F := Ideal) x0 x1 x2 x3 x4 x5 x6) (k0_pay102 (F := Ideal) x0 x1 x2 x3 x4 x5 x6)
      (k0_pay103 (F := Ideal) x0 x1 x2 x3 x4 x5 x6) (Scalar.ofBits .f32 0x00000000#32))
      (fun s h t c => ∑ j, tinv ((Sq s).m h) t j * rhsR Sq s h j c) := by
  rw [pay47_eq]
  have hm := m H
  have hd := cutM_blk (x0 := x0) (x1 := x1) (x2 := x2) (x3 := x3) (x4 := x4) (x5 := x5) (x6 := x6) hm
  have hi := (eyeM_blk (x0 := x0) (x1 := x1) (x2 := x2) (x3 := x3) (x4 := x4) (x5 := x5) (x6 := x6)).sub hd
  have h3 := hi.add (hi.mm (hd.mm hd))
  exact refine1_col hm (fun s h => pow_eight _ (m_low (Sq s) h)) (h3.add (h3.mm ((hd.mm hd).mm (hd.mm hd)))) (rhsM_col H)

theorem u (H : Block x0 x1 x2 x3 x4 x5 x6 Sq) (h s t : Fin 8) (d : Fin 128) :
    k0_pay105 (F := Ideal) x0 x1 x2 x3 x4 x5 x6 (ix3 h (row s t) d) = (((Sq s).u h t d : ℝ) : EReal) := by
  unfold k0_pay105
  have e : ∀ v47 : FVec Ideal S8x64x256 .f32, extractStridedSlice S8x64x128 ![0, 0, 0] v47 slices_S8x64x256_o0_0_0_S8x64x128 (ix3 h (row s t) d)
      = v47 (ix3 h (row s t) ⟨d, by omega⟩) := by
    intro v47
    pointwise []
  refine (e _).trans ((sol H h s t _).trans (congrArg _ ?_))
  refine Finset.sum_congr rfl fun j _ => ?_
  unfold rhsR
  rw [dif_pos d.isLt]

theorem w (H : Block x0 x1 x2 x3 x4 x5 x6 Sq) (h s t : Fin 8) (d : Fin 128) :
    k0_pay106 (F := Ideal) x0 x1 x2 x3 x4 x5 x6 (ix3 h (row s t) d) = (((Sq s).w h t d : ℝ) : EReal) := by
  unfold k0_pay106
  have e : ∀ v47 : FVec Ideal S8x64x256 .f32, extractStridedSlice S8x64x128 ![0, 0, 128] v47 slices_S8x64x256_o0_0_128_S8x64x128 (ix3 h (row s t) d)
      = v47 (ix3 h (row s t) ⟨128 + d, by omega⟩) := by
    intro v47
    pointwise []
  refine (e _).trans ((sol H h s t _).trans (congrArg _ ?_))
  refine Finset.sum_congr rfl fun j _ => ?_
  unfold rhsR
  rw [dif_neg (by show ¬ 128 + d.val < 128; omega)]
  exact congrArg (fun x => tinv ((Sq s).m h) t j * (Sq s).rw h j x) (Fin.ext (by show 128 + d.val - 128 = d.val; omega))

/-- Keys with the decay to the chunk's end. -/
theorem kd (H : Block x0 x1 x2 x3 x4 x5 x6 Sq) (h s t : Fin 8) (d : Fin 128) :
    k0_pay107 (F := Ideal) x0 x1 x2 x3 x4 x5 x6 (ix3 h (row s t) d) = (((Sq s).kd h t d : ℝ) : EReal) := by
  unfold k0_pay107
  pointwise [k0_pay50]
  rw [k H, gc H, gt H, ← EReal.coe_sub, Ideal.exp_coe, ← EReal.coe_mul]
  rfl

end

end GatedDelta.Kernel
end
-- ==== Proof.Delta.Kernel3.lean ====
module

public import proofs.«01_k».proof.Proof.Delta.Kernel2

@[expose] public section

set_option maxRecDepth 4000

noncomputable section

open Idealize.ShloMosaic Idealize.ShloMosaic.TcCoe
open Cert.KernelIdeal Cert.KernelIdeal.Gen

namespace GatedDelta.Kernel

/-! ### Which sequence a row belongs to -/

theorem seq_mask : ∀ s t q : Fin 8, IntOp.cmpi .eq (k0_pay20 (ix2 (⟨row s t, by omega⟩ : Fin 128) (0 : Fin 1))) (BitVec.ofNat 32 q)
    = if s = q then 1#1 else 0#1 := by
  decide +kernel
theorem seq_mask' : ∀ s t q : Fin 8, IntOp.cmpi .eq (k0_pay20 (ix2 (⟨64 + row s t, by omega⟩ : Fin 128) (0 : Fin 1))) (BitVec.ofNat 32 q)
    = if s = q then 1#1 else 0#1 := by
  decide +kernel

/-- Choosing among eight values the one of sequence `s`. -/
theorem choose8 (s : Fin 8) (f : Fin 8 → EReal) (z : EReal) :
    Scalar.select (if s = 7 then 1#1 else 0#1) (f 7) (Scalar.select (if s = 6 then 1#1 else 0#1) (f 6)
      (Scalar.select (if s = 5 then 1#1 else 0#1) (f 5) (Scalar.select (if s = 4 then 1#1 else 0#1) (f 4)
      (Scalar.select (if s = 3 then 1#1 else 0#1) (f 3) (Scalar.select (if s = 2 then 1#1 else 0#1) (f 2)
      (Scalar.select (if s = 1 then 1#1 else 0#1) (f 1) (Scalar.select (if s = 0 then 1#1 else 0#1) (f 0) z))))))) = f s := by
  simp only [select_ite]
  fin_cases s <;> rfl

section
variable {x0 : Vec Ideal S64x4096 .f32} {x1 : Vec Ideal S64x128 .f32} {x2 : Vec Ideal S1x16x64 .f32}
  {x3 : Vec Ideal S4x3072 .f32} {x4 : Vec Ideal S1x128 .f32} {x5 : Vec Ideal S8x8x3072 .f32}
  {x6 : Vec Ideal S1x8x8x128x128 .f32} {Sq : Fin 8 → Seq}

/-- The state products: each row times the state of the sequence it belongs to. -/
theorem prod (H : Block x0 x1 x2 x3 x4 x5 x6 Sq) (h : Fin 8) (r : Fin 128) (e : Fin 128) (s : Fin 8)
    (hr : ∀ q : Fin 8, IntOp.cmpi .eq (k0_pay20 (ix2 r (0 : Fin 1))) (BitVec.ofNat 32 q) = if s = q then 1#1 else 0#1) :
    k0_pay55 (F := Ideal) (k0_pay85 (F := Ideal) x0 x1 x2 x3 x4 x5 x6) (k0_pay108 (F := Ideal) x0 x1 x2 x3 x4 x5 x6) (k0_pay109 (F := Ideal) x0 x1 x2 x3 x4 x5 x6) (k0_pay110 (F := Ideal) x0 x1 x2 x3 x4 x5 x6) (View.ld x6 r0_11) (View.ld x6 r0_12) (ix3 h r e)
      = ∑ d : Fin 128, k0_pay108 (F := Ideal) x0 x1 x2 x3 x4 x5 x6 (ix3 h r d) * (((Sq s).s0 h d e : ℝ) : EReal) := by
  have e1 : k0_pay55 (F := Ideal) (k0_pay85 (F := Ideal) x0 x1 x2 x3 x4 x5 x6) (k0_pay108 (F := Ideal) x0 x1 x2 x3 x4 x5 x6) (k0_pay109 (F := Ideal) x0 x1 x2 x3 x4 x5 x6) (k0_pay110 (F := Ideal) x0 x1 x2 x3 x4 x5 x6) (View.ld x6 r0_11) (View.ld x6 r0_12) (ix3 h r e)
      = Scalar.select (IntOp.cmpi .eq (k0_pay20 (ix2 r (0 : Fin 1))) 7#32) (∑ d : Fin 128, k0_pay108 (F := Ideal) x0 x1 x2 x3 x4 x5 x6 (ix3 h r d) * x6 (ix5 0 7 h d e))
        (Scalar.select (IntOp.cmpi .eq (k0_pay20 (ix2 r (0 : Fin 1))) 6#32) (∑ d : Fin 128, k0_pay108 (F := Ideal) x0 x1 x2 x3 x4 x5 x6 (ix3 h r d) * x6 (ix5 0 6 h d e))
          (k0_pay109 (F := Ideal) x0 x1 x2 x3 x4 x5 x6 (ix3 h r e))) := by
    pointwise [k0_pay55]
    rfl
  have e2 : k0_pay109 (F := Ideal) x0 x1 x2 x3 x4 x5 x6 (ix3 h r e)
      = Scalar.select (IntOp.cmpi .eq (k0_pay20 (ix2 r (0 : Fin 1))) 5#32) (∑ d : Fin 128, k0_pay108 (F := Ideal) x0 x1 x2 x3 x4 x5 x6 (ix3 h r d) * x6 (ix5 0 5 h d e))
        (Scalar.select (IntOp.cmpi .eq (k0_pay20 (ix2 r (0 : Fin 1))) 4#32) (∑ d : Fin 128, k0_pay108 (F := Ideal) x0 x1 x2 x3 x4 x5 x6 (ix3 h r d) * x6 (ix5 0 4 h d e))
        (Scalar.select (IntOp.cmpi .eq (k0_pay20 (ix2 r (0 : Fin 1))) 3#32) (∑ d : Fin 128, k0_pay108 (F := Ideal) x0 x1 x2 x3 x4 x5 x6 (ix3 h r d) * x6 (ix5 0 3 h d e))
          (k0_pay52 (F := Ideal) (k0_pay85 (F := Ideal) x0 x1 x2 x3 x4 x5 x6) (k0_pay87 (F := Ideal) x0 x1 x2 x3 x4 x5 x6) (k0_pay104 (F := Ideal) x0 x1 x2 x3 x4 x5 x6) (k0_pay106 (F := Ideal) x0 x1 x2 x3 x4 x5 x6) (View.ld x6 r0_5) (View.ld x6 r0_6) (View.ld x6 r0_7) (ix3 h r e)))) := by
    unfold k0_pay109
    pointwise [k0_pay53]
    rfl
  have e3 : k0_pay52 (F := Ideal) (k0_pay85 (F := Ideal) x0 x1 x2 x3 x4 x5 x6) (k0_pay87 (F := Ideal) x0 x1 x2 x3 x4 x5 x6) (k0_pay104 (F := Ideal) x0 x1 x2 x3 x4 x5 x6) (k0_pay106 (F := Ideal) x0 x1 x2 x3 x4 x5 x6) (View.ld x6 r0_5) (View.ld x6 r0_6) (View.ld x6 r0_7) (ix3 h r e)
      = Scalar.select (IntOp.cmpi .eq (k0_pay20 (ix2 r (0 : Fin 1))) 2#32) (∑ d : Fin 128, k0_pay108 (F := Ideal) x0 x1 x2 x3 x4 x5 x6 (ix3 h r d) * x6 (ix5 0 2 h d e))
        (Scalar.select (IntOp.cmpi .eq (k0_pay20 (ix2 r (0 : Fin 1))) 1#32) (∑ d : Fin 128, k0_pay108 (F := Ideal) x0 x1 x2 x3 x4 x5 x6 (ix3 h r d) * x6 (ix5 0 1 h d e))
        (Scalar.select (IntOp.cmpi .eq (k0_pay20 (ix2 r (0 : Fin 1))) 0#32) (∑ d : Fin 128, k0_pay108 (F := Ideal) x0 x1 x2 x3 x4 x5 x6 (ix3 h r d) * x6 (ix5 0 0 h d e)) 0)) := by
    pointwise [k0_pay52]
    rfl
  rw [e1, e2, e3]
  have h7 := hr 7; have h6 := hr 6; have h5 := hr 5; have h4 := hr 4; have h3 := hr 3; have h2 := hr 2; have h1 := hr 1; have h0 := hr 0
  refine Eq.trans ?_ ((choose8 s (fun q => ∑ d : Fin 128, k0_pay108 (F := Ideal) x0 x1 x2 x3 x4 x5 x6 (ix3 h r d) * x6 (ix5 0 q h d e)) 0).trans ?_)
  · rw [← h7, ← h6, ← h5, ← h4, ← h3, ← h2, ← h1, ← h0]; rfl
  · simp only [H.state]

/-- The stacked rows: keys of the system. -/
theorem stackW (H : Block x0 x1 x2 x3 x4 x5 x6 Sq) (h s t : Fin 8) (d : Fin 128) :
    k0_pay108 (F := Ideal) x0 x1 x2 x3 x4 x5 x6 (ix3 h (⟨row s t, by omega⟩ : Fin 128) d) = (((Sq s).w h t d : ℝ) : EReal) := by
  rw [← w H]
  unfold k0_pay108
  pointwise [k0_pay51]

/-- The stacked rows: queries with their decay. -/
theorem stackQ (H : Block x0 x1 x2 x3 x4 x5 x6 Sq) (h s t : Fin 8) (d : Fin 128) :
    k0_pay108 (F := Ideal) x0 x1 x2 x3 x4 x5 x6 (ix3 h (⟨64 + row s t, by omega⟩ : Fin 128) d) = (((Sq s).qd h t d : ℝ) : EReal) := by
  have e : k0_pay108 (F := Ideal) x0 x1 x2 x3 x4 x5 x6 (ix3 h (⟨64 + row s t, by omega⟩ : Fin 128) d)
      = k0_pay87 (F := Ideal) x0 x1 x2 x3 x4 x5 x6 (ix3 h (row s t) d) * Ideal.exp (k0_pay89 (F := Ideal) x0 x1 x2 x3 x4 x5 x6 (ix3 h (row s t) 0)) := by
    unfold k0_pay108 k0_pay104
    pointwise [k0_pay51, k0_pay46]
  rw [e, q H, gc H, Ideal.exp_coe, ← EReal.coe_mul]
  rfl

/-- The values the state takes up. -/
theorem vn (H : Block x0 x1 x2 x3 x4 x5 x6 Sq) (h s t : Fin 8) (e : Fin 128) :
    k0_pay111 (F := Ideal) x0 x1 x2 x3 x4 x5 x6 (ix3 h (row s t) e) = (((Sq s).vn h t e : ℝ) : EReal) := by
  have e1 : k0_pay111 (F := Ideal) x0 x1 x2 x3 x4 x5 x6 (ix3 h (row s t) e) = k0_pay105 (F := Ideal) x0 x1 x2 x3 x4 x5 x6 (ix3 h (row s t) e)
      - k0_pay55 (F := Ideal) (k0_pay85 (F := Ideal) x0 x1 x2 x3 x4 x5 x6) (k0_pay108 (F := Ideal) x0 x1 x2 x3 x4 x5 x6) (k0_pay109 (F := Ideal) x0 x1 x2 x3 x4 x5 x6) (k0_pay110 (F := Ideal) x0 x1 x2 x3 x4 x5 x6) (View.ld x6 r0_11) (View.ld x6 r0_12) (ix3 h (⟨row s t, by omega⟩ : Fin 128) e) := by
    unfold k0_pay111
    pointwise [k0_pay56]
  rw [e1, u H, prod H h _ e s (seq_mask s t)]
  simp only [stackW H, ← EReal.coe_mul, coe_sum]
  rw [← EReal.coe_sub]
  rfl

/-- The output before norm and gate. -/
theorem o (H : Block x0 x1 x2 x3 x4 x5 x6 Sq) (h s t : Fin 8) (e : Fin 128) :
    k0_pay112 (F := Ideal) x0 x1 x2 x3 x4 x5 x6 (ix3 h (row s t) e) = (((Sq s).o h t e : ℝ) : EReal) := by
  have e1 : k0_pay112 (F := Ideal) x0 x1 x2 x3 x4 x5 x6 (ix3 h (row s t) e)
      = k0_pay55 (F := Ideal) (k0_pay85 (F := Ideal) x0 x1 x2 x3 x4 x5 x6) (k0_pay108 (F := Ideal) x0 x1 x2 x3 x4 x5 x6) (k0_pay109 (F := Ideal) x0 x1 x2 x3 x4 x5 x6) (k0_pay110 (F := Ideal) x0 x1 x2 x3 x4 x5 x6) (View.ld x6 r0_11) (View.ld x6 r0_12) (ix3 h (⟨64 + row s t, by omega⟩ : Fin 128) e)
      + ∑ r : Fin 64, k0_pay43 (F := Ideal) (k0_pay82 (F := Ideal) x0 x1 x2 x3 x4 x5 x6) (k0_pay84 (F := Ideal) x0 x1 x2 x3 x4 x5 x6) (k0_pay87 (F := Ideal) x0 x1 x2 x3 x4 x5 x6) (k0_pay88 (F := Ideal) x0 x1 x2 x3 x4 x5 x6) (k0_pay89 (F := Ideal) x0 x1 x2 x3 x4 x5 x6) (ix3 h (row s t) r) * k0_pay111 (F := Ideal) x0 x1 x2 x3 x4 x5 x6 (ix3 h r e) := by
    unfold k0_pay112 k0_pay111
    pointwise [k0_pay57]
  rw [e1, prod H h _ e s (seq_mask' s t), sum_rows]
  simp only [stackQ H, qk H h s t, vn H, ← EReal.coe_mul, coe_sum, ite_mul_ite]
  rw [sum_own, ← EReal.coe_add]
  rfl

/-- The output: normed and gated. -/
theorem out (H : Block x0 x1 x2 x3 x4 x5 x6 Sq) (h s t : Fin 8) (e : Fin 128) :
    k0_pay113 (F := Ideal) x0 x1 x2 x3 x4 x5 x6 (ix3 h (row s t) e) = (((Sq s).out h t e : ℝ) : EReal) := by
  have e1 : k0_pay113 (F := Ideal) x0 x1 x2 x3 x4 x5 x6 (ix3 h (row s t) e)
      = k0_pay112 (F := Ideal) x0 x1 x2 x3 x4 x5 x6 (ix3 h (row s t) e)
          * Ideal.rsqrt (Ideal.div (∑ d : Fin 128, k0_pay112 (F := Ideal) x0 x1 x2 x3 x4 x5 x6 (ix3 h (row s t) d) * k0_pay112 (F := Ideal) x0 x1 x2 x3 x4 x5 x6 (ix3 h (row s t) d)) (Ideal.ofBits .f32 0x43000000#32)
            + Ideal.ofBits .f32 0x358637BD#32)
          * x4 (ix2 0 e)
        * (x0 (ix2 (row s t) ⟨3072 + (128 * h + e), by omega⟩)
          * Ideal.div 1 (1 + Ideal.exp (0 - x0 (ix2 (row s t) ⟨3072 + (128 * h + e), by omega⟩)))) := by
    unfold k0_pay113
    fin_cases h <;> pointwise [k0_pay73]
  rw [e1]
  simp only [o H, H.rows, H.scale s]
  simp only [← EReal.coe_mul, coe_sum]
  rw [sigmoid_coe, c128, eps_coe, Ideal.div_coe (by norm_num : (128 : ℝ) ≠ 0), ← EReal.coe_mul, ← EReal.coe_add,
    rsqrt_pos _ (add_pos_of_nonneg_of_pos (mul_nonneg (Finset.sum_nonneg fun _ _ => mul_self_nonneg _) (by norm_num)) eps_pos)]
  simp only [← EReal.coe_mul]
  have hc : (⟨3072 + (128 * h + e), by omega⟩ : Fin 4096) = ⟨3072 + 128 * h + e, by omega⟩ :=
    Fin.ext (by show 3072 + (128 * h.val + e.val) = 3072 + 128 * h.val + e.val; omega)
  rw [hc]
  unfold Seq.out Seq.ms silu
  rw [← div_eq_mul_one_div]

/-- One sequence's new state as it is computed: a sum over the block's 64 rows. -/
def upd (x0 : Vec Ideal S64x4096 .f32) (x1 : Vec Ideal S64x128 .f32) (x2 : Vec Ideal S1x16x64 .f32)
    (x3 : Vec Ideal S4x3072 .f32) (x4 : Vec Ideal S1x128 .f32) (x5 : Vec Ideal S8x8x3072 .f32)
    (x6 : Vec Ideal S1x8x8x128x128 .f32) (n h : Fin 8) (d e : Fin 128) : EReal :=
  x6 (ix5 0 n h d e) * Ideal.exp (k0_pay90 (F := Ideal) x0 x1 x2 x3 x4 x5 x6 (ix3 h (row n 0) 0))
    + ∑ r : Fin 64, Scalar.select (IntOp.cmpi .eq (k0_pay20 (ix2 (⟨r, by omega⟩ : Fin 128) (0 : Fin 1))) (BitVec.ofNat 32 n))
      (k0_pay107 (F := Ideal) x0 x1 x2 x3 x4 x5 x6 (ix3 h r d) * k0_pay111 (F := Ideal) x0 x1 x2 x3 x4 x5 x6 (ix3 h r e)) 0

theorem upd_eq (H : Block x0 x1 x2 x3 x4 x5 x6 Sq) (n h : Fin 8) (d e : Fin 128) :
    upd x0 x1 x2 x3 x4 x5 x6 n h d e = (((Sq n).sn h d e : ℝ) : EReal) := by
  unfold upd
  rw [sum_rows, H.state, gt H, Ideal.exp_coe, ← EReal.coe_mul]
  have e1 : ∀ s t : Fin 8, Scalar.select (IntOp.cmpi .eq (k0_pay20 (ix2 (⟨row s t, by omega⟩ : Fin 128) (0 : Fin 1))) (BitVec.ofNat 32 n))
      (k0_pay107 (F := Ideal) x0 x1 x2 x3 x4 x5 x6 (ix3 h (row s t) d) * k0_pay111 (F := Ideal) x0 x1 x2 x3 x4 x5 x6 (ix3 h (row s t) e)) 0
      = ((if n = s then (Sq s).kd h t d * (Sq s).vn h t e else 0 : ℝ) : EReal) := by
    intro s t
    rw [seq_mask, select_ite, kd H, vn H, ← EReal.coe_mul]
    by_cases hs : s = n
    · rw [if_pos hs, if_pos hs.symm]
    · rw [if_neg hs, if_neg (fun h => hs h.symm), EReal.coe_zero]
  simp only [e1, coe_sum]
  rw [sum_own, ← EReal.coe_add]
  rfl

theorem upd7 (h : Fin 8) (d e : Fin 128) :
    k0_pay72 (F := Ideal) (k0_pay85 (F := Ideal) x0 x1 x2 x3 x4 x5 x6) (k0_pay90 (F := Ideal) x0 x1 x2 x3 x4 x5 x6) (k0_pay107 (F := Ideal) x0 x1 x2 x3 x4 x5 x6) (k0_pay111 (F := Ideal) x0 x1 x2 x3 x4 x5 x6) (View.ld x6 r0_12) (ix4 0 h d e)
      = upd x0 x1 x2 x3 x4 x5 x6 7 h d e := by
  pointwise [k0_pay72]
  rfl

theorem upd6 (h : Fin 8) (d e : Fin 128) :
    k0_pay71 (F := Ideal) (k0_pay85 (F := Ideal) x0 x1 x2 x3 x4 x5 x6) (k0_pay107 (F := Ideal) x0 x1 x2 x3 x4 x5 x6) (k0_pay111 (F := Ideal) x0 x1 x2 x3 x4 x5 x6) (k0_pay69 (F := Ideal) (k0_pay90 (F := Ideal) x0 x1 x2 x3 x4 x5 x6)) (k0_pay70 (F := Ideal) (View.ld x6 r0_11)) (ix4 0 h d e)
      = upd x0 x1 x2 x3 x4 x5 x6 6 h d e := by
  pointwise [k0_pay71, k0_pay69, k0_pay70]
  rfl

theorem upd5 (h : Fin 8) (d e : Fin 128) :
    k0_pay68 (F := Ideal) (k0_pay85 (F := Ideal) x0 x1 x2 x3 x4 x5 x6) (k0_pay90 (F := Ideal) x0 x1 x2 x3 x4 x5 x6) (k0_pay107 (F := Ideal) x0 x1 x2 x3 x4 x5 x6) (k0_pay111 (F := Ideal) x0 x1 x2 x3 x4 x5 x6) (View.ld x6 r0_10) (ix4 0 h d e)
      = upd x0 x1 x2 x3 x4 x5 x6 5 h d e := by
  pointwise [k0_pay68]
  rfl

theorem upd4 (h : Fin 8) (d e : Fin 128) :
    k0_pay67 (F := Ideal) (k0_pay107 (F := Ideal) x0 x1 x2 x3 x4 x5 x6) (k0_pay111 (F := Ideal) x0 x1 x2 x3 x4 x5 x6) (k0_pay65 (F := Ideal) (k0_pay90 (F := Ideal) x0 x1 x2 x3 x4 x5 x6) (View.ld x6 r0_9)) (k0_pay66 (k0_pay85 (F := Ideal) x0 x1 x2 x3 x4 x5 x6)) (ix4 0 h d e)
      = upd x0 x1 x2 x3 x4 x5 x6 4 h d e := by
  pointwise [k0_pay67, k0_pay65, k0_pay66]
  rfl

theorem upd3 (h : Fin 8) (d e : Fin 128) :
    k0_pay64 (F := Ideal) (k0_pay85 (F := Ideal) x0 x1 x2 x3 x4 x5 x6) (k0_pay90 (F := Ideal) x0 x1 x2 x3 x4 x5 x6) (k0_pay107 (F := Ideal) x0 x1 x2 x3 x4 x5 x6) (k0_pay111 (F := Ideal) x0 x1 x2 x3 x4 x5 x6) (View.ld x6 r0_8) (ix4 0 h d e)
      = upd x0 x1 x2 x3 x4 x5 x6 3 h d e := by
  pointwise [k0_pay64]
  rfl

theorem upd2 (h : Fin 8) (d e : Fin 128) :
    k0_pay63 (F := Ideal) (k0_pay111 (F := Ideal) x0 x1 x2 x3 x4 x5 x6) (k0_pay61 (F := Ideal) (k0_pay90 (F := Ideal) x0 x1 x2 x3 x4 x5 x6) (View.ld x6 r0_7)) (k0_pay62 (F := Ideal) (k0_pay85 (F := Ideal) x0 x1 x2 x3 x4 x5 x6) (k0_pay107 (F := Ideal) x0 x1 x2 x3 x4 x5 x6)) (ix4 0 h d e)
      = upd x0 x1 x2 x3 x4 x5 x6 2 h d e := by
  pointwise [k0_pay63, k0_pay61, k0_pay62]
  rfl

theorem upd1 (h : Fin 8) (d e : Fin 128) :
    k0_pay60 (F := Ideal) (k0_pay85 (F := Ideal) x0 x1 x2 x3 x4 x5 x6) (k0_pay90 (F := Ideal) x0 x1 x2 x3 x4 x5 x6) (k0_pay107 (F := Ideal) x0 x1 x2 x3 x4 x5 x6) (k0_pay111 (F := Ideal) x0 x1 x2 x3 x4 x5 x6) (View.ld x6 r0_6) (ix4 0 h d e)
      = upd x0 x1 x2 x3 x4 x5 x6 1 h d e := by
  pointwise [k0_pay60]
  rfl

theorem upd0 (h : Fin 8) (d e : Fin 128) :
    k0_pay59 (F := Ideal) (k0_pay58 (F := Ideal) (k0_pay85 (F := Ideal) x0 x1 x2 x3 x4 x5 x6) (k0_pay90 (F := Ideal) x0 x1 x2 x3 x4 x5 x6) (k0_pay105 (F := Ideal) x0 x1 x2 x3 x4 x5 x6) (k0_pay107 (F := Ideal) x0 x1 x2 x3 x4 x5 x6) (k0_pay108 (F := Ideal) x0 x1 x2 x3 x4 x5 x6) (k0_pay109 (F := Ideal) x0 x1 x2 x3 x4 x5 x6) (k0_pay110 (F := Ideal) x0 x1 x2 x3 x4 x5 x6) (View.ld x6 r0_11) (View.ld x6 r0_12) (View.ld x6 r0_5)) (ix4 0 h d e)
      = upd x0 x1 x2 x3 x4 x5 x6 0 h d e := by
  pointwise [k0_pay59, k0_pay58]
  rfl

/-! ### The two output blocks -/

theorem col0 (r : Fin 64) (e : Fin 128) : k0_pay74 (F := Ideal) (k0_pay112 (F := Ideal) x0 x1 x2 x3 x4 x5 x6) (View.ld x4 r0_21) (View.ld x0 r0_22) (ix2 r e) = k0_pay113 (F := Ideal) x0 x1 x2 x3 x4 x5 x6 (ix3 0 r e) := by
  unfold k0_pay113
  pointwise [k0_pay74]

theorem col1 (r : Fin 64) (e : Fin 128) : k0_pay75 (F := Ideal) (k0_pay112 (F := Ideal) x0 x1 x2 x3 x4 x5 x6) (View.ld x4 r0_21) (View.ld x0 r0_22) (ix2 r e) = k0_pay113 (F := Ideal) x0 x1 x2 x3 x4 x5 x6 (ix3 1 r e) := by
  unfold k0_pay113
  pointwise [k0_pay75]

theorem col2 (r : Fin 64) (e : Fin 128) : k0_pay1 (F := Ideal) (k0_pay113 (F := Ideal) x0 x1 x2 x3 x4 x5 x6) (ix2 r e) = k0_pay113 (F := Ideal) x0 x1 x2 x3 x4 x5 x6 (ix3 2 r e) := by
  pointwise [k0_pay1]

theorem col3 (r : Fin 64) (e : Fin 128) : k0_pay2 (F := Ideal) (k0_pay113 (F := Ideal) x0 x1 x2 x3 x4 x5 x6) (ix2 r e) = k0_pay113 (F := Ideal) x0 x1 x2 x3 x4 x5 x6 (ix3 3 r e) := by
  pointwise [k0_pay2]

theorem col4 (r : Fin 64) (e : Fin 128) : k0_pay3 (F := Ideal) (k0_pay113 (F := Ideal) x0 x1 x2 x3 x4 x5 x6) (ix2 r e) = k0_pay113 (F := Ideal) x0 x1 x2 x3 x4 x5 x6 (ix3 4 r e) := by
  pointwise [k0_pay3]

theorem col5 (r : Fin 64) (e : Fin 128) : k0_pay4 (F := Ideal) (k0_pay113 (F := Ideal) x0 x1 x2 x3 x4 x5 x6) (ix2 r e) = k0_pay113 (F := Ideal) x0 x1 x2 x3 x4 x5 x6 (ix3 5 r e) := by
  pointwise [k0_pay4]

theorem col6 (r : Fin 64) (e : Fin 128) : k0_pay5 (F := Ideal) (k0_pay113 (F := Ideal) x0 x1 x2 x3 x4 x5 x6) (ix2 r e) = k0_pay113 (F := Ideal) x0 x1 x2 x3 x4 x5 x6 (ix3 6 r e) := by
  pointwise [k0_pay5]

theorem col7 (r : Fin 64) (e : Fin 128) : k0_pay6 (F := Ideal) (k0_pay113 (F := Ideal) x0 x1 x2 x3 x4 x5 x6) (ix2 r e) = k0_pay113 (F := Ideal) x0 x1 x2 x3 x4 x5 x6 (ix3 7 r e) := by
  pointwise [k0_pay6]

/-- The first output's block: stripe `h` of its columns is head `h`. -/
theorem block7 (H : Block x0 x1 x2 x3 x4 x5 x6 Sq) (h s t : Fin 8) (e : Fin 128) (c : Fin 1024) (hc : c.val = 128 * h + e) :
    out0_7 (F := Ideal) x0 x1 x2 x3 x4 x5 x6 (ix2 (row s t) c) = (((Sq s).out h t e : ℝ) : EReal) := by
  let G : S64x1024.Idx → EReal := fun y => k0_pay113 (F := Ideal) x0 x1 x2 x3 x4 x5 x6 (ix3 ⟨(y 1).val / 128, by have : (y 1).val < 1024 := (y 1).isLt; omega⟩
    (y 0) ⟨(y 1).val % 128, by omega⟩)
  have key : ∀ (j : Fin 8) (r : Fin 64) (e : Fin 128) (y : S64x1024.Idx), (y 0).val = 0 + r → (y 1).val = 128 * j + e →
      k0_pay113 (F := Ideal) x0 x1 x2 x3 x4 x5 x6 (ix3 j r e) = G y := by
    intro j r e y h0 h1
    have e0 : y 0 = r := Fin.ext (by omega)
    have e1 : (⟨(y 1).val / 128, by have : (y 1).val < 1024 := (y 1).isLt; omega⟩ : Fin 8) = j := Fin.ext (by show (y 1).val / 128 = j; omega)
    have e2 : (⟨(y 1).val % 128, by omega⟩ : Fin 128) = e := Fin.ext (by show (y 1).val % 128 = e; omega)
    show _ = k0_pay113 (F := Ideal) x0 x1 x2 x3 x4 x5 x6 (ix3 _ (y 0) _)
    rw [e0, e1, e2]
  refine (View.canon_apply_of_pieces G _ (fun p hp j => ?_) (ix2 (row s t) c) (cover0_7 _ _ _ _ _ _ _ _ _)).trans ?_
  · simp only [List.mem_cons, List.not_mem_nil, or_false] at hp
    rcases hp with rfl | rfl | rfl | rfl | rfl | rfl | rfl | rfl
    all_goals
      have hj : j = ix2 (j 0) (j 1) := (ValueIdx.eq_ix2 j).trans (ix2_eq_valueIdx _ _).symm
      rw [hj]
    · exact (col7 _ _).trans (key 7 _ _ _ (by show 0 + 1 * (j 0).val = _; omega) (by show 896 + 1 * (j 1).val = 128 * (7 : Fin 8).val + (j 1).val; norm_num))
    · exact (col6 _ _).trans (key 6 _ _ _ (by show 0 + 1 * (j 0).val = _; omega) (by show 768 + 1 * (j 1).val = 128 * (6 : Fin 8).val + (j 1).val; norm_num))
    · exact (col5 _ _).trans (key 5 _ _ _ (by show 0 + 1 * (j 0).val = _; omega) (by show 640 + 1 * (j 1).val = 128 * (5 : Fin 8).val + (j 1).val; norm_num))
    · exact (col4 _ _).trans (key 4 _ _ _ (by show 0 + 1 * (j 0).val = _; omega) (by show 512 + 1 * (j 1).val = 128 * (4 : Fin 8).val + (j 1).val; norm_num))
    · exact (col3 _ _).trans (key 3 _ _ _ (by show 0 + 1 * (j 0).val = _; omega) (by show 384 + 1 * (j 1).val = 128 * (3 : Fin 8).val + (j 1).val; norm_num))
    · exact (col2 _ _).trans (key 2 _ _ _ (by show 0 + 1 * (j 0).val = _; omega) (by show 256 + 1 * (j 1).val = 128 * (2 : Fin 8).val + (j 1).val; norm_num))
    · exact (col1 _ _).trans (key 1 _ _ _ (by show 0 + 1 * (j 0).val = _; omega) (by show 128 + 1 * (j 1).val = 128 * (1 : Fin 8).val + (j 1).val; norm_num))
    · exact (col0 _ _).trans (key 0 _ _ _ (by show 0 + 1 * (j 0).val = _; omega) (by show 0 + 1 * (j 1).val = 128 * (0 : Fin 8).val + (j 1).val; norm_num))
  · rw [← out H]
    exact (key h (row s t) e _ (by show (row s t).val = _; omega) hc).symm

/-- The second output's block: the new states. -/
theorem block8 (H : Block x0 x1 x2 x3 x4 x5 x6 Sq) (n h : Fin 8) (d e : Fin 128) :
    out0_8 (F := Ideal) x0 x1 x2 x3 x4 x5 x6 (ix4 n h d e) = (((Sq n).sn h d e : ℝ) : EReal) := by
  let G : S8x8x128x128.Idx → EReal := fun y => upd x0 x1 x2 x3 x4 x5 x6 (y 0) (y 1) (y 2) (y 3)
  have key : ∀ (n h : Fin 8) (d e : Fin 128) (y : S8x8x128x128.Idx), (y 0).val = n → (y 1).val = 0 + h → (y 2).val = 0 + d → (y 3).val = 0 + e →
      upd x0 x1 x2 x3 x4 x5 x6 n h d e = G y := by
    intro n h d e y h0 h1 h2 h3
    have e0 : y 0 = n := Fin.ext (by omega)
    have e1 : y 1 = h := Fin.ext (by omega)
    have e2 : y 2 = d := Fin.ext (by omega)
    have e3 : y 3 = e := Fin.ext (by omega)
    show _ = upd x0 x1 x2 x3 x4 x5 x6 (y 0) (y 1) (y 2) (y 3)
    rw [e0, e1, e2, e3]
  refine (View.canon_apply_of_pieces G _ (fun p hp j => ?_) (ix4 n h d e) (cover0_8 _ _ _ _ _ _ _ _ _)).trans ?_
  · simp only [List.mem_cons, List.not_mem_nil, or_false] at hp
    rcases hp with rfl | rfl | rfl | rfl | rfl | rfl | rfl | rfl
    all_goals
      have hz : j 0 = (0 : Fin 1) := Fin.ext (by have : (j 0).val < 1 := (j 0).isLt; show (j 0).val = 0; omega)
      have hj : j = ix4 (0 : Fin 1) (j 1) (j 2) (j 3) := by
        rw [← hz]
        exact (ValueIdx.eq_ix4 j).trans (ix4_eq_valueIdx _ _ _ _).symm
      rw [hj]
    · exact (upd7 _ _ _).trans (key 7 _ _ _ _ (by show 7 + 1 * 0 = (7 : Fin 8).val; rfl) (by show 0 + 1 * (j 1).val = _; omega) (by show 0 + 1 * (j 2).val = _; omega) (by show 0 + 1 * (j 3).val = _; omega))
    · exact (upd6 _ _ _).trans (key 6 _ _ _ _ (by show 6 + 1 * 0 = (6 : Fin 8).val; rfl) (by show 0 + 1 * (j 1).val = _; omega) (by show 0 + 1 * (j 2).val = _; omega) (by show 0 + 1 * (j 3).val = _; omega))
    · exact (upd5 _ _ _).trans (key 5 _ _ _ _ (by show 5 + 1 * 0 = (5 : Fin 8).val; rfl) (by show 0 + 1 * (j 1).val = _; omega) (by show 0 + 1 * (j 2).val = _; omega) (by show 0 + 1 * (j 3).val = _; omega))
    · exact (upd4 _ _ _).trans (key 4 _ _ _ _ (by show 4 + 1 * 0 = (4 : Fin 8).val; rfl) (by show 0 + 1 * (j 1).val = _; omega) (by show 0 + 1 * (j 2).val = _; omega) (by show 0 + 1 * (j 3).val = _; omega))
    · exact (upd3 _ _ _).trans (key 3 _ _ _ _ (by show 3 + 1 * 0 = (3 : Fin 8).val; rfl) (by show 0 + 1 * (j 1).val = _; omega) (by show 0 + 1 * (j 2).val = _; omega) (by show 0 + 1 * (j 3).val = _; omega))
    · exact (upd2 _ _ _).trans (key 2 _ _ _ _ (by show 2 + 1 * 0 = (2 : Fin 8).val; rfl) (by show 0 + 1 * (j 1).val = _; omega) (by show 0 + 1 * (j 2).val = _; omega) (by show 0 + 1 * (j 3).val = _; omega))
    · exact (upd1 _ _ _).trans (key 1 _ _ _ _ (by show 1 + 1 * 0 = (1 : Fin 8).val; rfl) (by show 0 + 1 * (j 1).val = _; omega) (by show 0 + 1 * (j 2).val = _; omega) (by show 0 + 1 * (j 3).val = _; omega))
    · exact (upd0 _ _ _).trans (key 0 _ _ _ _ (by show 0 + 1 * 0 = (0 : Fin 8).val; rfl) (by show 0 + 1 * (j 1).val = _; omega) (by show 0 + 1 * (j 2).val = _; omega) (by show 0 + 1 * (j 3).val = _; omega))
  · rw [← upd_eq H]
    exact (key n h d e _ rfl (by show h.val = _; omega) (by show d.val = _; omega) (by show e.val = _; omega)).symm

end

end GatedDelta.Kernel
end
-- ==== Proof.Finite.lean ====
/-
  What the precondition says of an array: it compares the array's absolute values with infinity and takes the
  conjunction over all elements; where that is set, every element is a real number.
-/
module

public import Idealize.ShloMosaic.PureOps.Reduce
public import Idealize.ShloMosaic.PureOps.Ideal.Laws
public import Idealize.ShloMosaic.Lib.Affine

@[expose] public section

noncomputable section

open Idealize.ShloMosaic

namespace Finite

/-- Every element of the array is a real number. -/
def All {s : Shape} (a : Vec Ideal s .f32) : Prop := ∀ i, ((EReal.toReal (a i) : ℝ) : EReal) = a i

theorem and_one : ∀ a b : BitVec 1, IntOp.andi a b = 1#1 → a = 1#1 ∧ b = 1#1 := by decide

theorem foldl_one {ι : Type} (l : List ι) (f : ι → BitVec 1) (v : BitVec 1) (h : l.foldl (fun r n => IntOp.andi r (f n)) v = 1#1) :
    v = 1#1 ∧ ∀ n ∈ l, f n = 1#1 := by
  induction l generalizing v with
  | nil => exact ⟨h, fun n hn => absurd hn (List.not_mem_nil)⟩
  | cons a l ih =>
    obtain ⟨h1, h2⟩ := ih _ h
    have h3 : v = 1#1 ∧ f a = 1#1 := and_one v (f a) h1
    exact ⟨h3.1, fun n hn => (List.mem_cons.1 hn).elim (fun e => e ▸ h3.2) (h2 n)⟩

/-- A conjunction over all elements that is set is set at every element. -/
theorem and_all {s t u : Shape} {axes : List (Fin s.rank)} (x : IVec s 1) (v : u.Idx → BitVec 1) (h : s.ReducesTo axes t) (hu : 0 < u.numel)
    (ht : ∀ a b : t.Idx, a = b) (j : t.Idx) (e : Host.reduce IntOp.andi x v h hu j = 1#1) (i : s.Idx) : x i = 1#1 := by
  unfold Host.reduce at e
  have := (foldl_one _ _ _ e).2 (s.rowMajor i) (List.mem_filter.2 ⟨List.mem_finRange _, decide_eq_true (ht _ _)⟩)
  rwa [Equiv.symm_apply_apply] at this

/-- An extended real whose absolute value is below infinity is a real number. -/
theorem real_of_lt (x : EReal) (h : Ideal.cmp .olt (max x (-x)) (Ideal.ofBits .f32 0x7F800000#32) = 1#1) : ((EReal.toReal x : ℝ) : EReal) = x := by
  have hb : Ideal.ofBits .f32 0x7F800000#32 = ⊤ := by simp [Ideal.ofBits, Ideal.ieee]
  rw [hb] at h
  induction x using EReal.rec with
  | bot => simp [Ideal.cmp] at h
  | coe x => rfl
  | top => simp [Ideal.cmp] at h

theorem all_of_and {s t u : Shape} {axes : List (Fin s.rank)} (a : Vec Ideal s .f32) (x : IVec s 1) (v : u.Idx → BitVec 1) (h : s.ReducesTo axes t)
    (hu : 0 < u.numel) (ht : ∀ a b : t.Idx, a = b) (j : t.Idx) (e : Host.reduce IntOp.andi x v h hu j = 1#1)
    (hx : ∀ i, x i = Ideal.cmp .olt (max (a i) (-(a i))) (Ideal.ofBits .f32 0x7F800000#32)) : All a :=
  fun i => real_of_lt _ ((hx i).symm.trans (and_all x v h hu ht j e i))

theorem idx0 (a b : (⟨0, ![]⟩ : Shape).Idx) : a = b := funext fun i => i.elim0

theorem andi_one (a b : IVec (⟨0, ![]⟩ : Shape) 1) (e : andi a b = fun _ => 1#1) : (a = fun _ => 1#1) ∧ b = fun _ => 1#1 :=
  ⟨funext fun i => (and_one _ _ (congrFun e i)).1, funext fun i => (and_one _ _ (congrFun e i)).2⟩

end Finite
end
-- ==== Proof.Delta.Arr.lean ====
module

public import proofs.«01_k».proof.Proof.Gen.KernelIdeal.Value
public import proofs.«01_k».proof.Proof.Delta.Kernel3
public import proofs.«01_k».proof.Proof.Finite
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem
open Cert.KernelIdeal Cert.KernelIdeal.Gen
open Idealize.ShloMosaic.Pipeline (Dat)

namespace GatedDelta

/-- Sequence `b` of the sample group, read off the launch's arrays. -/
def seqOf (a0 : Vec Ideal S17408x4096 .f32) (a1 a2 : Vec Ideal S17408x8 .f32) (a3 : Vec Ideal S2x128x3x3072 .f32)
    (a4 : Vec Ideal S2x128x8x128x128 .f32) (a5 : Vec Ideal S4x3072 .f32) (a6 : Vec Ideal S128 .f32) (b : Fin 128) : Seq where
  p t c := (a0 (ix2 ⟨16384 + (8 * b + t), by omega⟩ c)).toReal
  g t h := (a1 (ix2 ⟨16384 + (8 * b + t), by omega⟩ h)).toReal
  be t h := (a2 (ix2 ⟨16384 + (8 * b + t), by omega⟩ h)).toReal
  pv i c := (a3 (ix4 1 b i c)).toReal
  s0 h d e := (a4 (ix5 1 b h d e)).toReal
  cw i c := (a5 (ix2 i c)).toReal
  on d := (a6 (ix1 d)).toReal

/-- The seven arrays hold real numbers only. -/
structure AllFin (a0 : Vec Ideal S17408x4096 .f32) (a1 a2 : Vec Ideal S17408x8 .f32) (a3 : Vec Ideal S2x128x3x3072 .f32)
    (a4 : Vec Ideal S2x128x8x128x128 .f32) (a5 : Vec Ideal S4x3072 .f32) (a6 : Vec Ideal S128 .f32) : Prop where
  f0 : Finite.All a0
  f1 : Finite.All a1
  f2 : Finite.All a2
  f3 : Finite.All a3
  f4 : Finite.All a4
  f5 : Finite.All a5
  f6 : Finite.All a6

/-- The outputs: row `8 b + t`, column `128 h + e` is sequence `b`'s token `t`, head `h`, channel `e`. -/
def outArr (S : Fin 128 → Seq) : Vec Ideal S1024x1024 .f32 := fun y =>
  (((S ⟨(y 0).val / 8, by have : (y 0).val < 1024 := (y 0).isLt; omega⟩).out ⟨(y 1).val / 128, by have : (y 1).val < 1024 := (y 1).isLt; omega⟩
    ⟨(y 0).val % 8, by omega⟩ ⟨(y 1).val % 128, by omega⟩ : ℝ) : EReal)

/-- The new states. -/
def stateArr (S : Fin 128 → Seq) : Vec Ideal S128x8x128x128 .f32 := fun y => (((S (y 0)).sn (y 1) (y 2) (y 3) : ℝ) : EReal)

theorem outArr_apply (S : Fin 128 → Seq) (b : Fin 128) (t h : Fin 8) (e : Fin 128) (y : S1024x1024.Idx) (h0 : (y 0).val = 8 * b + t)
    (h1 : (y 1).val = 128 * h + e) : outArr S y = (((S b).out h t e : ℝ) : EReal) := by
  unfold outArr
  have e0 : (⟨(y 0).val / 8, by have : (y 0).val < 1024 := (y 0).isLt; omega⟩ : Fin 128) = b := Fin.ext (by show (y 0).val / 8 = b; omega)
  have e1 : (⟨(y 1).val / 128, by have : (y 1).val < 1024 := (y 1).isLt; omega⟩ : Fin 8) = h := Fin.ext (by show (y 1).val / 128 = h; omega)
  have e2 : (⟨(y 0).val % 8, by omega⟩ : Fin 8) = t := Fin.ext (by show (y 0).val % 8 = t; omega)
  have e3 : (⟨(y 1).val % 128, by omega⟩ : Fin 128) = e := Fin.ext (by show (y 1).val % 128 = e; omega)
  rw [e0, e1, e2, e3]

namespace Kernel

variable (m : (ℓ : Loc nD τ sig) → Buf (Elt Ideal) ℓ)

theorem idx : ∀ t : Fin cfg0.N, win0_0.index t = ![256 + t.val, 0] ∧ win0_1.index t = ![256 + t.val, 0] ∧ win0_2.index t = ![256 + t.val, 0, 0]
    ∧ win0_3.index t = ![0, 0] ∧ win0_4.index t = ![0, 0] ∧ win0_5.index t = ![t.val, 0, 0] ∧ win0_6.index t = ![1, t.val, 0, 0, 0]
    ∧ win0_7.index t = ![t.val, 0] ∧ win0_8.index t = ![t.val, 0, 0, 0] :=
  (by decide +kernel : ∀ t : Fin grid0.N, _)

/-! ### The arrays the host prepares -/

theorem gates (c : Dev nD) (r : Fin 17408) (h : Fin 8) :
    V m c main_v1 (ix2 r (⟨h, by omega⟩ : Fin 128)) = m ((c : Thread nD τ).loc main_arg1) (ix2 r h) := by
  unfold V
  after_reads_at
  rw [dif_pos (by omega)]
  rfl
theorem gates' (c : Dev nD) (r : Fin 17408) (h : Fin 8) :
    V m c main_v1 (ix2 r (⟨8 + h, by omega⟩ : Fin 128)) = m ((c : Thread nD τ).loc main_arg2) (ix2 r h) := by
  unfold V
  after_reads_at
  rw [dif_pos (by omega)]
  rfl
theorem gatesT (c : Dev nD) (k : Fin 272) (r : Fin 64) (h : Fin 8) :
    V m c main_v5 (ix3 k (⟨h, by omega⟩ : Fin 16) r) = m ((c : Thread nD τ).loc main_arg1) (ix2 ⟨k * 64 + r, by omega⟩ h) := by
  unfold V
  after_reads_at
  rfl
theorem prevRows (c : Dev nD) (b : Fin 128) (i : Fin 3) (k : Fin 3072) :
    V m c main_v8 (ix3 b (⟨5 + i, by omega⟩ : Fin 8) k) = m ((c : Thread nD τ).loc main_arg3) (ix4 1 b i k) := by
  unfold V
  after_reads_at
theorem scale9 (c : Dev nD) (k : Fin 128) :
    V m c main_v9 (ix2 0 k) = m ((c : Thread nD τ).loc main_arg6) (ix1 k) := by
  unfold V
  after_reads_at

/-! ### The blocks -/

theorem blk0 (c : Dev nD) (t : Fin cfg0.N) (ht : t.val < 16) (r : Fin 64) (k : Fin 4096) :
    iblk m c 0 t (ix2 r k) = m ((c : Thread nD τ).loc main_arg0) (ix2 ⟨16384 + 64 * t.val + r.val, by omega⟩ k) := by
  blk_ext [iblk, V, idx t]
theorem blk1 (c : Dev nD) (t : Fin cfg0.N) (ht : t.val < 16) (r : Fin 64) (k : Fin 128) :
    iblk m c 1 t (ix2 r k) = V m c main_v1 (ix2 ⟨16384 + 64 * t.val + r.val, by omega⟩ k) := by
  blk_ext [iblk, idx t]
theorem blk2 (c : Dev nD) (t : Fin cfg0.N) (ht : t.val < 16) (r : Fin 64) (h : Fin 16) :
    iblk m c 2 t (ix3 0 h r) = V m c main_v5 (ix3 ⟨256 + t, by omega⟩ h r) := by
  blk_ext [iblk, idx t]
theorem blk3 (c : Dev nD) (t : Fin cfg0.N) (i : Fin 4) (k : Fin 3072) :
    iblk m c 3 t (ix2 i k) = m ((c : Thread nD τ).loc main_arg5) (ix2 i k) := by
  blk_ext [iblk, V, idx t]
theorem blk4 (c : Dev nD) (t : Fin cfg0.N) (k : Fin 128) :
    iblk m c 4 t (ix2 0 k) = V m c main_v9 (ix2 0 k) := by
  blk_ext [iblk, idx t]
theorem blk5 (c : Dev nD) (t : Fin cfg0.N) (ht : t.val < 16) (s i : Fin 8) (k : Fin 3072) :
    iblk m c 5 t (ix3 s i k) = V m c main_v8 (ix3 ⟨8 * t + s, by omega⟩ i k) := by
  blk_ext [iblk, idx t]
theorem blk6 (c : Dev nD) (t : Fin cfg0.N) (ht : t.val < 16) (s h : Fin 8) (d e : Fin 128) :
    iblk m c 6 t (ix5 0 s h d e) = m ((c : Thread nD τ).loc main_arg4) (ix5 1 ⟨8 * t + s, by omega⟩ h d e) := by
  blk_ext [iblk, V, idx t]

/-- The launch's sequences. -/
def S (c : Dev nD) : Fin 128 → Seq := seqOf (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))

/-- The launch's arrays hold real numbers only. -/
def Ok (c : Dev nD) : Prop := AllFin (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))

/-- Point `t`'s blocks hold the sequences `8 t, …, 8 t + 7`. -/
theorem block {m} (c : Dev nD) (ok : Ok m c) (t : Fin cfg0.N) (ht : t.val < 16) :
    Block (iblk m c 0 t) (iblk m c 1 t) (iblk m c 2 t) (iblk m c 3 t) (iblk m c 4 t) (iblk m c 5 t) (iblk m c 6 t)
      (fun s => S m c ⟨8 * t + s, by omega⟩) where
  rows s j k := (blk0 m c t ht _ k).trans ((ok.f0 _).symm.trans (congrArg (fun i => (EReal.toReal (m ((c : Thread nD τ).loc main_arg0) (ix2 i k)) : EReal))
    (Fin.ext (by show 16384 + 64 * t.val + (8 * s.val + j.val) = 16384 + (8 * (8 * t.val + s.val) + j.val); omega))))
  decays s j h := (blk1 m c t ht _ _).trans ((gates m c _ h).trans ((ok.f1 _).symm.trans (congrArg (fun i => (EReal.toReal (m ((c : Thread nD τ).loc main_arg1) (ix2 i h)) : EReal))
    (Fin.ext (by show 16384 + 64 * t.val + (8 * s.val + j.val) = 16384 + (8 * (8 * t.val + s.val) + j.val); omega)))))
  strengths s j h := (blk1 m c t ht _ _).trans ((gates' m c _ h).trans ((ok.f2 _).symm.trans (congrArg (fun i => (EReal.toReal (m ((c : Thread nD τ).loc main_arg2) (ix2 i h)) : EReal))
    (Fin.ext (by show 16384 + 64 * t.val + (8 * s.val + j.val) = 16384 + (8 * (8 * t.val + s.val) + j.val); omega)))))
  decaysT s j h := (blk2 m c t ht _ _).trans ((gatesT m c _ _ h).trans ((ok.f1 _).symm.trans (congrArg (fun i => (EReal.toReal (m ((c : Thread nD τ).loc main_arg1) (ix2 i h)) : EReal))
    (Fin.ext (by show (256 + t.val) * 64 + (8 * s.val + j.val) = 16384 + (8 * (8 * t.val + s.val) + j.val); omega)))))
  taps s i k := (blk3 m c t i k).trans (ok.f5 _).symm
  scale s d := (blk4 m c t d).trans ((scale9 m c d).trans (ok.f6 _).symm)
  prev s i k := (blk5 m c t ht s _ k).trans ((prevRows m c _ i k).trans (ok.f3 _).symm)
  state s h d e := (blk6 m c t ht s h d e).trans (ok.f4 _).symm

/-- The first result after the run. -/
theorem final7 {m} (c : Dev nD) (ok : Ok m c) : (dats m 0 c).arrAt 7 cfg0.N = outArr (S m c) := by
  refine (dats m 0 c).arrAt_eq_of_covers 7 _ (by decide +kernel) fun t hf y => ?_
  have ht : t.val < 16 := t.isLt
  blk_simp
  rw [after0_7]
  obtain ⟨r, k, hy⟩ : ∃ (r : Fin 64) (k : Fin 1024), y = ix2 r k := ⟨y 0, y 1, eq_ix2 y⟩
  subst hy
  obtain ⟨s, j, hr⟩ := row_surj r
  subst hr
  have hk : k.val = 128 * (k.val / 128) + k.val % 128 := by omega
  have hi : (win0_7.blk t).view.emb (ix2 (row s j) k) = ix2 ⟨64 * t.val + (row s j).val, by have := (row s j).isLt; omega⟩ k := by
    blk_point [idx t]
  rw [hi]
  exact (block7 (block c ok t ht) ⟨k.val / 128, by omega⟩ s j ⟨k.val % 128, by omega⟩ k hk).trans (outArr_apply _ _ _ _ _ _
    (by show 64 * t.val + (8 * s.val + j.val) = 8 * (8 * t.val + s.val) + j.val; omega) hk).symm

/-- The second result after the run. -/
theorem final8 {m} (c : Dev nD) (ok : Ok m c) : (dats m 0 c).arrAt 8 cfg0.N = stateArr (S m c) := by
  refine (dats m 0 c).arrAt_eq_of_covers 8 _ (by decide +kernel) fun t hf y => ?_
  have ht : t.val < 16 := t.isLt
  blk_simp
  rw [after0_8]
  obtain ⟨s, h, d, e, hy⟩ : ∃ (s h : Fin 8) (d e : Fin 128), y = ix4 s h d e := ⟨y 0, y 1, y 2, y 3, eq_ix4 y⟩
  subst hy
  refine (block8 (block c ok t ht) s h d e).trans ?_
  have hi : (win0_8.blk t).view.emb (ix4 s h d e) = ix4 ⟨8 * t.val + s.val, by omega⟩ h d e := by
    blk_point [idx t]
  rw [hi]
  rfl

end Kernel
end GatedDelta
end
-- ==== Proof.Delta.Reference1.lean ====
module

public import proofs.«01_k».proof.Proof.Gen.ReferenceIdeal.Read
public import proofs.«01_k».proof.Proof.Delta.Kernel1

@[expose] public section

set_option maxRecDepth 4000

noncomputable section

open Idealize.ShloMosaic Idealize.ShloMosaic.TcCoe
open Cert.ReferenceIdeal Cert.ReferenceIdeal.Gen Cert.ReferenceIdeal.Read

namespace GatedDelta.Reference

theorem m72 : ∀ i j, val_main_v72 (F := Ideal) (ix2 i j) = if j ≤ i then 1#1 else 0#1 := by decide +kernel
theorem m74 : ∀ i j, val_main_v74 (F := Ideal) (ix2 i j) = if j < i then 1#1 else 0#1 := by decide +kernel

theorem win_idx (n : Fin (Shape.numel ⟨3, ![1, 1, 8]⟩)) : (⟨3, ![1, 1, 8]⟩ : Shape).rowMajor.symm n = ix3 0 0 (n.cast (by decide)) := by
  rw [Equiv.symm_apply_eq]
  refine Fin.ext ?_
  rw [Shape.rowMajor_val_three]
  simp

theorem foldl_sum {n : ℕ} (l : List (Fin n)) (g f : Fin n → EReal) (e : ∀ k, g k = f k) (a : EReal) :
    l.foldl (fun a k => a + g k) a = a + (l.map f).sum := by
  induction l generalizing a with
  | nil => simp
  | cons x l ih => rw [List.foldl_cons, ih, List.map_cons, List.sum_cons, add_assoc, e]

/-- The running sum at token `t` is the sum of the entries up to `t`. -/
theorem cumsum (x : Vec Ideal S128x8x8 .f32) (b : Fin 128) (h t : Fin 8) :
    Ideal.hostReduceWindowAdd ![1, 1, 8] ![1, 1, 1] ![0, 0, 7] ![0, 0, 0] reduceWindows_S128x8x8_S128x8x8_w1s1p0_0_w1s1p0_0_w8s1p7_0 x 0 (ix3 b h t)
      = ∑ s : Fin 8, if s ≤ t then x (ix3 b h s) else 0 := by
  unfold Ideal.hostReduceWindowAdd Host.reduceWindow
  simp only [win_idx]
  refine (foldl_sum (n := 8) (List.finRange 8) _ (fun n => if hn : 7 ≤ t.val + n.val then x (ix3 b h ⟨t.val + n.val - 7, by omega⟩) else 0) (fun n => ?_) 0).trans ?_
  · by_cases hn : 7 ≤ t.val + n.val
    · rw [dif_pos hn, dif_pos fun a => by
        match a with
        | ⟨0, _⟩ => show 0 ≤ b.val * 1 + 0 ∧ b.val * 1 + 0 - 0 < 128; omega
        | ⟨1, _⟩ => show 0 ≤ h.val * 1 + 0 ∧ h.val * 1 + 0 - 0 < 8; omega
        | ⟨2, _⟩ => show 7 ≤ t.val * 1 + n.val ∧ t.val * 1 + n.val - 7 < 8; omega]
      refine congrArg x (funext fun a => Fin.ext ?_)
      match a with
      | ⟨0, _⟩ => show b.val * 1 + 0 - 0 = b.val; omega
      | ⟨1, _⟩ => show h.val * 1 + 0 - 0 = h.val; omega
      | ⟨2, _⟩ => show t.val * 1 + n.val - 7 = t.val + n.val - 7; omega
    · rw [dif_neg hn, dif_neg fun hin => hn ?_]
      have := (hin 2).1
      change 7 ≤ t.val * 1 + n.val at this
      omega
  · rw [zero_add, ← List.ofFn_eq_map, List.sum_ofFn, Fin.sum_univ_eight, Fin.sum_univ_eight]
    fin_cases t <;> simp

section
variable {x0 : Vec Ideal S17408x4096 .f32} {x1 x2 : Vec Ideal S17408x8 .f32} {x3 : Vec Ideal S2x128x3x3072 .f32}
    {x4 : Vec Ideal S2x128x8x128x128 .f32} {x5 : Vec Ideal S4x3072 .f32} {x6 : Vec Ideal S128 .f32}

variable (x0 x1 x2 x3 x4 x5 x6) in
/-- Sequence `b` as the reference's arguments give it: each argument's entries are the real numbers of `Sq`. -/
structure Args (Sq : Fin 128 → Seq) : Prop where
  rows : ∀ (b : Fin 128) (t : Fin 8) (c : Fin 4096), x0 (ix2 ⟨16384 + (b * 8 + t), by omega⟩ c) = (((Sq b).p t c : ℝ) : EReal)
  decays : ∀ (b : Fin 128) (t h : Fin 8), x1 (ix2 ⟨16384 + (b * 8 + t), by omega⟩ h) = (((Sq b).g t h : ℝ) : EReal)
  strengths : ∀ (b : Fin 128) (t h : Fin 8), x2 (ix2 ⟨16384 + (b * 8 + t), by omega⟩ h) = (((Sq b).be t h : ℝ) : EReal)
  prev : ∀ (b : Fin 128) (i : Fin 3) (c : Fin 3072), x3 (ix4 1 b i c) = (((Sq b).pv i c : ℝ) : EReal)
  state : ∀ (b : Fin 128) (h : Fin 8) (d e : Fin 128), x4 (ix5 1 b h d e) = (((Sq b).s0 h d e : ℝ) : EReal)
  taps : ∀ (b : Fin 128) (i : Fin 4) (c : Fin 3072), x5 (ix2 i c) = (((Sq b).cw i c : ℝ) : EReal)
  scale : ∀ (b : Fin 128) (d : Fin 128), x6 (ix1 d) = (((Sq b).on d : ℝ) : EReal)

variable {Sq : Fin 128 → Seq}

theorem xpA (H : Args x0 x1 x2 x3 x4 x5 x6 Sq) (b : Fin 128) (i : Fin 3) (c : Fin 3072) :
    val_main_v12 (F := Ideal) x0 x3 (ix3 b ⟨i, by omega⟩ c) = (((Sq b).pv i c : ℝ) : EReal) := by
  rw [← H.prev]
  pointwise [val_main_v12, val_main_v11, val_main_v10]

theorem xpB (H : Args x0 x1 x2 x3 x4 x5 x6 Sq) (b : Fin 128) (i : Fin 8) (c : Fin 3072) :
    val_main_v12 (F := Ideal) x0 x3 (ix3 b ⟨3 + i, by omega⟩ c) = (((Sq b).p i ⟨c, by omega⟩ : ℝ) : EReal) := by
  rw [← H.rows]
  pointwise [val_main_v12, val_main_v8, val_main_v1, val_main_v0]

theorem xp (H : Args x0 x1 x2 x3 x4 x5 x6 Sq) (b : Fin 128) (n : Fin 11) (c : Fin 3072) :
    val_main_v12 (F := Ideal) x0 x3 (ix3 b n c) = (((Sq b).xp n c : ℝ) : EReal) := by
  unfold Seq.xp
  by_cases hn : n.val < 3
  · rw [dif_pos hn]
    exact xpA H b ⟨n, hn⟩ c
  · rw [dif_neg hn, dif_pos n.isLt]
    have hi : n = ⟨3 + (⟨n - 3, by omega⟩ : Fin 8).val, by show 3 + (n.val - 3) < 11; omega⟩ := Fin.ext (by show n.val = 3 + (n.val - 3); omega)
    exact (congrArg (fun n => val_main_v12 (F := Ideal) x0 x3 (ix3 b n c)) hi).trans (xpB H b ⟨n - 3, by omega⟩ c)

theorem zero0 : id (constant (F := Ideal) S_ .f32 0#32) ix0 = 0 := by
  show Ideal.ofBits .f32 0#32 = 0
  simp [Ideal.ofBits, Ideal.ieee]

theorem sigmoid_coe' (x : ℝ) : Ideal.div 1 (1 + Ideal.exp (-(x : EReal))) = (((1 + Real.exp (-x))⁻¹ : ℝ) : EReal) := by
  rw [← Ideal.logistic_coe]; rfl

theorem conv (H : Args x0 x1 x2 x3 x4 x5 x6 Sq) (b : Fin 128) (t : Fin 8) (c : Fin 3072) :
    val_main_v40 (F := Ideal) x0 x3 x5 (ix3 b t c) = (((Sq b).conv t c : ℝ) : EReal) := by
  pointwise [val_main_v40, val_main_v39, val_main_call0_v5, val_main_call0_v4, val_main_call0_cst_0, val_main_call0_v3,
    val_main_call0_v2, val_main_call0_cst, val_main_call0_v1, val_main_call0_v0, val_main_v38, val_main_v32, val_main_v37,
    val_main_v36, val_main_v35, val_main_v34, val_main_v33, val_main_v31, val_main_v25, val_main_v24, val_main_v18,
    val_main_v30, val_main_v29, val_main_v28, val_main_v27, val_main_v26, val_main_v23, val_main_v22, val_main_v21,
    val_main_v20, val_main_v19, val_main_v17, val_main_v16, val_main_v15, val_main_v14, val_main_v13]
  simp only [xp H, H.taps b, ← EReal.coe_mul, ← EReal.coe_add, sigmoid_coe']
  unfold Seq.conv silu Seq.tap
  simp only [Nat.add_comm 1, Nat.add_comm 2, Nat.add_comm 3]

theorem q (H : Args x0 x1 x2 x3 x4 x5 x6 Sq) (b : Fin 128) (h t : Fin 8) (d : Fin 128) :
    val_main_v65 (F := Ideal) x0 x3 x5 (ix4 b h t d) = (((Sq b).q h t d : ℝ) : EReal) := by
  pointwise [val_main_v65, val_main_v56, val_main_v55, val_main_cst_1, val_main_v54, val_main_v53, val_main_v52, val_main_v51,
    val_main_v50, val_main_cst_0, val_main_v49, val_main_v48, val_main_cst, val_main_v47, val_main_v42, val_main_v41]
  have e : ∀ d : Fin 128, (Sq b).conv t ⟨h.val * 128 + d.val, by omega⟩ = (Sq b).q0 h t d := fun d =>
    congrArg ((Sq b).conv t) (Fin.ext (by show h.val * 128 + d.val = 128 * h.val + d.val; omega))
  simp only [conv H, e, ← EReal.coe_mul, coe_sum, eps_coe, scl_coe, ← EReal.coe_add, rsqrt_pos _ (norm_pos _)]
  rfl

theorem k (H : Args x0 x1 x2 x3 x4 x5 x6 Sq) (b : Fin 128) (h t : Fin 8) (d : Fin 128) :
    val_main_v66 (F := Ideal) x0 x3 x5 (ix4 b h t d) = (((Sq b).k h t d : ℝ) : EReal) := by
  pointwise [val_main_v66, val_main_v64, val_main_v63, val_main_v62, val_main_v61, val_main_v60, val_main_cst_3, val_main_v59,
    val_main_v58, val_main_cst_2, val_main_v57, val_main_v44, val_main_v43]
  have e : ∀ d : Fin 128, (Sq b).conv t ⟨1024 + (h.val * 128 + d.val), by omega⟩ = (Sq b).k0 h t d := fun d =>
    congrArg ((Sq b).conv t) (Fin.ext (by show 1024 + (h.val * 128 + d.val) = 1024 + 128 * h.val + d.val; omega))
  simp only [conv H, e, ← EReal.coe_mul, coe_sum, eps_coe, ← EReal.coe_add, rsqrt_pos _ (norm_pos _)]
  rfl

theorem v (H : Args x0 x1 x2 x3 x4 x5 x6 Sq) (b : Fin 128) (h t : Fin 8) (d : Fin 128) :
    val_main_v67 (F := Ideal) x0 x3 x5 (ix4 b h t d) = (((Sq b).v h t d : ℝ) : EReal) := by
  pointwise [val_main_v67, val_main_v46, val_main_v45]
  rw [conv H]
  exact congrArg (fun c => (((Sq b).conv t c : ℝ) : EReal)) (Fin.ext (by show 2048 + (h.val * 128 + d.val) = 2048 + 128 * h.val + d.val; omega))

theorem gc (H : Args x0 x1 x2 x3 x4 x5 x6 Sq) (b : Fin 128) (h t : Fin 8) :
    val_main_v70 (F := Ideal) x1 (ix3 b h t) = (((Sq b).gc h t : ℝ) : EReal) := by
  have e : ∀ s : Fin 8, val_main_v68 (F := Ideal) x1 (ix3 b h s) = (((Sq b).g s h : ℝ) : EReal) := fun s => by
    rw [← H.decays]
    pointwise [val_main_v68, val_main_v3, val_main_v2]
  have z : val_main_call1_call0_v0 (F := Ideal) (Shape.Idx.first h_S_) = 0 := by
    pointwise [val_main_call1_call0_v0, val_main_call1_call0_cst]
  unfold val_main_v70 Host.reduceWindowAdd
  rw [z, Ideal.hostReduceWindowAdd_def, cumsum]
  simp only [e, coe_ite, coe_sum]
  rfl

theorem be (H : Args x0 x1 x2 x3 x4 x5 x6 Sq) (b : Fin 128) (h t : Fin 8) :
    val_main_v69 (F := Ideal) x2 (ix3 b h t) = (((Sq b).be t h : ℝ) : EReal) := by
  rw [← H.strengths]
  pointwise [val_main_v69, val_main_v5, val_main_v4]

theorem s0 (H : Args x0 x1 x2 x3 x4 x5 x6 Sq) (b : Fin 128) (h : Fin 8) (d e : Fin 128) :
    val_main_v7 (F := Ideal) x4 (ix4 b h d e) = (((Sq b).s0 h d e : ℝ) : EReal) := by
  rw [← H.state]
  pointwise [val_main_v7, val_main_v6]

theorem dec (H : Args x0 x1 x2 x3 x4 x5 x6 Sq) (b : Fin 128) (h i j : Fin 8) :
    val_main_v82 (F := Ideal) x1 (ix4 b h i j) = (((Sq b).dec h i j : ℝ) : EReal) := by
  pointwise [val_main_v82, val_main_call5_v1, val_main_call5_v2, val_main_call5_v0, val_main_cst_6, val_main_v81, val_main_v80,
    val_main_call4_v1, val_main_call4_v2, val_main_call4_v0, val_main_cst_5, val_main_v79, val_main_v78, val_main_v77,
    val_main_v76, val_main_v75]
  rw [m72, select_ite, select_ite, zero0]
  unfold Seq.dec
  by_cases hij : j ≤ i
  · simp only [if_pos hij, gc H]
    rw [← EReal.coe_sub, Ideal.exp_coe]
  · simp only [if_neg hij]
    rfl

theorem kb (H : Args x0 x1 x2 x3 x4 x5 x6 Sq) (b : Fin 128) (h t : Fin 8) (d : Fin 128) :
    val_main_v85 (F := Ideal) x0 x2 x3 x5 (ix4 b h t d) = (((Sq b).kb h t d : ℝ) : EReal) := by
  pointwise [val_main_v85, val_main_v84, val_main_v83]
  rw [k H, be H, ← EReal.coe_mul]
  rfl

theorem m (H : Args x0 x1 x2 x3 x4 x5 x6 Sq) (b : Fin 128) (h i j : Fin 8) :
    val_main_v88 (F := Ideal) x0 x1 x2 x3 x5 (ix4 b h i j) = (((Sq b).m h i j : ℝ) : EReal) := by
  pointwise [val_main_v88, val_main_call6_v1, val_main_call6_v2, val_main_call6_v0, val_main_cst_7, val_main_v87, val_main_v86]
  rw [m74, select_ite, zero0]
  simp only [kb H, k H, dec H, ← EReal.coe_mul, coe_sum, coe_ite]
  rfl

theorem qk (H : Args x0 x1 x2 x3 x4 x5 x6 Sq) (b : Fin 128) (h i j : Fin 8) :
    val_main_v143 (F := Ideal) x0 x1 x3 x5 (ix4 b h i j) = (((Sq b).qk h i j : ℝ) : EReal) := by
  pointwise [val_main_v143, val_main_call7_v1, val_main_call7_v2, val_main_call7_v0, val_main_cst_8, val_main_v142, val_main_v141]
  rw [m72, select_ite, zero0]
  simp only [q H, k H, dec H, ← EReal.coe_mul, coe_sum, coe_ite]
  congr 1
  unfold Seq.qk Seq.dec
  by_cases hij : j ≤ i <;> simp [hij]

end

end GatedDelta.Reference
end
-- ==== Proof.Delta.Reference2.lean ====
module

public import proofs.«01_k».proof.Proof.Delta.Reference1
public import proofs.«01_k».proof.Proof.Delta.Arr

@[expose] public section

set_option maxRecDepth 4000

noncomputable section

open Idealize.ShloMosaic Idealize.ShloMosaic.TcCoe
open Cert.ReferenceIdeal Cert.ReferenceIdeal.Gen Cert.ReferenceIdeal.Read

namespace GatedDelta.Reference

theorem elim_eq (m : Matrix (Fin 8) (Fin 8) ℝ) (j : Fin 8) (x : Fin 8 → ℝ) (i : Fin 8) :
    ((x i - m i j * x j : ℝ) : EReal) = ((elim m j x i : ℝ) : EReal) := rfl

/-- Both right-hand sides side by side: 128 columns for the values, 128 for the keys. -/
def rhs (S : Seq) (h : Fin 8) (c : Fin 256) (j : Fin 8) : ℝ :=
  if hc : c.val < 128 then S.ru h j ⟨c, hc⟩ else S.rw h j ⟨c - 128, by omega⟩

section
variable {x0 : Vec Ideal S17408x4096 .f32} {x1 x2 : Vec Ideal S17408x8 .f32} {x3 : Vec Ideal S2x128x3x3072 .f32}
    {x4 : Vec Ideal S2x128x8x128x128 .f32} {x5 : Vec Ideal S4x3072 .f32} {x6 : Vec Ideal S128 .f32}
variable {Sq : Fin 128 → Seq}

theorem sol0A (H : Args x0 x1 x2 x3 x4 x5 x6 Sq) (b : Fin 128) (h i : Fin 8) (c : Fin 128) :
    val_main_v96 (F := Ideal) x0 x1 x2 x3 x5 (ix4 b h i ⟨c, by omega⟩) = (((Sq b).ru h i c : ℝ) : EReal) := by
  pointwise [val_main_v96, val_main_v91, val_main_v90, val_main_v89]
  rw [v H, be H, ← EReal.coe_mul]
  rfl

theorem sol0B (H : Args x0 x1 x2 x3 x4 x5 x6 Sq) (b : Fin 128) (h i : Fin 8) (c : Fin 128) :
    val_main_v96 (F := Ideal) x0 x1 x2 x3 x5 (ix4 b h i ⟨128 + c, by omega⟩) = (((Sq b).rw h i c : ℝ) : EReal) := by
  pointwise [val_main_v96, val_main_v95, val_main_v94, val_main_v93, val_main_v92]
  rw [kb H, gc H, Ideal.exp_coe, ← EReal.coe_mul]
  rfl

theorem sol0 (H : Args x0 x1 x2 x3 x4 x5 x6 Sq) (b : Fin 128) (h i : Fin 8) (c : Fin 256) :
    val_main_v96 (F := Ideal) x0 x1 x2 x3 x5 (ix4 b h i c) = ((rhs (Sq b) h c i : ℝ) : EReal) := by
  unfold rhs
  by_cases hc : c.val < 128
  · rw [dif_pos hc]
    exact sol0A H b h i ⟨c, hc⟩
  · rw [dif_neg hc]
    have hi : c = ⟨128 + (⟨c - 128, by omega⟩ : Fin 128).val, by show 128 + (c.val - 128) < 256; omega⟩ := Fin.ext (by show c.val = 128 + (c.val - 128); omega)
    exact (congrArg (fun c => val_main_v96 (F := Ideal) x0 x1 x2 x3 x5 (ix4 b h i c)) hi).trans (sol0B H b h i ⟨c - 128, by omega⟩)

theorem sol1 (H : Args x0 x1 x2 x3 x4 x5 x6 Sq) (b : Fin 128) (h i : Fin 8) (c : Fin 256) :
    val_main_v102 (F := Ideal) x0 x1 x2 x3 x5 (ix4 b h i c) = ((elim ((Sq b).m h) 0 (rhs (Sq b) h c) i : ℝ) : EReal) := by
  rw [val_main_v102_apply, val_main_v101_apply, val_main_v99_apply, val_main_v97_apply, val_main_v100_apply, val_main_v98_apply,
    show idx_main_v97 (idx_main_v99 (ix4 b h i c)) = ix4 b h i 0 from funext fun a => by fin_cases a <;> rfl,
    show idx_main_v98 (idx_main_v100 (ix4 b h i c)) = ix4 b h 0 c from funext fun a => by fin_cases a <;> rfl,
    sol0 H, sol0 H, m H]
  exact elim_eq _ _ _ _

theorem sol2 (H : Args x0 x1 x2 x3 x4 x5 x6 Sq) (b : Fin 128) (h i : Fin 8) (c : Fin 256) :
    val_main_v108 (F := Ideal) x0 x1 x2 x3 x5 (ix4 b h i c) = ((elim ((Sq b).m h) 1 (elim ((Sq b).m h) 0 (rhs (Sq b) h c)) i : ℝ) : EReal) := by
  rw [val_main_v108_apply, val_main_v107_apply, val_main_v105_apply, val_main_v103_apply, val_main_v106_apply, val_main_v104_apply,
    show idx_main_v103 (idx_main_v105 (ix4 b h i c)) = ix4 b h i 1 from funext fun a => by fin_cases a <;> rfl,
    show idx_main_v104 (idx_main_v106 (ix4 b h i c)) = ix4 b h 1 c from funext fun a => by fin_cases a <;> rfl,
    sol1 H, sol1 H, m H]
  exact elim_eq _ _ _ _

theorem sol3 (H : Args x0 x1 x2 x3 x4 x5 x6 Sq) (b : Fin 128) (h i : Fin 8) (c : Fin 256) :
    val_main_v114 (F := Ideal) x0 x1 x2 x3 x5 (ix4 b h i c) = ((elim ((Sq b).m h) 2 (elim ((Sq b).m h) 1 (elim ((Sq b).m h) 0 (rhs (Sq b) h c))) i : ℝ) : EReal) := by
  rw [val_main_v114_apply, val_main_v113_apply, val_main_v111_apply, val_main_v109_apply, val_main_v112_apply, val_main_v110_apply,
    show idx_main_v109 (idx_main_v111 (ix4 b h i c)) = ix4 b h i 2 from funext fun a => by fin_cases a <;> rfl,
    show idx_main_v110 (idx_main_v112 (ix4 b h i c)) = ix4 b h 2 c from funext fun a => by fin_cases a <;> rfl,
    sol2 H, sol2 H, m H]
  exact elim_eq _ _ _ _

theorem sol4 (H : Args x0 x1 x2 x3 x4 x5 x6 Sq) (b : Fin 128) (h i : Fin 8) (c : Fin 256) :
    val_main_v120 (F := Ideal) x0 x1 x2 x3 x5 (ix4 b h i c) = ((elim ((Sq b).m h) 3 (elim ((Sq b).m h) 2 (elim ((Sq b).m h) 1 (elim ((Sq b).m h) 0 (rhs (Sq b) h c)))) i : ℝ) : EReal) := by
  rw [val_main_v120_apply, val_main_v119_apply, val_main_v117_apply, val_main_v115_apply, val_main_v118_apply, val_main_v116_apply,
    show idx_main_v115 (idx_main_v117 (ix4 b h i c)) = ix4 b h i 3 from funext fun a => by fin_cases a <;> rfl,
    show idx_main_v116 (idx_main_v118 (ix4 b h i c)) = ix4 b h 3 c from funext fun a => by fin_cases a <;> rfl,
    sol3 H, sol3 H, m H]
  exact elim_eq _ _ _ _

theorem sol5 (H : Args x0 x1 x2 x3 x4 x5 x6 Sq) (b : Fin 128) (h i : Fin 8) (c : Fin 256) :
    val_main_v126 (F := Ideal) x0 x1 x2 x3 x5 (ix4 b h i c) = ((elim ((Sq b).m h) 4 (elim ((Sq b).m h) 3 (elim ((Sq b).m h) 2 (elim ((Sq b).m h) 1 (elim ((Sq b).m h) 0 (rhs (Sq b) h c))))) i : ℝ) : EReal) := by
  rw [val_main_v126_apply, val_main_v125_apply, val_main_v123_apply, val_main_v121_apply, val_main_v124_apply, val_main_v122_apply,
    show idx_main_v121 (idx_main_v123 (ix4 b h i c)) = ix4 b h i 4 from funext fun a => by fin_cases a <;> rfl,
    show idx_main_v122 (idx_main_v124 (ix4 b h i c)) = ix4 b h 4 c from funext fun a => by fin_cases a <;> rfl,
    sol4 H, sol4 H, m H]
  exact elim_eq _ _ _ _

theorem sol6 (H : Args x0 x1 x2 x3 x4 x5 x6 Sq) (b : Fin 128) (h i : Fin 8) (c : Fin 256) :
    val_main_v132 (F := Ideal) x0 x1 x2 x3 x5 (ix4 b h i c) = ((elim ((Sq b).m h) 5 (elim ((Sq b).m h) 4 (elim ((Sq b).m h) 3 (elim ((Sq b).m h) 2 (elim ((Sq b).m h) 1 (elim ((Sq b).m h) 0 (rhs (Sq b) h c)))))) i : ℝ) : EReal) := by
  rw [val_main_v132_apply, val_main_v131_apply, val_main_v129_apply, val_main_v127_apply, val_main_v130_apply, val_main_v128_apply,
    show idx_main_v127 (idx_main_v129 (ix4 b h i c)) = ix4 b h i 5 from funext fun a => by fin_cases a <;> rfl,
    show idx_main_v128 (idx_main_v130 (ix4 b h i c)) = ix4 b h 5 c from funext fun a => by fin_cases a <;> rfl,
    sol5 H, sol5 H, m H]
  exact elim_eq _ _ _ _

theorem sol7 (H : Args x0 x1 x2 x3 x4 x5 x6 Sq) (b : Fin 128) (h i : Fin 8) (c : Fin 256) :
    val_main_v138 (F := Ideal) x0 x1 x2 x3 x5 (ix4 b h i c) = ((elim ((Sq b).m h) 6 (elim ((Sq b).m h) 5 (elim ((Sq b).m h) 4 (elim ((Sq b).m h) 3 (elim ((Sq b).m h) 2 (elim ((Sq b).m h) 1 (elim ((Sq b).m h) 0 (rhs (Sq b) h c))))))) i : ℝ) : EReal) := by
  rw [val_main_v138_apply, val_main_v137_apply, val_main_v135_apply, val_main_v133_apply, val_main_v136_apply, val_main_v134_apply,
    show idx_main_v133 (idx_main_v135 (ix4 b h i c)) = ix4 b h i 6 from funext fun a => by fin_cases a <;> rfl,
    show idx_main_v134 (idx_main_v136 (ix4 b h i c)) = ix4 b h 6 c from funext fun a => by fin_cases a <;> rfl,
    sol6 H, sol6 H, m H]
  exact elim_eq _ _ _ _

theorem u (H : Args x0 x1 x2 x3 x4 x5 x6 Sq) (b : Fin 128) (h i : Fin 8) (e : Fin 128) :
    val_main_v139 (F := Ideal) x0 x1 x2 x3 x5 (ix4 b h i e) = (((Sq b).u h i e : ℝ) : EReal) := by
  pointwise [val_main_v139]
  rw [sol7 H]
  refine congrArg _ ((substitution _ (m_low (Sq b) h) _ i).trans (Finset.sum_congr rfl fun j _ => congrArg (_ * ·) ?_))
  exact dif_pos e.isLt

theorem w (H : Args x0 x1 x2 x3 x4 x5 x6 Sq) (b : Fin 128) (h i : Fin 8) (d : Fin 128) :
    val_main_v140 (F := Ideal) x0 x1 x2 x3 x5 (ix4 b h i d) = (((Sq b).w h i d : ℝ) : EReal) := by
  pointwise [val_main_v140]
  rw [sol7 H]
  refine congrArg _ ((substitution _ (m_low (Sq b) h) _ i).trans (Finset.sum_congr rfl fun j _ => congrArg (_ * ·) ?_))
  refine (dif_neg (by show ¬ 128 + d.val < 128; omega)).trans (congrArg ((Sq b).rw h j) (Fin.ext ?_))
  show 128 + d.val - 128 = d.val
  omega

theorem gc_last (S : Seq) (h : Fin 8) : S.gc h 7 = S.gt h := by
  unfold Seq.gc Seq.gt
  exact Finset.sum_congr rfl fun s _ => if_pos (Fin.le_last s)

theorem kd (H : Args x0 x1 x2 x3 x4 x5 x6 Sq) (b : Fin 128) (h t : Fin 8) (d : Fin 128) :
    val_main_v154 (F := Ideal) x0 x1 x3 x5 (ix4 b h t d) = (((Sq b).kd h t d : ℝ) : EReal) := by
  pointwise [val_main_v154, val_main_v153, val_main_v152, val_main_v151, val_main_v150, val_main_v149, val_main_v148]
  rw [k H, gc H, gc H, ← EReal.coe_sub, Ideal.exp_coe, ← EReal.coe_mul]
  unfold Seq.kd
  rw [gc_last]

theorem vn (H : Args x0 x1 x2 x3 x4 x5 x6 Sq) (b : Fin 128) (h t : Fin 8) (e : Fin 128) :
    val_main_v159 (F := Ideal) x0 x1 x2 x3 x4 x5 (ix4 b h t e) = (((Sq b).vn h t e : ℝ) : EReal) := by
  pointwise [val_main_v159, val_main_v158]
  simp only [u H, w H, s0 H, ← EReal.coe_mul, coe_sum, ← EReal.coe_sub]
  rfl

theorem sn (H : Args x0 x1 x2 x3 x4 x5 x6 Sq) (b : Fin 128) (h : Fin 8) (d e : Fin 128) :
    val_main_v167 (F := Ideal) x0 x1 x2 x3 x4 x5 (ix4 b h d e) = (((Sq b).sn h d e : ℝ) : EReal) := by
  pointwise [val_main_v167, val_main_v166, val_main_v165, val_main_v164, val_main_v163, val_main_v157, val_main_v156, val_main_v155]
  simp only [s0 H, gc H, kd H, vn H, Ideal.exp_coe, ← EReal.coe_mul, coe_sum, ← EReal.coe_add]
  unfold Seq.sn
  rw [gc_last]

theorem o (H : Args x0 x1 x2 x3 x4 x5 x6 Sq) (b : Fin 128) (h t : Fin 8) (e : Fin 128) :
    val_main_v168 (F := Ideal) x0 x1 x2 x3 x4 x5 (ix4 b t h e) = (((Sq b).o h t e : ℝ) : EReal) := by
  pointwise [val_main_v168, val_main_v162, val_main_v161, val_main_v160, val_main_v147, val_main_v146, val_main_v145, val_main_v144]
  simp only [q H, gc H, qk H, vn H, s0 H, Ideal.exp_coe, ← EReal.coe_mul, coe_sum, ← EReal.coe_add]
  rfl

theorem out (H : Args x0 x1 x2 x3 x4 x5 x6 Sq) (b : Fin 128) (h t : Fin 8) (e : Fin 128) :
    val_main_v184 (F := Ideal) x0 x1 x2 x3 x4 x5 x6 (ix4 b t h e) = (((Sq b).out h t e : ℝ) : EReal) := by
  pointwise [val_main_v184, val_main_v183, val_main_call8_v5, val_main_call8_v4, val_main_call8_cst_0, val_main_call8_v3,
    val_main_call8_v2, val_main_call8_cst, val_main_call8_v1, val_main_call8_v0, val_main_v182, val_main_v181, val_main_v180,
    val_main_v179, val_main_v178, val_main_v177, val_main_v176, val_main_v175, val_main_v174, val_main_cst_11, val_main_v173,
    val_main_v172, val_main_cst_10, val_main_v171, val_main_v170, val_main_cst_9, val_main_v169, val_main_v9, val_main_v1,
    val_main_v0]
  have ms : 0 < (Sq b).ms h t + eps := add_pos_of_nonneg_of_pos
    (div_nonneg (Finset.sum_nonneg fun _ _ => mul_self_nonneg _) (by norm_num)) eps_pos
  have e128 : (∑ d, (Sq b).o h t d * (Sq b).o h t d) * (1 / 128) = (Sq b).ms h t := by unfold Seq.ms; ring
  have er : x0 (ix2 ⟨16384 + (b.val * 8 + t.val), by omega⟩ ⟨3072 + (h.val * 128 + e.val), by omega⟩)
      = (((Sq b).p t ⟨3072 + 128 * h.val + e.val, by omega⟩ : ℝ) : EReal) :=
    (H.rows b t _).trans (congrArg (fun c => (((Sq b).p t c : ℝ) : EReal)) (Fin.ext (by show 3072 + (h.val * 128 + e.val) = 3072 + 128 * h.val + e.val; omega)))
  simp only [o H, H.scale b, er, ← EReal.coe_mul, coe_sum, c128, Ideal.div_coe (show (128 : ℝ) ≠ 0 by norm_num), e128, eps_coe, ← EReal.coe_add, rsqrt_pos _ ms, sigmoid_coe']
  rfl

/-- The reference's first result. -/
theorem final185 (H : Args x0 x1 x2 x3 x4 x5 x6 Sq) : val_main_v185 (F := Ideal) x0 x1 x2 x3 x4 x5 x6 = outArr Sq := by
  funext y
  obtain ⟨r, c, hy⟩ : ∃ (r c : Fin 1024), y = ix2 r c := ⟨y 0, y 1, eq_ix2 y⟩
  subst hy
  have hr : r.val = 8 * (r.val / 8) + r.val % 8 := by omega
  have hc : c.val = 128 * (c.val / 128) + c.val % 128 := by omega
  refine Eq.trans ?_ ((out H ⟨r.val / 8, by omega⟩ ⟨c.val / 128, by omega⟩ ⟨r.val % 8, by omega⟩ ⟨c.val % 128, by omega⟩).trans
    (outArr_apply Sq ⟨r.val / 8, by omega⟩ ⟨r.val % 8, by omega⟩ ⟨c.val / 128, by omega⟩ ⟨c.val % 128, by omega⟩ (ix2 r c) hr hc).symm)
  pointwise [val_main_v185]

/-- The reference's second result. -/
theorem final167 (H : Args x0 x1 x2 x3 x4 x5 x6 Sq) : val_main_v167 (F := Ideal) x0 x1 x2 x3 x4 x5 = stateArr Sq := by
  funext y
  obtain ⟨b, h, d, e, hy⟩ : ∃ (b : Fin 128) (h : Fin 8) (d e : Fin 128), y = ix4 b h d e := ⟨y 0, y 1, y 2, y 3, eq_ix4 y⟩
  subst hy
  exact sn H b h d e

/-- Arrays of real numbers give the sequences read off them. -/
theorem args (H : AllFin x0 x1 x2 x3 x4 x5 x6) : Args x0 x1 x2 x3 x4 x5 x6 (seqOf x0 x1 x2 x3 x4 x5 x6) where
  rows b t c := (H.f0 _).symm.trans (congrArg (fun i => (EReal.toReal (x0 (ix2 i c)) : EReal))
    (Fin.ext (by show 16384 + (b.val * 8 + t.val) = 16384 + (8 * b.val + t.val); omega)))
  decays b t h := (H.f1 _).symm.trans (congrArg (fun i => (EReal.toReal (x1 (ix2 i h)) : EReal))
    (Fin.ext (by show 16384 + (b.val * 8 + t.val) = 16384 + (8 * b.val + t.val); omega)))
  strengths b t h := (H.f2 _).symm.trans (congrArg (fun i => (EReal.toReal (x2 (ix2 i h)) : EReal))
    (Fin.ext (by show 16384 + (b.val * 8 + t.val) = 16384 + (8 * b.val + t.val); omega)))
  prev b i c := (H.f3 _).symm
  state b h d e := (H.f4 _).symm
  taps b i c := (H.f5 _).symm
  scale b d := (H.f6 _).symm

end

end GatedDelta.Reference
end
-- ==== Proof.Delta.Claim.lean ====
/-
  The claims about the sample group's gated-delta call: the kernel's two results are the reference's.
-/
module

public import proofs.«01_k».proof.Defs
public import proofs.«01_k».proof.Proof.Gen.Kernel.Frame
public import proofs.«01_k».proof.Proof.Gen.Pre_finite
public import proofs.«01_k».proof.Proof.Delta.Arr
public import proofs.«01_k».proof.Proof.Delta.Reference2
public import proofs.«01_k».proof.Proof.Finite
public import Idealize.ShloMosaic.Lib.Quiescent

@[expose] public section

noncomputable section

open Idealize.ShloMosaic Idealize.ShloMosaic.TcCoe Idealize.SL.Sem

namespace GatedDelta.Claim

/-- The precondition makes every element of the seven arrays a real number. -/
theorem ok_of_pre (a0 : Vec Ideal ⟨2, ![17408, 4096]⟩ .f32) (a1 a2 : Vec Ideal ⟨2, ![17408, 8]⟩ .f32) (a3 : Vec Ideal ⟨4, ![2, 128, 3, 3072]⟩ .f32)
    (a4 : Vec Ideal ⟨5, ![2, 128, 8, 128, 128]⟩ .f32) (a5 : Vec Ideal ⟨2, ![4, 3072]⟩ .f32) (a6 : Vec Ideal ⟨1, ![128]⟩ .f32)
    (h : Cert.Pre_finite.fn (F := Ideal) a0 a1 a2 a3 a4 a5 a6 = fun _ => 1#1) : AllFin a0 a1 a2 a3 a4 a5 a6 := by
  unfold Cert.Pre_finite.fn Cert.Pre_finite.fn_part1 Cert.Pre_finite.fn_part2 at h
  obtain ⟨h, e6⟩ := Finite.andi_one _ _ h
  obtain ⟨h, e5⟩ := Finite.andi_one _ _ h
  obtain ⟨h, e4⟩ := Finite.andi_one _ _ h
  obtain ⟨h, e3⟩ := Finite.andi_one _ _ h
  obtain ⟨h, e2⟩ := Finite.andi_one _ _ h
  obtain ⟨h, e1⟩ := Finite.andi_one _ _ h
  obtain ⟨-, e0⟩ := Finite.andi_one _ _ h
  exact ⟨Finite.all_of_and a0 _ _ _ _ Finite.idx0 ix0 (congrFun e0 ix0) fun _ => rfl,
    Finite.all_of_and a1 _ _ _ _ Finite.idx0 ix0 (congrFun e1 ix0) fun _ => rfl,
    Finite.all_of_and a2 _ _ _ _ Finite.idx0 ix0 (congrFun e2 ix0) fun _ => rfl,
    Finite.all_of_and a3 _ _ _ _ Finite.idx0 ix0 (congrFun e3 ix0) fun _ => rfl,
    Finite.all_of_and a4 _ _ _ _ Finite.idx0 ix0 (congrFun e4 ix0) fun _ => rfl,
    Finite.all_of_and a5 _ _ _ _ Finite.idx0 ix0 (congrFun e5 ix0) fun _ => rfl,
    Finite.all_of_and a6 _ _ _ _ Finite.idx0 ix0 (congrFun e6 ix0) fun _ => rfl⟩

/-- The reference runs and leaves its arguments and the semaphores as they were. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The reference's two results over contents that hold the kernel's arguments. -/
theorem reference_value {m c} (V : Valuation Cert.ReferenceIdeal.τ Cert.ReferenceIdeal.sig (Elt Ideal)) (ok : Kernel.Ok m c)
    (h : V (Proc.devRef .tc Cert.ReferenceIdeal.main_arg0) = m ((c.tc : Thread Cert.KernelIdeal.nD Cert.KernelIdeal.τ).loc Cert.KernelIdeal.main_arg0)
      ∧ V (Proc.devRef .tc Cert.ReferenceIdeal.main_arg1) = m ((c.tc : Thread Cert.KernelIdeal.nD Cert.KernelIdeal.τ).loc Cert.KernelIdeal.main_arg1)
      ∧ V (Proc.devRef .tc Cert.ReferenceIdeal.main_arg2) = m ((c.tc : Thread Cert.KernelIdeal.nD Cert.KernelIdeal.τ).loc Cert.KernelIdeal.main_arg2)
      ∧ V (Proc.devRef .tc Cert.ReferenceIdeal.main_arg3) = m ((c.tc : Thread Cert.KernelIdeal.nD Cert.KernelIdeal.τ).loc Cert.KernelIdeal.main_arg3)
      ∧ V (Proc.devRef .tc Cert.ReferenceIdeal.main_arg4) = m ((c.tc : Thread Cert.KernelIdeal.nD Cert.KernelIdeal.τ).loc Cert.KernelIdeal.main_arg4)
      ∧ V (Proc.devRef .tc Cert.ReferenceIdeal.main_arg5) = m ((c.tc : Thread Cert.KernelIdeal.nD Cert.KernelIdeal.τ).loc Cert.KernelIdeal.main_arg5)
      ∧ V (Proc.devRef .tc Cert.ReferenceIdeal.main_arg6) = m ((c.tc : Thread Cert.KernelIdeal.nD Cert.KernelIdeal.τ).loc Cert.KernelIdeal.main_arg6)) :
    Cert.ReferenceIdeal.Read.val_main_v185 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6))
      = outArr (Kernel.S m c)
    ∧ Cert.ReferenceIdeal.Read.val_main_v167 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5))
      = stateArr (Kernel.S m c) := by
  obtain ⟨h0, h1, h2, h3, h4, h5, h6⟩ := h
  rw [h0, h1, h2, h3, h4, h5, h6]
  exact ⟨Reference.final185 (Reference.args ok), Reference.final167 (Reference.args ok)⟩

/-- The kernel's two results are the reference's, where every argument is finite. -/
theorem algebraic : Cert.algebraic_KernelIdeal_ReferenceIdeal_pre_finite := by
  intro m ρ m' ρ' hpre hagree
  have ok : ∀ c, Kernel.Ok m c := fun c => ok_of_pre _ _ _ _ _ _ _ (hpre c)
  refine ⟨fun c => outArr (Kernel.S m c), fun c => stateArr (Kernel.S m c), ?_, ?_⟩
  · exact (θ_run Cert.KernelIdeal.defs _ _).mono
      (fun _ h c => ⟨(h c).1.trans (Kernel.final7 c (ok c)), (h c).2.1.trans (Kernel.final8 c (ok c)), (h c).2.2⟩)
      (Cert.KernelIdeal.Value.run_blocks (F := Ideal) m ρ)
  · exact (θ_run Cert.ReferenceIdeal.defs _ _).mono
      (fun _ h c => ⟨(h c).1.trans ((Cert.ReferenceIdeal.Read.val_main_v185_eq (StableHlo.launchContents m' c)).trans (reference_value _ (ok c) (hagree c)).1),
        (h c).2.1.trans ((Cert.ReferenceIdeal.Read.val_main_v167_eq (StableHlo.launchContents m' c)).trans (reference_value _ (ok c) (hagree c)).2),
        (h c).2.2⟩)
      (Cert.ReferenceIdeal.Value.run (F := Ideal) m' ρ')

end GatedDelta.Claim
end
-- ==== Proof.Kv.Kernel.lean ====
/-
  The kernel of the prompt group's shared keys and values: its two results are the normalised rows through the two halves
  of the projection.
-/
module

public import proofs.«01_k».proof.Proof.Gen.KvIdeal.Frame
public import proofs.«01_k».proof.Proof.Rows
public import Idealize.ShloMosaic.Lib.StableHlo.ReadAt
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Kv

/-- Token `s` of sequence `b`, normalised, through column `o + n` of the projection. -/
def dot (x0 : Vec Ideal ⟨2, ![17408, 1024]⟩ .f32) (x1 : Vec Ideal ⟨1, ![1024]⟩ .f32) (x2 : Vec Ideal ⟨2, ![1024, 2048]⟩ .f32)
    (b : Fin 4) (s : Fin 4096) (n : Fin 2048) : EReal :=
  ∑ j : Fin 1024, Rows.rms (fun k => x0 (ix2 ⟨b.val * 4096 + s.val, by omega⟩ k)) (fun k => x1 (ix1 k)) j * x2 (ix2 j n)

/-- The keys: sequence, token, head, channel. -/
def keys (x0 : Vec Ideal ⟨2, ![17408, 1024]⟩ .f32) (x1 : Vec Ideal ⟨1, ![1024]⟩ .f32) (x2 : Vec Ideal ⟨2, ![1024, 2048]⟩ .f32) :
    Vec Ideal ⟨4, ![4, 4096, 16, 64]⟩ .f32 := fun y =>
  dot x0 x1 x2 (y 0) (y 1) ⟨(y 2).val * 64 + (y 3).val, by
    have h2 : (y 2).val < 16 := (y 2).isLt
    have h3 : (y 3).val < 64 := (y 3).isLt
    omega⟩

/-- The values, likewise, from the projection's second half. -/
def values (x0 : Vec Ideal ⟨2, ![17408, 1024]⟩ .f32) (x1 : Vec Ideal ⟨1, ![1024]⟩ .f32) (x2 : Vec Ideal ⟨2, ![1024, 2048]⟩ .f32) :
    Vec Ideal ⟨4, ![4, 4096, 16, 64]⟩ .f32 := fun y =>
  dot x0 x1 x2 (y 0) (y 1) ⟨1024 + ((y 2).val * 64 + (y 3).val), by
    have h2 : (y 2).val < 16 := (y 2).isLt
    have h3 : (y 3).val < 64 := (y 3).isLt
    omega⟩

open Cert.KvIdeal Cert.KvIdeal.Gen
open Idealize.ShloMosaic.Pipeline (Dat)

namespace Kernel

variable (m : (ℓ : Loc nD τ sig) → Buf (Elt Ideal) ℓ)

theorem pay1 (x : Vec Ideal S1024x1024 .f32) (g : Vec Ideal S1x1024 .f32) (r k : Fin 1024) :
    k0_pay1 (F := Ideal) x g (ix2 r k) = Rows.rms (fun k => x (ix2 r k)) (fun k => g (ix2 0 k)) k := by
  pointwise [k0_pay1]
  rfl

theorem pay2 (x : Vec Ideal S1024x1024 .f32) (g : Vec Ideal S1x1024 .f32) (w : Vec Ideal S1024x1024 .bf16) (n r : Fin 1024) :
    k0_pay2 (F := Ideal) x g w (ix3 0 n r) = ∑ j : Fin 1024, w (ix2 n j) * k0_pay1 (F := Ideal) x g (ix2 r j) := by
  pointwise [k0_pay2]

theorem pay3 (x : Vec Ideal S1024x1024 .f32) (g : Vec Ideal S1x1024 .f32) (w : Vec Ideal S1024x1024 .bf16) (n r : Fin 1024) :
    k0_pay3 (F := Ideal) x g w (ix3 0 n r) = ∑ j : Fin 1024, w (ix2 n j) * k0_pay1 (F := Ideal) x g (ix2 r j) := by
  pointwise [k0_pay3]

theorem idx : ∀ t : Fin cfg0.N, win0_0.index t = ![t.val, 0] ∧ win0_1.index t = ![0, 0] ∧ win0_2.index t = ![0, 0] ∧ win0_3.index t = ![0, 0]
    ∧ win0_4.index t = ![t.val / 4, 0, t.val % 4] ∧ win0_5.index t = ![t.val / 4, 0, t.val % 4] :=
  (by decide +kernel : ∀ t : Fin grid0.N, _)

theorem hv4 (c : Dev nD) (n j : Fin 1024) : V m c main_v4 (ix2 n j) = m ((c : Thread nD τ).loc main_arg2) (ix2 j ⟨n.val, by omega⟩) := by
  unfold V
  after_reads_at
theorem hv5 (c : Dev nD) (n j : Fin 1024) : V m c main_v5 (ix2 n j) = m ((c : Thread nD τ).loc main_arg2) (ix2 j ⟨1024 + n.val, by omega⟩) := by
  unfold V
  after_reads_at
theorem hv6 (c : Dev nD) (k : Fin 1024) : V m c main_v6 (ix2 0 k) = m ((c : Thread nD τ).loc main_arg1) (ix1 k) := by
  unfold V
  after_reads_at

theorem b0 (c : Dev nD) (t : Fin cfg0.N) (r k : Fin 1024) :
    iblk m c 0 t (ix2 r k) = m ((c : Thread nD τ).loc main_arg0) (ix2 ⟨1024 * t.val + r, by have : t.val < 16 := t.isLt; omega⟩ k) := by
  blk_ext [iblk, V, idx t]
theorem b1 (c : Dev nD) (t : Fin cfg0.N) (k : Fin 1024) :
    iblk m c 1 t (ix2 0 k) = m ((c : Thread nD τ).loc main_arg1) (ix1 k) := by
  rw [← hv6 m c]
  blk_ext [iblk, idx t]
theorem b2 (c : Dev nD) (t : Fin cfg0.N) (n j : Fin 1024) :
    iblk m c 2 t (ix2 n j) = m ((c : Thread nD τ).loc main_arg2) (ix2 j ⟨(0 : Fin 1025).val + n.val, by show 0 + n.val < 2048; omega⟩) := by
  have e : (⟨(0 : Fin 1025).val + n.val, by show 0 + n.val < 2048; omega⟩ : Fin 2048) = ⟨n.val, by omega⟩ := Fin.ext (Nat.zero_add _)
  rw [e, ← hv4 m c]
  blk_ext [iblk, idx t]
theorem b3 (c : Dev nD) (t : Fin cfg0.N) (n j : Fin 1024) :
    iblk m c 3 t (ix2 n j) = m ((c : Thread nD τ).loc main_arg2) (ix2 j ⟨1024 + n.val, by omega⟩) := by
  rw [← hv5 m c]
  blk_ext [iblk, idx t]

/-- The call's arrays: sequence, column from `o` on, token. -/
def T (c : Dev nD) (o : Fin 1025) : Vec Ideal S4x1024x4096 .f32 := fun y =>
  dot (m ((c : Thread nD τ).loc main_arg0)) (m ((c : Thread nD τ).loc main_arg1)) (m ((c : Thread nD τ).loc main_arg2)) (y 0) (y 2)
    ⟨o.val + (y 1).val, by have : (y 1).val < 1024 := (y 1).isLt; omega⟩

/-- The projection's entry. -/
def weight (c : Dev nD) (j : Fin 1024) (n : Fin 2048) : Elt Ideal .bf16 := m ((c : Thread nD τ).loc main_arg2) (ix2 j n)

/-- A block of the call's arrays. -/
theorem T_blk (c : Dev nD) (o : Fin 1025) (t : Fin cfg0.N) (n r : Fin 1024) (hb : t.val / 4 < 4) (hr : 1024 * (t.val % 4) + r.val < 4096) :
    T m c o (ix3 ⟨t.val / 4, hb⟩ n ⟨1024 * (t.val % 4) + r.val, hr⟩) =
      ∑ j : Fin 1024, weight m c j ⟨o.val + n.val, by omega⟩ * k0_pay1 (F := Ideal) (iblk m c 0 t) (iblk m c 1 t) (ix2 r j) := by
  show dot _ _ _ _ _ _ = _
  unfold dot
  refine Finset.sum_congr rfl fun j _ => ?_
  rw [mul_comm, pay1]
  simp only [b0, b1]
  have e : ∀ k, (ix2 (⟨(t.val / 4) * 4096 + (1024 * (t.val % 4) + r.val), by omega⟩ : Fin 17408) k : (⟨2, ![17408, 1024]⟩ : Shape).Idx)
      = ix2 ⟨1024 * t.val + r.val, by have : t.val < 16 := t.isLt; omega⟩ k := fun k => by
    congr 1
    exact Fin.ext (by show (t.val / 4) * 4096 + (1024 * (t.val % 4) + r.val) = 1024 * t.val + r.val; omega)
  congr 2
  funext k
  exact congrArg (m ((c : Thread nD τ).loc main_arg0)) (e k)

theorem final4 (c : Dev nD) : (dats m 0 c).arrAt 4 cfg0.N = T m c 0 := by
  refine (dats m 0 c).arrAt_eq_of_covers 4 _ (by decide +kernel) fun t hf y => ?_
  have ht : t.val < 16 := t.isLt
  blk_simp
  rw [after0_4]
  obtain ⟨n, r, hy⟩ : ∃ (n r : Fin 1024), y = ix3 0 n r := ⟨y 1, y 2, by
    have hz : y 0 = (0 : Fin 1) := Fin.ext (by have : (y 0).val < 1 := (y 0).isLt; show (y 0).val = 0; omega)
    rw [← hz]
    exact eq_ix3 y⟩
  subst hy
  have hi : (win0_4.blk t).view.emb (ix3 0 n r) = ix3 ⟨t.val / 4, by omega⟩ n ⟨1024 * (t.val % 4) + r.val, by omega⟩ := by
    blk_point [idx t]
  rw [hi, T_blk]
  have e : out0_4 (iblk m c 0 t) (iblk m c 1 t) (iblk m c 2 t) (iblk m c 3 t) = k0_pay2 (iblk m c 0 t) (iblk m c 1 t) (iblk m c 2 t) := by
    frame_out
  rw [e, pay2]
  simp only [b2]
  rfl

theorem final5 (c : Dev nD) : (dats m 0 c).arrAt 5 cfg0.N = T m c 1024 := by
  refine (dats m 0 c).arrAt_eq_of_covers 5 _ (by decide +kernel) fun t hf y => ?_
  have ht : t.val < 16 := t.isLt
  blk_simp
  rw [after0_5]
  obtain ⟨n, r, hy⟩ : ∃ (n r : Fin 1024), y = ix3 0 n r := ⟨y 1, y 2, by
    have hz : y 0 = (0 : Fin 1) := Fin.ext (by have : (y 0).val < 1 := (y 0).isLt; show (y 0).val = 0; omega)
    rw [← hz]
    exact eq_ix3 y⟩
  subst hy
  have hi : (win0_5.blk t).view.emb (ix3 0 n r) = ix3 ⟨t.val / 4, by omega⟩ n ⟨1024 * (t.val % 4) + r.val, by omega⟩ := by
    blk_point [idx t]
  rw [hi, T_blk]
  have e : out0_5 (iblk m c 0 t) (iblk m c 1 t) (iblk m c 2 t) (iblk m c 3 t) = k0_pay3 (iblk m c 0 t) (iblk m c 1 t) (iblk m c 3 t) := by
    frame_out
  rw [e, pay3]
  simp only [b3]
  rfl

/-- The keys after the host's reshape and transpose. -/
theorem keys_eq (c : Dev nD) : Pipeline.afterTail₀ cfgs (dats m) 0 (V0 m) [hostOps1] c main_v9
    = keys (m ((c : Thread nD τ).loc main_arg0)) (m ((c : Thread nD τ).loc main_arg1)) (m ((c : Thread nD τ).loc main_arg2)) := by
  funext y
  obtain ⟨b, s, h, d, hy⟩ : ∃ (b : Fin 4) (s : Fin 4096) (h : Fin 16) (d : Fin 64), y = ix4 b s h d := ⟨y 0, y 1, y 2, y 3, eq_ix4 y⟩
  subst hy
  have e4 := (Pipeline.withArrays_arr (cfgs 0).spec (by decide : Function.Injective (Pipeline.arrRef spec0)) c (V0 m c)
    (fun w => (dats m 0 c).arrAt w (cfgs 0).N) 4).trans (final4 m c)
  unfold Pipeline.afterTail₀
  generalize Pipeline.withArrays (cfgs 0).spec c (V0 m c) (fun w => (dats m 0 c).arrAt w (cfgs 0).N) = W at e4 ⊢
  have e4' : W (Proc.devRef .tc main_v7_0) = T m c 0 := e4
  after_reads_at
  rw [e4']
  exact congrArg (dot _ _ _ b s) (Fin.ext (by show 0 + (h.val * 64 + d.val) = h.val * 64 + d.val; omega))

/-- The values likewise. -/
theorem values_eq (c : Dev nD) : Pipeline.afterTail₀ cfgs (dats m) 0 (V0 m) [hostOps1] c main_v11
    = values (m ((c : Thread nD τ).loc main_arg0)) (m ((c : Thread nD τ).loc main_arg1)) (m ((c : Thread nD τ).loc main_arg2)) := by
  funext y
  obtain ⟨b, s, h, d, hy⟩ : ∃ (b : Fin 4) (s : Fin 4096) (h : Fin 16) (d : Fin 64), y = ix4 b s h d := ⟨y 0, y 1, y 2, y 3, eq_ix4 y⟩
  subst hy
  have e5 := (Pipeline.withArrays_arr (cfgs 0).spec (by decide : Function.Injective (Pipeline.arrRef spec0)) c (V0 m c)
    (fun w => (dats m 0 c).arrAt w (cfgs 0).N) 5).trans (final5 m c)
  unfold Pipeline.afterTail₀
  generalize Pipeline.withArrays (cfgs 0).spec c (V0 m c) (fun w => (dats m 0 c).arrAt w (cfgs 0).N) = W at e5 ⊢
  have e5' : W (Proc.devRef .tc main_v7_1) = T m c 1024 := e5
  after_reads_at
  rw [e5']
  rfl

end Kernel
end Kv
end
-- ==== Proof.Kv.Claim.lean ====
/-
  The claims about the prompt group's shared keys and values: the kernel's results are the reference's, with no precondition.
-/
module

public import proofs.«01_k».proof.Defs
public import proofs.«01_k».proof.Proof.Kv.Kernel
public import proofs.«01_k».proof.Proof.Gen.KvReferenceIdeal.Read
public import proofs.«01_k».proof.Proof.Gen.KvReferenceIdeal.Run
public import Idealize.ShloMosaic.Lib.Quiescent

@[expose] public section

set_option maxRecDepth 16384

noncomputable section

open Idealize.ShloMosaic Idealize.ShloMosaic.TcCoe Idealize.SL.Sem

namespace Kv
namespace Claim

section
open Cert.KvReferenceIdeal Cert.KvReferenceIdeal.Read

/-- The reference's normalised rows. -/
theorem rows (x0 : Vec Ideal S17408x1024 .f32) (x1 : Vec Ideal S1024 .f32) (b : Fin 4) (s : Fin 4096) (j : Fin 1024) :
    val_main_v14 (F := Ideal) x0 x1 (ix3 b s j) = Rows.rms (fun k => x0 (ix2 ⟨b.val * 4096 + s.val, by omega⟩ k)) (fun k => x1 (ix1 k)) j := by
  pointwise [val_main_v0, val_main_v1, val_main_v2, val_main_cst, val_main_v3, val_main_v4, val_main_cst_0, val_main_v5,
    val_main_v6, val_main_cst_1, val_main_v7, val_main_v8, val_main_v9, val_main_v10, val_main_v11, val_main_v12, val_main_v13, val_main_v14]
  rfl

/-- The reference's keys. -/
theorem reference_keys (x0 : Vec Ideal S17408x1024 .f32) (x1 : Vec Ideal S1024 .f32) (x2 : Vec Ideal S1024x2048 .f32) :
    val_main_v17 (F := Ideal) x0 x1 x2 = keys x0 x1 x2 := by
  funext y
  obtain ⟨b, s, h, d, hy⟩ : ∃ (b : Fin 4) (s : Fin 4096) (h : Fin 16) (d : Fin 64), y = ix4 b s h d := ⟨y 0, y 1, y 2, y 3, eq_ix4 y⟩
  subst hy
  pointwise [val_main_v15, val_main_v16, val_main_v17]
  simp only [rows]
  rfl

/-- The reference's values. -/
theorem reference_values (x0 : Vec Ideal S17408x1024 .f32) (x1 : Vec Ideal S1024 .f32) (x2 : Vec Ideal S1024x2048 .f32) :
    val_main_v19 (F := Ideal) x0 x1 x2 = values x0 x1 x2 := by
  funext y
  obtain ⟨b, s, h, d, hy⟩ : ∃ (b : Fin 4) (s : Fin 4096) (h : Fin 16) (d : Fin 64), y = ix4 b s h d := ⟨y 0, y 1, y 2, y 3, eq_ix4 y⟩
  subst hy
  pointwise [val_main_v15, val_main_v18, val_main_v19]
  simp only [rows]
  rfl
end

/-- The reference runs and leaves its arguments and the semaphores as they were. -/
theorem frame_reference : Cert.quiescent_KvReferenceIdeal := fun m ρ _ =>
  (θ_run Cert.KvReferenceIdeal.defs _ _).mono (fun r h => ⟨fun c => (h c).2.2,
      Idealize.ShloMosaic.sem_eq_zero_of_no_sems (by decide) r.2⟩)
    (Cert.KvReferenceIdeal.Value.run (F := Ideal) m ρ)

section
open Cert.KvIdeal Cert.KvIdeal.Gen

/-- The kernel's run: its two results, and its arguments as they were. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v9) = keys (m ((c : Thread nD τ).loc main_arg0)) (m ((c : Thread nD τ).loc main_arg1)) (m ((c : Thread nD τ).loc main_arg2))
      ∧ r.2.mem ((c.tc : Thread nD τ).loc main_v11) = values (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v9 (Pipeline.mem_restRefs_of main_v9 (by decide) (by decide))).trans (Kernel.keys_eq m c),
      ((h c).2 main_v11 (Pipeline.mem_restRefs_of main_v11 (by decide) (by decide))).trans (Kernel.values_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main (F := Ideal) m ρ)
end

/-- The kernel's results are the reference's. -/
theorem algebraic : Cert.algebraic_KvIdeal_KvReferenceIdeal := by
  intro m ρ m' ρ' _ hagree
  refine ⟨_, _, run m ρ, ?_⟩
  refine (θ_run Cert.KvReferenceIdeal.defs _ _).mono (fun _ h c => ?_) (Cert.KvReferenceIdeal.Value.run (F := Ideal) m' ρ')
  obtain ⟨h0, h1, h2⟩ := hagree c
  refine ⟨(h c).1.trans ((Cert.KvReferenceIdeal.Read.val_main_v17_eq _ _ _).trans ((reference_keys _ _ _).trans ?_)),
    (h c).2.1.trans ((Cert.KvReferenceIdeal.Read.val_main_v19_eq _ _ _).trans ((reference_values _ _ _).trans ?_)), (h c).2.2⟩
  · rw [h0, h1, h2]
  · rw [h0, h1, h2]

end Claim
end Kv
end
-- ==== Proof.KvSample.Claim.lean ====
/-
  The claims about the sample group's shared keys (or values): the kernel's result is the reference's, with no precondition.
-/
module

public import proofs.«01_k».proof.Defs
public import proofs.«01_k».proof.Proof.Gen.KvSampleIdeal.Value
public import proofs.«01_k».proof.Proof.Gen.KvSampleReferenceIdeal.Read
public import proofs.«01_k».proof.Proof.Gen.KvSampleReferenceIdeal.Run
public import proofs.«01_k».proof.Proof.Rows
public import Idealize.ShloMosaic.Lib.StableHlo.ReadAt
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace KvSample

/-- The call's result: the sample group's rows, normalised, through the projection. -/
def G (x0 : Vec Ideal ⟨2, ![17408, 1024]⟩ .f32) (x1 : Vec Ideal ⟨1, ![1024]⟩ .f32) (x2 : Vec Ideal ⟨2, ![1024, 1024]⟩ .f32) :
    Vec Ideal ⟨2, ![1024, 1024]⟩ .f32 := fun y =>
  ∑ j : Fin 1024, Rows.rms (fun k => x0 (ix2 ⟨16384 + (y 0).val, by have : (y 0).val < 1024 := (y 0).isLt; omega⟩ k)) (fun k => x1 (ix1 k)) j * x2 (ix2 j (y 1))

section
open Cert.KvSampleIdeal Cert.KvSampleIdeal.Gen
open Idealize.ShloMosaic.Pipeline (Dat)

namespace Kernel

variable (m : (ℓ : Loc nD τ sig) → Buf (Elt Ideal) ℓ)

theorem pay1 (x : Vec Ideal S1024x1024 .f32) (g : Vec Ideal S1x1024 .f32) (r k : Fin 1024) :
    k0_pay1 (F := Ideal) x g (ix2 r k) = Rows.rms (fun k => x (ix2 r k)) (fun k => g (ix2 0 k)) k := by
  pointwise [k0_pay1]
  rfl

theorem pay2 (h w : Vec Ideal S1024x1024 .bf16) (r k : Fin 1024) :
    k0_pay2 (F := Ideal) h w (ix2 r k) = ∑ j : Fin 1024, h (ix2 r j) * w (ix2 j k) := by
  pointwise [k0_pay2]

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem hv0 (c : Dev nD) (r k : Fin 1024) : V m c main_v0 (ix2 r k) = m ((c : Thread nD τ).loc main_arg0) (ix2 ⟨16384 + r.val, by omega⟩ k) := by
  unfold V
  after_reads_at
theorem hv1 (c : Dev nD) (j k : Fin 1024) : V m c main_v1 (ix2 j k) = m ((c : Thread nD τ).loc main_arg2) (ix2 j k) := by
  unfold V
  after_reads_at
theorem hv2 (c : Dev nD) (k : Fin 1024) : V m c main_v2 (ix2 0 k) = m ((c : Thread nD τ).loc main_arg1) (ix1 k) := by
  unfold V
  after_reads_at

theorem b0 (c : Dev nD) (t : Fin cfg0.N) (r k : Fin 1024) :
    iblk m c 0 t (ix2 r k) = m ((c : Thread nD τ).loc main_arg0) (ix2 ⟨16384 + r.val, by omega⟩ k) := by
  rw [← hv0 m c]
  blk_ext [iblk, idx t]
theorem b1 (c : Dev nD) (t : Fin cfg0.N) (k : Fin 1024) :
    iblk m c 1 t (ix2 0 k) = m ((c : Thread nD τ).loc main_arg1) (ix1 k) := by
  rw [← hv2 m c]
  blk_ext [iblk, idx t]
theorem b2 (c : Dev nD) (t : Fin cfg0.N) (j k : Fin 1024) :
    iblk m c 2 t (ix2 j k) = m ((c : Thread nD τ).loc main_arg2) (ix2 j k) := by
  rw [← hv1 m c]
  blk_ext [iblk, idx t]

/-- The kernel's result as a function of the launch's arrays. -/
def R (c : Dev nD) : Vec Ideal S1024x1024 .f32 :=
  G (m ((c : Thread nD τ).loc main_arg0)) (m ((c : Thread nD τ).loc main_arg1)) (m ((c : Thread nD τ).loc main_arg2))

/-- The array after the run. -/
theorem final (c : Dev nD) : (dats m 0 c).arrAt 3 cfg0.N = R m c := by
  refine (dats m 0 c).arrAt_eq_of_covers 3 _ (by decide +kernel) fun t hf y => ?_
  blk_simp
  rw [after0_3]
  obtain ⟨r, k, hy⟩ : ∃ (r k : Fin 1024), y = ix2 r k := ⟨y 0, y 1, eq_ix2 y⟩
  subst hy
  have hi : (win0_3.blk t).view.emb (ix2 r k) = ix2 r k := by
    blk_point [idx t]
  rw [hi]
  have e : outsAt0 m c t = k0_pay2 (k0_pay1 (iblk m c 0 t) (iblk m c 1 t)) (iblk m c 2 t) := by
    unfold outsAt0
    frame_out
  rw [e, pay2]
  simp only [pay1, b0, b1, b2]
  rfl

end Kernel
end

namespace Claim

section
open Cert.KvSampleReferenceIdeal Cert.KvSampleReferenceIdeal.Read

/-- The reference's result. -/
theorem reference_eq (x0 : Vec Ideal S17408x1024 .f32) (x1 : Vec Ideal S1024 .f32) (x2 : Vec Ideal S1024x1024 .f32) :
    val_main_v14 (F := Ideal) x0 x1 x2 = G x0 x1 x2 := by
  funext y
  obtain ⟨r, k, hy⟩ : ∃ (r k : Fin 1024), y = ix2 r k := ⟨y 0, y 1, eq_ix2 y⟩
  subst hy
  pointwise [val_main_v0, val_main_v1, val_main_cst, val_main_v2, val_main_v3, val_main_cst_0, val_main_v4, val_main_v5,
    val_main_cst_1, val_main_v6, val_main_v7, val_main_v8, val_main_v9, val_main_v10, val_main_v11, val_main_v12, val_main_v13,
    val_main_v14]
  rfl
end

/-- The reference runs and leaves its arguments and the semaphores as they were. -/
theorem frame_reference : Cert.quiescent_KvSampleReferenceIdeal := fun m ρ _ =>
  (θ_run Cert.KvSampleReferenceIdeal.defs _ _).mono (fun r h => ⟨fun c => (h c).2,
      Idealize.ShloMosaic.sem_eq_zero_of_no_sems (by decide) r.2⟩)
    (Cert.KvSampleReferenceIdeal.Value.run (F := Ideal) m ρ)

/-- The reference's result over contents that hold the kernel's arguments. -/
theorem reference_value {m} {c : Dev Cert.KvSampleIdeal.nD} (m' : (ℓ : Loc Cert.KvSampleReferenceIdeal.nD Cert.KvSampleReferenceIdeal.τ Cert.KvSampleReferenceIdeal.sig) → Buf (Elt Ideal) ℓ)
    (h : m' ((c.tc : Thread Cert.KvSampleReferenceIdeal.nD Cert.KvSampleReferenceIdeal.τ).loc Cert.KvSampleReferenceIdeal.main_arg0) = m ((c.tc : Thread Cert.KvSampleIdeal.nD Cert.KvSampleIdeal.τ).loc Cert.KvSampleIdeal.main_arg0)
      ∧ m' ((c.tc : Thread Cert.KvSampleReferenceIdeal.nD Cert.KvSampleReferenceIdeal.τ).loc Cert.KvSampleReferenceIdeal.main_arg1) = m ((c.tc : Thread Cert.KvSampleIdeal.nD Cert.KvSampleIdeal.τ).loc Cert.KvSampleIdeal.main_arg1)
      ∧ m' ((c.tc : Thread Cert.KvSampleReferenceIdeal.nD Cert.KvSampleReferenceIdeal.τ).loc Cert.KvSampleReferenceIdeal.main_arg2) = m ((c.tc : Thread Cert.KvSampleIdeal.nD Cert.KvSampleIdeal.τ).loc Cert.KvSampleIdeal.main_arg2)) :
    Cert.KvSampleReferenceIdeal.Read.val_main_v14 (F := Ideal) (m' ((c.tc : Thread Cert.KvSampleReferenceIdeal.nD Cert.KvSampleReferenceIdeal.τ).loc Cert.KvSampleReferenceIdeal.main_arg0))
        (m' ((c.tc : Thread Cert.KvSampleReferenceIdeal.nD Cert.KvSampleReferenceIdeal.τ).loc Cert.KvSampleReferenceIdeal.main_arg1))
        (m' ((c.tc : Thread Cert.KvSampleReferenceIdeal.nD Cert.KvSampleReferenceIdeal.τ).loc Cert.KvSampleReferenceIdeal.main_arg2))
      = Kernel.R m c := by
  obtain ⟨h0, h1, h2⟩ := h
  rw [h0, h1, h2]
  exact reference_eq _ _ _

/-- The kernel's result is the reference's. -/
theorem algebraic : Cert.algebraic_KvSampleIdeal_KvSampleReferenceIdeal := by
  intro m ρ m' ρ' _ hagree
  refine ⟨fun c => Kernel.R m c, ?_, ?_⟩
  · exact (θ_run Cert.KvSampleIdeal.defs _ _).mono (fun _ h c => ⟨(h c).1.trans (Kernel.final m c), (h c).2⟩)
      (Cert.KvSampleIdeal.Value.run_blocks (F := Ideal) m ρ)
  · exact (θ_run Cert.KvSampleReferenceIdeal.defs _ _).mono
      (fun _ h c => ⟨(h c).1.trans (Cert.KvSampleReferenceIdeal.Read.val_main_v14_eq _ _ _ |>.trans (reference_value m' (hagree c))),
        (h c).2⟩)
      (Cert.KvSampleReferenceIdeal.Value.run (F := Ideal) m' ρ')

end Claim
end KvSample
end
-- ==== Proof.Tail.Arr.lean ====
/-
  The layer's tail: the eleven points of a row block add up to the half step, the last adds the gated embedding, and the
  blocks make the result.
-/
module

public import proofs.«01_k».proof.Proof.Tail.Kernel

@[expose] public section

set_option maxRecDepth 16384

noncomputable section

open Idealize.ShloMosaic Idealize.ShloMosaic.TcCoe Idealize.SL.Sem
open Cert.TailIdeal Cert.TailIdeal.Gen
open Idealize.ShloMosaic.Pipeline (Dat)

namespace Tail

/-- The mixer's outputs, the prompt group's rows and then the sample group's. -/
def mixer (x1 : Vec Ideal S16384x1024 .f32) (x2 : Vec Ideal S1024x1024 .f32) (r : Fin 17408) (k : Fin 1024) : EReal :=
  if h : r.val < 16384 then x1 (ix2 ⟨r, h⟩ k) else x2 (ix2 ⟨r - 16384, by omega⟩ k)

theorem mixer_prompt (x1 : Vec Ideal S16384x1024 .f32) (x2 : Vec Ideal S1024x1024 .f32) (r : Fin 17408) (k : Fin 1024) (h : r.val < 16384) :
    mixer x1 x2 r k = x1 (ix2 ⟨r, h⟩ k) := dif_pos h

theorem mixer_sample (x1 : Vec Ideal S16384x1024 .f32) (x2 : Vec Ideal S1024x1024 .f32) (r : Fin 17408) (k : Fin 1024) (h : ¬r.val < 16384) :
    mixer x1 x2 r k = x2 (ix2 ⟨r - 16384, by omega⟩ k) := dif_neg h

/-- A row after the mixer. -/
def mixed (x0 : Vec Ideal S17408x1024 .f32) (x1 : Vec Ideal S16384x1024 .f32) (x2 x3 : Vec Ideal S1024x1024 .f32) (r : Fin 17408) :
    Fin 1024 → EReal :=
  mix (fun k => x0 (ix2 r k)) (mixer x1 x2 r) (fun j k => x3 (ix2 j k))

/-- A row after the half step. -/
def stepped (x0 : Vec Ideal S17408x1024 .f32) (x1 : Vec Ideal S16384x1024 .f32) (x2 x3 : Vec Ideal S1024x1024 .f32) (x4 : Vec Ideal S1024 .f32)
    (x5 : Vec Ideal S1024x5632 .f32) (x6 : Vec Ideal S2816x1024 .f32) (r : Fin 17408) : Fin 1024 → EReal :=
  Rows.ffn (mixed x0 x1 x2 x3 r) (fun k => x4 (ix1 k)) (fun y f => x5 (ix2 y f)) (fun f k => x6 (ix2 f k))

/-- The call's result. -/
def G (x0 : Vec Ideal S17408x1024 .f32) (x1 : Vec Ideal S16384x1024 .f32) (x2 x3 : Vec Ideal S1024x1024 .f32) (x4 : Vec Ideal S1024 .f32)
    (x5 : Vec Ideal S1024x5632 .f32) (x6 : Vec Ideal S2816x1024 .f32) (x7 : Vec Ideal S17408x256 .f32) (x8 : Vec Ideal S1024 .f32)
    (x9 : Vec Ideal S256x1024 .f32) (x10 : Vec Ideal S1024x1024 .f32) : Vec Ideal S17408x1024 .f32 := fun y =>
  ple (stepped x0 x1 x2 x3 x4 x5 x6 (y 0)) (fun j => x7 (ix2 (y 0) j)) (fun k => x8 (ix1 k)) (fun j k => x9 (ix2 j k)) (fun j k => x10 (ix2 j k)) (y 1)

namespace Kernel

variable (m : (ℓ : Loc nD τ sig) → Buf (Elt Ideal) ℓ)

/-- The kernel's result as a function of the launch's arrays. -/
def R (c : Dev nD) : Vec Ideal S17408x1024 .f32 :=
  G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- Row `r` of row block `i`, after the mixer. -/
def row (c : Dev nD) (i : Fin 17) (r : Fin 1024) : Fin 1024 → EReal :=
  mixed (m ((c : Thread nD τ).loc main_arg0)) (m ((c : Thread nD τ).loc main_arg1)) (m ((c : Thread nD τ).loc main_arg2)) (m ((c : Thread nD τ).loc main_arg3))
    ⟨1024 * i + r, by omega⟩

/-- The normalisation's scales. -/
def scales (c : Dev nD) (k : Fin 1024) : EReal := m ((c : Thread nD τ).loc main_arg4) (ix1 k)

/-- Hidden unit `f`'s share of channel `k` of the row. -/
def share (c : Dev nD) (i : Fin 17) (r k : Fin 1024) (f : Fin 2816) : EReal :=
  Rows.unit (Rows.rms (row m c i r) (scales m c)) (fun y => m ((c : Thread nD τ).loc main_arg5) (ix2 y ⟨f, by omega⟩))
    (fun y => m ((c : Thread nD τ).loc main_arg5) (ix2 y ⟨2816 + f, by omega⟩)) * m ((c : Thread nD τ).loc main_arg6) (ix2 f k)

/-- The row block of a point. -/
def blkOf (t : Fin cfg0.N) : Fin 17 := ⟨t.val / 11, by have : t.val < 187 := t.isLt; omega⟩

theorem row_prompt (c : Dev nD) (t : Fin cfg0.N) (ht : t.val / 11 < 16) (r : Fin 1024) :
    mix (fun k => iblk m c 0 t (ix2 r k)) (fun k => iblk m c 1 t (ix2 r k)) (fun j k => iblk m c 3 t (ix2 j k)) = row m c (blkOf t) r := by
  have e : (fun k => iblk m c 1 t (ix2 r k)) = mixer (m ((c : Thread nD τ).loc main_arg1)) (m ((c : Thread nD τ).loc main_arg2)) ⟨1024 * (blkOf t) + r, by omega⟩ := by
    funext k
    exact (b1 m c t ht r k).trans (mixer_prompt _ _ (⟨1024 * (blkOf t) + r, by omega⟩ : Fin 17408) k
      (show 1024 * (t.val / 11) + r.val < 16384 by omega)).symm
  rw [e]
  simp only [b0, b3]
  rfl

theorem row_sample (c : Dev nD) (t : Fin cfg0.N) (ht : t.val / 11 = 16) (r : Fin 1024) :
    mix (fun k => iblk m c 0 t (ix2 r k)) (fun k => iblk m c 2 t (ix2 r k)) (fun j k => iblk m c 3 t (ix2 j k)) = row m c (blkOf t) r := by
  have e : (fun k => iblk m c 2 t (ix2 r k)) = mixer (m ((c : Thread nD τ).loc main_arg1)) (m ((c : Thread nD τ).loc main_arg2)) ⟨1024 * (blkOf t) + r, by omega⟩ := by
    funext k
    refine (b2 m c t r k).trans ((congrArg (fun i => m ((c : Thread nD τ).loc main_arg2) (ix2 i k)) (Fin.ext ?_)).trans
      (mixer_sample _ _ _ k (show ¬ 1024 * (t.val / 11) + r.val < 16384 by omega)).symm)
    show r.val = 1024 * (t.val / 11) + r.val - 16384
    omega
  rw [e]
  simp only [b0, b3]
  rfl

/-- The scales a point works with. -/
theorem scales_eq (c : Dev nD) (t : Fin cfg0.N) : (fun k => iblk m c 4 t (ix2 0 k)) = scales m c := funext fun k => b4 m c t k

/-- Half of the share of the 256 hidden units of place `j`. -/
def part (c : Dev nD) (i : Fin 17) (r k : Fin 1024) (j : Fin 11) : EReal :=
  ∑ q : Fin 256, Rows.half * share m c i r k ⟨j * 256 + q, by omega⟩

/-- What a point adds. -/
theorem step (c : Dev nD) (t : Fin cfg0.N) (h : Vec Ideal S1024x1024 .bf16) (o : Vec Ideal S1024x1024 .f32) (r k : Fin 1024)
    (hh : ∀ y, h (ix2 r y) = Rows.rms (row m c (blkOf t) r) (scales m c) y) :
    add m c t o h (ix2 r k) = o (ix2 r k) + part m c (blkOf t) r k ⟨t.val % 11, Nat.mod_lt _ (by decide)⟩ := by
  unfold add
  rw [pay1, pay7, pay8, pay9, Rows.half_sum]
  simp only [hh, b5, b6, b7]
  rfl

/-- What the first point of a row block leaves. -/
theorem first (c : Dev nD) (t : Fin cfg0.N) (h0 : t.val % 11 = 0) (r k : Fin 1024) :
    (outsAt0 m c t.val t.isLt).1 (ix2 r k) = row m c (blkOf t) r k + part m c (blkOf t) r k ⟨t.val % 11, Nat.mod_lt _ (by decide)⟩
    ∧ (outsAt0 m c t.val t.isLt).2 (ix2 r k) = Rows.rms (row m c (blkOf t) r) (scales m c) k := by
  have hN : t.val < 187 := t.isLt
  by_cases hi : t.val / 11 < 16
  · have hh : ∀ y, k0_pay4 (F := Ideal) (iblk m c 0 t) (iblk m c 1 t) (iblk m c 3 t) (iblk m c 4 t) (ix2 r y)
        = Rows.rms (row m c (blkOf t) r) (scales m c) y := fun y => by
      rw [pay4, row_prompt m c t hi, scales_eq]
    rw [oA m c t h0 hi]
    exact ⟨(step m c t _ _ r k hh).trans (congrArg (· + _) ((pay3 _ _ _ r k).trans (congrFun (row_prompt m c t hi r) k))), hh k⟩
  · have hi' : t.val / 11 = 16 := by omega
    have hh : ∀ y, k0_pay4 (F := Ideal) (iblk m c 0 t) (iblk m c 2 t) (iblk m c 3 t) (iblk m c 4 t) (ix2 r y)
        = Rows.rms (row m c (blkOf t) r) (scales m c) y := fun y => by
      rw [pay4, row_sample m c t hi', scales_eq]
    rw [oD m c t h0 hi']
    exact ⟨(step m c t _ _ r k hh).trans (congrArg (· + _) ((pay3 _ _ _ r k).trans (congrFun (row_sample m c t hi' r) k))), hh k⟩

theorem blkOf_pred (t : Fin cfg0.N) (h0 : ¬t.val % 11 = 0) : blkOf ⟨t.val - 1, Nat.lt_of_le_of_lt (Nat.sub_le _ _) t.isLt⟩ = blkOf t :=
  Fin.ext (by show (t.val - 1) / 11 = t.val / 11; omega)

/-- The scratch holds the normalised rows after every point. -/
theorem scratch (c : Dev nD) (n : ℕ) (hn : n < cfg0.N) (r k : Fin 1024) :
    (outsAt0 m c n hn).2 (ix2 r k) = Rows.rms (row m c (blkOf ⟨n, hn⟩) r) (scales m c) k := by
  induction n with
  | zero => exact (first m c ⟨0, hn⟩ rfl r k).2
  | succ n ih =>
    by_cases h : (n + 1) % 11 = 0
    · exact (first m c ⟨n + 1, hn⟩ h r k).2
    · have e : (outsAt0 m c (n + 1) hn).2 = (outsAt0 m c n (Nat.lt_of_succ_lt hn)).2 := by
        by_cases h2 : (n + 1) % 11 = 10
        · exact (congrArg Prod.snd (oC m c ⟨n + 1, hn⟩ h2) :)
        · exact (congrArg Prod.snd (oB m c ⟨n + 1, hn⟩ h h2) :)
      rw [e, ih]
      exact congrArg (fun i => Rows.rms (row m c i r) (scales m c) k) (blkOf_pred ⟨n + 1, hn⟩ h)

/-- The residual block after a point, before the embedding the last point adds. -/
def pre (c : Dev nD) (r k : Fin 1024) (n : ℕ) (hn : n < cfg0.N) : EReal :=
  if n % 11 = 10 then (outsAt0 m c (n - 1) (Nat.lt_of_le_of_lt (Nat.sub_le _ _) hn)).1 (ix2 r k)
    + part m c (blkOf ⟨n, hn⟩) r k ⟨n % 11, Nat.mod_lt _ (by decide)⟩
  else (outsAt0 m c n hn).1 (ix2 r k)

/-- The residual block at the last point of its run. -/
theorem acc (c : Dev nD) (t : Fin cfg0.N) (ht : t.val % 11 = 10) (r k : Fin 1024) :
    pre m c r k t.val t.isLt = row m c (blkOf t) r k + ∑ j : Fin 11, part m c (blkOf t) r k j := by
  have e := Rows.run_sum (N := cfg0.N) (pre m c r k) 11
    (fun p => if hp : p < cfg0.N then row m c (blkOf ⟨p, hp⟩) r k else 0)
    (fun p => if hp : p < cfg0.N then part m c (blkOf ⟨p, hp⟩) r k ⟨p % 11, Nat.mod_lt _ (by decide)⟩ else 0) (by decide)
    (fun t h0 => by
      beta_reduce
      rw [dif_pos t.isLt, dif_pos t.isLt]
      unfold pre
      rw [if_neg (by omega)]
      exact (first m c t h0 r k).1)
    (fun t h0 => by
      beta_reduce
      rw [dif_pos t.isLt]
      unfold pre
      rw [if_neg (show ¬ (t.val - 1) % 11 = 10 by omega)]
      by_cases h2 : t.val % 11 = 10
      · rw [if_pos h2]
      · rw [if_neg h2, oB m c t h0 h2]
        dsimp only
        rw [step m c t _ _ r k fun y => ?_]
        rw [scratch, blkOf_pred t h0]) t
  refine e.trans ?_
  have hN : t.val < 187 := t.isLt
  have hb : ∀ j (hj : j < 11) (hp : 11 * (t.val / 11) + j < cfg0.N), blkOf ⟨11 * (t.val / 11) + j, hp⟩ = blkOf t := fun j hj hp =>
    Fin.ext (by show (11 * (t.val / 11) + j) / 11 = t.val / 11; omega)
  have hlt : ∀ j, j < 11 → 11 * (t.val / 11) + j < cfg0.N := fun j hj => by show _ < 187; omega
  congr 1
  · rw [dif_pos (show 11 * (t.val / 11) < cfg0.N from hlt 0 (by decide))]
    exact congrArg (fun i => row m c i r k) (hb 0 (by decide) _)
  · rw [ht, Finset.sum_range]
    refine Finset.sum_congr rfl fun j _ => ?_
    rw [dif_pos (hlt j j.isLt), hb j j.isLt]
    exact congrArg _ (Fin.ext (by show (11 * (t.val / 11) + j.val) % 11 = j.val; omega))

/-- The places' parts together are half of the units' shares. -/
theorem parts (c : Dev nD) (i : Fin 17) (r k : Fin 1024) :
    ∑ j : Fin 11, part m c i r k j = Rows.half * ∑ f : Fin 2816, share m c i r k f := by
  rw [Rows.half_sum]
  exact Fin.sum_mul_add_congr fun s q hl => rfl

/-- The row after the half step. -/
theorem stepped_eq (c : Dev nD) (t : Fin cfg0.N) (ht : t.val % 11 = 10) (r k : Fin 1024) :
    add m c t (outsAt0 m c (t.val - 1) (Nat.lt_of_le_of_lt (Nat.sub_le _ _) t.isLt)).1
        (outsAt0 m c (t.val - 1) (Nat.lt_of_le_of_lt (Nat.sub_le _ _) t.isLt)).2 (ix2 r k)
      = Rows.ffn (row m c (blkOf t) r) (scales m c) (fun y f => m ((c : Thread nD τ).loc main_arg5) (ix2 y f))
          (fun f k => m ((c : Thread nD τ).loc main_arg6) (ix2 f k)) k := by
  have e := acc m c t ht r k
  unfold pre at e
  rw [if_pos ht] at e
  rw [step m c t _ _ r k fun y => by rw [scratch, blkOf_pred t (by omega)]]
  refine e.trans ?_
  rw [parts]
  rfl

/-- The array after the run. -/
theorem final (c : Dev nD) : (dats m 0 c).arrAt 12 cfg0.N = R m c := by
  refine (dats m 0 c).arrAt_eq_of_covers 12 _ (by decide +kernel) fun t hf y => ?_
  have ht : t.val % 11 = 10 := (flush0_12 t).mp hf
  blk_simp
  rw [after0_12]
  obtain ⟨r, k, hy⟩ : ∃ (r k : Fin 1024), y = ix2 r k := ⟨y 0, y 1, eq_ix2 y⟩
  subst hy
  have hi : (win0_12.blk t).view.emb (ix2 r k) = ix2 ⟨1024 * (t.val / 11) + r.val, by have : t.val < 187 := t.isLt; omega⟩ k := by
    blk_point [idx t]
  rw [hi, oC m c t ht]
  dsimp only
  rw [pay2]
  simp only [stepped_eq m c t ht, b8, b9, b10, b11]
  rfl

end Kernel
end Tail
end
-- ==== Proof.Last.Kernel.lean ====
/-
  The last layer's tail, which adds no embedding: the mixer's projection and residual and the second feed-forward half
  step. What the body computes at the eleven points of a row block.
-/
module

public import proofs.«01_k».proof.Proof.Gen.LastIdeal.Value
public import proofs.«01_k».proof.Proof.Tail.Arr
public import Idealize.ShloMosaic.Lib.StableHlo.ReadAt
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Cert.LastIdeal Cert.LastIdeal.Gen
open Tail (mix mixer mixer_prompt mixer_sample mixed stepped)

namespace Last

namespace Kernel

variable (m : (ℓ : Loc nD τ sig) → Buf (Elt Ideal) ℓ)

/-! ### The body's stages, applied -/

theorem pay1 (a b c : Vec Ideal S1024x1024 .f32) (r k : Fin 1024) :
    k0_pay1 (F := Ideal) a b c (ix2 r k) = a (ix2 r k) + c (ix2 r k) * b (ix2 r k) := by
  pointwise [k0_pay1]

theorem pay2 (a b : Vec Ideal S1024x1024 .f32) (w : Vec Ideal S1024x1024 .bf16) (r k : Fin 1024) :
    k0_pay2 (F := Ideal) a b w (ix2 r k) = mix (fun k => a (ix2 r k)) (fun k => b (ix2 r k)) (fun j k => w (ix2 j k)) k := by
  pointwise [k0_pay2]
  rfl

theorem pay3 (a b : Vec Ideal S1024x1024 .f32) (w : Vec Ideal S1024x1024 .bf16) (g : Vec Ideal S1x1024 .f32) (r k : Fin 1024) :
    k0_pay3 (F := Ideal) a b w g (ix2 r k)
      = Rows.rms (mix (fun k => a (ix2 r k)) (fun k => b (ix2 r k)) (fun j k => w (ix2 j k))) (fun k => g (ix2 0 k)) k := by
  pointwise [k0_pay3]
  simp only [pay2]
  rfl

theorem pay7 (h : Vec Ideal S1024x1024 .bf16) (wg wu : Vec Ideal S1024x256 .bf16) (wo : Vec Ideal S256x1024 .bf16) (r k : Fin 1024) :
    k0_pay7 (F := Ideal) h wg wu wo (ix2 r k) = ∑ q : Fin 256,
      Rows.unit (fun y => h (ix2 r y)) (fun y => wg (ix2 y q)) (fun y => wu (ix2 y q)) * wo (ix2 q k) := by
  pointwise [k0_pay7]
  simp only [zero_sub]
  rfl

theorem pay6 (a : Vec Ideal S1024x1024 .f32) (r k : Fin 1024) : k0_pay6 (F := Ideal) a (ix2 r k) = a (ix2 r k) := by
  pointwise [k0_pay6]

theorem pay8 (r k : Fin 1024) : k0_pay8 (F := Ideal) (ix2 r k) = Rows.half := by
  pointwise [k0_pay8]
  rfl

/-- The residual block plus half of the block's hidden units' share. -/
def add (c : Dev nD) (t : Fin cfg0.N) (o : Vec Ideal S1024x1024 .f32) (h : Vec Ideal S1024x1024 .bf16) : Vec Ideal S1024x1024 .f32 :=
  k0_pay1 (F := Ideal) (k0_pay6 o) (k0_pay7 h (iblk m c 5 t) (iblk m c 6 t) (iblk m c 7 t)) k0_pay8

/-! ### The three kinds of point -/

/-- The first point of a row block of the prompt group. -/
theorem oA (c : Dev nD) (t : Fin cfg0.N) (h0 : t.val % 11 = 0) (hi : t.val / 11 < 16) : outsAt0 m c t.val t.isLt =
    (add m c t (k0_pay2 (iblk m c 0 t) (iblk m c 1 t) (iblk m c 3 t)) (k0_pay3 (iblk m c 0 t) (iblk m c 1 t) (iblk m c 3 t) (iblk m c 4 t)),
      k0_pay3 (iblk m c 0 t) (iblk m c 1 t) (iblk m c 3 t) (iblk m c 4 t)) := by
  have hN : t.val < 187 := t.isLt
  rw [outsAt0_A m c t (by omega) (by omega)]
  refine Prod.ext ?_ ?_
  all_goals frame_out
  rfl

/-- The first point of the sample group's row block. -/
theorem oC (c : Dev nD) (t : Fin cfg0.N) (h0 : t.val % 11 = 0) (hi : t.val / 11 = 16) : outsAt0 m c t.val t.isLt =
    (add m c t (k0_pay2 (iblk m c 0 t) (iblk m c 2 t) (iblk m c 3 t)) (k0_pay3 (iblk m c 0 t) (iblk m c 2 t) (iblk m c 3 t) (iblk m c 4 t)),
      k0_pay3 (iblk m c 0 t) (iblk m c 2 t) (iblk m c 3 t) (iblk m c 4 t)) := by
  have hN : t.val < 187 := t.isLt
  rw [outsAt0_C m c t (by omega) (by omega)]
  refine Prod.ext ?_ ?_
  all_goals frame_out
  all_goals rfl

/-- A later point of a row block. -/
theorem oB (c : Dev nD) (t : Fin cfg0.N) (h0 : ¬ t.val % 11 = 0) : outsAt0 m c t.val t.isLt =
    (add m c t (outsAt0 m c (t.val - 1) (Nat.lt_of_le_of_lt (Nat.sub_le _ _) t.isLt)).1 (outsAt0 m c (t.val - 1) (Nat.lt_of_le_of_lt (Nat.sub_le _ _) t.isLt)).2,
      (outsAt0 m c (t.val - 1) (Nat.lt_of_le_of_lt (Nat.sub_le _ _) t.isLt)).2) := by
  have hN : t.val < 187 := t.isLt
  rw [outsAt0_B m c t (by omega) (by omega)]
  refine Prod.ext ?_ rfl
  frame_out
  simp only [read_unread_whole]
  rfl

theorem idx : ∀ t : Fin cfg0.N, win0_0.index t = ![t.val / 11, 0] ∧ win0_1.index t = ![min (t.val / 11) 15, 0] ∧ win0_2.index t = ![0, 0]
    ∧ win0_3.index t = ![0, 0] ∧ win0_4.index t = ![0, 0] ∧ win0_5.index t = ![0, t.val % 11]
    ∧ win0_6.index t = ![0, 11 + t.val % 11] ∧ win0_7.index t = ![t.val % 11, 0] ∧ win0_8.index t = ![t.val / 11, 0] :=
  (by decide +kernel : ∀ t : Fin grid0.N, _)

/-! ### The arrays the host prepares -/

theorem hv0 (c : Dev nD) (j k : Fin 1024) : V m c main_v0 (ix2 j k) = m ((c : Thread nD τ).loc main_arg3) (ix2 j k) := by
  unfold V
  after_reads_at
theorem hv1 (c : Dev nD) (y : Fin 1024) (f : Fin 5632) : V m c main_v1 (ix2 y f) = m ((c : Thread nD τ).loc main_arg5) (ix2 y f) := by
  unfold V
  after_reads_at
theorem hv2 (c : Dev nD) (f : Fin 2816) (k : Fin 1024) : V m c main_v2 (ix2 f k) = m ((c : Thread nD τ).loc main_arg6) (ix2 f k) := by
  unfold V
  after_reads_at
theorem hv3 (c : Dev nD) (k : Fin 1024) : V m c main_v3 (ix2 0 k) = m ((c : Thread nD τ).loc main_arg4) (ix1 k) := by
  unfold V
  after_reads_at
/-! ### The blocks -/

theorem b0 (c : Dev nD) (t : Fin cfg0.N) (r k : Fin 1024) :
    iblk m c 0 t (ix2 r k) = m ((c : Thread nD τ).loc main_arg0) (ix2 ⟨1024 * (t.val / 11) + r, by have : t.val < 187 := t.isLt; omega⟩ k) := by
  blk_ext [iblk, V, idx t]
theorem b1 (c : Dev nD) (t : Fin cfg0.N) (ht : t.val / 11 < 16) (r k : Fin 1024) :
    iblk m c 1 t (ix2 r k) = m ((c : Thread nD τ).loc main_arg1) (ix2 ⟨1024 * (t.val / 11) + r, by omega⟩ k) := by
  have : min (t.val / 11) 15 = t.val / 11 := by omega
  blk_ext [iblk, V, idx t]
theorem b2 (c : Dev nD) (t : Fin cfg0.N) (r k : Fin 1024) :
    iblk m c 2 t (ix2 r k) = m ((c : Thread nD τ).loc main_arg2) (ix2 r k) := by
  blk_ext [iblk, V, idx t]
theorem b3 (c : Dev nD) (t : Fin cfg0.N) (j k : Fin 1024) :
    iblk m c 3 t (ix2 j k) = m ((c : Thread nD τ).loc main_arg3) (ix2 j k) := by
  rw [← hv0 m c]
  blk_ext [iblk, idx t]
theorem b4 (c : Dev nD) (t : Fin cfg0.N) (k : Fin 1024) :
    iblk m c 4 t (ix2 0 k) = m ((c : Thread nD τ).loc main_arg4) (ix1 k) := by
  rw [← hv3 m c]
  blk_ext [iblk, idx t]
theorem b5 (c : Dev nD) (t : Fin cfg0.N) (y : Fin 1024) (q : Fin 256) :
    iblk m c 5 t (ix2 y q) = m ((c : Thread nD τ).loc main_arg5) (ix2 y ⟨t.val % 11 * 256 + q, by omega⟩) := by
  rw [← hv1 m c]
  blk_ext [iblk, idx t]
theorem b6 (c : Dev nD) (t : Fin cfg0.N) (y : Fin 1024) (q : Fin 256) :
    iblk m c 6 t (ix2 y q) = m ((c : Thread nD τ).loc main_arg5) (ix2 y ⟨2816 + (t.val % 11 * 256 + q), by omega⟩) := by
  rw [← hv1 m c]
  blk_ext [iblk, idx t]
theorem b7 (c : Dev nD) (t : Fin cfg0.N) (q : Fin 256) (k : Fin 1024) :
    iblk m c 7 t (ix2 q k) = m ((c : Thread nD τ).loc main_arg6) (ix2 ⟨t.val % 11 * 256 + q, by omega⟩ k) := by
  rw [← hv2 m c]
  blk_ext [iblk, idx t]
end Kernel
end Last
end
-- ==== Proof.Last.Arr.lean ====
/-
  The last layer's tail: the eleven points of a row block add up to the half step, and the blocks make the result.
-/
module

public import proofs.«01_k».proof.Proof.Last.Kernel

@[expose] public section

set_option maxRecDepth 16384

noncomputable section

open Idealize.ShloMosaic Idealize.ShloMosaic.TcCoe Idealize.SL.Sem
open Cert.LastIdeal Cert.LastIdeal.Gen
open Tail (mix mixer mixer_prompt mixer_sample mixed stepped)
open Idealize.ShloMosaic.Pipeline (Dat)

namespace Last

/-- The call's result. -/
def G (x0 : Vec Ideal S17408x1024 .f32) (x1 : Vec Ideal S16384x1024 .f32) (x2 x3 : Vec Ideal S1024x1024 .f32) (x4 : Vec Ideal S1024 .f32)
    (x5 : Vec Ideal S1024x5632 .f32) (x6 : Vec Ideal S2816x1024 .f32) : Vec Ideal S17408x1024 .f32 := fun y =>
  stepped x0 x1 x2 x3 x4 x5 x6 (y 0) (y 1)

namespace Kernel

variable (m : (ℓ : Loc nD τ sig) → Buf (Elt Ideal) ℓ)

/-- The kernel's result as a function of the launch's arrays. -/
def R (c : Dev nD) : Vec Ideal S17408x1024 .f32 :=
  G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- Row `r` of row block `i`, after the mixer. -/
def row (c : Dev nD) (i : Fin 17) (r : Fin 1024) : Fin 1024 → EReal :=
  mixed (m ((c : Thread nD τ).loc main_arg0)) (m ((c : Thread nD τ).loc main_arg1)) (m ((c : Thread nD τ).loc main_arg2)) (m ((c : Thread nD τ).loc main_arg3))
    ⟨1024 * i + r, by omega⟩

/-- The normalisation's scales. -/
def scales (c : Dev nD) (k : Fin 1024) : EReal := m ((c : Thread nD τ).loc main_arg4) (ix1 k)

/-- Hidden unit `f`'s share of channel `k` of the row. -/
def share (c : Dev nD) (i : Fin 17) (r k : Fin 1024) (f : Fin 2816) : EReal :=
  Rows.unit (Rows.rms (row m c i r) (scales m c)) (fun y => m ((c : Thread nD τ).loc main_arg5) (ix2 y ⟨f, by omega⟩))
    (fun y => m ((c : Thread nD τ).loc main_arg5) (ix2 y ⟨2816 + f, by omega⟩)) * m ((c : Thread nD τ).loc main_arg6) (ix2 f k)

/-- The row block of a point. -/
def blkOf (t : Fin cfg0.N) : Fin 17 := ⟨t.val / 11, by have : t.val < 187 := t.isLt; omega⟩

theorem row_prompt (c : Dev nD) (t : Fin cfg0.N) (ht : t.val / 11 < 16) (r : Fin 1024) :
    mix (fun k => iblk m c 0 t (ix2 r k)) (fun k => iblk m c 1 t (ix2 r k)) (fun j k => iblk m c 3 t (ix2 j k)) = row m c (blkOf t) r := by
  have e : (fun k => iblk m c 1 t (ix2 r k)) = mixer (m ((c : Thread nD τ).loc main_arg1)) (m ((c : Thread nD τ).loc main_arg2)) ⟨1024 * (blkOf t) + r, by omega⟩ := by
    funext k
    exact (b1 m c t ht r k).trans (mixer_prompt _ _ (⟨1024 * (blkOf t) + r, by omega⟩ : Fin 17408) k
      (show 1024 * (t.val / 11) + r.val < 16384 by omega)).symm
  rw [e]
  simp only [b0, b3]
  rfl

theorem row_sample (c : Dev nD) (t : Fin cfg0.N) (ht : t.val / 11 = 16) (r : Fin 1024) :
    mix (fun k => iblk m c 0 t (ix2 r k)) (fun k => iblk m c 2 t (ix2 r k)) (fun j k => iblk m c 3 t (ix2 j k)) = row m c (blkOf t) r := by
  have e : (fun k => iblk m c 2 t (ix2 r k)) = mixer (m ((c : Thread nD τ).loc main_arg1)) (m ((c : Thread nD τ).loc main_arg2)) ⟨1024 * (blkOf t) + r, by omega⟩ := by
    funext k
    refine (b2 m c t r k).trans ((congrArg (fun i => m ((c : Thread nD τ).loc main_arg2) (ix2 i k)) (Fin.ext ?_)).trans
      (mixer_sample _ _ _ k (show ¬ 1024 * (t.val / 11) + r.val < 16384 by omega)).symm)
    show r.val = 1024 * (t.val / 11) + r.val - 16384
    omega
  rw [e]
  simp only [b0, b3]
  rfl

/-- The scales a point works with. -/
theorem scales_eq (c : Dev nD) (t : Fin cfg0.N) : (fun k => iblk m c 4 t (ix2 0 k)) = scales m c := funext fun k => b4 m c t k

/-- Half of the share of the 256 hidden units of place `j`. -/
def part (c : Dev nD) (i : Fin 17) (r k : Fin 1024) (j : Fin 11) : EReal :=
  ∑ q : Fin 256, Rows.half * share m c i r k ⟨j * 256 + q, by omega⟩

/-- What a point adds. -/
theorem step (c : Dev nD) (t : Fin cfg0.N) (h : Vec Ideal S1024x1024 .bf16) (o : Vec Ideal S1024x1024 .f32) (r k : Fin 1024)
    (hh : ∀ y, h (ix2 r y) = Rows.rms (row m c (blkOf t) r) (scales m c) y) :
    add m c t o h (ix2 r k) = o (ix2 r k) + part m c (blkOf t) r k ⟨t.val % 11, Nat.mod_lt _ (by decide)⟩ := by
  unfold add
  rw [pay1, pay6, pay7, pay8, Rows.half_sum]
  simp only [hh, b5, b6, b7]
  rfl

/-- What the first point of a row block leaves. -/
theorem first (c : Dev nD) (t : Fin cfg0.N) (h0 : t.val % 11 = 0) (r k : Fin 1024) :
    (outsAt0 m c t.val t.isLt).1 (ix2 r k) = row m c (blkOf t) r k + part m c (blkOf t) r k ⟨t.val % 11, Nat.mod_lt _ (by decide)⟩
    ∧ (outsAt0 m c t.val t.isLt).2 (ix2 r k) = Rows.rms (row m c (blkOf t) r) (scales m c) k := by
  have hN : t.val < 187 := t.isLt
  by_cases hi : t.val / 11 < 16
  · have hh : ∀ y, k0_pay3 (F := Ideal) (iblk m c 0 t) (iblk m c 1 t) (iblk m c 3 t) (iblk m c 4 t) (ix2 r y)
        = Rows.rms (row m c (blkOf t) r) (scales m c) y := fun y => by
      rw [pay3, row_prompt m c t hi, scales_eq]
    rw [oA m c t h0 hi]
    exact ⟨(step m c t _ _ r k hh).trans (congrArg (· + _) ((pay2 _ _ _ r k).trans (congrFun (row_prompt m c t hi r) k))), hh k⟩
  · have hi' : t.val / 11 = 16 := by omega
    have hh : ∀ y, k0_pay3 (F := Ideal) (iblk m c 0 t) (iblk m c 2 t) (iblk m c 3 t) (iblk m c 4 t) (ix2 r y)
        = Rows.rms (row m c (blkOf t) r) (scales m c) y := fun y => by
      rw [pay3, row_sample m c t hi', scales_eq]
    rw [oC m c t h0 hi']
    exact ⟨(step m c t _ _ r k hh).trans (congrArg (· + _) ((pay2 _ _ _ r k).trans (congrFun (row_sample m c t hi' r) k))), hh k⟩

theorem blkOf_pred (t : Fin cfg0.N) (h0 : ¬t.val % 11 = 0) : blkOf ⟨t.val - 1, Nat.lt_of_le_of_lt (Nat.sub_le _ _) t.isLt⟩ = blkOf t :=
  Fin.ext (by show (t.val - 1) / 11 = t.val / 11; omega)

/-- The scratch holds the normalised rows after every point. -/
theorem scratch (c : Dev nD) (n : ℕ) (hn : n < cfg0.N) (r k : Fin 1024) :
    (outsAt0 m c n hn).2 (ix2 r k) = Rows.rms (row m c (blkOf ⟨n, hn⟩) r) (scales m c) k := by
  induction n with
  | zero => exact (first m c ⟨0, hn⟩ rfl r k).2
  | succ n ih =>
    by_cases h : (n + 1) % 11 = 0
    · exact (first m c ⟨n + 1, hn⟩ h r k).2
    · have e : (outsAt0 m c (n + 1) hn).2 = (outsAt0 m c n (Nat.lt_of_succ_lt hn)).2 :=
        (congrArg Prod.snd (oB m c ⟨n + 1, hn⟩ h) :)
      rw [e, ih]
      exact congrArg (fun i => Rows.rms (row m c i r) (scales m c) k) (blkOf_pred ⟨n + 1, hn⟩ h)

/-- The residual block at the last point of its run. -/
theorem acc (c : Dev nD) (t : Fin cfg0.N) (ht : t.val % 11 = 10) (r k : Fin 1024) :
    (outsAt0 m c t.val t.isLt).1 (ix2 r k) = row m c (blkOf t) r k + ∑ j : Fin 11, part m c (blkOf t) r k j := by
  have e := Rows.run_sum (N := cfg0.N) (fun n hn => (outsAt0 m c n hn).1 (ix2 r k)) 11
    (fun p => if hp : p < cfg0.N then row m c (blkOf ⟨p, hp⟩) r k else 0)
    (fun p => if hp : p < cfg0.N then part m c (blkOf ⟨p, hp⟩) r k ⟨p % 11, Nat.mod_lt _ (by decide)⟩ else 0) (by decide)
    (fun t h0 => by
      beta_reduce
      rw [dif_pos t.isLt, dif_pos t.isLt]
      exact (first m c t h0 r k).1)
    (fun t h0 => by
      beta_reduce
      rw [dif_pos t.isLt]
      rw [oB m c t h0]
      dsimp only
      rw [step m c t _ _ r k fun y => ?_]
      rw [scratch, blkOf_pred t h0]) t
  refine e.trans ?_
  have hN : t.val < 187 := t.isLt
  have hb : ∀ j (hj : j < 11) (hp : 11 * (t.val / 11) + j < cfg0.N), blkOf ⟨11 * (t.val / 11) + j, hp⟩ = blkOf t := fun j hj hp =>
    Fin.ext (by show (11 * (t.val / 11) + j) / 11 = t.val / 11; omega)
  have hlt : ∀ j, j < 11 → 11 * (t.val / 11) + j < cfg0.N := fun j hj => by show _ < 187; omega
  congr 1
  · rw [dif_pos (show 11 * (t.val / 11) < cfg0.N from hlt 0 (by decide))]
    exact congrArg (fun i => row m c i r k) (hb 0 (by decide) _)
  · rw [ht, Finset.sum_range]
    refine Finset.sum_congr rfl fun j _ => ?_
    rw [dif_pos (hlt j j.isLt), hb j j.isLt]
    exact congrArg _ (Fin.ext (by show (11 * (t.val / 11) + j.val) % 11 = j.val; omega))

/-- The places' parts together are half of the units' shares. -/
theorem parts (c : Dev nD) (i : Fin 17) (r k : Fin 1024) :
    ∑ j : Fin 11, part m c i r k j = Rows.half * ∑ f : Fin 2816, share m c i r k f := by
  rw [Rows.half_sum]
  exact Fin.sum_mul_add_congr fun s q hl => rfl

/-- The array after the run. -/
theorem final (c : Dev nD) : (dats m 0 c).arrAt 8 cfg0.N = R m c := by
  refine (dats m 0 c).arrAt_eq_of_covers 8 _ (by decide +kernel) fun t hf y => ?_
  have ht : t.val % 11 = 10 := (flush0_8 t).mp hf
  blk_simp
  rw [after0_8]
  obtain ⟨r, k, hy⟩ : ∃ (r k : Fin 1024), y = ix2 r k := ⟨y 0, y 1, eq_ix2 y⟩
  subst hy
  have hi : (win0_8.blk t).view.emb (ix2 r k) = ix2 ⟨1024 * (t.val / 11) + r.val, by have : t.val < 187 := t.isLt; omega⟩ k := by
    blk_point [idx t]
  rw [hi, acc m c t ht, parts]
  rfl

end Kernel
end Last
end
-- ==== Proof.Last.Claim.lean ====
/-
  The claims about the last layer's tail: the kernel's result is the reference's, with no precondition.
-/
module

public import proofs.«01_k».proof.Defs
public import proofs.«01_k».proof.Proof.Last.Arr
public import proofs.«01_k».proof.Proof.Gen.LastReferenceIdeal.Read
public import proofs.«01_k».proof.Proof.Gen.LastReferenceIdeal.Run
public import Idealize.ShloMosaic.Lib.Quiescent

@[expose] public section

set_option maxRecDepth 16384

noncomputable section

open Idealize.ShloMosaic Idealize.ShloMosaic.TcCoe Idealize.SL.Sem

namespace Last.Claim

open Tail (mixed stepped)

section
open Cert.LastReferenceIdeal Cert.LastReferenceIdeal.Read

/-- The reference's rows after the mixer. -/
theorem reference_mixed (x0 : Vec Ideal S17408x1024 .f32) (x1 : Vec Ideal S16384x1024 .f32) (x2 : Vec Ideal S1024x1024 .f32) (x3 : Vec Ideal S1024x1024 .f32) (r : Fin 17408) (k : Fin 1024) :
    val_main_v2 (F := Ideal) x0 x1 x2 x3 (ix2 r k) = mixed x0 x1 x2 x3 r k := by
  pointwise [val_main_v0, val_main_v1, val_main_v2]
  rfl

/-- The reference's rows after the half step. -/
theorem reference_stepped (x0 : Vec Ideal S17408x1024 .f32) (x1 : Vec Ideal S16384x1024 .f32) (x2 : Vec Ideal S1024x1024 .f32) (x3 : Vec Ideal S1024x1024 .f32) (x4 : Vec Ideal S1024 .f32) (x5 : Vec Ideal S1024x5632 .f32) (x6 : Vec Ideal S2816x1024 .f32)
    (r : Fin 17408) (k : Fin 1024) :
    val_main_v24 (F := Ideal) x0 x1 x2 x3 x4 x5 x6 (ix2 r k) = stepped x0 x1 x2 x3 x4 x5 x6 r k := by
  pointwise [val_main_v3, val_main_cst, val_main_v4, val_main_v5, val_main_cst_0, val_main_v6, val_main_v7, val_main_cst_1,
    val_main_v8, val_main_v9, val_main_v10, val_main_v11, val_main_v12, val_main_v13, val_main_v14, val_main_v15, val_main_v16,
    val_main_v17, val_main_v18, val_main_call0_v0, val_main_call0_v1, val_main_call0_cst, val_main_call0_v2, val_main_call0_v3,
    val_main_call0_cst_0, val_main_call0_v4, val_main_call0_v5, val_main_v19, val_main_v20, val_main_v21, val_main_cst_2,
    val_main_v22, val_main_v23, val_main_v24]
  simp only [reference_mixed]
  rfl

/-- The reference's result. -/
theorem reference_eq (x0 : Vec Ideal S17408x1024 .f32) (x1 : Vec Ideal S16384x1024 .f32) (x2 : Vec Ideal S1024x1024 .f32) (x3 : Vec Ideal S1024x1024 .f32) (x4 : Vec Ideal S1024 .f32) (x5 : Vec Ideal S1024x5632 .f32) (x6 : Vec Ideal S2816x1024 .f32) :
    val_main_v24 (F := Ideal) x0 x1 x2 x3 x4 x5 x6 = G x0 x1 x2 x3 x4 x5 x6 := by
  funext y
  obtain ⟨r, k, hy⟩ : ∃ (r : Fin 17408) (k : Fin 1024), y = ix2 r k := ⟨y 0, y 1, eq_ix2 y⟩
  subst hy
  exact reference_stepped x0 x1 x2 x3 x4 x5 x6 r k
end

/-- The reference runs and leaves its arguments and the semaphores as they were. -/
theorem frame_reference : Cert.quiescent_LastReferenceIdeal := fun m ρ _ =>
  (θ_run Cert.LastReferenceIdeal.defs _ _).mono (fun r h => ⟨fun c => (h c).2,
      Idealize.ShloMosaic.sem_eq_zero_of_no_sems (by decide) r.2⟩)
    (Cert.LastReferenceIdeal.Value.run (F := Ideal) m ρ)

/-- The reference's result over contents that hold the kernel's arguments. -/
theorem reference_value {m} {c : Dev Cert.LastIdeal.nD} (m' : (ℓ : Loc Cert.LastReferenceIdeal.nD Cert.LastReferenceIdeal.τ Cert.LastReferenceIdeal.sig) → Buf (Elt Ideal) ℓ)
    (h : m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)
      ∧ m' ((c.tc : Thread Cert.LastReferenceIdeal.nD Cert.LastReferenceIdeal.τ).loc Cert.LastReferenceIdeal.main_arg5) = m ((c.tc : Thread Cert.LastIdeal.nD Cert.LastIdeal.τ).loc Cert.LastIdeal.main_arg5)
      ∧ m' ((c.tc : Thread Cert.LastReferenceIdeal.nD Cert.LastReferenceIdeal.τ).loc Cert.LastReferenceIdeal.main_arg6) = m ((c.tc : Thread Cert.LastIdeal.nD Cert.LastIdeal.τ).loc Cert.LastIdeal.main_arg6)) :
    Cert.LastReferenceIdeal.Read.val_main_v24 (F := Ideal) (m' ((c.tc : Thread Cert.LastReferenceIdeal.nD Cert.LastReferenceIdeal.τ).loc Cert.LastReferenceIdeal.main_arg0))
        (m' ((c.tc : Thread Cert.LastReferenceIdeal.nD Cert.LastReferenceIdeal.τ).loc Cert.LastReferenceIdeal.main_arg1))
        (m' ((c.tc : Thread Cert.LastReferenceIdeal.nD Cert.LastReferenceIdeal.τ).loc Cert.LastReferenceIdeal.main_arg2))
        (m' ((c.tc : Thread Cert.LastReferenceIdeal.nD Cert.LastReferenceIdeal.τ).loc Cert.LastReferenceIdeal.main_arg3))
        (m' ((c.tc : Thread Cert.LastReferenceIdeal.nD Cert.LastReferenceIdeal.τ).loc Cert.LastReferenceIdeal.main_arg4))
        (m' ((c.tc : Thread Cert.LastReferenceIdeal.nD Cert.LastReferenceIdeal.τ).loc Cert.LastReferenceIdeal.main_arg5))
        (m' ((c.tc : Thread Cert.LastReferenceIdeal.nD Cert.LastReferenceIdeal.τ).loc Cert.LastReferenceIdeal.main_arg6))
      = Kernel.R m c := by
  obtain ⟨h0, h1, h2, h3, h4, h5, h6⟩ := h
  rw [h0, h1, h2, h3, h4, h5, h6]
  exact reference_eq _ _ _ _ _ _ _

/-- The kernel's result is the reference's. -/
theorem algebraic : Cert.algebraic_LastIdeal_LastReferenceIdeal := by
  intro m ρ m' ρ' _ hagree
  refine ⟨fun c => Kernel.R m c, ?_, ?_⟩
  · exact (θ_run Cert.LastIdeal.defs _ _).mono (fun _ h c => ⟨(h c).1.trans (Kernel.final m c), (h c).2⟩)
      (Cert.LastIdeal.Value.run_blocks (F := Ideal) m ρ)
  · exact (θ_run Cert.LastReferenceIdeal.defs _ _).mono
      (fun _ h c => ⟨(h c).1.trans (Cert.LastReferenceIdeal.Read.val_main_v24_eq m' c |>.trans (reference_value m' (hagree c))),
        (h c).2⟩)
      (Cert.LastReferenceIdeal.Value.run (F := Ideal) m' ρ')

end Last.Claim
end
-- ==== Proof.Proj.FrameIdeal.lean ====
/- The frame of the gated-delta input projection's kernel, `ProjIdeal`: thirty-four grid points, two per tile of rows. The first of
   a tile's points normalises the rows into the scratch buffer, stores the gates and their transpose, and projects the
   first half of the columns; the second projects the other half from the rows still in the scratch buffer, and the gates'
   buffers are written back there untouched. So the frame goes by two kinds of point. -/
module

public import proofs.«01_k».proof.Proof.Gen.ProjIdeal.Launch
public import proofs.«01_k».proof.Proof.Gen.ProjIdeal.Skeleton
public import proofs.«01_k».proof.Proof.Gen.ProjIdeal.Points
public import proofs.«01_k».proof.Proof.Gen.ProjIdeal.Frame
public import Idealize.ShloMosaic.Lib.Pipeline.FrameBody
public import Idealize.ShloMosaic.Lib.Claim
public import Idealize.ShloMosaic.Lib.Tactic

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two kinds of point -/

theorem first_on : ∀ t : Fin cfg0.N, t.val % 2 = 0 → k0_cond1 (grid0.coords t) = 1#1 :=
  (by decide +kernel : ∀ t : Fin grid0.N, t.val % 2 = 0 → k0_cond1 (grid0.coords t) = 1#1)

theorem first_off : ∀ t : Fin cfg0.N, ¬t.val % 2 = 0 → ¬k0_cond1 (grid0.coords t) = 1#1 :=
  (by decide +kernel : ∀ t : Fin grid0.N, ¬t.val % 2 = 0 → ¬k0_cond1 (grid0.coords t) = 1#1)

theorem live8 (t : Fin cfg0.N) (h : t.val % 2 = 0) : cfg0.idle 8 (cfg0.grid.coords t) = false := by
  change (!(k0_cond1 (grid0.coords t) == 1#1)) = false
  rw [first_on t h]; rfl

theorem idle8 (t : Fin cfg0.N) (h : ¬t.val % 2 = 0) : cfg0.idle 8 (cfg0.grid.coords t) = true := by
  change (!(k0_cond1 (grid0.coords t) == 1#1)) = true
  rw [Bool.not_eq_true', beq_eq_false_iff_ne]; exact first_off t h

theorem live9 (t : Fin cfg0.N) (h : t.val % 2 = 0) : cfg0.idle 9 (cfg0.grid.coords t) = false := by
  change (!(k0_cond1 (grid0.coords t) == 1#1)) = false
  rw [first_on t h]; rfl

theorem idle9 (t : Fin cfg0.N) (h : ¬t.val % 2 = 0) : cfg0.idle 9 (cfg0.grid.coords t) = true := by
  change (!(k0_cond1 (grid0.coords t) == 1#1)) = true
  rw [Bool.not_eq_true', beq_eq_false_iff_ne]; exact first_off t h

/-- The first point of the tile of rows point `t` works on. -/
def heldAt (t : Fin cfg0.N) : Fin cfg0.N := ⟨t.val - t.val % 2, Nat.lt_of_le_of_lt (Nat.sub_le _ _) t.isLt⟩

theorem heldAt_eq (t : Fin cfg0.N) (h : t.val % 2 = 0) : heldAt t = t := Fin.ext (by unfold heldAt; dsimp only; omega)

/-! ## What the body stores -/

abbrev rX : Rect S1024x1024 := Rect.unit (s := S1024x1024) ![0, 0] S1024x1024.size inb_S1024x1024_S1024x1024_0_0
abbrev rG : Rect S1x1024 := Rect.unit (s := S1x1024) ![0, 0] S1x1024.size inb_S1x1024_S1x1024_0_0
abbrev rW : Rect S1024x2048 := Rect.unit (s := S1024x2048) ![0, 0] S1024x2048.size inb_S1024x2048_S1024x2048_0_0
abbrev rAb : Rect S1024x128 := Rect.unit (s := S1024x128) ![0, 0] S1024x128.size inb_S1024x128_S1024x128_0_0
abbrev rAbT : Rect S16x1024 := Rect.unit (s := S16x1024) ![0, 0] S16x1024.size inb_S16x1024_S16x1024_0_0
abbrev rRow0 : Rect S8x128 := Rect.unit (s := S8x128) ![0, 0] S1x128.size inb_S8x128_S1x128_0_0
abbrev rRow1 : Rect S8x128 := Rect.unit (s := S8x128) ![1, 0] S1x128.size inb_S8x128_S1x128_1_0
abbrev rCol0 : Rect S16x128 := Rect.unit (s := S16x128) ![0, 0] S16x1.size inb_S16x128_S16x1_0_0
abbrev rCol1 : Rect S16x128 := Rect.unit (s := S16x128) ![0, 1] S16x1.size inb_S16x128_S16x1_0_1

/-- The normalised rows, as the scratch buffer holds them. -/
def outHidden (x0 : Vec F S1024x1024 .f32) (x1 : Vec F S1x1024 .f32) : Vec F S1024x1024 .bf16 :=
  View.canon [⟨rX, k0_pay4 (View.ld x0 rX) (View.ld x1 rG)⟩]

/-- The projected columns, from the normalised rows and the block of weights. -/
def outProj (h : Vec F S1024x1024 .bf16) (x2 : Vec F S1024x2048 .bf16) : Vec F S1024x2048 .f32 :=
  View.canon [⟨rW, k0_pay2 (View.ld h rX) (View.ld x2 rW)⟩]

/-- The gates, one row per token. -/
def outGates (x0 : Vec F S1024x1024 .f32) (x1 : Vec F S1x1024 .f32) (x3 : Vec F S1024x128 .bf16) (x5 : Vec F S8x128 .f32) :
    Vec F S1024x128 .f32 :=
  View.canon [⟨rAb, k0_pay8 (k0_pay5 (View.ld x0 rX) (View.ld x1 rG) (View.ld x3 rAb)) (iota .tc S1x128 32 [1] iota_S1x128_d1_w32)
    (k0_pay6 (View.ld x5 rRow0)) (k0_pay7 (View.ld x0 rX) (View.ld x1 rG) (View.ld x3 rAb) (View.ld x5 rRow1))⟩]

/-- The gates, one column per token. -/
def outGatesT (x0 : Vec F S1024x1024 .f32) (x1 : Vec F S1x1024 .f32) (x4 : Vec F S16x1024 .bf16) (x6 : Vec F S16x128 .f32) :
    Vec F S16x1024 .f32 :=
  View.canon [⟨rAbT, k0_pay1 (k0_pay9 (k0_pay3 (View.ld x0 rX) (View.ld x1 rG)) (View.ld x4 rAbT))
    (iota .tc S16x1 32 [0] iota_S16x1_d0_w32) (k0_pay10 (View.ld x6 rCol0))
    (k0_pay12 (k0_pay3 (View.ld x0 rX) (View.ld x1 rG)) (View.ld x4 rAbT) (View.ld x6 rCol1))
    (k0_pay13 (k0_pay3 (View.ld x0 rX) (View.ld x1 rG)) (View.ld x4 rAbT) (View.ld x6 rCol1))⟩]

theorem coverHidden (p0 : Vec F S1024x1024 .bf16) (y : S1024x1024.Idx) :
    ∃ pc ∈ ([⟨rX, p0⟩] : List (View.Piece (Elt F) S1024x1024 .bf16)), y ∈ pc.1.set :=
  View.cover_of_tiled [⟨rX, p0⟩] S1024x1024.size (by rfl) y

theorem coverProj (p0 : Vec F S1024x2048 .f32) (y : S1024x2048.Idx) :
    ∃ pc ∈ ([⟨rW, p0⟩] : List (View.Piece (Elt F) S1024x2048 .f32)), y ∈ pc.1.set :=
  View.cover_of_tiled [⟨rW, p0⟩] S1024x2048.size (by rfl) y

theorem coverGates (p0 : Vec F S1024x128 .f32) (y : S1024x128.Idx) :
    ∃ pc ∈ ([⟨rAb, p0⟩] : List (View.Piece (Elt F) S1024x128 .f32)), y ∈ pc.1.set :=
  View.cover_of_tiled [⟨rAb, p0⟩] S1024x128.size (by rfl) y

theorem coverGatesT (p0 : Vec F S16x1024 .f32) (y : S16x1024.Idx) :
    ∃ pc ∈ ([⟨rAbT, p0⟩] : List (View.Piece (Elt F) S16x1024 .f32)), y ∈ pc.1.set :=
  View.cover_of_tiled [⟨rAbT, p0⟩] S16x1024.size (by rfl) y

/-! ## The body's triples -/

section Body

variable (c : Dev nD) (E : Set ℕ) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1024x2048 .bf16) (harg4 : arg4.IsWhole) (arg5 : Memref sig .tc .vmem S1024x128 .bf16) (harg5 : arg5.IsWhole)
  (arg6 : Memref sig .tc .vmem S16x1024 .bf16) (harg6 : arg6.IsWhole) (arg7 : Memref sig .tc .vmem S8x128 .f32) (harg7 : arg7.IsWhole)
  (arg8 : Memref sig .tc .vmem S16x128 .f32) (harg8 : arg8.IsWhole) (arg9 : Memref sig .tc .vmem S1024x2048 .f32) (harg9 : arg9.IsWhole)
  (arg10 : Memref sig .tc .vmem S1024x128 .f32) (harg10 : arg10.IsWhole) (arg11 : Memref sig .tc .vmem S16x1024 .f32) (harg11 : arg11.IsWhole)
  (arg12 : Memref sig .tc .vmem S1024x1024 .bf16) (harg12 : arg12.IsWhole)
  (x0 : Vec F S1024x1024 .f32) (x1 : Vec F S1x1024 .f32) (x2 : Vec F S1024x2048 .bf16) (x3 : Vec F S1024x128 .bf16) (x4 : Vec F S16x1024 .bf16) (x5 : Vec F S8x128 .f32) (x6 : Vec F S16x128 .f32) (h : Vec F S1024x1024 .bf16)

/-- The seven staged blocks, owned. -/
def ins : sProp 𝕄 :=
  iprop(owns (c : Thread nD τ) arg2 fullShare x0 ∗ owns (c : Thread nD τ) arg3 fullShare x1 ∗ owns (c : Thread nD τ) arg4 fullShare x2
     ∗ owns (c : Thread nD τ) arg5 fullShare x3 ∗ owns (c : Thread nD τ) arg6 fullShare x4
     ∗ owns (c : Thread nD τ) arg7 fullShare x5 ∗ owns (c : Thread nD τ) arg8 fullShare x6)

set_option maxHeartbeats 4000000 in
/-- At a tile's first point the body stores the normalised rows, both forms of the gates and the first columns. -/
theorem body_first (hc1 : k0_cond1 i = 1#1) (K : PUnit → sProp 𝕄) :
    iprop(ins c arg2 arg3 arg4 arg5 arg6 arg7 arg8 x0 x1 x2 x3 x4 x5 x6 ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(ins c arg2 arg3 arg4 arg5 arg6 arg7 arg8 x0 x1 x2 x3 x4 x5 x6 ∗ owns (c : Thread nD τ) arg9 fullShare (outProj (outHidden x0 x1) x2)
            ∗ owns (c : Thread nD τ) arg10 fullShare (outGates x0 x1 x3 x5) ∗ owns (c : Thread nD τ) arg11 fullShare (outGatesT x0 x1 x4 x6)
            ∗ owns (c : Thread nD τ) arg12 fullShare (outHidden x0 x1)) -∗ K ⟨⟩))
      ⊢ wp frame (wpE (defs₀ (F := F)) Variants.none c none) E
          (cc0_gdn_proj i arg2 harg2 arg3 harg3 arg4 harg4 arg5 harg5 arg6 harg6 arg7 harg7 arg8 harg8 arg9 harg9 arg10 harg10 arg11 harg11 arg12 harg12) K := by
  simp only [cc0_gdn_proj_eq_skeleton, k0_part1_eq_skeleton, k0_part2_eq_skeleton]; unfold cc0_gdn_proj_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨%d9, %f9, -, H9⟩, ⟨%ds, %fs, -, HS⟩, Hk⟩
  subst hf0 hf1 hf2 hf3 hf4 hf5 hf6
  sl_exec (disch := first | sl_exact hc1)
  sl_step
  iapply Hk
  isplitr [H7 H8 H9 HS]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  isplitl [H7]
  · iexists _; isplitr
    swap; · iexact H7
    ipureintro
    rw [View.read_writes_eq_canon _ _ _ (coverProj _)]
    unfold body_first.sl.v3 body_first.sl.HS_1
    rw [View.readCov_eq_canon_ld _ _ _ (coverHidden _)]
    rfl
  isplitl [H8]
  · iexists _; isplitr
    swap; · iexact H8
    ipureintro; exact View.read_writes_eq_canon _ _ _ (coverGates _)
  isplitl [H9]
  · iexists _; isplitr
    swap; · iexact H9
    ipureintro; exact View.read_writes_eq_canon _ _ _ (coverGatesT _)
  iexists _; isplitr
  swap; · iexact HS
  ipureintro; exact View.read_writes_eq_canon _ _ _ (coverHidden _)

set_option maxHeartbeats 1000000 in
/-- At a tile's second point it stores the other columns, from the rows in the scratch buffer, and leaves that as it was. -/
theorem body_second (hc1 : ¬k0_cond1 i = 1#1) (K : PUnit → sProp 𝕄) :
    iprop(ins c arg2 arg3 arg4 arg5 arg6 arg7 arg8 x0 x1 x2 x3 x4 x5 x6 ∗ (∃ d, owns (c : Thread nD τ) arg9 fullShare d) ∗ owns (c : Thread nD τ) arg12 fullShare h
        ∗ (iprop(ins c arg2 arg3 arg4 arg5 arg6 arg7 arg8 x0 x1 x2 x3 x4 x5 x6 ∗ owns (c : Thread nD τ) arg9 fullShare (outProj h x2) ∗ owns (c : Thread nD τ) arg12 fullShare h) -∗ K ⟨⟩))
      ⊢ wp frame (wpE (defs₀ (F := F)) Variants.none c none) E
          (cc0_gdn_proj i arg2 harg2 arg3 harg3 arg4 harg4 arg5 harg5 arg6 harg6 arg7 harg7 arg8 harg8 arg9 harg9 arg10 harg10 arg11 harg11 arg12 harg12) K := by
  simp only [cc0_gdn_proj_eq_skeleton, k0_part1_eq_skeleton, k0_part2_eq_skeleton]; unfold cc0_gdn_proj_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%fs, %hfs, HS⟩, Hk⟩
  subst hf0 hf1 hf2 hf3 hf4 hf5 hf6 hfs
  sl_exec (disch := first | sl_exact hc1)
  sl_step
  iapply Hk
  isplitr [H7 HS]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  isplitl [H7]
  · iexists _; isplitr
    swap; · iexact H7
    ipureintro; exact View.read_writes_eq_canon _ _ _ (coverProj _)
  iexists fs; isplitr; · ipureintro; rfl
  iexact HS

end Body

/-! ## The proof data -/

/-- The scratch buffer, whole. -/
abbrev scM0_0 : Memref sig .tc .vmem S1024x1024 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the body computes from the blocks staged at point `t`. -/
def hiddenAt (c : Dev nD) (t : Fin cfg0.N) : Vec F S1024x1024 .bf16 := outHidden (iblk m c 0 t) (iblk m c 1 t)
def projAt (c : Dev nD) (t : Fin cfg0.N) : Vec F S1024x2048 .f32 := outProj (hiddenAt m c (heldAt t)) (iblk m c 2 t)
def gatesAt (c : Dev nD) (t : Fin cfg0.N) : Vec F S1024x128 .f32 := outGates (iblk m c 0 t) (iblk m c 1 t) (iblk m c 3 t) (iblk m c 5 t)
def gatesTAt (c : Dev nD) (t : Fin cfg0.N) : Vec F S16x1024 .f32 := outGatesT (iblk m c 0 t) (iblk m c 1 t) (iblk m c 4 t) (iblk m c 6 t)

/-- Between a tile's two points the scratch buffer holds the tile's normalised rows; otherwise it is at anything. -/
def PhiS (c : Dev nD) (n : ℕ) (hn : n ≤ cfg0.N) : sProp 𝕄 :=
  if h : n % 2 = 1 then
    iprop(owns (c : Thread nD τ) scM0_0 fullShare (hiddenAt m c ⟨n - 1, Nat.lt_of_lt_of_le (by omega) hn⟩) ∗ (∃ r, prngReg c r))
  else Pipeline.ΦA spec0 c

theorem PhiS_even (c : Dev nD) (n : ℕ) (hn : n ≤ cfg0.N) (h : n % 2 = 0) : PhiS m c n hn = Pipeline.ΦA spec0 c := by
  unfold PhiS; rw [dif_neg (by omega)]

theorem PhiS_odd (c : Dev nD) (n : ℕ) (hn : n ≤ cfg0.N) (h : n % 2 = 1) : PhiS m c n hn
    = iprop(owns (c : Thread nD τ) scM0_0 fullShare (hiddenAt m c ⟨n - 1, Nat.lt_of_lt_of_le (by omega) hn⟩) ∗ (∃ r, prngReg c r)) := by
  unfold PhiS; rw [dif_pos h]

/-- The arrays as the region finds them, each input's buffer at its block, the columns' buffer at the point's own, the
    gates' at those of the tile's first point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => projAt m c t
    | ⟨8, _⟩ => gatesAt m c (heldAt t)
    | ⟨9, _⟩ => gatesTAt m c (heldAt t)
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = projAt m c t := by dsimp only [dats]
theorem after_8 (c : Dev nD) (t : Fin cfg0.N) : (dats m 0 c).after 8 t = gatesAt m c (heldAt t) := by dsimp only [dats]
theorem after_9 (c : Dev nD) (t : Fin cfg0.N) : (dats m 0 c).after 9 t = gatesTAt m c (heldAt t) := by dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := rfl

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- A tile's second point finds this buffer as the first left it. -/
theorem before_8 (c : Dev nD) (t : Fin cfg0.N) (h : ¬t.val % 2 = 0) (d) : (dats m 0 c).before 8 t d = gatesAt m c (heldAt t) := by
  have hlt : t.val - 1 < cfg0.N := Nat.lt_of_le_of_lt (Nat.sub_le _ _) t.isLt
  have hl : cfg0.idle 8 (cfg0.grid.coords ⟨t.val - 1, hlt⟩) = false := live8 _ (by dsimp only; omega)
  have hf : (cfg0.win 8).flush ⟨t.val - 1, hlt⟩ = false :=
    Bool.eq_false_iff.mpr fun e => by have := (flush0_8 ⟨t.val - 1, hlt⟩).mp e; dsimp only at this; omega
  rw [Dat.before_of_pos _ 8 t (by omega) rfl, hf, if_neg Bool.false_ne_true]
  unfold Dat.left
  rw [hl]
  dsimp only
  unfold Dat.kept
  rw [Pipeline.fill_of_clip_none 8 _ (fun _ => rfl) d ((dats m 0 c).after 8 _), Window.fill_cut, after_8]
  congr 1
  exact Fin.ext (by unfold heldAt; dsimp only; omega)

/-- A tile's second point finds this buffer as the first left it. -/
theorem before_9 (c : Dev nD) (t : Fin cfg0.N) (h : ¬t.val % 2 = 0) (d) : (dats m 0 c).before 9 t d = gatesTAt m c (heldAt t) := by
  have hlt : t.val - 1 < cfg0.N := Nat.lt_of_le_of_lt (Nat.sub_le _ _) t.isLt
  have hl : cfg0.idle 9 (cfg0.grid.coords ⟨t.val - 1, hlt⟩) = false := live9 _ (by dsimp only; omega)
  have hf : (cfg0.win 9).flush ⟨t.val - 1, hlt⟩ = false :=
    Bool.eq_false_iff.mpr fun e => by have := (flush0_9 ⟨t.val - 1, hlt⟩).mp e; dsimp only at this; omega
  rw [Dat.before_of_pos _ 9 t (by omega) rfl, hf, if_neg Bool.false_ne_true]
  unfold Dat.left
  rw [hl]
  dsimp only
  unfold Dat.kept
  rw [Pipeline.fill_of_clip_none 9 _ (fun _ => rfl) d ((dats m 0 c).after 9 _), Window.fill_cut, after_9]
  congr 1
  exact Fin.ext (by unfold heldAt; dsimp only; omega)

/-! ## The body obligation -/

/-- What every point is handed: the invariant, what is owed, and the ten buffers at what they hold. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What every point hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- A tile's first point. -/
theorem point_first (c : Dev nD) (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [Phi_castSucc, Phi_succ, PhiS_even m c t.val _ h, PhiS_odd m c (t.val + 1) _ (by omega), PhiA0_eq,
    show (dats m 0 c).owesAt () t.succ = (dats m 0 c).owesAt () t.castSucc from rfl,
    after_0, after_1, after_2, after_3, after_4, after_5, after_6, after_7, after_8, after_9]
  unfold projAt
  rw [heldAt_eq t h]
  rw [show hiddenAt m c ⟨t.val + 1 - 1, _⟩ = outHidden (iblk m c 0 t) (iblk m c 1 t) from rfl,
    show hiddenAt m c t = outHidden (iblk m c 0 t) (iblk m c 1 t) from rfl]
  unfold gatesAt gatesTAt
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_first c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (first_on t h) _)
  isplitl [H0 H1 H2 H3 H4 H5 H6]
  · unfold ins
    isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [H8]; · iexists _; iexact H8
  isplitl [H9]; · iexists _; iexact H9
  isplitl [HS]; · iexact HS
  unfold ins
  iintro ⟨⟨H0, H1, H2, H3, H4, H5, H6⟩, H7, H8, H9, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- A tile's second point. -/
theorem point_second (c : Dev nD) (t : Fin cfg0.N) (h : ¬t.val % 2 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_8 m c t h, before_9 m c t h]
  have e : (⟨t.val - 1, Nat.lt_of_le_of_lt (Nat.sub_le _ _) t.isLt⟩ : Fin cfg0.N) = heldAt t :=
    Fin.ext (by unfold heldAt; dsimp only; omega)
  rw [Phi_castSucc, Phi_succ, PhiS_odd m c t.val _ (by omega), PhiS_even m c (t.val + 1) _ (by omega), PhiA0_eq,
    show (dats m 0 c).owesAt () t.succ = (dats m 0 c).owesAt () t.castSucc from rfl,
    after_0, after_1, after_2, after_3, after_4, after_5, after_6, after_7, after_8, after_9]
  unfold projAt
  rw [e]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_second c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) _ (first_off t h) _)
  isplitl [H0 H1 H2 H3 H4 H5 H6]
  · unfold ins
    isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [HS]; · iexact HS
  unfold ins
  iintro ⟨⟨H0, H1, H2, H3, H4, H5, H6⟩, H7, HS⟩
  isplitl [HS Hg]
  · isplitl [HS]; · iexists _; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases h : t.val % 2 = 0
  · refine triple_restated (point_first m c t h) rfl .rfl fun _ => ?_
    have e8 : idle0 8 (grid0.coords t) = false := live8 t h
    have e9 : idle0 9 (grid0.coords t) = false := live9 t h
    unfold bodyPost
    simp only [e8, e9]
    exact Entails.refl _
  · refine triple_restated (point_second m c t h) rfl .rfl fun _ => ?_
    have e8 : idle0 8 (grid0.coords t) = true := idle8 t h
    have e9 : idle0 9 (grid0.coords t) = true := idle9 t h
    have f8 : (win0 8).flush t = true := (flush0_8 t).mpr (by omega)
    have f9 : (win0 9).flush t = true := (flush0_9 t).mpr (by omega)
    unfold bodyPost
    simp only [e8, e9, f8, f9]
    exact Entails.refl _

/-! ## The run and the frame -/

theorem hin (c : Dev nD) : Pipeline.ΦA spec0 c ⊢ (dats m 0 c).Φ 0 := by
  rw [show (dats m 0 c).Φ 0 = PhiS m c 0 (Nat.zero_le _) from rfl, PhiS_even m c 0 _ rfl]

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_even m c cfg0.N _ (by rw [show cfg0.N = 34 from N_0])]

set_option backward.isDefEq.respectTransparency.types false in
set_option maxHeartbeats 800000 in
/-- The run ends with the arrays at what the proof data computes and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.ProjIdeal.Gen

end
-- ==== Proof.Proj.Claim.lean ====
/-
  The claims about the gated-delta input projection: the normalised rows times the weights, and the gates, a row per token
  and a column per token. The kernel's results are the reference's, with no precondition.
-/
module

public import proofs.«01_k».proof.Defs
public import proofs.«01_k».proof.Proof.Proj.FrameIdeal
public import proofs.«01_k».proof.Proof.Gen.ProjReferenceIdeal.Read
public import proofs.«01_k».proof.Proof.Gen.ProjReferenceIdeal.Run
public import proofs.«01_k».proof.Proof.Rows
public import Idealize.ShloMosaic.Lib.StableHlo.ReadAt
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Proj

/-- The softplus, written so that the exponential's argument is never positive. -/
def soft (s : EReal) : EReal := max s 0 + Ideal.log1p (Ideal.exp (-(FloatOps.absf (F := Ideal) (φ := .f32) s : EReal)))

/-- Token `r`'s projection on column `k`. -/
def col (x0 : Vec Ideal ⟨2, ![17408, 1024]⟩ .f32) (x1 : Vec Ideal ⟨1, ![1024]⟩ .f32) (x2 : Vec Ideal ⟨2, ![1024, 4112]⟩ .f32)
    (r : Fin 17408) (k : Fin 4112) : EReal :=
  ∑ j : Fin 1024, (Rows.rms (fun k => x0 (ix2 r k)) (fun k => x1 (ix1 k)) j : EReal) * (x2 (ix2 j k) : EReal)

/-- Token `r`'s gate `l`: the first eight are the decays' logarithms, the others the strengths of the updates. -/
def gate (x0 : Vec Ideal ⟨2, ![17408, 1024]⟩ .f32) (x1 : Vec Ideal ⟨1, ![1024]⟩ .f32) (x2 : Vec Ideal ⟨2, ![1024, 4112]⟩ .f32)
    (x3 x4 : Vec Ideal ⟨1, ![8]⟩ .f32) (r : Fin 17408) (l : Fin 16) : EReal :=
  if h : l.val < 8 then -Ideal.exp (x3 (ix1 ⟨l.val, h⟩)) * soft (col x0 x1 x2 r ⟨4096 + l.val, by omega⟩ + x4 (ix1 ⟨l.val, h⟩))
  else Rows.sigm (col x0 x1 x2 r ⟨4096 + l.val, by omega⟩)

/-- The projected columns. -/
def proj (x0 : Vec Ideal ⟨2, ![17408, 1024]⟩ .f32) (x1 : Vec Ideal ⟨1, ![1024]⟩ .f32) (x2 : Vec Ideal ⟨2, ![1024, 4112]⟩ .f32) :
    Vec Ideal ⟨2, ![17408, 4096]⟩ .f32 := fun y =>
  col x0 x1 x2 (y 0) ⟨(y 1).val, by have : (y 1).val < 4096 := (y 1).isLt; omega⟩

/-- The gates, a row per token, padded with zeros. -/
def gates (x0 : Vec Ideal ⟨2, ![17408, 1024]⟩ .f32) (x1 : Vec Ideal ⟨1, ![1024]⟩ .f32) (x2 : Vec Ideal ⟨2, ![1024, 4112]⟩ .f32)
    (x3 x4 : Vec Ideal ⟨1, ![8]⟩ .f32) : Vec Ideal ⟨2, ![17408, 128]⟩ .f32 := fun y =>
  if h : (y 1).val < 16 then gate x0 x1 x2 x3 x4 (y 0) ⟨(y 1).val, h⟩ else (0 : EReal)

/-- The gates, a column per token. -/
def gatesT (x0 : Vec Ideal ⟨2, ![17408, 1024]⟩ .f32) (x1 : Vec Ideal ⟨1, ![1024]⟩ .f32) (x2 : Vec Ideal ⟨2, ![1024, 4112]⟩ .f32)
    (x3 x4 : Vec Ideal ⟨1, ![8]⟩ .f32) : Vec Ideal ⟨2, ![16, 17408]⟩ .f32 := fun y => gate x0 x1 x2 x3 x4 (y 1) (y 0)

section
open Cert.ProjIdeal Cert.ProjIdeal.Gen
open Idealize.ShloMosaic.Pipeline (Dat)

namespace Kernel

variable (m : (ℓ : Loc nD τ sig) → Buf (Elt Ideal) ℓ)

/-! ### The body's stages, applied -/

theorem pay2 (h : Vec Ideal S1024x1024 .bf16) (w : Vec Ideal S1024x2048 .bf16) (r : Fin 1024) (k : Fin 2048) :
    k0_pay2 (F := Ideal) h w (ix2 r k) = ∑ j : Fin 1024, (h (ix2 r j) : EReal) * (w (ix2 j k) : EReal) := by
  pointwise [k0_pay2]

theorem pay3 (x : Vec Ideal S1024x1024 .f32) (g : Vec Ideal S1x1024 .f32) (r k : Fin 1024) :
    k0_pay3 (F := Ideal) x g (ix2 r k) = Rows.rms (fun k => x (ix2 r k)) (fun k => g (ix2 0 k)) k := by
  pointwise [k0_pay3]
  rfl

theorem pay4 (x : Vec Ideal S1024x1024 .f32) (g : Vec Ideal S1x1024 .f32) (r k : Fin 1024) :
    k0_pay4 (F := Ideal) x g (ix2 r k) = Rows.rms (fun k => x (ix2 r k)) (fun k => g (ix2 0 k)) k := by
  pointwise [k0_pay4]
  exact pay3 x g r k

theorem pay5 (x : Vec Ideal S1024x1024 .f32) (g : Vec Ideal S1x1024 .f32) (w : Vec Ideal S1024x128 .bf16) (r : Fin 1024) (l : Fin 128) :
    k0_pay5 (F := Ideal) x g w (ix2 r l) = ∑ j : Fin 1024, (k0_pay3 (F := Ideal) x g (ix2 r j) : EReal) * (w (ix2 j l) : EReal) := by
  pointwise [k0_pay5]

theorem pay6 (a : Vec Ideal S1x128 .f32) (l : Fin 128) : k0_pay6 (F := Ideal) a (ix2 0 l) = -Ideal.exp (a (ix2 0 l)) := by
  pointwise [k0_pay6]
  exact zero_sub _

theorem pay7 (x : Vec Ideal S1024x1024 .f32) (g : Vec Ideal S1x1024 .f32) (w : Vec Ideal S1024x128 .bf16) (b : Vec Ideal S1x128 .f32)
    (r : Fin 1024) (l : Fin 128) :
    k0_pay7 (F := Ideal) x g w b (ix2 r l) = soft ((k0_pay5 (F := Ideal) x g w (ix2 r l) : EReal) + (b (ix2 0 l) : EReal)) := by
  pointwise [k0_pay7]
  simp only [zero_sub]
  rfl

theorem lane8 : ∀ l : Fin 128, IntOp.cmpi .slt (BitVec.ofNat 32 l.val) 8#32 = if l.val < 8 then 1#1 else 0#1 := by decide +kernel
theorem lane16 : ∀ l : Fin 128, IntOp.cmpi .slt (BitVec.ofNat 32 l.val) 16#32 = if l.val < 16 then 1#1 else 0#1 := by decide +kernel
theorem row8 : ∀ l : Fin 16, IntOp.cmpi .slt (BitVec.ofNat 32 l.val) 8#32 = if l.val < 8 then 1#1 else 0#1 := by decide +kernel

theorem select_ite {p : Prop} [Decidable p] (a b : EReal) :
    Scalar.select (if p then 1#1 else 0#1) a b = if p then a else b := by
  by_cases h : p
  · rw [if_pos h, if_pos h]; rfl
  · rw [if_neg h, if_neg h]; rfl

theorem pay8 (s : FVec Ideal S1024x128 .f32) (a : FVec Ideal S1x128 .f32) (v : FVec Ideal S1024x128 .f32) (r : Fin 1024) (l : Fin 128) :
    k0_pay8 (F := Ideal) s (iota .tc S1x128 32 [1] iota_S1x128_d1_w32) a v (ix2 r l)
      = if l.val < 8 then (a (ix2 0 l) : EReal) * (v (ix2 r l) : EReal) else if l.val < 16 then Rows.sigm (s (ix2 r l)) else (0 : EReal) := by
  pointwise [k0_pay8]
  rw [lane8, lane16, select_ite, select_ite, zero_sub]
  rfl

theorem pay1 (s : FVec Ideal S16x1024 .f32) (a : FVec Ideal S16x1 .f32) (u v : FVec Ideal S16x1024 .f32) (l : Fin 16) (r : Fin 1024) :
    k0_pay1 (F := Ideal) s (iota .tc S16x1 32 [0] iota_S16x1_d0_w32) a u v (ix2 l r)
      = if l.val < 8 then (a (ix2 l 0) : EReal) * ((u (ix2 l r) : EReal) + (v (ix2 l r) : EReal)) else Rows.sigm (s (ix2 l r)) := by
  pointwise [k0_pay1]
  rw [row8, select_ite, zero_sub]
  rfl

theorem pay9 (h : FVec Ideal S1024x1024 .bf16) (w : Vec Ideal S16x1024 .bf16) (r : Fin 1024) (l : Fin 16) :
    k0_pay9 (F := Ideal) h w (ix2 l r) = ∑ j : Fin 1024, (h (ix2 r j) : EReal) * (w (ix2 l j) : EReal) := by
  pointwise [k0_pay9]
  exact Finset.sum_congr rfl fun j _ => mul_comm _ _

theorem pay10 (a : Vec Ideal S16x1 .f32) (l : Fin 16) : k0_pay10 (F := Ideal) a (ix2 l 0) = -Ideal.exp (a (ix2 l 0)) := by
  pointwise [k0_pay10]
  exact zero_sub _

theorem pay12 (h : FVec Ideal S1024x1024 .bf16) (w : Vec Ideal S16x1024 .bf16) (b : Vec Ideal S16x1 .f32) (r : Fin 1024) (l : Fin 16) :
    (k0_pay12 (F := Ideal) h w b (ix2 l r) : EReal) + (k0_pay13 (F := Ideal) h w b (ix2 l r) : EReal)
      = soft ((k0_pay9 (F := Ideal) h w (ix2 l r) : EReal) + (b (ix2 l 0) : EReal)) := by
  pointwise [k0_pay12, k0_pay13, k0_pay11]
  simp only [zero_sub]
  rfl

/-! ### The rows and columns of the parameters' blocks -/

theorem ld_row0 (x : Vec Ideal S8x128 .f32) (l : Fin 128) : View.ld x rRow0 (ix2 0 l) = x (ix2 0 l) :=
  congrArg x (funext fun a => Fin.ext (match a with
    | ⟨0, _⟩ => rfl
    | ⟨1, _⟩ => by show 0 + 1 * l.val = l.val; omega))
theorem ld_row1 (x : Vec Ideal S8x128 .f32) (l : Fin 128) : View.ld x rRow1 (ix2 0 l) = x (ix2 1 l) :=
  congrArg x (funext fun a => Fin.ext (match a with
    | ⟨0, _⟩ => rfl
    | ⟨1, _⟩ => by show 0 + 1 * l.val = l.val; omega))
theorem ld_col0 (x : Vec Ideal S16x128 .f32) (l : Fin 16) : View.ld x rCol0 (ix2 l 0) = x (ix2 l 0) :=
  congrArg x (funext fun a => Fin.ext (match a with
    | ⟨0, _⟩ => by show 0 + 1 * l.val = l.val; omega
    | ⟨1, _⟩ => rfl))
theorem ld_col1 (x : Vec Ideal S16x128 .f32) (l : Fin 16) : View.ld x rCol1 (ix2 l 0) = x (ix2 l 1) :=
  congrArg x (funext fun a => Fin.ext (match a with
    | ⟨0, _⟩ => by show 0 + 1 * l.val = l.val; omega
    | ⟨1, _⟩ => rfl))

/-! ### The arrays prepared before the launch -/

theorem hv1 (c : Dev nD) (j : Fin 1024) (k : Fin 4096) :
    V m c main_v1 (ix2 j k) = m ((c : Thread nD τ).loc main_arg2) (ix2 j ⟨k.val, by omega⟩) := by
  unfold V
  after_reads_at
theorem hv4 (c : Dev nD) (j : Fin 1024) (l : Fin 128) (h : l.val < 16) :
    V m c main_v4 (ix2 j l) = m ((c : Thread nD τ).loc main_arg2) (ix2 j ⟨4096 + l.val, by omega⟩) := by
  unfold V
  after_reads_at
  rw [dif_pos h]
theorem hv6 (c : Dev nD) (l : Fin 16) (j : Fin 1024) :
    V m c main_v6 (ix2 l j) = m ((c : Thread nD τ).loc main_arg2) (ix2 j ⟨4096 + l.val, by omega⟩) := by
  unfold V
  after_reads_at
theorem hv13_0 (c : Dev nD) (l : Fin 128) (h : l.val < 8) :
    V m c main_v13 (ix2 0 l) = m ((c : Thread nD τ).loc main_arg3) (ix1 ⟨l.val, h⟩) := by
  unfold V
  after_reads_at
  after_reads_at
  rw [dif_pos h]
theorem hv13_1 (c : Dev nD) (l : Fin 128) (h : l.val < 8) :
    V m c main_v13 (ix2 1 l) = m ((c : Thread nD τ).loc main_arg4) (ix1 ⟨l.val, h⟩) := by
  unfold V
  after_reads_at
  after_reads_at
  rw [dif_pos h]
theorem hv19_0 (c : Dev nD) (l : Fin 16) (h : l.val < 8) :
    V m c main_v19 (ix2 l 0) = m ((c : Thread nD τ).loc main_arg3) (ix1 ⟨l.val, h⟩) := by
  unfold V
  after_reads_at
  after_reads_at
  rw [dif_pos h]
  after_reads_at
theorem hv19_1 (c : Dev nD) (l : Fin 16) (h : l.val < 8) :
    V m c main_v19 (ix2 l 1) = m ((c : Thread nD τ).loc main_arg4) (ix1 ⟨l.val, h⟩) := by
  unfold V
  after_reads_at
  after_reads_at
  rw [dif_pos h]
  after_reads_at
theorem hv20 (c : Dev nD) (k : Fin 1024) : V m c main_v20 (ix2 0 k) = m ((c : Thread nD τ).loc main_arg1) (ix1 k) := by
  unfold V
  after_reads_at

/-! ### The blocks -/

theorem idx : ∀ t : Fin cfg0.N, win0_0.index t = ![t.val / 2, 0] ∧ win0_1.index t = ![0, 0] ∧ win0_2.index t = ![0, t.val % 2]
    ∧ win0_3.index t = ![0, 0] ∧ win0_4.index t = ![0, 0] ∧ win0_5.index t = ![0, 0] ∧ win0_6.index t = ![0, 0]
    ∧ win0_7.index t = ![t.val / 2, t.val % 2] ∧ win0_8.index t = ![t.val / 2, 0] ∧ win0_9.index t = ![0, t.val / 2] :=
  (by decide +kernel : ∀ t : Fin grid0.N, _)

theorem lt (t : Fin cfg0.N) : t.val < 34 := t.isLt

/-- The token of row `r` of a point's tile. -/
def token (t : Fin cfg0.N) (r : Fin 1024) : Fin 17408 := ⟨1024 * (t.val / 2) + r.val, by have := lt t; omega⟩

theorem token_held (t : Fin cfg0.N) (r : Fin 1024) : token (heldAt t) r = token t r :=
  Fin.ext (by unfold token heldAt; dsimp only; omega)

theorem b0 (c : Dev nD) (t : Fin cfg0.N) (r k : Fin 1024) :
    iblk m c 0 t (ix2 r k) = m ((c : Thread nD τ).loc main_arg0) (ix2 (token t r) k) := by
  unfold token
  blk_ext [iblk, V, idx t]
theorem b1 (c : Dev nD) (t : Fin cfg0.N) (k : Fin 1024) :
    iblk m c 1 t (ix2 0 k) = m ((c : Thread nD τ).loc main_arg1) (ix1 k) := by
  rw [← hv20 m c]
  blk_ext [iblk, idx t]
theorem b2 (c : Dev nD) (t : Fin cfg0.N) (j : Fin 1024) (k : Fin 2048) :
    iblk m c 2 t (ix2 j k) = m ((c : Thread nD τ).loc main_arg2) (ix2 j ⟨2048 * (t.val % 2) + k.val, by omega⟩) := by
  refine Eq.trans ?_ (hv1 m c j ⟨2048 * (t.val % 2) + k.val, by omega⟩)
  blk_ext [iblk, idx t]
theorem b3 (c : Dev nD) (t : Fin cfg0.N) (j : Fin 1024) (l : Fin 128) (h : l.val < 16) :
    iblk m c 3 t (ix2 j l) = m ((c : Thread nD τ).loc main_arg2) (ix2 j ⟨4096 + l.val, by omega⟩) := by
  rw [← hv4 m c j l h]
  blk_ext [iblk, idx t]
theorem b4 (c : Dev nD) (t : Fin cfg0.N) (l : Fin 16) (j : Fin 1024) :
    iblk m c 4 t (ix2 l j) = m ((c : Thread nD τ).loc main_arg2) (ix2 j ⟨4096 + l.val, by omega⟩) := by
  rw [← hv6 m c l j]
  blk_ext [iblk, idx t]
theorem b5_0 (c : Dev nD) (t : Fin cfg0.N) (l : Fin 128) (h : l.val < 8) :
    iblk m c 5 t (ix2 0 l) = m ((c : Thread nD τ).loc main_arg3) (ix1 ⟨l.val, h⟩) := by
  rw [← hv13_0 m c l h]
  blk_ext [iblk, idx t]
theorem b5_1 (c : Dev nD) (t : Fin cfg0.N) (l : Fin 128) (h : l.val < 8) :
    iblk m c 5 t (ix2 1 l) = m ((c : Thread nD τ).loc main_arg4) (ix1 ⟨l.val, h⟩) := by
  rw [← hv13_1 m c l h]
  blk_ext [iblk, idx t]
theorem b6_0 (c : Dev nD) (t : Fin cfg0.N) (l : Fin 16) (h : l.val < 8) :
    iblk m c 6 t (ix2 l 0) = m ((c : Thread nD τ).loc main_arg3) (ix1 ⟨l.val, h⟩) := by
  rw [← hv19_0 m c l h]
  blk_ext [iblk, idx t]
theorem b6_1 (c : Dev nD) (t : Fin cfg0.N) (l : Fin 16) (h : l.val < 8) :
    iblk m c 6 t (ix2 l 1) = m ((c : Thread nD τ).loc main_arg4) (ix1 ⟨l.val, h⟩) := by
  rw [← hv19_1 m c l h]
  blk_ext [iblk, idx t]

/-! ### What a point computes -/

/-- A token's normalised row, from the launch's arrays. -/
def rowOf (c : Dev nD) (r : Fin 17408) (k : Fin 1024) : EReal :=
  Rows.rms (fun k => m ((c : Thread nD τ).loc main_arg0) (ix2 r k)) (fun k => m ((c : Thread nD τ).loc main_arg1) (ix1 k)) k

theorem normed (c : Dev nD) (t : Fin cfg0.N) (r k : Fin 1024) :
    k0_pay3 (F := Ideal) (iblk m c 0 t) (iblk m c 1 t) (ix2 r k) = rowOf m c (token t r) k := by
  rw [pay3]
  simp only [b0, b1]
  rfl

theorem hidden (c : Dev nD) (t : Fin cfg0.N) (r k : Fin 1024) : hiddenAt m c t (ix2 r k) = rowOf m c (token t r) k := by
  have e : hiddenAt m c t = k0_pay4 (iblk m c 0 t) (iblk m c 1 t) := by
    unfold hiddenAt outHidden
    frame_out
  rw [e, pay4]
  simp only [b0, b1]
  rfl

/-- The projection of a tile's rows on a point's columns. -/
theorem tile_proj (c : Dev nD) (t : Fin cfg0.N) (r : Fin 1024) (k : Fin 2048) :
    projAt m c t (ix2 r k) = col (m ((c : Thread nD τ).loc main_arg0)) (m ((c : Thread nD τ).loc main_arg1)) (m ((c : Thread nD τ).loc main_arg2))
      (token t r) ⟨2048 * (t.val % 2) + k.val, by omega⟩ := by
  have e : projAt m c t = k0_pay2 (hiddenAt m c (heldAt t)) (iblk m c 2 t) := by
    unfold projAt outProj
    frame_out
  rw [e, pay2]
  simp only [hidden, b2, token_held]
  rfl

/-- The gates of a tile's rows. -/
theorem tile_gates (c : Dev nD) (t : Fin cfg0.N) (r : Fin 1024) (l : Fin 128) :
    gatesAt m c t (ix2 r l) = if h : l.val < 16 then gate (m ((c : Thread nD τ).loc main_arg0)) (m ((c : Thread nD τ).loc main_arg1)) (m ((c : Thread nD τ).loc main_arg2))
      (m ((c : Thread nD τ).loc main_arg3)) (m ((c : Thread nD τ).loc main_arg4)) (token t r) ⟨l.val, h⟩ else (0 : EReal) := by
  have e : gatesAt m c t = k0_pay8 (k0_pay5 (iblk m c 0 t) (iblk m c 1 t) (iblk m c 3 t)) (iota .tc S1x128 32 [1] iota_S1x128_d1_w32)
      (k0_pay6 (View.ld (iblk m c 5 t) rRow0)) (k0_pay7 (iblk m c 0 t) (iblk m c 1 t) (iblk m c 3 t) (View.ld (iblk m c 5 t) rRow1)) := by
    unfold gatesAt outGates
    frame_out
    rfl
  rw [e, pay8]
  by_cases h16 : l.val < 16
  · have s : k0_pay5 (F := Ideal) (iblk m c 0 t) (iblk m c 1 t) (iblk m c 3 t) (ix2 r l)
        = col (m ((c : Thread nD τ).loc main_arg0)) (m ((c : Thread nD τ).loc main_arg1)) (m ((c : Thread nD τ).loc main_arg2))
          (token t r) ⟨4096 + l.val, by omega⟩ := by
      rw [pay5]
      simp only [normed, b3 m c t _ l h16]
      rfl
    rw [dif_pos h16]
    unfold gate
    by_cases h8 : l.val < 8
    · rw [if_pos h8, dif_pos h8, pay6, pay7, s, ld_row0, ld_row1, b5_0 m c t l h8, b5_1 m c t l h8]
    · rw [if_neg h8, dif_neg h8, if_pos h16, s]
  · rw [dif_neg h16, if_neg (by omega), if_neg h16]

/-- The same, a column per row. -/
theorem tile_gatesT (c : Dev nD) (t : Fin cfg0.N) (l : Fin 16) (r : Fin 1024) :
    gatesTAt m c t (ix2 l r) = gate (m ((c : Thread nD τ).loc main_arg0)) (m ((c : Thread nD τ).loc main_arg1)) (m ((c : Thread nD τ).loc main_arg2))
      (m ((c : Thread nD τ).loc main_arg3)) (m ((c : Thread nD τ).loc main_arg4)) (token t r) l := by
  have e : gatesTAt m c t = k0_pay1 (k0_pay9 (k0_pay3 (iblk m c 0 t) (iblk m c 1 t)) (iblk m c 4 t)) (iota .tc S16x1 32 [0] iota_S16x1_d0_w32)
      (k0_pay10 (View.ld (iblk m c 6 t) rCol0))
      (k0_pay12 (k0_pay3 (iblk m c 0 t) (iblk m c 1 t)) (iblk m c 4 t) (View.ld (iblk m c 6 t) rCol1))
      (k0_pay13 (k0_pay3 (iblk m c 0 t) (iblk m c 1 t)) (iblk m c 4 t) (View.ld (iblk m c 6 t) rCol1)) := by
    unfold gatesTAt outGatesT
    frame_out
    rfl
  have s : k0_pay9 (F := Ideal) (k0_pay3 (iblk m c 0 t) (iblk m c 1 t)) (iblk m c 4 t) (ix2 l r)
      = col (m ((c : Thread nD τ).loc main_arg0)) (m ((c : Thread nD τ).loc main_arg1)) (m ((c : Thread nD τ).loc main_arg2))
        (token t r) ⟨4096 + l.val, by omega⟩ := by
    rw [pay9]
    simp only [normed, b4]
    rfl
  rw [e, pay1]
  unfold gate
  by_cases h8 : l.val < 8
  · rw [if_pos h8, dif_pos h8, pay12, pay10, s, ld_col0, ld_col1, b6_0 m c t l h8, b6_1 m c t l h8]
  · rw [if_neg h8, dif_neg h8, s]

/-! ### The results -/

theorem proj_eq (c : Dev nD) : (dats m 0 c).arrAt 7 cfg0.N
    = proj (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after_7]
  obtain ⟨r, k, hy⟩ : ∃ (r : Fin 1024) (k : Fin 2048), y = ix2 r k := ⟨y 0, y 1, eq_ix2 y⟩
  subst hy
  have hi : (win0_7.blk t).view.emb (ix2 r k) = ix2 (token t r) ⟨2048 * (t.val % 2) + k.val, by omega⟩ := by
    unfold token
    blk_point [idx t]
  rw [hi, tile_proj]
  rfl

theorem gates_eq (c : Dev nD) : (dats m 0 c).arrAt 8 cfg0.N
    = gates (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 8 _ (by decide +kernel) fun t hf y => ?_
  blk_simp
  rw [after_8]
  obtain ⟨r, l, hy⟩ : ∃ (r : Fin 1024) (l : Fin 128), y = ix2 r l := ⟨y 0, y 1, eq_ix2 y⟩
  subst hy
  have hi : (win0_8.blk t).view.emb (ix2 r l) = ix2 (token t r) l := by
    unfold token
    blk_point [idx t]
  rw [hi, tile_gates, token_held]
  rfl

theorem gatesT_eq (c : Dev nD) : (dats m 0 c).arrAt 9 cfg0.N
    = gatesT (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 9 _ (by decide +kernel) fun t hf y => ?_
  blk_simp
  rw [after_9]
  obtain ⟨l, r, hy⟩ : ∃ (l : Fin 16) (r : Fin 1024), y = ix2 l r := ⟨y 0, y 1, eq_ix2 y⟩
  subst hy
  have hi : (win0_9.blk t).view.emb (ix2 l r) = ix2 l (token t r) := by
    unfold token
    blk_point [idx t]
  rw [hi, tile_gatesT, token_held]
  rfl

/-- The kernel's run: its three results, and its arguments as they were. -/
theorem run (ρ : Dev nD → PrngReg) :
    θ_run defs (onTc (τ := τ) (main (F := Ideal))) ⟨m, fun _ => 0, ρ⟩ (fun r => ∀ c : Dev nD,
      r.2.mem ((c.tc : Thread nD τ).loc main_v21_0) = proj (m ((c : Thread nD τ).loc main_arg0)) (m ((c : Thread nD τ).loc main_arg1)) (m ((c : Thread nD τ).loc main_arg2))
      ∧ r.2.mem ((c.tc : Thread nD τ).loc main_v21_1) = gates (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c.tc : Thread nD τ).loc main_v21_2) = gatesT (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 7).trans (proj_eq m c), ((h.1 c).1 8).trans (gates_eq m c),
      ((h.1 c).1 9).trans (gatesT_eq m c), h.2 c⟩)
    (θ_run_and (run_main (F := Ideal) m ρ) (frame_of m ρ (dats m) (A_eq m) (run_main m ρ)))

end Kernel
end

namespace Claim

section
open Cert.ProjReferenceIdeal Cert.ProjReferenceIdeal.Read

variable (x0 : Vec Ideal S17408x1024 .f32) (x1 : Vec Ideal S1024 .f32) (x2 : Vec Ideal S1024x4112 .f32) (x3 x4 : Vec Ideal S8 .f32)

/-- The reference's projection. -/
theorem reference_col (r : Fin 17408) (k : Fin 4112) : val_main_v13 (F := Ideal) x0 x1 x2 (ix2 r k) = col x0 x1 x2 r k := by
  pointwise [val_main_v0, val_main_v1, val_main_cst, val_main_v2, val_main_v3, val_main_cst_0, val_main_v4, val_main_v5,
    val_main_cst_1, val_main_v6, val_main_v7, val_main_v8, val_main_v9, val_main_v10, val_main_v11, val_main_v12, val_main_v13]
  rfl

/-- Its first eight gates. -/
theorem reference_decay (r : Fin 17408) (l : Fin 8) : val_main_v30 (F := Ideal) x0 x1 x2 x3 x4 (ix2 r l)
    = -Ideal.exp (x3 (ix1 l)) * soft (col x0 x1 x2 r ⟨4096 + l.val, by omega⟩ + x4 (ix1 l)) := by
  pointwise [val_main_v14, val_main_v22, val_main_v23, val_main_v24, val_main_v25, val_main_v26, val_main_call0_cst, val_main_call0_v0,
    val_main_call0_v1, val_main_call0_v2, val_main_call0_v3, val_main_call0_v4, val_main_call0_v5, val_main_call0_v6, val_main_call0_v7,
    val_main_call0_v8, val_main_call0_v9, val_main_call0_v10, val_main_call0_v11, val_main_v27, val_main_v28, val_main_v29, val_main_v30]
  rw [if_neg fun h => h rfl]
  simp only [reference_col]
  rfl

/-- The other eight. -/
theorem reference_strength (r : Fin 17408) (l : Fin 8) : val_main_v21 (F := Ideal) x0 x1 x2 (ix2 r l)
    = Rows.sigm (col x0 x1 x2 r ⟨4104 + l.val, by omega⟩) := by
  pointwise [val_main_v15, val_main_v16, val_main_v17, val_main_cst_2, val_main_v18, val_main_v19, val_main_cst_3, val_main_v20, val_main_v21]
  simp only [reference_col]
  rfl

/-- Its gates. -/
theorem reference_gate (r : Fin 17408) (l : Fin 16) :
    val_main_v31 (F := Ideal) x0 x1 x2 x3 x4 (ix2 r l) = gate x0 x1 x2 x3 x4 r l := by
  pointwise [val_main_v31]
  unfold gate
  by_cases h : l.val < 8
  · rw [dif_pos h, dif_pos h, reference_decay]
  · rw [dif_neg h, dif_neg h, reference_strength]
    exact congrArg (fun k => Rows.sigm (col x0 x1 x2 r k)) (Fin.ext (by dsimp only; omega))

/-- The reference's three results. -/
theorem reference_proj : val_main_v32 (F := Ideal) x0 x1 x2 = proj x0 x1 x2 := by
  funext y
  obtain ⟨r, k, hy⟩ : ∃ (r : Fin 17408) (k : Fin 4096), y = ix2 r k := ⟨y 0, y 1, eq_ix2 y⟩
  subst hy
  pointwise [val_main_v32]
  simp only [reference_col]
  rfl

theorem zero_word : (FloatOps.sitofp (F := Ideal) .f32 (0#32) : EReal) = 0 := by
  simp [FloatOps.sitofp]

theorem reference_gates : val_main_v33 (F := Ideal) x0 x1 x2 x3 x4 = gates x0 x1 x2 x3 x4 := by
  funext y
  obtain ⟨r, l, hy⟩ : ∃ (r : Fin 17408) (l : Fin 128), y = ix2 r l := ⟨y 0, y 1, eq_ix2 y⟩
  subst hy
  pointwise [val_main_v33, val_main_c, val_main_call1_v0]
  simp only [reference_gate, zero_word]
  rfl

theorem reference_gatesT : val_main_v34 (F := Ideal) x0 x1 x2 x3 x4 = gatesT x0 x1 x2 x3 x4 := by
  funext y
  obtain ⟨l, r, hy⟩ : ∃ (l : Fin 16) (r : Fin 17408), y = ix2 l r := ⟨y 0, y 1, eq_ix2 y⟩
  subst hy
  pointwise [val_main_v34]
  exact reference_gate x0 x1 x2 x3 x4 r l
end

/-- The reference runs and leaves its arguments and the semaphores as they were. -/
theorem frame_reference : Cert.quiescent_ProjReferenceIdeal := fun m ρ _ =>
  (θ_run Cert.ProjReferenceIdeal.defs _ _).mono (fun r h => ⟨fun c => (h c).2.2.2,
      Idealize.ShloMosaic.sem_eq_zero_of_no_sems (by decide) r.2⟩)
    (Cert.ProjReferenceIdeal.Value.run (F := Ideal) m ρ)

/-- The kernel's results are the reference's. -/
theorem algebraic : Cert.algebraic_ProjIdeal_ProjReferenceIdeal := by
  intro m ρ m' ρ' _ hagree
  refine ⟨_, _, _, Kernel.run m ρ, ?_⟩
  refine (θ_run Cert.ProjReferenceIdeal.defs _ _).mono (fun _ h c => ?_) (Cert.ProjReferenceIdeal.Value.run (F := Ideal) m' ρ')
  obtain ⟨h0, h1, h2, h3, h4⟩ := hagree c
  refine ⟨(h c).1.trans ((Cert.ProjReferenceIdeal.Read.val_main_v32_eq _ _ _).trans ((reference_proj _ _ _).trans ?_)),
    (h c).2.1.trans ((Cert.ProjReferenceIdeal.Read.val_main_v33_eq _ _).trans ((reference_gates _ _ _ _ _).trans ?_)),
    (h c).2.2.1.trans ((Cert.ProjReferenceIdeal.Read.val_main_v34_eq _ _).trans ((reference_gatesT _ _ _ _ _).trans ?_)), (h c).2.2.2⟩
  · rw [h0, h1, h2]
  · rw [h0, h1, h2, h3, h4]
  · rw [h0, h1, h2, h3, h4]

end Claim
end Proj
end
-- ==== Proof.Query.Claim.lean ====
/-
  The claims about the stick-breaking queries: the kernel's result is the reference's, with no precondition.
-/
module

public import proofs.«01_k».proof.Defs
public import proofs.«01_k».proof.Proof.Gen.QueryIdeal.Value
public import proofs.«01_k».proof.Proof.Gen.QueryReferenceIdeal.Read
public import proofs.«01_k».proof.Proof.Gen.QueryReferenceIdeal.Run
public import proofs.«01_k».proof.Proof.Rows
public import Idealize.ShloMosaic.Lib.StableHlo.ReadAt
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem

namespace Query

/-- The call's result: the rows, normalised, through the projection. -/
def G (x0 : Vec Ideal ⟨2, ![17408, 1024]⟩ .f32) (x1 : Vec Ideal ⟨1, ![1024]⟩ .f32) (x2 : Vec Ideal ⟨2, ![1024, 1024]⟩ .f32) :
    Vec Ideal ⟨2, ![17408, 1024]⟩ .f32 := fun y =>
  ∑ j : Fin 1024, Rows.rms (fun k => x0 (ix2 (y 0) k)) (fun k => x1 (ix1 k)) j * x2 (ix2 j (y 1))

section
open Cert.QueryIdeal Cert.QueryIdeal.Gen
open Idealize.ShloMosaic.Pipeline (Dat)

namespace Kernel

variable (m : (ℓ : Loc nD τ sig) → Buf (Elt Ideal) ℓ)

theorem pay1 (x : Vec Ideal S1024x1024 .f32) (g : Vec Ideal S1x1024 .f32) (r k : Fin 1024) :
    k0_pay1 (F := Ideal) x g (ix2 r k) = Rows.rms (fun k => x (ix2 r k)) (fun k => g (ix2 0 k)) k := by
  pointwise [k0_pay1]
  rfl

theorem pay2 (h w : Vec Ideal S1024x1024 .bf16) (r k : Fin 1024) :
    k0_pay2 (F := Ideal) h w (ix2 r k) = ∑ j : Fin 1024, h (ix2 r j) * w (ix2 j k) := by
  pointwise [k0_pay2]

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem hv0 (c : Dev nD) (j k : Fin 1024) : V m c main_v0 (ix2 j k) = m ((c : Thread nD τ).loc main_arg2) (ix2 j k) := by
  unfold V
  after_reads_at
theorem hv1 (c : Dev nD) (k : Fin 1024) : V m c main_v1 (ix2 0 k) = m ((c : Thread nD τ).loc main_arg1) (ix1 k) := by
  unfold V
  after_reads_at

theorem b0 (c : Dev nD) (t : Fin cfg0.N) (r k : Fin 1024) :
    iblk m c 0 t (ix2 r k) = m ((c : Thread nD τ).loc main_arg0) (ix2 ⟨1024 * t.val + r, by have : t.val < 17 := t.isLt; omega⟩ k) := by
  blk_ext [iblk, V, idx t]
theorem b1 (c : Dev nD) (t : Fin cfg0.N) (k : Fin 1024) :
    iblk m c 1 t (ix2 0 k) = m ((c : Thread nD τ).loc main_arg1) (ix1 k) := by
  rw [← hv1 m c]
  blk_ext [iblk, idx t]
theorem b2 (c : Dev nD) (t : Fin cfg0.N) (j k : Fin 1024) :
    iblk m c 2 t (ix2 j k) = m ((c : Thread nD τ).loc main_arg2) (ix2 j k) := by
  rw [← hv0 m c]
  blk_ext [iblk, idx t]

/-- The kernel's result as a function of the launch's arrays. -/
def R (c : Dev nD) : Vec Ideal S17408x1024 .f32 :=
  G (m ((c : Thread nD τ).loc main_arg0)) (m ((c : Thread nD τ).loc main_arg1)) (m ((c : Thread nD τ).loc main_arg2))

/-- The array after the run. -/
theorem final (c : Dev nD) : (dats m 0 c).arrAt 3 cfg0.N = R m c := by
  refine (dats m 0 c).arrAt_eq_of_covers 3 _ (by decide +kernel) fun t hf y => ?_
  blk_simp
  rw [after0_3]
  obtain ⟨r, k, hy⟩ : ∃ (r k : Fin 1024), y = ix2 r k := ⟨y 0, y 1, eq_ix2 y⟩
  subst hy
  have hi : (win0_3.blk t).view.emb (ix2 r k) = ix2 ⟨1024 * t.val + r.val, by have : t.val < 17 := t.isLt; omega⟩ k := by
    blk_point [idx t]
  rw [hi]
  have e : outsAt0 m c t = k0_pay2 (k0_pay1 (iblk m c 0 t) (iblk m c 1 t)) (iblk m c 2 t) := by
    unfold outsAt0
    frame_out
  rw [e, pay2]
  simp only [pay1, b0, b1, b2]
  rfl

end Kernel
end

namespace Claim

section
open Cert.QueryReferenceIdeal Cert.QueryReferenceIdeal.Read

/-- The reference's result. -/
theorem reference_eq (x0 : Vec Ideal S17408x1024 .f32) (x1 : Vec Ideal S1024 .f32) (x2 : Vec Ideal S1024x1024 .f32) :
    val_main_v13 (F := Ideal) x0 x1 x2 = G x0 x1 x2 := by
  funext y
  obtain ⟨r, k, hy⟩ : ∃ (r : Fin 17408) (k : Fin 1024), y = ix2 r k := ⟨y 0, y 1, eq_ix2 y⟩
  subst hy
  pointwise [val_main_v0, val_main_v1, val_main_cst, val_main_v2, val_main_v3, val_main_cst_0, val_main_v4, val_main_v5,
    val_main_cst_1, val_main_v6, val_main_v7, val_main_v8, val_main_v9, val_main_v10, val_main_v11, val_main_v12, val_main_v13]
  rfl
end

/-- The reference runs and leaves its arguments and the semaphores as they were. -/
theorem frame_reference : Cert.quiescent_QueryReferenceIdeal := fun m ρ _ =>
  (θ_run Cert.QueryReferenceIdeal.defs _ _).mono (fun r h => ⟨fun c => (h c).2,
      Idealize.ShloMosaic.sem_eq_zero_of_no_sems (by decide) r.2⟩)
    (Cert.QueryReferenceIdeal.Value.run (F := Ideal) m ρ)

/-- The reference's result over contents that hold the kernel's arguments. -/
theorem reference_value {m} {c : Dev Cert.QueryIdeal.nD} (m' : (ℓ : Loc Cert.QueryReferenceIdeal.nD Cert.QueryReferenceIdeal.τ Cert.QueryReferenceIdeal.sig) → Buf (Elt Ideal) ℓ)
    (h : m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)
      ∧ m' ((c.tc : Thread Cert.QueryReferenceIdeal.nD Cert.QueryReferenceIdeal.τ).loc Cert.QueryReferenceIdeal.main_arg2) = m ((c.tc : Thread Cert.QueryIdeal.nD Cert.QueryIdeal.τ).loc Cert.QueryIdeal.main_arg2)) :
    Cert.QueryReferenceIdeal.Read.val_main_v13 (F := Ideal) (m' ((c.tc : Thread Cert.QueryReferenceIdeal.nD Cert.QueryReferenceIdeal.τ).loc Cert.QueryReferenceIdeal.main_arg0))
        (m' ((c.tc : Thread Cert.QueryReferenceIdeal.nD Cert.QueryReferenceIdeal.τ).loc Cert.QueryReferenceIdeal.main_arg1))
        (m' ((c.tc : Thread Cert.QueryReferenceIdeal.nD Cert.QueryReferenceIdeal.τ).loc Cert.QueryReferenceIdeal.main_arg2))
      = Kernel.R m c := by
  obtain ⟨h0, h1, h2⟩ := h
  rw [h0, h1, h2]
  exact reference_eq _ _ _

/-- The kernel's result is the reference's. -/
theorem algebraic : Cert.algebraic_QueryIdeal_QueryReferenceIdeal := by
  intro m ρ m' ρ' _ hagree
  refine ⟨fun c => Kernel.R m c, ?_, ?_⟩
  · exact (θ_run Cert.QueryIdeal.defs _ _).mono (fun _ h c => ⟨(h c).1.trans (Kernel.final m c), (h c).2⟩)
      (Cert.QueryIdeal.Value.run_blocks (F := Ideal) m ρ)
  · exact (θ_run Cert.QueryReferenceIdeal.defs _ _).mono
      (fun _ h c => ⟨(h c).1.trans (Cert.QueryReferenceIdeal.Read.val_main_v13_eq _ _ _ |>.trans (reference_value m' (hagree c))),
        (h c).2⟩)
      (Cert.QueryReferenceIdeal.Value.run (F := Ideal) m' ρ')

end Claim
end Query
end
-- ==== Proof.Stick.Row.lean ====
/-
  A row of the prompt group's stick-breaking kernel: what one visit of a key tile computes of it, head by head.
-/
module

public import proofs.«01_k».proof.Proof.Gen.StickIdeal.Flash
public import proofs.«01_k».proof.Proof.Rows
public import Idealize.ShloMosaic.Lib.StableHlo.ReadAt
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem Cert.StickIdeal Cert.StickIdeal.Gen
namespace Stick

/-- One over the logarithm of two. -/
def perLog : EReal := (((Real.log 2)⁻¹ : ℝ) : EReal)

/-- An eighth of that. -/
def perLog8 : EReal := (((8 * Real.log 2)⁻¹ : ℝ) : EReal)

theorem log2e_eq (b) : Named.named (F := Ideal) (φ := .f32) Cert.StickIdeal.κ "log2e" b = perLog := rfl
theorem scale_eq (b) : Named.named (F := Ideal) (φ := .f32) Cert.StickIdeal.κ "scale" b = perLog8 := rfl

/-- The softplus of a logit, in base two. -/
def soft (z : EReal) : EReal :=
  max z 0 + Ideal.log (1 + FloatOps.exp2 (F := Ideal) (φ := .f32) (0 - FloatOps.absf (F := Ideal) (φ := .f32) z)) * perLog

/-- The logits of a row with the 256 keys of a tile, on the head `a` of four. -/
def logit (a : ℕ) (q : Fin 256 → EReal) (k : Fin 256 → Fin 256 → EReal) (b : EReal) (x : Fin 256) : EReal :=
  ∑ j : Fin 256, (if j.val / 64 = a then q j * perLog8 * k j x else 0) + b * perLog

/-- What a row has passed from a key of the tile on. -/
def passed (z : Fin 256 → EReal) (m : Fin 256 → BitVec 1) (u : Fin 256 → Fin 256 → EReal) (run : EReal) (x : Fin 256) : EReal :=
  run + ∑ y : Fin 256, Scalar.select (m y) (soft (z y) * u y x) 0

/-- What a head adds to a row. -/
def adds (a : ℕ) (z : Fin 256 → EReal) (m : Fin 256 → BitVec 1) (u v : Fin 256 → Fin 256 → EReal) (run : EReal) (l : Fin 256) : EReal :=
  ∑ x : Fin 256, if l.val / 64 = a then Scalar.select (m x) (FloatOps.exp2 (F := Ideal) (φ := .f32) (z x - passed z m u run x) * v l x) 0 else 0

theorem sel (a : Fin 4) (j : Fin 256) (p : EReal) :
    Scalar.select (IntOp.cmpi .eq (IntOp.shrui .vector (BitVec.ofNat 32 j.val) 6#32) (BitVec.ofNat 32 a.val)) p 0 = if j.val / 64 = a.val then p else 0 := by
  have e : ∀ (a : Fin 4) (j : Fin 256), IntOp.cmpi .eq (IntOp.shrui .vector (BitVec.ofNat 32 j.val) 6#32) (BitVec.ofNat 32 a.val) = if j.val / 64 = a.val then 1#1 else 0#1 := by decide +kernel
  rw [e]
  split <;> rfl

theorem sel0 (j : Fin 256) (p : EReal) :
    Scalar.select (IntOp.cmpi .eq (IntOp.shrui .vector (BitVec.ofNat 32 j.val) 6#32) 0#32) p 0 = if j.val / 64 = 0 then p else 0 := sel 0 j p
theorem sel1 (j : Fin 256) (p : EReal) :
    Scalar.select (IntOp.cmpi .eq (IntOp.shrui .vector (BitVec.ofNat 32 j.val) 6#32) 1#32) p 0 = if j.val / 64 = 1 then p else 0 := sel 1 j p
theorem sel2 (j : Fin 256) (p : EReal) :
    Scalar.select (IntOp.cmpi .eq (IntOp.shrui .vector (BitVec.ofNat 32 j.val) 6#32) 2#32) p 0 = if j.val / 64 = 2 then p else 0 := sel 2 j p
theorem sel3 (j : Fin 256) (p : EReal) :
    Scalar.select (IntOp.cmpi .eq (IntOp.shrui .vector (BitVec.ofNat 32 j.val) 6#32) 3#32) p 0 = if j.val / 64 = 3 then p else 0 := sel 3 j p

section
variable (q : Vec Ideal S1024x256 .f32) (k v : Vec Ideal S1x256x256 .f32) (u : Vec Ideal S256x256 .bf16) (m : IVec S1024x256 1)
  (b : Elt Ideal .f32) (acc : FVec Ideal S1024x256 .f32) (run : Vec Ideal S1x1024x1 .f32) (r : Fin 1024) (l : Fin 256)

/-- The logits of a row of the blocks. -/
abbrev lg (a : ℕ) : Fin 256 → EReal := logit a (fun j => q (ix2 r j)) (fun j x => k (ix3 0 j x)) b

theorem z0 (x : Fin 256) : k0_pay10 (F := Ideal) k0_pay127 q k b (ix2 r x) = lg q k b r 0 x := by
  pointwise [k0_pay10, k0_pay6, k0_pay7, k0_pay127]
  simp only [sel0, log2e_eq, scale_eq]
  rfl
theorem z1 (x : Fin 256) : k0_pay15 (F := Ideal) (k0_pay7 k) (k0_pay14 k0_pay127 (k0_pay6 q)) b (ix2 r x) = lg q k b r 1 x := by
  pointwise [k0_pay14, k0_pay15, k0_pay6, k0_pay7, k0_pay127]
  simp only [sel1, log2e_eq, scale_eq]
  rfl
theorem z2 (x : Fin 256) : k0_pay19 (F := Ideal) k0_pay127 (k0_pay6 q) (k0_pay7 k) b (ix2 r x) = lg q k b r 2 x := by
  pointwise [k0_pay19, k0_pay6, k0_pay7, k0_pay127]
  simp only [sel2, log2e_eq, scale_eq]
  rfl
theorem z3 (x : Fin 256) : k0_pay24 (F := Ideal) k0_pay127 (k0_pay6 q) (k0_pay7 k) b (ix2 r x) = lg q k b r 3 x := by
  pointwise [k0_pay24, k0_pay6, k0_pay7, k0_pay127]
  simp only [sel3, log2e_eq, scale_eq]
  rfl

/-- What a head of the blocks adds to a row. -/
abbrev ad (a : ℕ) (z : Fin 256 → EReal) : EReal := adds a z (fun x => m (ix2 r x)) (fun y x => u (ix2 y x)) (fun l x => v (ix3 0 l x)) (run (ix3 0 r 0)) l

theorem h0 : k0_pay12 (F := Ideal) k0_pay128 (k0_pay8 v) u m acc (k0_pay10 k0_pay127 q k b) run (ix2 r l) = acc (ix2 r l) + ad v u m run r l 0 (lg q k b r 0) := by
  have e : (fun x => lg q k b r 0 x) = fun x => k0_pay10 (F := Ideal) k0_pay127 q k b (ix2 r x) := funext fun x => (z0 q k b r x).symm
  rw [show lg q k b r 0 = _ from e]
  generalize k0_pay10 (F := Ideal) k0_pay127 q k b = z
  pointwise [k0_pay12, k0_pay11, k0_pay8, k0_pay128]
  simp only [sel0, log2e_eq]
  rfl
theorem h1 : k0_pay17 (F := Ideal) k0_pay128 (k0_pay7 k) (k0_pay8 v) u m acc (k0_pay14 k0_pay127 (k0_pay6 q)) b run (ix2 r l) = acc (ix2 r l) + ad v u m run r l 1 (lg q k b r 1) := by
  have e : (fun x => lg q k b r 1 x) = fun x => k0_pay15 (F := Ideal) (k0_pay7 k) (k0_pay14 k0_pay127 (k0_pay6 q)) b (ix2 r x) := funext fun x => (z1 q k b r x).symm
  rw [show lg q k b r 1 = _ from e]
  generalize k0_pay7 (F := Ideal) k = k, k0_pay14 (F := Ideal) k0_pay127 (k0_pay6 q) = w
  pointwise [k0_pay17, k0_pay16, k0_pay8, k0_pay128]
  simp only [sel1, log2e_eq]
  rfl
theorem h2 : k0_pay22 (F := Ideal) k0_pay128 (k0_pay8 v) m acc (k0_pay21 k0_pay127 (k0_pay6 q) (k0_pay7 k) u m b run) (ix2 r l) = acc (ix2 r l) + ad v u m run r l 2 (lg q k b r 2) := by
  have e : (fun x => lg q k b r 2 x) = fun x => k0_pay19 (F := Ideal) k0_pay127 (k0_pay6 q) (k0_pay7 k) b (ix2 r x) := funext fun x => (z2 q k b r x).symm
  rw [show lg q k b r 2 = _ from e]
  generalize k0_pay7 (F := Ideal) k = k, k0_pay6 (F := Ideal) q = q, k0_pay127 = w
  pointwise [k0_pay22, k0_pay21, k0_pay20, k0_pay8, k0_pay128]
  simp only [sel2, log2e_eq]
  rfl
theorem h3 : k0_pay131 (F := Ideal) (k0_pay8 v) u m acc (k0_pay24 k0_pay127 (k0_pay6 q) (k0_pay7 k) b) (k0_pay25 run) (k0_pay26 k0_pay127 (k0_pay6 q) (k0_pay7 k) b)
    (k0_pay27 k0_pay127 (k0_pay6 q) (k0_pay7 k) b) k0_pay28 (ix2 r l) = acc (ix2 r l) + ad v u m run r l 3 (lg q k b r 3) := by
  have e : (fun x => lg q k b r 3 x) = fun x => k0_pay24 (F := Ideal) k0_pay127 (k0_pay6 q) (k0_pay7 k) b (ix2 r x) := funext fun x => (z3 q k b r x).symm
  rw [show lg q k b r 3 = _ from e]
  generalize k0_pay7 (F := Ideal) k = k, k0_pay6 (F := Ideal) q = q, k0_pay127 = w
  pointwise [k0_pay131, k0_pay129, k0_pay8, k0_pay128, k0_pay25, k0_pay26, k0_pay27, k0_pay28]
  simp only [sel3, log2e_eq]
  rfl
end
end Stick
end
-- ==== Proof.Stick.Grid.lean ====
/-
  The steps of the stick-breaking kernel's grid: which branch a step takes, which tiles it reads and where it writes.
-/
module

public import proofs.«01_k».proof.Proof.Stick.Row
@[expose] public section
set_option maxRecDepth 16384
noncomputable section
open Idealize.ShloMosaic Idealize.ShloMosaic.TcCoe Idealize.SL.Sem Cert.StickIdeal Cert.StickIdeal.Gen
namespace Stick

/-- The block of queries of a point. -/
abbrev word0 (ch : Fin 1) (t : Fin (cfgA ch).N) : BitVec 32 :=
  View.readAt (Elt Ideal) (tbM0_0).view (Rect.unit (s := S40) (k0_off1 (crd ch t)) S1.size (k0_off1_inb (crd ch t))).toLoadRect (pinT_0 ch) (Shape.Idx.first (numel1_S1.symm ▸ Nat.one_pos))

/-- The tile of keys of a point. -/
abbrev word1 (ch : Fin 1) (t : Fin (cfgA ch).N) : BitVec 32 :=
  View.readAt (Elt Ideal) (tbM0_1).view (Rect.unit (s := S40) (k0_off1 (crd ch t)) S1.size (k0_off1_inb (crd ch t))).toLoadRect (pinT_1 ch) (Shape.Idx.first (numel1_S1.symm ▸ Nat.one_pos))

/-- Where a block's result is written back. -/
theorem flushes : ∀ (t : Fin (cfgA 0).N), ((cfgA 0).win (5 : Fin 6)).flush t = true →
    ((cfgA 0).win (5 : Fin 6)).index t (0 : Fin 2) % 4 = 0 → t.val % 40 = 3 := by decide +kernel

/-- The first points of a block. -/
theorem firsts : ∀ (t : Fin (cfgA 0).N), (t.val % 40 = 0 → P0_0 0 t) ∧ (t.val % 40 = 1 → ¬P0_0 0 t ∧ ¬P0_1 0 t ∧ ¬P0_3 0 t ∧ P0_4 0 t)
    ∧ (t.val % 40 = 2 → ¬P0_0 0 t ∧ ¬P0_1 0 t ∧ P0_3 0 t) ∧ (t.val % 40 = 3 → ¬P0_0 0 t ∧ P0_1 0 t ∧ P0_2 0 t) := by decide +kernel

/-- The words and the places of a fourth point. -/
theorem fourth : ∀ (t : Fin (cfgA 0).N), t.val % 40 = 3 → word0 0 t = 0#32 ∧ word1 0 t = 0#32
    ∧ (k0_off2 (crd 0 t) 0#32 0 = 4 * (t.val % 160 / 40) ∧ k0_off2 (crd 0 t) 1#32 0 = 4 * (t.val % 160 / 40) + 1
      ∧ k0_off2 (crd 0 t) 2#32 0 = 4 * (t.val % 160 / 40) + 2 ∧ k0_off2 (crd 0 t) 3#32 0 = 4 * (t.val % 160 / 40) + 3) := by decide +kernel

theorem places : ∀ (t : Fin (cfgA 0).N), t.val % 40 = 3 →
    ((cfgA 0).win (0 : Fin 6)).index t = ![0] ∧ ((cfgA 0).win (1 : Fin 6)).index t = ![4 * (t.val / 160), t.val % 160 / 40]
    ∧ ((cfgA 0).win (2 : Fin 6)).index t = ![t.val / 160, t.val % 160 / 40, 0] ∧ ((cfgA 0).win (3 : Fin 6)).index t = ![t.val / 160, t.val % 160 / 40, 0]
    ∧ ((cfgA 0).win (4 : Fin 6)).index t = ![0, 0] ∧ ((cfgA 0).win (5 : Fin 6)).index t = ![4 * (t.val / 160), t.val % 160 / 40] := by decide +kernel

theorem covers : ((cfgA 0).win (5 : Fin 6)).Covers := by decide +kernel

theorem less (r x : Fin 256) : IntOp.cmpi CmpIPredicate.slt (BitVec.ofNat 32 x.val) (BitVec.ofNat 32 r.val) = if x.val < r.val then 1#1 else 0#1 := by
  have h : (BitVec.ofNat 32 x.val).slt (BitVec.ofNat 32 r.val) = decide (x.val < r.val) := by
    have hx := x.isLt
    have hr := r.isLt
    rw [BitVec.slt, BitVec.toInt_eq_toNat_of_lt (by rw [BitVec.toNat_ofNat]; omega), BitVec.toInt_eq_toNat_of_lt (by rw [BitVec.toNat_ofNat]; omega), BitVec.toNat_ofNat, BitVec.toNat_ofNat,
      Nat.mod_eq_of_lt (by omega), Nat.mod_eq_of_lt (by omega)]
    simp
  unfold IntOp.cmpi
  simp only [h]
  by_cases hh : x.val < r.val <;> simp [hh] <;> rfl

theorem mask0 (r x : Fin 256) (r' : Fin 1024) (h : r'.val = r.val) : k0_pay9 (F := Ideal) 0#32 0#32 (ix2 r' x) = if x.val < r.val then 1#1 else 0#1 := by
  pointwise [k0_pay9]
  rw [h, ← less r x]
  exact congrArg₂ (IntOp.cmpi CmpIPredicate.slt) (BitVec.add_zero _) (BitVec.add_zero _)
end Stick
end
-- ==== Proof.Stick.Point.lean ====
/-
  The first four steps of a block of query rows. The first three leave the rows of the first 256 positions empty; after the
  fourth, on the diagonal, each of these rows holds the sum of its four heads.
-/
module

public import proofs.«01_k».proof.Proof.Stick.Grid
@[expose] public section
set_option maxRecDepth 16384
noncomputable section
open Idealize.ShloMosaic Idealize.ShloMosaic.TcCoe Idealize.SL.Sem Cert.StickIdeal Cert.StickIdeal.Gen
namespace Stick
variable (ch : Fin 1) (m : (ℓ : Loc nD τ sig) → Buf (Elt Ideal) ℓ) (ρ : Dev nD → PrngReg) (c : Dev nD) (t : Fin (cfgA ch).N)

abbrev State (c : Dev nD) := (S1024x256.Idx → Elt Ideal .f32) × Buf (Elt Ideal) ((c : Thread nD τ).loc cc0_scratch0) × Buf (Elt Ideal) ((c : Thread nD τ).loc cc0_scratch1)

/-- The first 256 rows of a state are empty. -/
def Empty (s : State c) : Prop := (∀ (r : Fin 1024), r.val < 256 → ∀ l : Fin 256, s.2.1 (ix2 r l) = (0 : EReal)) ∧ ∀ (a : Fin 4) (r : Fin 1024), r.val < 256 → s.2.2 (ix3 a r 0) = (0 : EReal)

theorem emptyC (prev : State c) (q0 : ¬P0_0 ch t) (q1 : ¬P0_1 ch t) (q2 : P0_3 ch t) (h : Empty c prev) : Empty c (step0 ch m ρ c t prev) := by
  rw [step0_C ch m ρ c t prev q0 q1 q2]
  refine ⟨fun r hr l => ?_, fun a r hr => ?_⟩
  · dsimp only [kernelRun0_C]
    refine Eq.trans (congrFun (View.read_whole (Val := Elt Ideal) cc0_scratch0 _).symm (ix2 r l)) ?_
    rw [View.read_writes_cons_miss_of_axis _ _ _ _ _ (0 : Fin 2) 256 768 rfl rfl rfl (Or.inl hr)]
    exact h.1 r hr l
  · dsimp only [kernelRun0_C]
    refine Eq.trans (congrFun (View.read_whole (Val := Elt Ideal) cc0_scratch1 _).symm (ix3 a r 0)) ?_
    iterate 4 rw [View.read_writes_cons_miss_of_axis _ _ _ _ _ (1 : Fin 3) 256 768 rfl rfl rfl (Or.inl hr)]
    exact h.2 a r hr
theorem emptyB (prev : State c) (q0 : ¬P0_0 ch t) (q1 : ¬P0_1 ch t) (q2 : ¬P0_3 ch t) (q3 : P0_4 ch t) (h : Empty c prev) : Empty c (step0 ch m ρ c t prev) := by
  rw [step0_B ch m ρ c t prev q0 q1 q2 q3]
  refine ⟨fun r hr l => ?_, fun a r hr => ?_⟩
  · dsimp only [kernelRun0_B]
    refine Eq.trans (congrFun (View.read_whole (Val := Elt Ideal) cc0_scratch0 _).symm (ix2 r l)) ?_
    rw [View.read_writes_cons_miss_of_axis _ _ _ _ _ (0 : Fin 2) 512 512 rfl rfl rfl (Or.inl (by show r.val < 512; omega))]
    exact h.1 r hr l
  · dsimp only [kernelRun0_B]
    refine Eq.trans (congrFun (View.read_whole (Val := Elt Ideal) cc0_scratch1 _).symm (ix3 a r 0)) ?_
    iterate 4 rw [View.read_writes_cons_miss_of_axis _ _ _ _ _ (1 : Fin 3) 512 512 rfl rfl rfl (Or.inl (by show r.val < 512; omega))]
    exact h.2 a r hr
theorem emptyA (prev : State c) (q0 : P0_0 ch t) : Empty c (step0 ch m ρ c t prev) := by
  rw [step0_A ch m ρ c t prev q0]
  refine ⟨fun r hr l => ?_, fun a r hr => ?_⟩
  · dsimp only [kernelRun0_A]
    unfold kernelRun0_A.sl.HS0_2 kernelRun0_A.sl.HS0_1
    refine Eq.trans (congrFun (View.read_whole (Val := Elt Ideal) cc0_scratch0 _).symm (ix2 r l)) ?_
    rw [View.read_writes_cons_miss_of_axis _ _ _ _ _ (0 : Fin 2) 768 256 rfl rfl rfl (Or.inl (by show r.val < 768; omega)),
      View.read_writes_cons_hit_of_coords _ _ _ _ _ (ix2 r l) (ix2 r l) (fun a => by fin_cases a <;> simp [Rect.unit])]
    pointwise [k0_pay125]
  · dsimp only [kernelRun0_A]
    unfold kernelRun0_A.sl.HS1_5 kernelRun0_A.sl.HS1_4 kernelRun0_A.sl.HS1_3 kernelRun0_A.sl.HS1_2 kernelRun0_A.sl.HS1_1
    refine Eq.trans (congrFun (View.read_whole (Val := Elt Ideal) cc0_scratch1 _).symm (ix3 a r 0)) ?_
    iterate 4 rw [View.read_writes_cons_miss_of_axis _ _ _ _ _ (1 : Fin 3) 768 256 rfl rfl rfl (Or.inl (by show r.val < 768; omega))]
    rw [View.read_writes_cons_hit_of_coords _ _ _ _ _ (ix3 a r 0) (ix3 a r 0) (fun a => by fin_cases a <;> simp [Rect.unit])]
    pointwise [k0_pay126]

/-- The word of a head's bias. -/
def biasAt (t : Fin (cfgA ch).N) (a : Fin 4) : EReal :=
  iblk ch m ρ c 0 t ((Rect.unit (s := S16) (k0_off2 (crd ch t) (BitVec.ofNat 32 a.val)) ![1] (k0_off2_inb (crd ch t) a)).emb (Shape.Idx.first (numel1_S1.symm ▸ Nat.one_pos)))

/-- The sum of a head at a point, the row's running sum being nothing. -/
abbrev headAt (t : Fin (cfgA ch).N) (r : Fin 1024) (l : Fin 256) (a : Fin 4) : EReal :=
  adds a.val (lg (iblk ch m ρ c 1 t) (iblk ch m ρ c 2 t) (biasAt ch m ρ c t a) r a.val) (fun x => k0_pay9 (F := Ideal) (word0 ch t) (word1 ch t) (ix2 r x))
    (fun y x => iblk ch m ρ c 4 t (ix2 y x)) (fun l x => iblk ch m ρ c 3 t (ix3 0 l x)) 0 l

theorem lastD (prev : State c) (q0 : ¬P0_0 ch t) (q1 : P0_1 ch t) (q2 : P0_2 ch t) (he : Empty c prev) (r : Fin 1024) (hr : r.val < 256) (l : Fin 256) :
    (step0 ch m ρ c t prev).1 (ix2 r l) = 0 + headAt ch m ρ c t r l 0 + headAt ch m ρ c t r l 1 + headAt ch m ρ c t r l 2 + headAt ch m ρ c t r l 3 := by
  rw [step0_D ch m ρ c t prev q0 q1 q2]
  frame_out
  simp only [View.read_rep]
  rw [h3, h2, h1, h0]
  have hrun : ∀ (a : Fin 4) (inb), View.ld (Val := Elt Ideal) (View.read (Elt Ideal) (View.whole cc0_scratch1) prev.2.2) (Rect.unit (s := S4x1024x1) ![a.val, 0, 0] ![1, 1024, 1] inb) (ix3 0 r 0) = (0 : EReal) := fun a inb => by
    have e : (Rect.unit (s := S4x1024x1) ![a.val, 0, 0] ![1, 1024, 1] inb).emb (ix3 0 r 0) = ix3 a r 0 := by
      funext i
      fin_cases i <;> exact Fin.ext (by simp [Rect.emb, Rect.unit])
    exact (congrArg prev.2.2 e).trans (he.2 a r hr)
  have hacc : View.read (Elt Ideal) (View.whole cc0_scratch0) prev.2.1 (ix2 r l) = (0 : EReal) := he.1 r hr l
  rw [hacc]
  have step : ∀ (a : ℕ) (z : Fin 256 → EReal) (k : Fin 256 → BitVec 1) (u v : Fin 256 → Fin 256 → EReal) (s : EReal), s = 0 → adds a z k u v s l = adds a z k u v 0 l := by
    rintro a z k u v s rfl
    rfl
  exact congrArg₂ (· + ·) (congrArg₂ (· + ·) (congrArg₂ (· + ·) (congrArg (0 + ·) (step _ _ _ _ _ _ (hrun 0 _))) (step _ _ _ _ _ _ (hrun 1 _))) (step _ _ _ _ _ _ (hrun 2 _)))
    (step _ _ _ _ _ _ (hrun 3 _))

theorem emptyAt (t : Fin (cfgA 0).N) (h : t.val % 40 < 3) : Empty c (traj0 0 m ρ c t.val t.isLt) := by
  obtain ⟨n, hn⟩ := t
  have key : ∀ n (hn : n < (cfgA 0).N), n % 40 = 0 → Empty c (traj0 0 m ρ c n hn) := fun n hn h => by
    rw [traj0_eq 0 m ρ c ⟨n, hn⟩]
    exact emptyA 0 m ρ c ⟨n, hn⟩ _ ((firsts ⟨n, hn⟩).1 h)
  have key1 : ∀ n (hn : n < (cfgA 0).N), n % 40 = 1 → Empty c (traj0 0 m ρ c n hn) := fun n hn h => by
    rw [traj0_eq 0 m ρ c ⟨n, hn⟩]
    have q := (firsts ⟨n, hn⟩).2.1 h
    refine emptyB 0 m ρ c ⟨n, hn⟩ _ q.1 q.2.1 q.2.2.1 q.2.2.2 ?_
    unfold prev0
    rw [dif_neg (show ¬n = 0 by omega)]
    exact key (n - 1) _ (by omega)
  have key2 : ∀ n (hn : n < (cfgA 0).N), n % 40 = 2 → Empty c (traj0 0 m ρ c n hn) := fun n hn h => by
    rw [traj0_eq 0 m ρ c ⟨n, hn⟩]
    have q := (firsts ⟨n, hn⟩).2.2.1 h
    refine emptyC 0 m ρ c ⟨n, hn⟩ _ q.1 q.2.1 q.2.2 ?_
    unfold prev0
    rw [dif_neg (show ¬n = 0 by omega)]
    exact key1 (n - 1) _ (by omega)
  have : n % 40 = 0 ∨ n % 40 = 1 ∨ n % 40 = 2 := by have : n % 40 < 3 := h; omega
  rcases this with h | h | h
  · exact key n hn h
  · exact key1 n hn h
  · exact key2 n hn h

/-- The first 256 rows of what a fourth point leaves. -/
theorem fourthAt (t : Fin (cfgA 0).N) (h : t.val % 40 = 3) (r : Fin 1024) (hr : r.val < 256) (l : Fin 256) :
    (traj0 0 m ρ c t.val t.isLt).1 (ix2 r l) = 0 + headAt 0 m ρ c t r l 0 + headAt 0 m ρ c t r l 1 + headAt 0 m ρ c t r l 2 + headAt 0 m ρ c t r l 3 := by
  rw [traj0_eq 0 m ρ c t]
  have q := (firsts t).2.2.2 h
  refine lastD 0 m ρ c t _ q.1 q.2.1 q.2.2 ?_ r hr l
  unfold prev0
  rw [dif_neg (show ¬t.val = 0 by omega)]
  exact emptyAt m ρ c ⟨t.val - 1, by have := t.isLt; omega⟩ (show (t.val - 1) % 40 < 3 by omega)
end Stick
end
-- ==== Proof.Stick.Spec.lean ====
/-
  Stick-breaking attention over the reals: the weights of a row, and that the kernel's base-two form computes them.
-/
module

public import proofs.«01_k».proof.Proof.Stick.Row
@[expose] public section
noncomputable section
open Idealize.ShloMosaic
namespace Stick

/-- The softplus. -/
def plus (z : ℝ) : ℝ := Real.log (1 + Real.exp z)

/-- The weight of a key for the row `r`: its own stick, broken after those between. -/
def weight {n : ℕ} (z : Fin n → ℝ) (r : ℕ) (x : Fin n) : ℝ :=
  if x.val < r then Real.exp (-(plus (-z x)) - ∑ y : Fin n, if x.val < y.val ∧ y.val < r then plus (z y) else 0) else 0

/-- The values, weighted. -/
def mixed {n : ℕ} (z : Fin n → ℝ) (v : Fin n → EReal) (r : ℕ) : EReal := ∑ x : Fin n, ((weight z r x : ℝ) : EReal) * v x

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem log2_pos : 0 < Real.log 2 := Real.log_pos (by norm_num)

theorem exp2_coe (w : ℝ) : FloatOps.exp2 (F := Ideal) (φ := .f32) ((w : ℝ) : EReal) = ((Real.exp (w * Real.log 2) : ℝ) : EReal) := by
  show ((Real.rpow 2 w : ℝ) : EReal) = _
  rw [show Real.rpow 2 w = (2 : ℝ) ^ w from rfl, Real.rpow_def_of_pos (by norm_num), mul_comm]

theorem log_coe (w : ℝ) (h : 0 < w) : Ideal.log ((w : ℝ) : EReal) = ((Real.log w : ℝ) : EReal) := by
  rw [Ideal.log_coe, if_neg (not_le.mpr h)]

theorem plus_neg (z : ℝ) : plus z = z + plus (-z) := by
  unfold plus
  have h : 1 + Real.exp z = Real.exp z * (1 + Real.exp (-z)) := by
    rw [mul_add, mul_one, ← Real.exp_add, add_neg_cancel, Real.exp_zero, add_comm]
  rw [h, Real.log_mul (Real.exp_pos _).ne' (by positivity), Real.log_exp]

theorem plus_abs (z : ℝ) : max z 0 + plus (-|z|) = plus z := by
  rcases le_total 0 z with h | h
  · rw [max_eq_left h, abs_of_nonneg h, ← plus_neg]
  · rw [max_eq_right h, abs_of_nonpos h, neg_neg, zero_add]

theorem coe_max (a b : ℝ) : ((max a b : ℝ) : EReal) = max (a : EReal) (b : EReal) := EReal.coe_strictMono.monotone.map_max

theorem soft_coe (z : ℝ) : soft ((((Real.log 2)⁻¹ * z : ℝ)) : EReal) = (((Real.log 2)⁻¹ * plus z : ℝ) : EReal) := by
  have hl := log2_pos
  have habs : FloatOps.absf (F := Ideal) (φ := .f32) ((((Real.log 2)⁻¹ * z : ℝ)) : EReal) = ((|(Real.log 2)⁻¹ * z| : ℝ) : EReal) := by
    show max (((((Real.log 2)⁻¹ * z : ℝ)) : EReal)) (-((((Real.log 2)⁻¹ * z : ℝ)) : EReal)) = _
    rw [← EReal.coe_neg, ← coe_max]
    rfl
  unfold soft
  rw [habs, zero_sub, ← EReal.coe_neg, exp2_coe, ← EReal.coe_one, ← EReal.coe_add, log_coe _ (by positivity), ← EReal.coe_zero, ← coe_max]
  unfold perLog
  rw [← EReal.coe_mul, ← EReal.coe_add, ← plus_abs z, abs_mul, abs_of_pos (inv_pos.mpr hl)]
  congr 1
  unfold plus
  have e : -((Real.log 2)⁻¹ * |z|) * Real.log 2 = -|z| := by field_simp
  rw [e, mul_add, mul_max_of_nonneg _ _ (inv_pos.mpr hl).le, mul_zero, mul_comm (Real.log (1 + Real.exp (-|z|)))]

theorem select_lt (p : Prop) [Decidable p] (a : EReal) : Scalar.select (if p then 1#1 else 0#1) a 0 = if p then a else 0 := by
  split <;> rfl

/-- What a head adds to one of the first 256 rows: the values it weighs. -/
theorem adds_coe (a : ℕ) (z : Fin 256 → ℝ) (u v : Fin 256 → Fin 256 → EReal) (r : ℕ) (l : Fin 256)
    (hu : ∀ y x, u y x = if x.val ≤ y.val then 1 else 0) :
    adds a (fun x => (((Real.log 2)⁻¹ * z x : ℝ) : EReal)) (fun x => if x.val < r then 1#1 else 0#1) u v 0 l
      = if l.val / 64 = a then mixed z (v l) r else 0 := by
  have hl := log2_pos
  have hp : ∀ x : Fin 256, passed (fun x => (((Real.log 2)⁻¹ * z x : ℝ) : EReal)) (fun x => if x.val < r then 1#1 else 0#1) u 0 x
      = (((Real.log 2)⁻¹ * ∑ y : Fin 256, (if x.val ≤ y.val ∧ y.val < r then plus (z y) else 0) : ℝ) : EReal) := fun x => by
    unfold passed
    rw [zero_add, Finset.mul_sum, ← coe_sum]
    refine Finset.sum_congr rfl fun y _ => ?_
    rw [select_lt, hu, soft_coe]
    by_cases h1 : y.val < r <;> by_cases h2 : x.val ≤ y.val <;> simp [h1, h2]
  unfold adds
  split
  · unfold mixed
    refine Finset.sum_congr rfl fun x _ => ?_
    rw [select_lt, hp, ← EReal.coe_sub, exp2_coe]
    unfold weight
    by_cases h : x.val < r
    · rw [if_pos h, if_pos h]
      congr 3
      have e : (∑ y : Fin 256, (if x.val ≤ y.val ∧ y.val < r then plus (z y) else 0))
          = plus (z x) + ∑ y : Fin 256, if x.val < y.val ∧ y.val < r then plus (z y) else 0 := by
        have e1 : ∀ y : Fin 256, (if x.val ≤ y.val ∧ y.val < r then plus (z y) else 0)
            = (if y = x then plus (z y) else 0) + if x.val < y.val ∧ y.val < r then plus (z y) else 0 := fun y => by
          by_cases hy : y = x
          · subst hy
            simp [h]
          · have : y.val ≠ x.val := fun e => hy (Fin.ext e)
            rw [if_neg hy, zero_add]
            exact if_congr (by omega) rfl rfl
        simp only [e1, Finset.sum_add_distrib]
        simp
      rw [e, plus_neg (z x)]
      field_simp
      ring
    · rw [if_neg h, if_neg h, EReal.coe_zero, zero_mul]
  · exact Finset.sum_const_zero

/-- A row's logits with the keys, over the reals. -/
def dots (q : Fin 64 → ℝ) (k : Fin 64 → ℝ) (b : ℝ) : ℝ := (∑ d, q d * k d) / 8 + b

theorem head_sum (a : Fin 4) (f : Fin 256 → ℝ) : (∑ j : Fin 256, if j.val / 64 = a.val then f j else 0) = ∑ d : Fin 64, f ⟨64 * a.val + d.val, by omega⟩ := by
  rw [← Finset.sum_filter]
  refine (Finset.sum_bij (fun (d : Fin 64) _ => (⟨64 * a.val + d.val, by omega⟩ : Fin 256)) ?_ ?_ ?_ ?_).symm
  · intro d _
    simp only [Finset.mem_filter, Finset.mem_univ, true_and]
    omega
  · intro d _ e _ h
    exact Fin.ext (by have := congrArg Fin.val h; simp only at this; omega)
  · intro j hj
    simp only [Finset.mem_filter, Finset.mem_univ, true_and] at hj
    exact ⟨⟨j.val - 64 * a.val, by omega⟩, Finset.mem_univ _, Fin.ext (by simp only; omega)⟩
  · intro d _
    rfl

theorem logit_coe (a : Fin 4) (q : Fin 256 → ℝ) (k : Fin 256 → Fin 256 → ℝ) (b : ℝ) (x : Fin 256) :
    logit a.val (fun j => (q j : EReal)) (fun j x => (k j x : EReal)) (b : EReal) x
      = (((Real.log 2)⁻¹ * dots (fun d => q ⟨64 * a.val + d.val, by omega⟩) (fun d => k ⟨64 * a.val + d.val, by omega⟩ x) b : ℝ) : EReal) := by
  have hl := log2_pos
  unfold logit perLog perLog8
  have e : ∀ j : Fin 256, (if j.val / 64 = a.val then (q j : EReal) * (((8 * Real.log 2)⁻¹ : ℝ) : EReal) * (k j x : EReal) else 0)
      = ((if j.val / 64 = a.val then q j * (8 * Real.log 2)⁻¹ * k j x else 0 : ℝ) : EReal) := fun j => by
    split
    · rw [← EReal.coe_mul, ← EReal.coe_mul]
    · rfl
  simp only [e]
  rw [coe_sum, ← EReal.coe_mul, ← EReal.coe_add, head_sum]
  congr 1
  unfold dots
  rw [mul_add, Finset.sum_div, Finset.mul_sum, mul_comm b]
  congr 1
  refine Finset.sum_congr rfl fun d _ => ?_
  field_simp
end Stick
end
-- ==== Proof.Stick.Ref.lean ====
/-
  The reference's result, element by element, over real arguments.
-/
module

public import proofs.«01_k».proof.Proof.Stick.Spec
public import proofs.«01_k».proof.Proof.Gen.StickReferenceIdeal.Read
public import Idealize.ShloMosaic.Lib.StableHlo.ReadAt
@[expose] public section
set_option maxRecDepth 16384
noncomputable section
open Idealize.ShloMosaic
namespace Stick
open Cert.StickReferenceIdeal Cert.StickReferenceIdeal.Read
namespace Reference

theorem less (r x : Fin 4096) : IntOp.cmpi CmpIPredicate.slt (BitVec.ofNat 32 x.val) (BitVec.ofNat 32 r.val) = if x.val < r.val then 1#1 else 0#1 := by
  have h : (BitVec.ofNat 32 x.val).slt (BitVec.ofNat 32 r.val) = decide (x.val < r.val) := by
    have hx := x.isLt
    have hr := r.isLt
    rw [BitVec.slt, BitVec.toInt_eq_toNat_of_lt (by rw [BitVec.toNat_ofNat]; omega), BitVec.toInt_eq_toNat_of_lt (by rw [BitVec.toNat_ofNat]; omega), BitVec.toNat_ofNat, BitVec.toNat_ofNat,
      Nat.mod_eq_of_lt (by omega), Nat.mod_eq_of_lt (by omega)]
    simp
  unfold IntOp.cmpi
  simp only [h]
  by_cases hh : x.val < r.val <;> simp [hh] <;> rfl

theorem greater (r x : Fin 4096) : IntOp.cmpi CmpIPredicate.sgt (BitVec.ofNat 32 r.val) (BitVec.ofNat 32 x.val) = if x.val < r.val then 1#1 else 0#1 := less r x

theorem one_of (p : Prop) [Decidable p] : FloatOps.uitofp (F := Ideal) FTy.f32 (if p then 1#1 else 0#1) = ((if p then 1 else 0 : ℝ) : EReal) := by
  split
  · show ((((1#1 : BitVec 1).toNat : ℝ)) : EReal) = _
    simp
  · show ((((0#1 : BitVec 1).toNat : ℝ)) : EReal) = _
    simp

theorem eighth : Ideal.ofBits FTy.f32 1040187392#32 = (((1 / 8 : ℝ)) : EReal) := by
  simp [Ideal.ofBits, Ideal.ieee]
  rw [← EReal.coe_mul]
  norm_num

theorem zero_const : id (constant (F := Ideal) S_ FTy.f32 0#32) ix0 = 0 := by
  show Ideal.ofBits FTy.f32 0#32 = 0
  simp [Ideal.ofBits, Ideal.ieee]

/-- Only the keys before a row weigh anything, so the first 256 do for the first 256 rows. -/
theorem sum_cut {M : Type} [AddCommMonoid M] (f : Fin 4096 → M) (h : ∀ x : Fin 4096, 256 ≤ x.val → f x = 0) : ∑ x, f x = ∑ x : Fin 256, f ⟨x.val, by omega⟩ := by
  rw [← Finset.sum_subset (Finset.filter_subset (fun x : Fin 4096 => x.val < 256) Finset.univ) fun x _ hx => h x (by
    simp only [Finset.mem_filter, Finset.mem_univ, true_and] at hx
    omega)]
  refine (Finset.sum_bij (fun (d : Fin 256) _ => (⟨d.val, by omega⟩ : Fin 4096)) ?_ ?_ ?_ ?_).symm
  · intro d _
    simp only [Finset.mem_filter, Finset.mem_univ, true_and]
    omega
  · intro d _ e _ h
    exact Fin.ext (by have := congrArg Fin.val h; simpa only using this)
  · intro j hj
    simp only [Finset.mem_filter, Finset.mem_univ, true_and] at hj
    exact ⟨⟨j.val, hj⟩, Finset.mem_univ _, rfl⟩
  · intro d _
    rfl

theorem mixed_cut (z : Fin 4096 → ℝ) (v : Fin 4096 → EReal) (r : ℕ) (hr : r ≤ 256) :
    mixed z v r = mixed (fun x : Fin 256 => z ⟨x.val, by omega⟩) (fun x => v ⟨x.val, by omega⟩) r := by
  unfold mixed
  rw [sum_cut _ fun x hx => by unfold weight; rw [if_neg (by omega), EReal.coe_zero, zero_mul]]
  refine Finset.sum_congr rfl fun x _ => ?_
  refine congrArg₂ (· * ·) (congrArg _ ?_) rfl
  unfold weight
  simp only
  rw [sum_cut _ fun y hy => if_neg (by omega)]

variable {x0 : (⟨S17408x1024, .f32⟩ : BufTy).Contents (Elt Ideal)} {x1 x2 : (⟨S4x1024x4096, .f32⟩ : BufTy).Contents (Elt Ideal)} {x3 : (⟨S16, .f32⟩ : BufTy).Contents (Elt Ideal)}
  {Q : Fin 17408 → Fin 1024 → ℝ} {K : Fin 4 → Fin 1024 → Fin 4096 → ℝ} {B : Fin 16 → ℝ}

/-- The logits of a row on a head. -/
def line (Q : Fin 17408 → Fin 1024 → ℝ) (K : Fin 4 → Fin 1024 → Fin 4096 → ℝ) (B : Fin 16 → ℝ) (b : Fin 4) (h : Fin 16) (q s : Fin 4096) : ℝ :=
  dots (fun d => Q ⟨b.val * 4096 + q.val, by omega⟩ ⟨h.val * 64 + d.val, by omega⟩) (fun d => K b ⟨h.val * 64 + d.val, by omega⟩ s) (B h)

theorem v9 (hq : ∀ i j, x0 (ix2 i j) = (Q i j : ℝ)) (hk : ∀ b j s, x1 (ix3 b j s) = (K b j s : ℝ)) (hb : ∀ h, x3 (ix1 h) = (B h : ℝ))
    (b : Fin 4) (h : Fin 16) (q s : Fin 4096) : val_main_v9 (F := Ideal) x0 x1 x3 (ix4 b h q s) = (line Q K B b h q s : ℝ) := by
  pointwise [val_main_v0, val_main_v1, val_main_v2, val_main_v4, val_main_cst, val_main_v5, val_main_v6, val_main_v7, val_main_v8, val_main_v9]
  simp only [hq, hk, hb, ← EReal.coe_mul]
  rw [coe_sum, eighth, ← EReal.coe_mul, ← EReal.coe_add]
  unfold line dots
  congr 2
  ring

theorem v16 (q s : Fin 4096) : val_main_v16 (F := Ideal) (ix4 0 0 q s) = if s.val < q.val then 1#1 else 0#1 := by
  pointwise [val_main_v10, val_main_v11, val_main_v12, val_main_v13, val_main_v14, val_main_v15, val_main_v16]
  exact less q s

theorem v22 (q s : Fin 4096) : val_main_v22 (F := Ideal) (ix2 q s) = ((if s.val < q.val then 1 else 0 : ℝ) : EReal) := by
  pointwise [val_main_v10, val_main_v17, val_main_v18, val_main_v19, val_main_v20, val_main_v21, val_main_v22]
  rw [greater, one_of]

theorem plus_coe (z : ℝ) : Ideal.log (1 + Ideal.exp ((z : ℝ) : EReal)) = ((plus z : ℝ) : EReal) := by
  rw [Ideal.exp_coe, ← EReal.coe_one, ← EReal.coe_add, log_coe _ (by positivity)]
  rfl

theorem v29 (hq : ∀ i j, x0 (ix2 i j) = (Q i j : ℝ)) (hk : ∀ b j s, x1 (ix3 b j s) = (K b j s : ℝ)) (hb : ∀ h, x3 (ix1 h) = (B h : ℝ))
    (b : Fin 4) (h : Fin 16) (q s : Fin 4096) : val_main_v29 (F := Ideal) x0 x1 x3 (ix4 b h q s)
      = ((-∑ y : Fin 4096, if s.val < y.val ∧ y.val < q.val then plus (line Q K B b h q y) else 0 : ℝ) : EReal) := by
  pointwise [val_main_v23, val_main_cst_0, val_main_v24, val_main_v25, val_main_v26, val_main_v27, val_main_cst_1, val_main_call0_v0, val_main_call0_v1, val_main_call0_v2, val_main_v28, val_main_v29]
  rw [← Finset.sum_neg_distrib, ← coe_sum]
  refine Finset.sum_congr rfl fun x _ => ?_
  rw [v9 hq hk hb, v16, v22, plus_coe, zero_const, select_lt, ← EReal.coe_neg]
  by_cases h1 : x.val < q.val <;> by_cases h2 : s.val < x.val <;> simp [h1, h2]

theorem v37 (hq : ∀ i j, x0 (ix2 i j) = (Q i j : ℝ)) (hk : ∀ b j s, x1 (ix3 b j s) = (K b j s : ℝ)) (hb : ∀ h, x3 (ix1 h) = (B h : ℝ))
    (b : Fin 4) (h : Fin 16) (q s : Fin 4096) : val_main_v37 (F := Ideal) x0 x1 x3 (ix4 b h q s) = (weight (line Q K B b h q) q.val s : ℝ) := by
  pointwise [val_main_v30, val_main_v31, val_main_cst_2, val_main_v32, val_main_v33, val_main_v34, val_main_v35, val_main_v36, val_main_cst_3, val_main_call1_v0, val_main_call1_v1, val_main_call1_v2, val_main_v37]
  rw [v29 hq hk hb, v9 hq hk hb, v16, ← EReal.coe_neg (line Q K B b h q s), plus_coe, zero_const, select_lt, ← EReal.coe_sub, Ideal.exp_coe]
  unfold weight
  split
  · congr 2
    ring
  · rfl

/-- A row of the reference among the first 256 of its sequence. -/
theorem v40 (hq : ∀ i j, x0 (ix2 i j) = (Q i j : ℝ)) (hk : ∀ b j s, x1 (ix3 b j s) = (K b j s : ℝ)) (hb : ∀ h, x3 (ix1 h) = (B h : ℝ))
    (i : Fin 16384) (n : Fin 1024) (hi : i.val % 4096 < 256) : val_main_v40 (F := Ideal) x0 x1 x2 x3 (ix2 i n)
      = mixed (fun x : Fin 256 => line Q K B ⟨i.val / 4096, by omega⟩ ⟨n.val / 64, by omega⟩ ⟨i.val % 4096, by omega⟩ ⟨x.val, by omega⟩)
          (fun x => x2 (ix3 ⟨i.val / 4096, by omega⟩ n ⟨x.val, by omega⟩)) (i.val % 4096) := by
  pointwise [val_main_v3, val_main_v38, val_main_v39, val_main_v40]
  refine Eq.trans ?_ (mixed_cut (line Q K B ⟨i.val / 4096, by omega⟩ ⟨n.val / 64, by omega⟩ ⟨i.val % 4096, by omega⟩) (fun x => x2 (ix3 ⟨i.val / 4096, by omega⟩ n x)) (i.val % 4096) hi.le)
  unfold mixed
  refine Finset.sum_congr rfl fun x _ => ?_
  rw [v37 hq hk hb]
  exact mul_comm _ _
end Reference
end Stick
end
-- ==== Proof.Stick.Arr.lean ====
/-
  The kernel's result array after the run, in the rows of each sequence's first 256 positions.
-/
module

public import proofs.«01_k».proof.Proof.Stick.Point
public import proofs.«01_k».proof.Proof.Stick.Ref
@[expose] public section
set_option maxRecDepth 16384
noncomputable section
open Idealize.ShloMosaic Idealize.ShloMosaic.TcCoe Idealize.SL.Sem Cert.StickIdeal Cert.StickIdeal.Gen
namespace Stick
variable (m : (ℓ : Loc nD τ sig) → Buf (Elt Ideal) ℓ) (ρ : Dev nD → PrngReg) (c : Dev nD)

theorem b1 (t : Fin (cfgA 0).N) (h : t.val % 40 = 3) (r : Fin 1024) (hr : r.val < 256) (j : Fin 256) :
    iblk 0 m ρ c 1 t (ix2 r j) = m ((c : Thread nD τ).loc main_arg0) (ix2 ⟨t.val / 160 * 4096 + r.val, by have : t.val < 640 := t.isLt; omega⟩ ⟨256 * (t.val % 160 / 40) + j.val, by omega⟩) := by
  blk_ext [iblk, places t h]
theorem b2 (t : Fin (cfgA 0).N) (h : t.val % 40 = 3) (j x : Fin 256) :
    iblk 0 m ρ c 2 t (ix3 0 j x) = m ((c : Thread nD τ).loc main_arg1) (ix3 ⟨t.val / 160, by have : t.val < 640 := t.isLt; omega⟩ ⟨256 * (t.val % 160 / 40) + j.val, by omega⟩ ⟨x.val, by omega⟩) := by
  blk_ext [iblk, places t h]
theorem b3 (t : Fin (cfgA 0).N) (h : t.val % 40 = 3) (j x : Fin 256) :
    iblk 0 m ρ c 3 t (ix3 0 j x) = m ((c : Thread nD τ).loc main_arg2) (ix3 ⟨t.val / 160, by have : t.val < 640 := t.isLt; omega⟩ ⟨256 * (t.val % 160 / 40) + j.val, by omega⟩ ⟨x.val, by omega⟩) := by
  blk_ext [iblk, places t h]
theorem b4 (t : Fin (cfgA 0).N) (h : t.val % 40 = 3) (y x : Fin 256) :
    iblk 0 m ρ c 4 t (ix2 y x) = m ((c : Thread nD τ).loc main_arg6) (ix2 y x) := by
  blk_ext [iblk, places t h]
theorem b0 (t : Fin (cfgA 0).N) (h : t.val % 40 = 3) (y : Fin 16) :
    iblk 0 m ρ c 0 t (ix1 y) = m ((c : Thread nD τ).loc main_arg3) (ix1 y) := by
  blk_ext [iblk, places t h]
theorem emb5 (t : Fin (cfgA 0).N) (h : t.val % 40 = 3) (r : Fin 1024) (l : Fin 256) :
    (((cfgA 0).win (5 : Fin 6)).blk t).view.emb (ix2 r l) = ix2 ⟨4096 * (t.val / 160) + r.val, by have : t.val < 640 := t.isLt; omega⟩ ⟨256 * (t.val % 160 / 40) + l.val, by omega⟩ := by
  blk_point [places t h]

variable {Q : Fin 17408 → Fin 1024 → ℝ} {K : Fin 4 → Fin 1024 → Fin 4096 → ℝ} {B : Fin 16 → ℝ}

theorem bias (hb : ∀ h, m ((c : Thread nD τ).loc main_arg3) (ix1 h) = ((B h : ℝ) : EReal)) (t : Fin (cfgA 0).N) (h : t.val % 40 = 3) (a : Fin 4) :
    biasAt 0 m ρ c t a = ((B ⟨4 * (t.val % 160 / 40) + a.val, by omega⟩ : ℝ) : EReal) := by
  have f := (fourth t h).2.2
  unfold biasAt
  rw [← hb, ← b0 m ρ c t h]
  congr 1
  funext i
  fin_cases i
  refine Fin.ext ?_
  show k0_off2 (crd 0 t) (BitVec.ofNat 32 a.val) 0 + 1 * 0 = 4 * (t.val % 160 / 40) + a.val
  rw [Nat.mul_zero, Nat.add_zero]
  fin_cases a
  · exact f.1
  · exact f.2.1
  · exact f.2.2.1
  · exact f.2.2.2

/-- What a head adds to a row at a fourth point. -/
theorem head (hq : ∀ i j, m ((c : Thread nD τ).loc main_arg0) (ix2 i j) = ((Q i j : ℝ) : EReal)) (hk : ∀ b j s, m ((c : Thread nD τ).loc main_arg1) (ix3 b j s) = ((K b j s : ℝ) : EReal))
    (hb : ∀ h, m ((c : Thread nD τ).loc main_arg3) (ix1 h) = ((B h : ℝ) : EReal))
    (hu : ∀ y x : Fin 256, m ((c : Thread nD τ).loc main_arg6) (ix2 y x) = if x.val ≤ y.val then (1 : EReal) else 0)
    (t : Fin (cfgA 0).N) (h : t.val % 40 = 3) (r : Fin 1024) (hr : r.val < 256) (l : Fin 256) (a : Fin 4) :
    headAt 0 m ρ c t r l a = if l.val / 64 = a.val then
      mixed (fun x : Fin 256 => Reference.line Q K B ⟨t.val / 160, by have : t.val < 640 := t.isLt; omega⟩ ⟨4 * (t.val % 160 / 40) + a.val, by omega⟩ ⟨r.val, by omega⟩ ⟨x.val, by omega⟩)
        (fun x => (m ((c : Thread nD τ).loc main_arg2) (ix3 ⟨t.val / 160, by have : t.val < 640 := t.isLt; omega⟩ ⟨256 * (t.val % 160 / 40) + l.val, by omega⟩ ⟨x.val, by omega⟩) : EReal)) r.val else 0 := by
  have ht : t.val < 640 := t.isLt
  have f := fourth t h
  have hl : lg (iblk 0 m ρ c 1 t) (iblk 0 m ρ c 2 t) (biasAt 0 m ρ c t a) r a.val = fun x : Fin 256 => (((Real.log 2)⁻¹ *
      Reference.line Q K B ⟨t.val / 160, by omega⟩ ⟨4 * (t.val % 160 / 40) + a.val, by omega⟩ ⟨r.val, by omega⟩ ⟨x.val, by omega⟩ : ℝ) : EReal) := by
    funext x
    unfold lg
    rw [bias m ρ c hb t h a]
    simp only [b1 m ρ c t h r hr, b2 m ρ c t h, hq, hk]
    rw [logit_coe a (fun j => Q ⟨t.val / 160 * 4096 + r.val, by omega⟩ ⟨256 * (t.val % 160 / 40) + j.val, by omega⟩)
      (fun j x => K ⟨t.val / 160, by omega⟩ ⟨256 * (t.val % 160 / 40) + j.val, by omega⟩ ⟨x.val, by omega⟩)]
    unfold Reference.line
    congr 4
    · funext d
      congr 1
      exact Fin.ext (by simp only; omega)
    · funext d
      congr 1
      exact Fin.ext (by simp only; omega)
  have hm : (fun x : Fin 256 => k0_pay9 (F := Ideal) (word0 0 t) (word1 0 t) (ix2 r x)) = fun x : Fin 256 => if x.val < r.val then 1#1 else 0#1 := by
    funext x
    rw [f.1, f.2.1]
    exact mask0 ⟨r.val, hr⟩ x r rfl
  have hv : (fun l x : Fin 256 => iblk 0 m ρ c 3 t (ix3 0 l x)) = fun l x : Fin 256 => m ((c : Thread nD τ).loc main_arg2) (ix3 ⟨t.val / 160, by omega⟩ ⟨256 * (t.val % 160 / 40) + l.val, by omega⟩ ⟨x.val, by omega⟩) :=
    funext fun l => funext fun x => b3 m ρ c t h l x
  unfold headAt
  rw [hl, hm, hv]
  exact adds_coe a.val _ _ _ r.val l (fun y x => (b4 m ρ c t h y x).trans (hu y x))

/-- The array after the run, in the rows of the first 256 positions. -/
theorem final (hq : ∀ i j, m ((c : Thread nD τ).loc main_arg0) (ix2 i j) = ((Q i j : ℝ) : EReal)) (hk : ∀ b j s, m ((c : Thread nD τ).loc main_arg1) (ix3 b j s) = ((K b j s : ℝ) : EReal))
    (hb : ∀ h, m ((c : Thread nD τ).loc main_arg3) (ix1 h) = ((B h : ℝ) : EReal))
    (hu : ∀ y x : Fin 256, m ((c : Thread nD τ).loc main_arg6) (ix2 y x) = if x.val ≤ y.val then (1 : EReal) else 0)
    (i : Fin 16384) (n : Fin 1024) (hi : i.val % 4096 < 256) : (dats 0 m ρ 0 c).arrAt 5 (cfgA 0).N (ix2 i n)
      = mixed (fun x : Fin 256 => Reference.line Q K B ⟨i.val / 4096, by omega⟩ ⟨n.val / 64, by omega⟩ ⟨i.val % 4096, by omega⟩ ⟨x.val, by omega⟩)
          (fun x => (m ((c : Thread nD τ).loc main_arg2) (ix3 ⟨i.val / 4096, by omega⟩ n ⟨x.val, by omega⟩) : EReal)) (i.val % 4096) := by
  suffices key : ∀ j, ∀ (i : Fin 16384) (n : Fin 1024), j = ix2 i n → (hi : i.val % 4096 < 256) → (dats 0 m ρ 0 c).arrAt 5 (cfgA 0).N j
      = mixed (fun x : Fin 256 => Reference.line Q K B ⟨i.val / 4096, by omega⟩ ⟨n.val / 64, by omega⟩ ⟨i.val % 4096, by omega⟩ ⟨x.val, by omega⟩)
          (fun x => (m ((c : Thread nD τ).loc main_arg2) (ix3 ⟨i.val / 4096, by omega⟩ n ⟨x.val, by omega⟩) : EReal)) (i.val % 4096) from key (ix2 i n) i n rfl hi
  refine fun j => (dats 0 m ρ 0 c).arrAt_forall_of_covers 5 (fun j v => ∀ (i : Fin 16384) (n : Fin 1024), j = ix2 i n → (hi : i.val % 4096 < 256) → v
      = mixed (fun x : Fin 256 => Reference.line Q K B ⟨i.val / 4096, by omega⟩ ⟨n.val / 64, by omega⟩ ⟨i.val % 4096, by omega⟩ ⟨x.val, by omega⟩)
          (fun x => (m ((c : Thread nD τ).loc main_arg2) (ix3 ⟨i.val / 4096, by omega⟩ n ⟨x.val, by omega⟩) : EReal)) (i.val % 4096)) covers (fun t hf y i n hj hi => ?_) j
  have ht : t.val < 640 := t.isLt
  blk_simp
  rw [after0_5]
  obtain ⟨r, l, hy⟩ : ∃ (r : Fin 1024) (l : Fin 256), y = ix2 r l := ⟨y 0, y 1, eq_ix2 y⟩
  subst hy
  have h40 : t.val % 40 = 3 := by
    refine flushes t hf ?_
    have e : ((cfgA 0).win (5 : Fin 6)).index t (0 : Fin 2) * 1024 + r.val = i.val := by
      refine Eq.trans ?_ (congrArg Fin.val (congrFun hj (0 : Fin 2)))
      blk_simp
    have := r.isLt
    omega
  rw [emb5 t h40 r l] at hj
  have hr0 : 4096 * (t.val / 160) + r.val = i.val := congrArg Fin.val (congrFun hj (0 : Fin 2))
  have hn0 : 256 * (t.val % 160 / 40) + l.val = n.val := congrArg Fin.val (congrFun hj (1 : Fin 2))
  have hr : r.val < 256 := by
    have := r.isLt
    omega
  refine (fourthAt m ρ c t h40 r hr l).trans ?_
  rw [head m ρ c hq hk hb hu t h40 r hr l 0, head m ρ c hq hk hb hu t h40 r hr l 1, head m ρ c hq hk hb hu t h40 r hr l 2, head m ρ c hq hk hb hu t h40 r hr l 3]
  have one : ∀ (f : Fin 4 → EReal), 0 + (if l.val / 64 = (0 : Fin 4).val then f 0 else 0) + (if l.val / 64 = (1 : Fin 4).val then f 1 else 0) + (if l.val / 64 = (2 : Fin 4).val then f 2 else 0)
      + (if l.val / 64 = (3 : Fin 4).val then f 3 else 0) = f ⟨l.val / 64, by omega⟩ := fun f => by
    have : ∀ a : Fin 4, 0 + (if a = 0 then f 0 else 0) + (if a = 1 then f 1 else 0) + (if a = 2 then f 2 else 0) + (if a = 3 then f 3 else 0) = f a := fun a => by
      fin_cases a <;> simp
    refine Eq.trans ?_ (this ⟨l.val / 64, by omega⟩)
    simp only [Fin.ext_iff]
  refine (one fun a => mixed (fun x : Fin 256 => Reference.line Q K B ⟨t.val / 160, by omega⟩ ⟨4 * (t.val % 160 / 40) + a.val, by omega⟩ ⟨r.val, by omega⟩ ⟨x.val, by omega⟩)
        (fun x => (m ((c : Thread nD τ).loc main_arg2) (ix3 ⟨t.val / 160, by omega⟩ ⟨256 * (t.val % 160 / 40) + l.val, by omega⟩ ⟨x.val, by omega⟩) : EReal)) r.val).trans ?_
  have e1 : i.val / 4096 = t.val / 160 := by omega
  have e2 : i.val % 4096 = r.val := by omega
  have e3 : n.val / 64 = 4 * (t.val % 160 / 40) + l.val / 64 := by omega
  simp only [e1, e2, e3, hn0]
end Stick
end
-- ==== Proof.Stick.Tables.lean ====
/-
  The precondition of the prompt group's stick-breaking call compares its two tables, element by element, with the
  schedule of query tiles and key tiles; where it holds, the tables are that schedule, and the call runs as the
  schedule says: it terminates, leaves its arguments unchanged and every counter at zero.
-/
module

public import proofs.«01_k».proof.Defs
public import proofs.«01_k».proof.Proof.Finite
public import proofs.«01_k».proof.Proof.Gen.Pre_tables
public import proofs.«01_k».proof.Proof.Gen.Stick.Flash
public import proofs.«01_k».proof.Proof.Gen.StickIdeal.Flash

@[expose] public section

noncomputable section

open Idealize.ShloMosaic Idealize.ShloMosaic.TcCoe Idealize.SL.Sem

namespace Stick.Tables

theorem eq_of_cmpi (a b : BitVec 32) (h : IntOp.cmpi .eq a b = 1#1) : a = b := by
  by_contra hne
  have hb : (a == b) = false := beq_eq_false_iff_ne.2 hne
  have h' : BitVec.ofBool (a == b) = 1#1 := h
  rw [hb] at h'
  exact absurd h' (by decide)

/-- The query tile of every step of the schedule. -/
theorem lit0_eq (x : Cert.Pre_tables.S40.Idx) : Cert.Pre_tables.lit0 (Cert.Pre_tables.S40.rowMajor x) = Cert.Stick.Gen.pinT_0 0 x := by
  have e : Cert.Pre_tables.S40.rowMajor x = x 0 := Fin.ext (Shape.rowMajor_val_one x)
  rw [e]
  unfold Cert.Stick.Gen.pinT_0
  generalize x 0 = n
  change Fin 40 at n
  fin_cases n <;> rfl

/-- The key tile of every step of the schedule. -/
theorem lit1_eq (x : Cert.Pre_tables.S40.Idx) : Cert.Pre_tables.lit1 (Cert.Pre_tables.S40.rowMajor x) = Cert.Stick.Gen.pinT_1 0 x := by
  have e : Cert.Pre_tables.S40.rowMajor x = x 0 := Fin.ext (Shape.rowMajor_val_one x)
  rw [e]
  unfold Cert.Stick.Gen.pinT_1
  generalize x 0 = n
  change Fin 40 at n
  fin_cases n <;> rfl

/-- Where the precondition holds, the two tables are the schedule. -/
theorem of_fn [Cert.Pre_tables.Facts] {F : FTy → Type} [FloatOps F] (a0 : FVec F Cert.Pre_tables.S17408x1024 .f32) (a1 a2 : FVec F Cert.Pre_tables.S4x1024x4096 .f32)
    (a3 : FVec F Cert.Pre_tables.S16 .f32) (a4 a5 : IVec Cert.Pre_tables.S40 32) (a6 : FVec F Cert.Pre_tables.S256x256 .bf16)
    (h : Cert.Pre_tables.fn a0 a1 a2 a3 a4 a5 a6 = fun _ => 1#1) :
    a4 = Cert.Stick.Gen.pinT_0 0 ∧ a5 = Cert.Stick.Gen.pinT_1 0 := by
  obtain ⟨h1, h2⟩ := Finite.andi_one _ _ h
  refine ⟨funext fun x => ?_, funext fun x => ?_⟩
  · exact (eq_of_cmpi _ _ (Finite.and_all _ _ _ _ Finite.idx0 (fun i => i.elim0) (congrFun h1 _) x)).trans (lit0_eq x)
  · exact (eq_of_cmpi _ _ (Finite.and_all _ _ _ _ Finite.idx0 (fun i => i.elim0) (congrFun h2 _) x)).trans (lit1_eq x)

theorem frame : Cert.quiescent_Stick (hStick := Cert.Stick.Gen.facts) (hPre_tables := Cert.Pre_tables.Gen.facts) := fun m ρ h =>
  Cert.Stick.Gen.frame 0 m ρ ⟨fun c => (@of_fn Cert.Pre_tables.Gen.facts _ _ _ _ _ _ _ _ _ (h c)).1,
    fun c => (@of_fn Cert.Pre_tables.Gen.facts _ _ _ _ _ _ _ _ _ (h c)).2⟩

theorem frame_ideal : Cert.quiescent_StickIdeal (hStickIdeal := Cert.StickIdeal.Gen.facts) (hPre_tables := Cert.Pre_tables.Gen.facts) := fun m ρ h =>
  Cert.StickIdeal.Gen.frame 0 m ρ ⟨fun c => (@of_fn Cert.Pre_tables.Gen.facts _ _ _ _ _ _ _ _ _ (h c)).1,
    fun c => (@of_fn Cert.Pre_tables.Gen.facts _ _ _ _ _ _ _ _ _ (h c)).2⟩

theorem preserves : Cert.preserves_Stick_StickIdeal :=
  ⟨IdealRules.named_const.statement _ _ _ _ _ rfl, IdealRules.named_const.statement _ _ _ _ _ rfl⟩

end Stick.Tables

end
-- ==== Proof.Stick.Mask.lean ====
/-
  Where the mask of the value claim is set, and what the precondition `regular` says of the arguments.
-/
module

public import proofs.«01_k».proof.Defs
public import proofs.«01_k».proof.Proof.Gen.On_first_tile
public import proofs.«01_k».proof.Proof.Gen.Pre_regular
public import proofs.«01_k».proof.Proof.Stick.Tables
public import proofs.«01_k».proof.Proof.Finite
public import Idealize.ShloMosaic.Lib.StableHlo.ReadAt
@[expose] public section
set_option maxRecDepth 16384
noncomputable section
open Idealize.ShloMosaic
namespace Stick.Mask

/-- The word of the mask in a row. -/
def rem (i : BitVec 32) : BitVec 32 :=
  let r := IntOp.remsi .host i 4096#32
  Scalar.select (IntOp.andi (IntOp.cmpi .ne (IntOp.cmpi .slt r 0#32) (IntOp.cmpi .slt 4096#32 0#32)) (IntOp.cmpi .ne r 0#32)) (IntOp.addi r 4096#32) r

theorem rem_lt : ∀ i : Fin 16384, IntOp.cmpi .slt (rem (BitVec.ofNat 32 i.val)) 256#32 = 1#1 → i.val % 4096 < 256 := by decide +kernel

/-- Where the mask is set. -/
theorem of_mask [Cert.On_first_tile.Facts] {F : FTy → Type} [FloatOps F] (a0 : FVec F Cert.On_first_tile.S17408x1024 .f32) (a1 a2 : FVec F Cert.On_first_tile.S4x1024x4096 .f32)
    (a3 : FVec F Cert.On_first_tile.S16 .f32) (a4 a5 : IVec Cert.On_first_tile.S40 32) (a6 : FVec F Cert.On_first_tile.S256x256 .bf16) (i : Fin 16384) (n : Fin 1024)
    (h : Cert.On_first_tile.fn a0 a1 a2 a3 a4 a5 a6 (ix2 i n) = 1#1) : i.val % 4096 < 256 := rem_lt i h

theorem noLess (r x : Fin 256) : IntOp.cmpi CmpIPredicate.sge (BitVec.ofNat 32 r.val) (BitVec.ofNat 32 x.val) = if x.val ≤ r.val then 1#1 else 0#1 := by
  have h : (BitVec.ofNat 32 x.val).sle (BitVec.ofNat 32 r.val) = decide (x.val ≤ r.val) := by
    have hx := x.isLt
    have hr := r.isLt
    rw [BitVec.sle, BitVec.toInt_eq_toNat_of_lt (by rw [BitVec.toNat_ofNat]; omega), BitVec.toInt_eq_toNat_of_lt (by rw [BitVec.toNat_ofNat]; omega), BitVec.toNat_ofNat, BitVec.toNat_ofNat,
      Nat.mod_eq_of_lt (by omega), Nat.mod_eq_of_lt (by omega)]
    simp
  unfold IntOp.cmpi
  simp only [h]
  by_cases hh : x.val ≤ r.val <;> simp [hh] <;> rfl

/-- The precondition: the tables are the schedule, the reals are finite and the matrix is triangular. -/
theorem of_regular [Cert.Pre_regular.Facts] (a0 : FVec Ideal Cert.Pre_regular.S17408x1024 .f32) (a1 a2 : FVec Ideal Cert.Pre_regular.S4x1024x4096 .f32)
    (a3 : FVec Ideal Cert.Pre_regular.S16 .f32) (a4 a5 : IVec Cert.Pre_regular.S40 32) (a6 : FVec Ideal Cert.Pre_regular.S256x256 .bf16)
    (h : Cert.Pre_regular.fn a0 a1 a2 a3 a4 a5 a6 = fun _ => 1#1) :
    (a4 = Cert.Stick.Gen.pinT_0 0 ∧ a5 = Cert.Stick.Gen.pinT_1 0) ∧ Finite.All a0 ∧ Finite.All a1 ∧ Finite.All a3
      ∧ ∀ y x : Fin 256, a6 (ix2 y x) = if x.val ≤ y.val then 1 else 0 := by
  obtain ⟨h, hu⟩ := Finite.andi_one _ _ h
  obtain ⟨h, h3⟩ := Finite.andi_one _ _ h
  obtain ⟨h, h1⟩ := Finite.andi_one _ _ h
  obtain ⟨h, h0⟩ := Finite.andi_one _ _ h
  obtain ⟨t0, t1⟩ := Finite.andi_one _ _ h
  refine ⟨⟨funext fun x => ?_, funext fun x => ?_⟩, ?_, ?_, ?_, ?_⟩
  · exact (Tables.eq_of_cmpi _ _ (Finite.and_all _ _ _ _ Finite.idx0 (fun i => i.elim0) (congrFun t0 _) x)).trans (Tables.lit0_eq x)
  · exact (Tables.eq_of_cmpi _ _ (Finite.and_all _ _ _ _ Finite.idx0 (fun i => i.elim0) (congrFun t1 _) x)).trans (Tables.lit1_eq x)
  · exact Finite.all_of_and a0 _ _ _ _ Finite.idx0 (fun i => i.elim0) (congrFun h0 _) fun _ => rfl
  · exact Finite.all_of_and a1 _ _ _ _ Finite.idx0 (fun i => i.elim0) (congrFun h1 _) fun _ => rfl
  · exact Finite.all_of_and a3 _ _ _ _ Finite.idx0 (fun i => i.elim0) (congrFun h3 _) fun _ => rfl
  · intro y x
    have e : Ideal.cmp .oeq (a6 (ix2 y x)) (FloatOps.uitofp (F := Ideal) .bf16 (IntOp.cmpi .sge (BitVec.ofNat 32 y.val) (BitVec.ofNat 32 x.val))) = 1#1 :=
      Finite.and_all _ _ _ _ Finite.idx0 (fun i => i.elim0) (congrFun hu _) (ix2 y x)
    rw [noLess] at e
    have e1 : ∀ p : Prop, [Decidable p] → FloatOps.uitofp (F := Ideal) FTy.bf16 (if p then 1#1 else 0#1) = if p then (1 : EReal) else 0 := fun p _ => by
      split
      · show ((((1#1 : BitVec 1).toNat : ℝ)) : EReal) = _
        simp
      · show ((((0#1 : BitVec 1).toNat : ℝ)) : EReal) = _
        simp
    rw [e1] at e
    by_contra hne
    have : Ideal.cmp .oeq (a6 (ix2 y x)) (if x.val ≤ y.val then (1 : EReal) else 0) = 0#1 := by
      show BitVec.ofBool (decide (a6 (ix2 y x) = if x.val ≤ y.val then (1 : EReal) else 0)) = 0#1
      rw [decide_eq_false hne]
      rfl
    rw [this] at e
    exact absurd e (by decide)
end Stick.Mask
end
-- ==== Proof.Stick.Claim.lean ====
/-
  The claims about the prompt group's stick-breaking attention: in the rows of each sequence's first 256 positions the
  kernel's result is the reference's.
-/
module

public import proofs.«01_k».proof.Defs
public import proofs.«01_k».proof.Proof.Stick.Arr
public import proofs.«01_k».proof.Proof.Stick.Mask
public import proofs.«01_k».proof.Proof.Gen.StickReferenceIdeal.Run
public import Idealize.ShloMosaic.Lib.Quiescent
@[expose] public section
set_option maxRecDepth 16384
noncomputable section
open Idealize.ShloMosaic Idealize.ShloMosaic.TcCoe Idealize.SL.Sem
namespace Stick
namespace Claim

theorem regular_of {m : (ℓ : Loc Cert.StickIdeal.nD Cert.StickIdeal.τ Cert.StickIdeal.sig) → Buf (Elt Ideal) ℓ} (h : Cert.Pre_StickIdeal_regular (hPre_regular := Cert.Pre_regular.Gen.facts) m) (c : Dev Cert.StickIdeal.nD) :
    ((m ((c.tc : Thread Cert.StickIdeal.nD Cert.StickIdeal.τ).loc Cert.StickIdeal.main_arg4)) = Cert.Stick.Gen.pinT_0 0 ∧ (m ((c.tc : Thread Cert.StickIdeal.nD Cert.StickIdeal.τ).loc Cert.StickIdeal.main_arg5)) = Cert.Stick.Gen.pinT_1 0)
      ∧ Finite.All (m ((c.tc : Thread Cert.StickIdeal.nD Cert.StickIdeal.τ).loc Cert.StickIdeal.main_arg0)) ∧ Finite.All (m ((c.tc : Thread Cert.StickIdeal.nD Cert.StickIdeal.τ).loc Cert.StickIdeal.main_arg1))
      ∧ Finite.All (m ((c.tc : Thread Cert.StickIdeal.nD Cert.StickIdeal.τ).loc Cert.StickIdeal.main_arg3))
      ∧ ∀ y x : Fin 256, m ((c.tc : Thread Cert.StickIdeal.nD Cert.StickIdeal.τ).loc Cert.StickIdeal.main_arg6) (ix2 y x) = if x.val ≤ y.val then (1 : EReal) else 0 :=
  @Mask.of_regular Cert.Pre_regular.Gen.facts _ _ _ _ _ _ _ (h c)

theorem pinned {m : (ℓ : Loc Cert.StickIdeal.nD Cert.StickIdeal.τ Cert.StickIdeal.sig) → Buf (Elt Ideal) ℓ} (h : Cert.Pre_StickIdeal_regular (hPre_regular := Cert.Pre_regular.Gen.facts) m) : Cert.StickIdeal.Gen.Pinned 0 m :=
  ⟨fun c => (regular_of h c).1.1, fun c => (regular_of h c).1.2⟩

theorem frame_ideal : Cert.quiescent_StickIdeal_pre_regular (hStickIdeal := Cert.StickIdeal.Gen.facts) (hPre_regular := Cert.Pre_regular.Gen.facts) := fun m ρ h =>
  Cert.StickIdeal.Gen.frame 0 m ρ (pinned h)

/-- The reference runs and leaves its arguments and the semaphores as they were. -/
theorem frame_reference : Cert.quiescent_StickReferenceIdeal := fun m ρ _ =>
  (θ_run Cert.StickReferenceIdeal.defs _ _).mono (fun r h => ⟨fun c => (h c).2,
      Idealize.ShloMosaic.sem_eq_zero_of_no_sems (by decide) r.2⟩)
    (Cert.StickReferenceIdeal.Value.run (F := Ideal) m ρ)

theorem frame_reference_regular : Cert.quiescent_StickReferenceIdeal_pre_regular (hPre_regular := Cert.Pre_regular.Gen.facts) := fun m ρ _ =>
  (θ_run Cert.StickReferenceIdeal.defs _ _).mono (fun r h => ⟨fun c => (h c).2,
      Idealize.ShloMosaic.sem_eq_zero_of_no_sems (by decide) r.2⟩)
    (Cert.StickReferenceIdeal.Value.run (F := Ideal) m ρ)

/-- What the reference returns, over the kernel's arguments. -/
def G (m : (ℓ : Loc Cert.StickIdeal.nD Cert.StickIdeal.τ Cert.StickIdeal.sig) → Buf (Elt Ideal) ℓ) (c : Dev Cert.StickIdeal.nD) : Vec Ideal ⟨2, ![16384, 1024]⟩ .f32 :=
  Cert.StickReferenceIdeal.Read.val_main_v40 (F := Ideal) (m ((c.tc : Thread Cert.StickIdeal.nD Cert.StickIdeal.τ).loc Cert.StickIdeal.main_arg0)) (m ((c.tc : Thread Cert.StickIdeal.nD Cert.StickIdeal.τ).loc Cert.StickIdeal.main_arg1))
    (m ((c.tc : Thread Cert.StickIdeal.nD Cert.StickIdeal.τ).loc Cert.StickIdeal.main_arg2)) (m ((c.tc : Thread Cert.StickIdeal.nD Cert.StickIdeal.τ).loc Cert.StickIdeal.main_arg3))

/-- In the rows of the first 256 positions the kernel leaves what the reference returns. -/
theorem value (m : (ℓ : Loc Cert.StickIdeal.nD Cert.StickIdeal.τ Cert.StickIdeal.sig) → Buf (Elt Ideal) ℓ) (ρ : Dev Cert.StickIdeal.nD → PrngReg)
    (h : Cert.Pre_StickIdeal_regular (hPre_regular := Cert.Pre_regular.Gen.facts) m) (c : Dev Cert.StickIdeal.nD) (i : Fin 16384) (n : Fin 1024) (hi : i.val % 4096 < 256) :
    (Cert.StickIdeal.Gen.dats 0 m ρ 0 c).arrAt 5 (Cert.StickIdeal.Gen.cfgA 0).N (ix2 i n) = G m c (ix2 i n) := by
  obtain ⟨_, f0, f1, f3, hu⟩ := regular_of h c
  have hq : ∀ i j, m ((c.tc : Thread Cert.StickIdeal.nD Cert.StickIdeal.τ).loc Cert.StickIdeal.main_arg0) (ix2 i j) = ((EReal.toReal (m ((c.tc : Thread Cert.StickIdeal.nD Cert.StickIdeal.τ).loc Cert.StickIdeal.main_arg0) (ix2 i j)) : ℝ) : EReal) := fun i j => (f0 (ix2 i j)).symm
  have hk : ∀ b j s, m ((c.tc : Thread Cert.StickIdeal.nD Cert.StickIdeal.τ).loc Cert.StickIdeal.main_arg1) (ix3 b j s) = ((EReal.toReal (m ((c.tc : Thread Cert.StickIdeal.nD Cert.StickIdeal.τ).loc Cert.StickIdeal.main_arg1) (ix3 b j s)) : ℝ) : EReal) := fun b j s => (f1 (ix3 b j s)).symm
  have hb : ∀ h, m ((c.tc : Thread Cert.StickIdeal.nD Cert.StickIdeal.τ).loc Cert.StickIdeal.main_arg3) (ix1 h) = ((EReal.toReal (m ((c.tc : Thread Cert.StickIdeal.nD Cert.StickIdeal.τ).loc Cert.StickIdeal.main_arg3) (ix1 h)) : ℝ) : EReal) := fun h => (f3 (ix1 h)).symm
  exact (final m ρ c hq hk hb hu i n hi).trans (Reference.v40 hq hk hb i n hi).symm

/-- In those rows the kernel's result is the reference's. -/
theorem algebraic : Cert.algebraic_StickIdeal_StickReferenceIdeal_on_first_tile_pre_regular (hStickIdeal := Cert.StickIdeal.Gen.facts) (hStickReferenceIdeal := Cert.StickReferenceIdeal.Gen.facts)
    (hPre_regular := Cert.Pre_regular.Gen.facts) (hOn_first_tile := Cert.On_first_tile.Gen.facts) := by
  intro m ρ m' ρ' hpre hagree
  refine ⟨fun c => G m c, ?_, ?_⟩
  · refine (θ_run Cert.StickIdeal.defs _ _).mono (fun _ h c => ⟨fun j hj => ?_, (h.2 c)⟩)
      (θ_run_and (Cert.StickIdeal.Gen.run_main 0 m ρ (pinned hpre)) (Cert.StickIdeal.Gen.unchanged 0 m ρ (pinned hpre)))
    obtain ⟨i, n, hy⟩ : ∃ (i : Fin 16384) (n : Fin 1024), j = ix2 i n := ⟨j 0, j 1, eq_ix2 j⟩
    subst hy
    exact (congrFun ((h.1 c).1 (5 : Fin 6)) (ix2 i n)).trans (value m ρ hpre c i n (@Mask.of_mask Cert.On_first_tile.Gen.facts _ _ _ _ _ _ _ _ _ i n hj))
  · refine (θ_run Cert.StickReferenceIdeal.defs _ _).mono (fun _ h c => ⟨fun j _ => ?_, (h c).2⟩)
      (Cert.StickReferenceIdeal.Value.run (F := Ideal) m' ρ')
    refine (congrFun ((h c).1.trans (Cert.StickReferenceIdeal.Read.val_main_v40_eq _ _ _ _)) j).trans ?_
    obtain ⟨h0, h1, h2, h3, _⟩ := hagree c
    rw [h0, h1, h2, h3]
    rfl
end Claim
end Stick
end
-- ==== Proof.Tail.Claim.lean ====
/-
  The claims about the layer's tail: the kernel's result is the reference's, with no precondition.
-/
module

public import proofs.«01_k».proof.Defs
public import proofs.«01_k».proof.Proof.Tail.Arr
public import proofs.«01_k».proof.Proof.Gen.TailReferenceIdeal.Read
public import proofs.«01_k».proof.Proof.Gen.TailReferenceIdeal.Run
public import Idealize.ShloMosaic.Lib.Quiescent

@[expose] public section

set_option maxRecDepth 16384

noncomputable section

open Idealize.ShloMosaic Idealize.ShloMosaic.TcCoe Idealize.SL.Sem

namespace Tail.Claim

section
open Cert.TailReferenceIdeal Cert.TailReferenceIdeal.Read

/-- The reference's rows after the mixer. -/
theorem reference_mixed (x0 : Vec Ideal S17408x1024 .f32) (x1 : Vec Ideal S16384x1024 .f32) (x2 : Vec Ideal S1024x1024 .f32) (x3 : Vec Ideal S1024x1024 .f32) (r : Fin 17408) (k : Fin 1024) :
    val_main_v2 (F := Ideal) x0 x1 x2 x3 (ix2 r k) = mixed x0 x1 x2 x3 r k := by
  pointwise [val_main_v0, val_main_v1, val_main_v2]
  rfl

/-- The reference's rows after the half step. -/
theorem reference_stepped (x0 : Vec Ideal S17408x1024 .f32) (x1 : Vec Ideal S16384x1024 .f32) (x2 : Vec Ideal S1024x1024 .f32) (x3 : Vec Ideal S1024x1024 .f32) (x4 : Vec Ideal S1024 .f32) (x5 : Vec Ideal S1024x5632 .f32) (x6 : Vec Ideal S2816x1024 .f32)
    (r : Fin 17408) (k : Fin 1024) :
    val_main_v24 (F := Ideal) x0 x1 x2 x3 x4 x5 x6 (ix2 r k) = stepped x0 x1 x2 x3 x4 x5 x6 r k := by
  pointwise [val_main_v3, val_main_cst, val_main_v4, val_main_v5, val_main_cst_0, val_main_v6, val_main_v7, val_main_cst_1,
    val_main_v8, val_main_v9, val_main_v10, val_main_v11, val_main_v12, val_main_v13, val_main_v14, val_main_v15, val_main_v16,
    val_main_v17, val_main_v18, val_main_call0_v0, val_main_call0_v1, val_main_call0_cst, val_main_call0_v2, val_main_call0_v3,
    val_main_call0_cst_0, val_main_call0_v4, val_main_call0_v5, val_main_v19, val_main_v20, val_main_v21, val_main_cst_2,
    val_main_v22, val_main_v23, val_main_v24]
  simp only [reference_mixed]
  rfl

/-- The reference's result. -/
theorem reference_eq (x0 : Vec Ideal S17408x1024 .f32) (x1 : Vec Ideal S16384x1024 .f32) (x2 : Vec Ideal S1024x1024 .f32) (x3 : Vec Ideal S1024x1024 .f32) (x4 : Vec Ideal S1024 .f32) (x5 : Vec Ideal S1024x5632 .f32) (x6 : Vec Ideal S2816x1024 .f32) (x7 : Vec Ideal S17408x256 .f32) (x8 : Vec Ideal S1024 .f32) (x9 : Vec Ideal S256x1024 .f32) (x10 : Vec Ideal S1024x1024 .f32) :
    val_main_v47 (F := Ideal) x0 x1 x2 x3 x4 x5 x6 x7 x8 x9 x10 = G x0 x1 x2 x3 x4 x5 x6 x7 x8 x9 x10 := by
  funext y
  obtain ⟨r, k, hy⟩ : ∃ (r : Fin 17408) (k : Fin 1024), y = ix2 r k := ⟨y 0, y 1, eq_ix2 y⟩
  subst hy
  pointwise [val_main_v25, val_main_v26, val_main_cst_3, val_main_v27, val_main_v28, val_main_cst_4, val_main_v29, val_main_v30,
    val_main_cst_5, val_main_v31, val_main_v32, val_main_v33, val_main_v34, val_main_v35, val_main_v36, val_main_v37, val_main_v38,
    val_main_v39, val_main_v40, val_main_v41, val_main_cst_6, val_main_v42, val_main_v43, val_main_cst_7, val_main_v44,
    val_main_v45, val_main_v46, val_main_v47]
  simp only [reference_stepped]
  rfl
end

/-- The reference runs and leaves its arguments and the semaphores as they were. -/
theorem frame_reference : Cert.quiescent_TailReferenceIdeal := fun m ρ _ =>
  (θ_run Cert.TailReferenceIdeal.defs _ _).mono (fun r h => ⟨fun c => (h c).2,
      Idealize.ShloMosaic.sem_eq_zero_of_no_sems (by decide) r.2⟩)
    (Cert.TailReferenceIdeal.Value.run (F := Ideal) m ρ)

/-- The reference's result over contents that hold the kernel's arguments. -/
theorem reference_value {m} {c : Dev Cert.TailIdeal.nD} (m' : (ℓ : Loc Cert.TailReferenceIdeal.nD Cert.TailReferenceIdeal.τ Cert.TailReferenceIdeal.sig) → Buf (Elt Ideal) ℓ)
    (h : m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)) :
    Cert.TailReferenceIdeal.Read.val_main_v47 (F := Ideal) (m' ((c.tc : Thread Cert.TailReferenceIdeal.nD Cert.TailReferenceIdeal.τ).loc Cert.TailReferenceIdeal.main_arg0))
        (m' ((c.tc : Thread Cert.TailReferenceIdeal.nD Cert.TailReferenceIdeal.τ).loc Cert.TailReferenceIdeal.main_arg1))
        (m' ((c.tc : Thread Cert.TailReferenceIdeal.nD Cert.TailReferenceIdeal.τ).loc Cert.TailReferenceIdeal.main_arg2))
        (m' ((c.tc : Thread Cert.TailReferenceIdeal.nD Cert.TailReferenceIdeal.τ).loc Cert.TailReferenceIdeal.main_arg3))
        (m' ((c.tc : Thread Cert.TailReferenceIdeal.nD Cert.TailReferenceIdeal.τ).loc Cert.TailReferenceIdeal.main_arg4))
        (m' ((c.tc : Thread Cert.TailReferenceIdeal.nD Cert.TailReferenceIdeal.τ).loc Cert.TailReferenceIdeal.main_arg5))
        (m' ((c.tc : Thread Cert.TailReferenceIdeal.nD Cert.TailReferenceIdeal.τ).loc Cert.TailReferenceIdeal.main_arg6))
        (m' ((c.tc : Thread Cert.TailReferenceIdeal.nD Cert.TailReferenceIdeal.τ).loc Cert.TailReferenceIdeal.main_arg7))
        (m' ((c.tc : Thread Cert.TailReferenceIdeal.nD Cert.TailReferenceIdeal.τ).loc Cert.TailReferenceIdeal.main_arg8))
        (m' ((c.tc : Thread Cert.TailReferenceIdeal.nD Cert.TailReferenceIdeal.τ).loc Cert.TailReferenceIdeal.main_arg9))
        (m' ((c.tc : Thread Cert.TailReferenceIdeal.nD Cert.TailReferenceIdeal.τ).loc Cert.TailReferenceIdeal.main_arg10))
      = Kernel.R m c := by
  obtain ⟨h0, h1, h2, h3, h4, h5, h6, h7, h8, h9, h10⟩ := h
  rw [h0, h1, h2, h3, h4, h5, h6, h7, h8, h9, h10]
  exact reference_eq _ _ _ _ _ _ _ _ _ _ _

/-- The kernel's result is the reference's. -/
theorem algebraic : Cert.algebraic_TailIdeal_TailReferenceIdeal := by
  intro m ρ m' ρ' _ hagree
  refine ⟨fun c => Kernel.R m c, ?_, ?_⟩
  · exact (θ_run Cert.TailIdeal.defs _ _).mono (fun _ h c => ⟨(h c).1.trans (Kernel.final m c), (h c).2⟩)
      (Cert.TailIdeal.Value.run_blocks (F := Ideal) m ρ)
  · exact (θ_run Cert.TailReferenceIdeal.defs _ _).mono
      (fun _ h c => ⟨(h c).1.trans (Cert.TailReferenceIdeal.Read.val_main_v47_eq m' c |>.trans (reference_value m' (hagree c))),
        (h c).2⟩)
      (Cert.TailReferenceIdeal.Value.run (F := Ideal) m' ρ')

end Tail.Claim
end
-- ==== Proof.lean ====
/- The claims of the calls listed in NOTES.md, put together: the facts of the programs, the frames, and for every
   call that its ideal kernel and its ideal reference leave equal results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnReferenceIdeal
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailReferenceIdeal
public import proofs.«01_k».proof.Proof.Gen.KvSample
public import proofs.«01_k».proof.Proof.Gen.KvSample.Frame
public import proofs.«01_k».proof.Proof.Gen.KvSampleIdeal
public import proofs.«01_k».proof.Proof.Gen.KvSampleIdeal.Frame
public import proofs.«01_k».proof.Proof.Gen.KvSampleReferenceIdeal
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.LastReferenceIdeal
public import proofs.«01_k».proof.Proof.Gen.Query
public import proofs.«01_k».proof.Proof.Gen.Query.Frame
public import proofs.«01_k».proof.Proof.Gen.QueryIdeal
public import proofs.«01_k».proof.Proof.Gen.QueryIdeal.Frame
public import proofs.«01_k».proof.Proof.Gen.QueryReferenceIdeal
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvReferenceIdeal
public import proofs.«01_k».proof.Proof.Gen.Final
public import proofs.«01_k».proof.Proof.Gen.Final.Frame
public import proofs.«01_k».proof.Proof.Gen.FinalIdeal
public import proofs.«01_k».proof.Proof.Gen.FinalIdeal.Frame
public import proofs.«01_k».proof.Proof.Gen.FinalReferenceIdeal
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjReferenceIdeal
public import proofs.«01_k».proof.Proof.Gen.Stick
public import proofs.«01_k».proof.Proof.Gen.StickIdeal
public import proofs.«01_k».proof.Proof.Gen.Pre_finite
public import proofs.«01_k».proof.Proof.Gen.Pre_tables
public import proofs.«01_k».proof.Proof.Gen.On_first_tile
public import proofs.«01_k».proof.Proof.Gen.Pre_regular
public import proofs.«01_k».proof.Proof.Gen.StickReferenceIdeal
public import proofs.«01_k».proof.Proof.Gen.StickReferenceIdeal.Read
public import proofs.«01_k».proof.Proof.Gen.StickReferenceIdeal.Run
public import proofs.«01_k».proof.Proof.Ffn.Claim
public import proofs.«01_k».proof.Proof.Final.Claim
public import proofs.«01_k».proof.Proof.Delta.Claim
public import proofs.«01_k».proof.Proof.Kv.Claim
public import proofs.«01_k».proof.Proof.KvSample.Claim
public import proofs.«01_k».proof.Proof.Last.Claim
public import proofs.«01_k».proof.Proof.Proj.Claim
public import proofs.«01_k».proof.Proof.Query.Claim
public import proofs.«01_k».proof.Proof.Stick.Claim
public import proofs.«01_k».proof.Proof.Stick.Tables
public import proofs.«01_k».proof.Proof.Tail.Claim
public import proofs.«01_k».proof.Proof.Final.Frame
public import proofs.«01_k».proof.Proof.Final.FrameIdeal
public import proofs.«01_k».proof.Proof.Proj.Frame
public import proofs.«01_k».proof.Proof.Proj.FrameIdeal
public import Idealize.ShloMosaic.Adequacy
public import Idealize.ShloMosaic.Init

@[expose] public section

noncomputable section

namespace Cert.Proof

open Idealize.ShloMosaic Idealize.SL.Sem

/-- Every claim of the file: the programs' facts, their frames and the equality of the results. -/
theorem claim : Cert.Claim := ⟨
  Cert.Kernel.Gen.facts,
  Cert.KernelIdeal.Gen.facts,
  Cert.ReferenceIdeal.Gen.facts,
  Cert.Ffn.Gen.facts,
  Cert.FfnIdeal.Gen.facts,
  Cert.FfnReferenceIdeal.Gen.facts,
  Cert.Tail.Gen.facts,
  Cert.TailIdeal.Gen.facts,
  Cert.TailReferenceIdeal.Gen.facts,
  Cert.KvSample.Gen.facts,
  Cert.KvSampleIdeal.Gen.facts,
  Cert.KvSampleReferenceIdeal.Gen.facts,
  Cert.Last.Gen.facts,
  Cert.LastIdeal.Gen.facts,
  Cert.LastReferenceIdeal.Gen.facts,
  Cert.Query.Gen.facts,
  Cert.QueryIdeal.Gen.facts,
  Cert.QueryReferenceIdeal.Gen.facts,
  Cert.Kv.Gen.facts,
  Cert.KvIdeal.Gen.facts,
  Cert.KvReferenceIdeal.Gen.facts,
  Cert.Final.Gen.facts,
  Cert.FinalIdeal.Gen.facts,
  Cert.FinalReferenceIdeal.Gen.facts,
  Cert.Proj.Gen.facts,
  Cert.ProjIdeal.Gen.facts,
  Cert.ProjReferenceIdeal.Gen.facts,
  Cert.Stick.Gen.facts,
  Cert.StickIdeal.Gen.facts,
  Cert.StickReferenceIdeal.Gen.facts,
  Cert.Pre_finite.Gen.facts,
  Cert.Pre_tables.Gen.facts,
  Cert.Pre_regular.Gen.facts,
  Cert.On_first_tile.Gen.facts,
  fun m ρ _ => Cert.Kernel.Gen.frame m ρ,
  fun m ρ _ => Cert.KernelIdeal.Gen.frame m ρ,
  fun m ρ _ => Cert.KernelIdeal.Gen.frame m ρ,
  GatedDelta.Claim.frame_reference,
  fun m ρ _ => GatedDelta.Claim.frame_reference m ρ trivial,
  fun m ρ _ => Cert.Ffn.Gen.frame m ρ,
  fun m ρ _ => Cert.FfnIdeal.Gen.frame m ρ,
  Ffn.Claim.frame_reference,
  fun m ρ _ => Cert.Tail.Gen.frame m ρ,
  fun m ρ _ => Cert.TailIdeal.Gen.frame m ρ,
  Tail.Claim.frame_reference,
  fun m ρ _ => Cert.KvSample.Gen.frame m ρ,
  fun m ρ _ => Cert.KvSampleIdeal.Gen.frame m ρ,
  KvSample.Claim.frame_reference,
  fun m ρ _ => Cert.Last.Gen.frame m ρ,
  fun m ρ _ => Cert.LastIdeal.Gen.frame m ρ,
  Last.Claim.frame_reference,
  fun m ρ _ => Cert.Query.Gen.frame m ρ,
  fun m ρ _ => Cert.QueryIdeal.Gen.frame m ρ,
  Query.Claim.frame_reference,
  fun m ρ _ => Cert.Kv.Gen.frame m ρ,
  fun m ρ _ => Cert.KvIdeal.Gen.frame m ρ,
  Kv.Claim.frame_reference,
  fun m ρ _ => Cert.Final.Gen.frame m ρ,
  fun m ρ _ => Cert.FinalIdeal.Gen.frame m ρ,
  Final.Claim.frame_reference,
  fun m ρ _ => Cert.Proj.Gen.frame m ρ,
  fun m ρ _ => Cert.ProjIdeal.Gen.frame m ρ,
  Proj.Claim.frame_reference,
  Stick.Tables.frame,
  Stick.Tables.frame_ideal,
  Stick.Claim.frame_ideal,
  Stick.Claim.frame_reference,
  Stick.Claim.frame_reference_regular,
  trivial,
  GatedDelta.Claim.algebraic,
  trivial,
  Ffn.Claim.algebraic,
  trivial,
  Tail.Claim.algebraic,
  trivial,
  KvSample.Claim.algebraic,
  trivial,
  Last.Claim.algebraic,
  trivial,
  Query.Claim.algebraic,
  trivial,
  Kv.Claim.algebraic,
  trivial,
  Final.Claim.algebraic,
  trivial,
  Proj.Claim.algebraic,
  Stick.Tables.preserves,
  Stick.Claim.algebraic⟩

end Cert.Proof

end
